-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def preserves_Kernel_KernelIdeal : Prop :=
  IdealRules.named_const.Statement Cert.KernelIdeal.κ "c" .f32 0x3D372713#32 ((8943 / 200000 : ℝ) : EReal)
  ∧ IdealRules.named_const.Statement Cert.KernelIdeal.κ "three_c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)) (v2 : (c : Dev Cert.KernelIdeal.nD) → Buf (Elt Ideal) ((c.tc : Thread Cert.KernelIdeal.nD Cert.KernelIdeal.τ).loc Cert.KernelIdeal.main_v68_2)) (v3 : (c : Dev Cert.KernelIdeal.nD) → Buf (Elt Ideal) ((c.tc : Thread Cert.KernelIdeal.nD Cert.KernelIdeal.τ).loc Cert.KernelIdeal.main_v68_3)) (v4 : (c : Dev Cert.KernelIdeal.nD) → Buf (Elt Ideal) ((c.tc : Thread Cert.KernelIdeal.nD Cert.KernelIdeal.τ).loc Cert.KernelIdeal.main_v68_4)) (v5 : (c : Dev Cert.KernelIdeal.nD) → Buf (Elt Ideal) ((c.tc : Thread Cert.KernelIdeal.nD Cert.KernelIdeal.τ).loc Cert.KernelIdeal.main_v68_5)) (v6 : (c : Dev Cert.KernelIdeal.nD) → Buf (Elt Ideal) ((c.tc : Thread Cert.KernelIdeal.nD Cert.KernelIdeal.τ).loc Cert.KernelIdeal.main_v68_6)) (v7 : (c : Dev Cert.KernelIdeal.nD) → Buf (Elt Ideal) ((c.tc : Thread Cert.KernelIdeal.nD Cert.KernelIdeal.τ).loc Cert.KernelIdeal.main_v68_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_v68_2) = v2 c
          ∧ r.2.mem ((c.tc : Thread Cert.KernelIdeal.nD Cert.KernelIdeal.τ).loc Cert.KernelIdeal.main_v68_3) = v3 c
          ∧ r.2.mem ((c.tc : Thread Cert.KernelIdeal.nD Cert.KernelIdeal.τ).loc Cert.KernelIdeal.main_v68_4) = v4 c
          ∧ r.2.mem ((c.tc : Thread Cert.KernelIdeal.nD Cert.KernelIdeal.τ).loc Cert.KernelIdeal.main_v68_5) = v5 c
          ∧ r.2.mem ((c.tc : Thread Cert.KernelIdeal.nD Cert.KernelIdeal.τ).loc Cert.KernelIdeal.main_v68_6) = v6 c
          ∧ r.2.mem ((c.tc : Thread Cert.KernelIdeal.nD Cert.KernelIdeal.τ).loc Cert.KernelIdeal.main_v68_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v132) = v4 c
          ∧ r.2.mem ((c.tc : Thread Cert.ReferenceIdeal.nD Cert.ReferenceIdeal.τ).loc Cert.ReferenceIdeal.main_v126) = v5 c
          ∧ r.2.mem ((c.tc : Thread Cert.ReferenceIdeal.nD Cert.ReferenceIdeal.τ).loc Cert.ReferenceIdeal.main_v137) = v6 c
          ∧ r.2.mem ((c.tc : Thread Cert.ReferenceIdeal.nD Cert.ReferenceIdeal.τ).loc Cert.ReferenceIdeal.main_v138) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v6) = v2 c
          ∧ r.2.mem ((c.tc : Thread Cert.Reference30Ideal.nD Cert.Reference30Ideal.τ).loc Cert.Reference30Ideal.main_v12) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v12) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v6) = v2 c
          ∧ r.2.mem ((c.tc : Thread Cert.Reference32Ideal.nD Cert.Reference32Ideal.τ).loc Cert.Reference32Ideal.main_v12) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_v24) = v1 c
          ∧ r.2.mem ((c.tc : Thread Cert.Reference33Ideal.nD Cert.Reference33Ideal.τ).loc Cert.Reference33Ideal.main_v5) = v2 c
          ∧ r.2.mem ((c.tc : Thread Cert.Reference33Ideal.nD Cert.Reference33Ideal.τ).loc Cert.Reference33Ideal.main_v11) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_v24) = v1 c
          ∧ r.2.mem ((c.tc : Thread Cert.Reference34Ideal.nD Cert.Reference34Ideal.τ).loc Cert.Reference34Ideal.main_v5) = v2 c
          ∧ r.2.mem ((c.tc : Thread Cert.Reference34Ideal.nD Cert.Reference34Ideal.τ).loc Cert.Reference34Ideal.main_v11) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v13) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v1) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v25) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v34) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v34) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v1) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v34) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
-- ==== Pre_finite.lean ====
abbrev S4352x1024 : Shape := ⟨2, ![4352, 1024]⟩
abbrev S4352x4096 : Shape := ⟨2, ![4352, 4096]⟩
abbrev S64x64 : Shape := ⟨2, ![64, 64]⟩
abbrev S8x128x512 : Shape := ⟨3, ![8, 128, 512]⟩
abbrev S8x512x128 : Shape := ⟨3, ![8, 512, 128]⟩
abbrev S1024 : Shape := ⟨1, ![1024]⟩
abbrev S_ : Shape := ⟨0, ![]⟩

class Facts : Prop where
  bcast_S_S4352x1024 : S_.BroadcastsInDim S4352x1024 (![] : Fin 0 → Fin S4352x1024.rank)
  bcast_S_S4352x4096 : S_.BroadcastsInDim S4352x4096 (![] : Fin 0 → Fin S4352x4096.rank)
  bcast_S_S64x64 : S_.BroadcastsInDim S64x64 (![] : Fin 0 → Fin S64x64.rank)
  bcast_S_S8x128x512 : S_.BroadcastsInDim S8x128x512 (![] : Fin 0 → Fin S8x128x512.rank)
  bcast_S_S8x512x128 : S_.BroadcastsInDim S8x512x128 (![] : Fin 0 → Fin S8x512x128.rank)
  bcast_S_S1024 : S_.BroadcastsInDim S1024 (![] : Fin 0 → Fin S1024.rank)

variable [Facts]

def fn_part1 {F : FTy → Type} [FloatOps F] (main_arg6 : FVec F S64x64 .f32) (main_arg7 : FVec F S8x128x512 .f32) (main_arg8 : FVec F S8x128x512 .f32) (main_arg9 : FVec F S8x512x128 .f32) (main_arg10 : FVec F S8x512x128 .f32) (main_arg11 : FVec F S1024 .f32) (main_v2 : IVec S4352x1024 1) (main_v5 : IVec S4352x1024 1) (main_v8 : IVec S4352x1024 1) (main_v11 : IVec S4352x4096 1) (main_v14 : IVec S4352x4096 1) (main_v17 : IVec S64x64 1) : IVec S4352x1024 1 × IVec S4352x1024 1 × IVec S4352x1024 1 × IVec S4352x4096 1 × IVec S4352x4096 1 × IVec S64x64 1 × IVec S64x64 1 × IVec S8x128x512 1 × IVec S8x128x512 1 × IVec S8x512x128 1 × IVec S8x512x128 1 × IVec S1024 1 :=
  let main_v18 : FVec F S64x64 .f32 := Host.absf main_arg6
  let main_cst_5 : FVec F S_ .f32 := constant S_ .f32 0x7F800000#32
  let main_v19 : FVec F S64x64 .f32 := broadcastInDim S64x64 ![] bcast_S_S64x64 main_cst_5
  let main_v20 : IVec S64x64 1 := cmpf .olt main_v18 main_v19
  let main_v21 : FVec F S8x128x512 .f32 := Host.absf main_arg7
  let main_cst_6 : FVec F S_ .f32 := constant S_ .f32 0x7F800000#32
  let main_v22 : FVec F S8x128x512 .f32 := broadcastInDim S8x128x512 ![] bcast_S_S8x128x512 main_cst_6
  let main_v23 : IVec S8x128x512 1 := cmpf .olt main_v21 main_v22
  let main_v24 : FVec F S8x128x512 .f32 := Host.absf main_arg8
  let main_cst_7 : FVec F S_ .f32 := constant S_ .f32 0x7F800000#32
  let main_v25 : FVec F S8x128x512 .f32 := broadcastInDim S8x128x512 ![] bcast_S_S8x128x512 main_cst_7
  let main_v26 : IVec S8x128x512 1 := cmpf .olt main_v24 main_v25
  let main_v27 : FVec F S8x512x128 .f32 := Host.absf main_arg9
  let main_cst_8 : FVec F S_ .f32 := constant S_ .f32 0x7F800000#32
  let main_v28 : FVec F S8x512x128 .f32 := broadcastInDim S8x512x128 ![] bcast_S_S8x512x128 main_cst_8
  let main_v29 : IVec S8x512x128 1 := cmpf .olt main_v27 main_v28
  let main_v30 : FVec F S8x512x128 .f32 := Host.absf main_arg10
  let main_cst_9 : FVec F S_ .f32 := constant S_ .f32 0x7F800000#32
  let main_v31 : FVec F S8x512x128 .f32 := broadcastInDim S8x512x128 ![] bcast_S_S8x512x128 main_cst_9
  let main_v32 : IVec S8x512x128 1 := cmpf .olt main_v30 main_v31
  let main_v33 : FVec F S1024 .f32 := Host.absf main_arg11
  let main_cst_10 : FVec F S_ .f32 := constant S_ .f32 0x7F800000#32
  let main_v34 : FVec F S1024 .f32 := broadcastInDim S1024 ![] bcast_S_S1024 main_cst_10
  let main_v35 : IVec S1024 1 := cmpf .olt main_v33 main_v34
  (main_v2, main_v5, main_v8, main_v11, main_v14, main_v17, main_v20, main_v23, main_v26, main_v29, main_v32, main_v35)

def fn {F : FTy → Type} [FloatOps F] (main_arg0 : FVec F S4352x1024 .f32) (main_arg1 : FVec F S4352x1024 .f32) (main_arg2 : FVec F S4352x1024 .f32) (main_arg3 : FVec F S4352x4096 .f32) (main_arg4 : FVec F S4352x4096 .f32) (main_arg5 : FVec F S64x64 .f32) (main_arg6 : FVec F S64x64 .f32) (main_arg7 : FVec F S8x128x512 .f32) (main_arg8 : FVec F S8x128x512 .f32) (main_arg9 : FVec F S8x512x128 .f32) (main_arg10 : FVec F S8x512x128 .f32) (main_arg11 : FVec F S1024 .f32) : IVec S4352x1024 1 × IVec S4352x1024 1 × IVec S4352x1024 1 × IVec S4352x4096 1 × IVec S4352x4096 1 × IVec S64x64 1 × IVec S64x64 1 × IVec S8x128x512 1 × IVec S8x128x512 1 × IVec S8x512x128 1 × IVec S8x512x128 1 × IVec S1024 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_v3 : FVec F S4352x1024 .f32 := Host.absf main_arg1
  let main_cst_0 : FVec F S_ .f32 := constant S_ .f32 0x7F800000#32
  let main_v4 : FVec F S4352x1024 .f32 := broadcastInDim S4352x1024 ![] bcast_S_S4352x1024 main_cst_0
  let main_v5 : IVec S4352x1024 1 := cmpf .olt main_v3 main_v4
  let main_v6 : FVec F S4352x1024 .f32 := Host.absf main_arg2
  let main_cst_1 : FVec F S_ .f32 := constant S_ .f32 0x7F800000#32
  let main_v7 : FVec F S4352x1024 .f32 := broadcastInDim S4352x1024 ![] bcast_S_S4352x1024 main_cst_1
  let main_v8 : IVec S4352x1024 1 := cmpf .olt main_v6 main_v7
  let main_v9 : FVec F S4352x4096 .f32 := Host.absf main_arg3
  let main_cst_2 : FVec F S_ .f32 := constant S_ .f32 0x7F800000#32
  let main_v10 : FVec F S4352x4096 .f32 := broadcastInDim S4352x4096 ![] bcast_S_S4352x4096 main_cst_2
  let main_v11 : IVec S4352x4096 1 := cmpf .olt main_v9 main_v10
  let main_v12 : FVec F S4352x4096 .f32 := Host.absf main_arg4
  let main_cst_3 : FVec F S_ .f32 := constant S_ .f32 0x7F800000#32
  let main_v13 : FVec F S4352x4096 .f32 := broadcastInDim S4352x4096 ![] bcast_S_S4352x4096 main_cst_3
  let main_v14 : IVec S4352x4096 1 := cmpf .olt main_v12 main_v13
  let main_v15 : FVec F S64x64 .f32 := Host.absf main_arg5
  let main_cst_4 : FVec F S_ .f32 := constant S_ .f32 0x7F800000#32
  let main_v16 : FVec F S64x64 .f32 := broadcastInDim S64x64 ![] bcast_S_S64x64 main_cst_4
  let main_v17 : IVec S64x64 1 := cmpf .olt main_v15 main_v16
  fn_part1 (F := F) main_arg6 main_arg7 main_arg8 main_arg9 main_arg10 main_arg11 main_v2 main_v5 main_v8 main_v11 main_v14 main_v17
-- ==== Kernel.lean ====
abbrev S4352x1024 : Shape := ⟨2, ![4352, 1024]⟩
abbrev S4352x4096 : Shape := ⟨2, ![4352, 4096]⟩
abbrev S64x64 : Shape := ⟨2, ![64, 64]⟩
abbrev S8x128x512 : Shape := ⟨3, ![8, 128, 512]⟩
abbrev S8x512x128 : Shape := ⟨3, ![8, 512, 128]⟩
abbrev S1024 : Shape := ⟨1, ![1024]⟩
abbrev S1x4096 : Shape := ⟨2, ![1, 4096]⟩
abbrev S2x4096 : Shape := ⟨2, ![2, 4096]⟩
abbrev S4x4096 : Shape := ⟨2, ![4, 4096]⟩
abbrev S8x4096 : Shape := ⟨2, ![8, 4096]⟩
abbrev S1x1024 : Shape := ⟨2, ![1, 1024]⟩
abbrev S2x2176x4096 : Shape := ⟨3, ![2, 2176, 4096]⟩
abbrev S2x2176x1024 : Shape := ⟨3, ![2, 2176, 1024]⟩
abbrev S2x128x128 : Shape := ⟨3, ![2, 128, 128]⟩
abbrev S2x128x512 : Shape := ⟨3, ![2, 128, 512]⟩
abbrev S2x8x512 : Shape := ⟨3, ![2, 8, 512]⟩
abbrev S1x128x512 : Shape := ⟨3, ![1, 128, 512]⟩
abbrev S8x512 : Shape := ⟨2, ![8, 512]⟩
abbrev S1x512x128 : Shape := ⟨3, ![1, 512, 128]⟩
abbrev S1x128 : Shape := ⟨2, ![1, 128]⟩
abbrev S1x512 : Shape := ⟨2, ![1, 512]⟩
abbrev S2x1x512 : Shape := ⟨3, ![2, 1, 512]⟩
abbrev S1x128x128 : Shape := ⟨3, ![1, 128, 128]⟩
abbrev S128x128 : Shape := ⟨2, ![128, 128]⟩
abbrev S128 : Shape := ⟨1, ![128]⟩
abbrev S128x512 : Shape := ⟨2, ![128, 512]⟩
abbrev S512x128 : Shape := ⟨2, ![512, 128]⟩
abbrev S1x1x512 : Shape := ⟨3, ![1, 1, 512]⟩
abbrev S1x8x512 : Shape := ⟨3, ![1, 8, 512]⟩
abbrev S512 : Shape := ⟨1, ![512]⟩

abbrev nBuf : Space → Nat
  | .hbm => 88
  | .vmem => 50
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1024, .f32⟩
  | .hbm, ⟨3, _⟩ => ⟨S4352x4096, .f32⟩
  | .hbm, ⟨4, _⟩ => ⟨S4352x4096, .f32⟩
  | .hbm, ⟨5, _⟩ => ⟨S64x64, .f32⟩
  | .hbm, ⟨6, _⟩ => ⟨S64x64, .f32⟩
  | .hbm, ⟨7, _⟩ => ⟨S8x128x512, .f32⟩
  | .hbm, ⟨8, _⟩ => ⟨S8x128x512, .f32⟩
  | .hbm, ⟨9, _⟩ => ⟨S8x512x128, .f32⟩
  | .hbm, ⟨10, _⟩ => ⟨S8x512x128, .f32⟩
  | .hbm, ⟨11, _⟩ => ⟨S1024, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S2x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S2x4096, .f32⟩
  | .hbm, ⟨22, _⟩ => ⟨S1x4096, .f32⟩
  | .hbm, ⟨23, _⟩ => ⟨S1x4096, .f32⟩
  | .hbm, ⟨24, _⟩ => ⟨S2x4096, .f32⟩
  | .hbm, ⟨25, _⟩ => ⟨S2x4096, .f32⟩
  | .hbm, ⟨26, _⟩ => ⟨S2x4096, .f32⟩
  | .hbm, ⟨27, _⟩ => ⟨S2x4096, .f32⟩
  | .hbm, ⟨28, _⟩ => ⟨S2x4096, .f32⟩
  | .hbm, ⟨29, _⟩ => ⟨S4x4096, .f32⟩
  | .hbm, ⟨30, _⟩ => ⟨S2x4096, .f32⟩
  | .hbm, ⟨31, _⟩ => ⟨S2x4096, .f32⟩
  | .hbm, ⟨32, _⟩ => ⟨S2x4096, .f32⟩
  | .hbm, ⟨33, _⟩ => ⟨S2x4096, .f32⟩
  | .hbm, ⟨34, _⟩ => ⟨S2x4096, .f32⟩
  | .hbm, ⟨35, _⟩ => ⟨S4x4096, .f32⟩
  | .hbm, ⟨36, _⟩ => ⟨S1x4096, .f32⟩
  | .hbm, ⟨37, _⟩ => ⟨S1x4096, .f32⟩
  | .hbm, ⟨38, _⟩ => ⟨S4x4096, .f32⟩
  | .hbm, ⟨39, _⟩ => ⟨S4x4096, .f32⟩
  | .hbm, ⟨40, _⟩ => ⟨S4x4096, .f32⟩
  | .hbm, ⟨41, _⟩ => ⟨S4x4096, .f32⟩
  | .hbm, ⟨42, _⟩ => ⟨S4x4096, .f32⟩
  | .hbm, ⟨43, _⟩ => ⟨S8x4096, .f32⟩
  | .hbm, ⟨44, _⟩ => ⟨S4x4096, .f32⟩
  | .hbm, ⟨45, _⟩ => ⟨S4x4096, .f32⟩
  | .hbm, ⟨46, _⟩ => ⟨S4x4096, .f32⟩
  | .hbm, ⟨47, _⟩ => ⟨S4x4096, .f32⟩
  | .hbm, ⟨48, _⟩ => ⟨S4x4096, .f32⟩
  | .hbm, ⟨49, _⟩ => ⟨S8x4096, .f32⟩
  | .hbm, ⟨50, _⟩ => ⟨S8x4096, .f32⟩
  | .hbm, ⟨51, _⟩ => ⟨S8x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S1x4096, .f32⟩
  | .hbm, ⟨59, _⟩ => ⟨S1x4096, .f32⟩
  | .hbm, ⟨60, _⟩ => ⟨S8x4096, .f32⟩
  | .hbm, ⟨61, _⟩ => ⟨S1x4096, .f32⟩
  | .hbm, ⟨62, _⟩ => ⟨S1x4096, .f32⟩
  | .hbm, ⟨63, _⟩ => ⟨S1x4096, .f32⟩
  | .hbm, ⟨64, _⟩ => ⟨S1x4096, .f32⟩
  | .hbm, ⟨65, _⟩ => ⟨S1x4096, .f32⟩
  | .hbm, ⟨66, _⟩ => ⟨S1x4096, .f32⟩
  | .hbm, ⟨67, _⟩ => ⟨S1x4096, .f32⟩
  | .hbm, ⟨68, _⟩ => ⟨S1x4096, .f32⟩
  | .hbm, ⟨69, _⟩ => ⟨S8x4096, .f32⟩
  | .hbm, ⟨70, _⟩ => ⟨S8x128x512, .bf16⟩
  | .hbm, ⟨71, _⟩ => ⟨S8x128x512, .bf16⟩
  | .hbm, ⟨72, _⟩ => ⟨S8x512x128, .bf16⟩
  | .hbm, ⟨73, _⟩ => ⟨S8x512x128, .bf16⟩
  | .hbm, ⟨74, _⟩ => ⟨S1x1024, .f32⟩
  | .hbm, ⟨75, _⟩ => ⟨S2x2176x4096, .f32⟩
  | .hbm, ⟨76, _⟩ => ⟨S2x2176x4096, .f32⟩
  | .hbm, ⟨77, _⟩ => ⟨S2x2176x1024, .f32⟩
  | .hbm, ⟨78, _⟩ => ⟨S2x2176x1024, .f32⟩
  | .hbm, ⟨79, _⟩ => ⟨S2x2176x1024, .f32⟩
  | .hbm, ⟨80, _⟩ => ⟨S2x2176x1024, .bf16⟩
  | .hbm, ⟨81, _⟩ => ⟨S1x1024, .f32⟩
  | .hbm, ⟨82, _⟩ => ⟨S8x512x128, .f32⟩
  | .hbm, ⟨83, _⟩ => ⟨S8x512x128, .f32⟩
  | .hbm, ⟨84, _⟩ => ⟨S8x128x512, .f32⟩
  | .hbm, ⟨85, _⟩ => ⟨S8x128x512, .f32⟩
  | .hbm, ⟨86, _⟩ => ⟨S1x4096, .f32⟩
  | .hbm, ⟨87, _⟩ => ⟨S1x4096, .f32⟩
  | .local _ .vmem, ⟨0, _⟩ => ⟨S2x128x128, .f32⟩
  | .local _ .vmem, ⟨1, _⟩ => ⟨S2x128x128, .f32⟩
  | .local _ .vmem, ⟨2, _⟩ => ⟨S2x128x128, .f32⟩
  | .local _ .vmem, ⟨3, _⟩ => ⟨S2x128x128, .f32⟩
  | .local _ .vmem, ⟨4, _⟩ => ⟨S2x128x128, .f32⟩
  | .local _ .vmem, ⟨5, _⟩ => ⟨S2x128x128, .f32⟩
  | .local _ .vmem, ⟨6, _⟩ => ⟨S2x128x512, .f32⟩
  | .local _ .vmem, ⟨7, _⟩ => ⟨S2x128x512, .f32⟩
  | .local _ .vmem, ⟨8, _⟩ => ⟨S2x128x512, .f32⟩
  | .local _ .vmem, ⟨9, _⟩ => ⟨S2x128x512, .f32⟩
  | .local _ .vmem, ⟨10, _⟩ => ⟨S2x8x512, .f32⟩
  | .local _ .vmem, ⟨11, _⟩ => ⟨S2x8x512, .f32⟩
  | .local _ .vmem, ⟨12, _⟩ => ⟨S2x8x512, .f32⟩
  | .local _ .vmem, ⟨13, _⟩ => ⟨S2x8x512, .f32⟩
  | .local _ .vmem, ⟨14, _⟩ => ⟨S1x128x512, .bf16⟩
  | .local _ .vmem, ⟨15, _⟩ => ⟨S1x128x512, .bf16⟩
  | .local _ .vmem, ⟨16, _⟩ => ⟨S1x128x512, .bf16⟩
  | .local _ .vmem, ⟨17, _⟩ => ⟨S1x128x512, .bf16⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S1x512x128, .bf16⟩
  | .local _ .vmem, ⟨27, _⟩ => ⟨S1x512x128, .bf16⟩
  | .local _ .vmem, ⟨28, _⟩ => ⟨S1x512x128, .bf16⟩
  | .local _ .vmem, ⟨29, _⟩ => ⟨S1x512x128, .bf16⟩
  | .local _ .vmem, ⟨30, _⟩ => ⟨S1x128, .f32⟩
  | .local _ .vmem, ⟨31, _⟩ => ⟨S1x128, .f32⟩
  | .local _ .vmem, ⟨32, _⟩ => ⟨S2x128x128, .bf16⟩
  | .local _ .vmem, ⟨33, _⟩ => ⟨S2x128x128, .bf16⟩
  | .local _ .vmem, ⟨34, _⟩ => ⟨S1x128, .f32⟩
  | .local _ .vmem, ⟨35, _⟩ => ⟨S1x128, .f32⟩
  | .local _ .vmem, ⟨36, _⟩ => ⟨S1x512x128, .f32⟩
  | .local _ .vmem, ⟨37, _⟩ => ⟨S1x512x128, .f32⟩
  | .local _ .vmem, ⟨38, _⟩ => ⟨S1x512x128, .f32⟩
  | .local _ .vmem, ⟨39, _⟩ => ⟨S1x512x128, .f32⟩
  | .local _ .vmem, ⟨40, _⟩ => ⟨S1x128x512, .f32⟩
  | .local _ .vmem, ⟨41, _⟩ => ⟨S1x128x512, .f32⟩
  | .local _ .vmem, ⟨42, _⟩ => ⟨S1x128x512, .f32⟩
  | .local _ .vmem, ⟨43, _⟩ => ⟨S1x128x512, .f32⟩
  | .local _ .vmem, ⟨44, _⟩ => ⟨S1x512, .f32⟩
  | .local _ .vmem, ⟨45, _⟩ => ⟨S1x512, .f32⟩
  | .local _ .vmem, ⟨46, _⟩ => ⟨S1x512, .f32⟩
  | .local _ .vmem, ⟨47, _⟩ => ⟨S1x512, .f32⟩
  | .local _ .vmem, ⟨48, _⟩ => ⟨S2x1x512, .f32⟩
  | .local _ .vmem, ⟨49, _⟩ => ⟨S2x1x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68_0 : Ref sig .tc := ⟨.hbm, 80, rfl⟩
abbrev main_v68_1 : Ref sig .tc := ⟨.hbm, 81, rfl⟩
abbrev main_v68_2 : Ref sig .tc := ⟨.hbm, 82, rfl⟩
abbrev main_v68_3 : Ref sig .tc := ⟨.hbm, 83, rfl⟩
abbrev main_v68_4 : Ref sig .tc := ⟨.hbm, 84, rfl⟩
abbrev main_v68_5 : Ref sig .tc := ⟨.hbm, 85, rfl⟩
abbrev main_v68_6 : Ref sig .tc := ⟨.hbm, 86, rfl⟩
abbrev main_v68_7 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_scratch0 : Ref sig .tc := ⟨.vmem, 48, rfl⟩
abbrev cc0_scratch1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![c0_i32.toNat, v0.toNat, arg0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![c0_i32.toNat, v0.toNat, arg0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![c0_i32.toNat, v0.toNat, arg0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![c0_i32.toNat, v0.toNat, arg0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![c0_i32.toNat, v0.toNat, arg0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.muli v0 c16_i32_0
  let c1_i32 : BitVec 32 := 1#32
  let v2 : BitVec 32 := Scalar.subi v1 c1_i32
  let c0_i32 : BitVec 32 := 0#32
  let v3 : BitVec 32 := Scalar.maxsi v2 c0_i32
  let c0_i32_1 : BitVec 32 := 0#32
  let c0_i32_2 : BitVec 32 := 0#32
  ![c0_i32_1.toNat, v3.toNat, arg0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.muli v0 c16_i32_0
  let c1_i32 : BitVec 32 := 1#32
  let v2 : BitVec 32 := Scalar.subi v1 c1_i32
  let c0_i32 : BitVec 32 := 0#32
  let v3 : BitVec 32 := Scalar.maxsi v2 c0_i32
  let c0_i32_1 : BitVec 32 := 0#32
  let c0_i32_2 : BitVec 32 := 0#32
  ![c0_i32_1.toNat, v3.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![c0_i32.toNat, v0.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S2x128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x128x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x128x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S1x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]
-- ==== KernelIdeal.lean ====
variable {F : FTy → Type} [FloatOps F] [Named F]
def κ : String → Option EReal := fun
  | "c" => some ((8943 / 200000 : ℝ) : EReal)
  | "three_c" => some ((26829 / 200000 : ℝ) : EReal)
  | _ => none
-- ==== ReferenceIdeal.lean ====
abbrev S4352x1024 : Shape := ⟨2, ![4352, 1024]⟩
abbrev S4352x4096 : Shape := ⟨2, ![4352, 4096]⟩
abbrev S64x64 : Shape := ⟨2, ![64, 64]⟩
abbrev S8x128x512 : Shape := ⟨3, ![8, 128, 512]⟩
abbrev S8x512x128 : Shape := ⟨3, ![8, 512, 128]⟩
abbrev S1024 : Shape := ⟨1, ![1024]⟩
abbrev S2x2176x8x128 : Shape := ⟨4, ![2, 2176, 8, 128]⟩
abbrev S2x2176x8x512 : Shape := ⟨4, ![2, 2176, 8, 512]⟩
abbrev S8x512 : Shape := ⟨2, ![8, 512]⟩
abbrev S8x128 : Shape := ⟨2, ![8, 128]⟩
abbrev S_ : Shape := ⟨0, ![]⟩
abbrev S8x128x2x2176 : Shape := ⟨4, ![8, 128, 2, 2176]⟩
abbrev S1x1x8x128 : Shape := ⟨4, ![1, 1, 8, 128]⟩
abbrev S8x2x2176x512 : Shape := ⟨4, ![8, 2, 2176, 512]⟩
abbrev S2x8x512 : Shape := ⟨3, ![2, 8, 512]⟩
abbrev S2176x2x8x512 : Shape := ⟨4, ![2176, 2, 8, 512]⟩
abbrev S1x2x8x512 : Shape := ⟨4, ![1, 2, 8, 512]⟩
abbrev S1x8x512 : Shape := ⟨3, ![1, 8, 512]⟩
abbrev S2x1x8x512 : Shape := ⟨4, ![2, 1, 8, 512]⟩
abbrev S2x2175x8x512 : Shape := ⟨4, ![2, 2175, 8, 512]⟩
abbrev S1x1x8x512 : Shape := ⟨4, ![1, 1, 8, 512]⟩
abbrev S8x512x2x2176 : Shape := ⟨4, ![8, 512, 2, 2176]⟩
abbrev S8x2x2176x128 : Shape := ⟨4, ![8, 2, 2176, 128]⟩
abbrev S2x2176x1024 : Shape := ⟨3, ![2, 2176, 1024]⟩
abbrev S1x1024 : Shape := ⟨2, ![1, 1024]⟩
abbrev S1x4096 : Shape := ⟨2, ![1, 4096]⟩

abbrev nBuf : Space → Nat
  | .hbm => 242
  | .vmem => 0
  | .smem => 0
  | _ => 0

abbrev hbmTy0_0 (i : Nat) : BufTy := match i % 128 with
  | 0 => ⟨S4352x1024, .f32⟩
  | 1 => ⟨S4352x1024, .f32⟩
  | 2 => ⟨S4352x1024, .f32⟩
  | 3 => ⟨S4352x4096, .f32⟩
  | 4 => ⟨S4352x4096, .f32⟩
  | 5 => ⟨S64x64, .f32⟩
  | 6 => ⟨S64x64, .f32⟩
  | 7 => ⟨S8x128x512, .f32⟩
  | 8 => ⟨S8x128x512, .f32⟩
  | 9 => ⟨S8x512x128, .f32⟩
  | 10 => ⟨S8x512x128, .f32⟩
  | 11 => ⟨S1024, .f32⟩
  | 12 => ⟨S2x2176x8x128, .f32⟩
  | 13 => ⟨S2x2176x8x128, .f32⟩
  | 14 => ⟨S2x2176x8x128, .f32⟩
  | 15 => ⟨S2x2176x8x512, .f32⟩
  | 16 => ⟨S2x2176x8x512, .f32⟩
  | 17 => ⟨S8x512, .f32⟩
  | 18 => ⟨S8x512, .f32⟩
  | 19 => ⟨S8x128, .f32⟩
  | 20 => ⟨S2x2176x8x128, .f32⟩
  | 21 => ⟨S2x2176x8x128, .f32⟩
  | 22 => ⟨S2x2176x8x128, .f32⟩
  | 23 => ⟨S_, .f32⟩
  | 24 => ⟨S2x2176x8x128, .f32⟩
  | 25 => ⟨S2x2176x8x128, .f32⟩
  | 26 => ⟨S_, .f32⟩
  | 27 => ⟨S2x2176x8x128, .f32⟩
  | 28 => ⟨S2x2176x8x128, .f32⟩
  | 29 => ⟨S_, .f32⟩
  | 30 => ⟨S2x2176x8x128, .f32⟩
  | 31 => ⟨S2x2176x8x128, .f32⟩
  | 32 => ⟨S2x2176x8x128, .f32⟩
  | 33 => ⟨S_, .f32⟩
  | 34 => ⟨S2x2176x8x128, .f32⟩
  | 35 => ⟨S2x2176x8x128, .f32⟩
  | 36 => ⟨S2x2176x8x128, .f32⟩
  | 37 => ⟨S_, .f32⟩
  | 38 => ⟨S2x2176x8x128, .f32⟩
  | 39 => ⟨S2x2176x8x128, .f32⟩
  | 40 => ⟨S_, .f32⟩
  | 41 => ⟨S2x2176x8x128, .f32⟩
  | 42 => ⟨S2x2176x8x128, .f32⟩
  | 43 => ⟨S2x2176x8x128, .f32⟩
  | 44 => ⟨S_, .f32⟩
  | 45 => ⟨S2x2176x8x128, .f32⟩
  | 46 => ⟨S2x2176x8x128, .f32⟩
  | 47 => ⟨S_, .f32⟩
  | 48 => ⟨S2x2176x8x128, .f32⟩
  | 49 => ⟨S2x2176x8x128, .f32⟩
  | 50 => ⟨S2x2176x8x128, .f32⟩
  | 51 => ⟨S2x2176x8x128, .f32⟩
  | 52 => ⟨S2x2176x8x128, .f32⟩
  | 53 => ⟨S_, .f32⟩
  | 54 => ⟨S2x2176x8x128, .f32⟩
  | 55 => ⟨S2x2176x8x128, .f32⟩
  | 56 => ⟨S2x2176x8x128, .f32⟩
  | 57 => ⟨S_, .f32⟩
  | 58 => ⟨S2x2176x8x128, .f32⟩
  | 59 => ⟨S2x2176x8x128, .f32⟩
  | 60 => ⟨S2x2176x8x128, .f32⟩
  | 61 => ⟨S_, .f32⟩
  | 62 => ⟨S2x2176x8x128, .f32⟩
  | 63 => ⟨S2x2176x8x128, .f32⟩
  | 64 => ⟨S_, .f32⟩
  | 65 => ⟨S2x2176x8x128, .f32⟩
  | 66 => ⟨S2x2176x8x128, .f32⟩
  | 67 => ⟨S2x2176x8x128, .f32⟩
  | 68 => ⟨S2x2176x8x128, .f32⟩
  | 69 => ⟨S8x128x2x2176, .f32⟩
  | 70 => ⟨S2x2176x8x128, .f32⟩
  | 71 => ⟨S8x128x2x2176, .f32⟩
  | 72 => ⟨S2x2176x8x128, .f32⟩
  | 73 => ⟨S2x2176x8x128, .f32⟩
  | 74 => ⟨S1x1x8x128, .f32⟩
  | 75 => ⟨S2x2176x8x128, .f32⟩
  | 76 => ⟨S2x2176x8x128, .f32⟩
  | 77 => ⟨S2x2176x8x128, .f32⟩
  | 78 => ⟨S2x2176x8x128, .f32⟩
  | 79 => ⟨S2x2176x8x128, .f32⟩
  | 80 => ⟨S2x2176x8x128, .f32⟩
  | 81 => ⟨S_, .f32⟩
  | 82 => ⟨S8x128, .f32⟩
  | 83 => ⟨S1x1x8x128, .f32⟩
  | 84 => ⟨S_, .f32⟩
  | 85 => ⟨S8x128, .f32⟩
  | 86 => ⟨S2x2176x8x128, .f32⟩
  | 87 => ⟨S8x128x2x2176, .f32⟩
  | 88 => ⟨S8x2x2176x512, .f32⟩
  | 89 => ⟨S2x2176x8x512, .f32⟩
  | 90 => ⟨S8x128x512, .f32⟩
  | 91 => ⟨S8x512x128, .f32⟩
  | 92 => ⟨S8x128x2x2176, .f32⟩
  | 93 => ⟨S8x2x2176x512, .f32⟩
  | 94 => ⟨S2x2176x8x512, .f32⟩
  | 95 => ⟨S8x128x512, .f32⟩
  | 96 => ⟨S8x512x128, .f32⟩
  | 97 => ⟨S_, .f32⟩
  | 98 => ⟨S2x8x512, .f32⟩
  | 99 => ⟨S2176x2x8x512, .f32⟩
  | 100 => ⟨S2176x2x8x512, .f32⟩
  | 101 => ⟨S_, .f32⟩
  | 102 => ⟨S2176x2x8x512, .f32⟩
  | 103 => ⟨S_, .f32⟩
  | 104 => ⟨S2176x2x8x512, .f32⟩
  | 105 => ⟨S_, .i32⟩
  | 106 => ⟨S2176x2x8x512, .f32⟩
  | 107 => ⟨S2176x2x8x512, .f32⟩
  | 108 => ⟨S8x512, .f32⟩
  | 109 => ⟨S8x512, .f32⟩
  | 110 => ⟨S_, .i32⟩
  | 111 => ⟨S2x8x512, .f32⟩
  | 112 => ⟨S2x8x512, .f32⟩
  | 113 => ⟨S2176x2x8x512, .f32⟩
  | 114 => ⟨S2176x2x8x512, .f32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S1x2x8x512, .f32⟩
  | 125 => ⟨S2x8x512, .f32⟩
  | 126 => ⟨S_, .i32⟩
  | 127 => ⟨S_, .i32⟩
  | _ => ⟨S4352x1024, .f32⟩

abbrev hbmTy0_1 (i : Nat) : BufTy := match i % 128 with
  | 0 => ⟨S_, .i32⟩
  | 1 => ⟨S1x2x8x512, .f32⟩
  | 2 => ⟨S2x8x512, .f32⟩
  | 3 => ⟨S2x8x512, .f32⟩
  | 4 => ⟨S2x8x512, .f32⟩
  | 5 => ⟨S1x8x512, .f32⟩
  | 6 => ⟨S2x8x512, .f32⟩
  | 7 => ⟨S2x8x512, .f32⟩
  | 8 => ⟨S1x8x512, .f32⟩
  | 9 => ⟨S2x8x512, .f32⟩
  | 10 => ⟨S2x8x512, .f32⟩
  | 11 => ⟨S2x8x512, .f32⟩
  | 12 => ⟨S1x8x512, .f32⟩
  | 13 => ⟨S2x8x512, .f32⟩
  | 14 => ⟨S2x8x512, .f32⟩
  | 15 => ⟨S1x8x512, .f32⟩
  | 16 => ⟨S2x8x512, .f32⟩
  | 17 => ⟨S2x8x512, .f32⟩
  | 18 => ⟨S2x8x512, .f32⟩
  | 19 => ⟨S2x8x512, .f32⟩
  | 20 => ⟨S2x8x512, .f32⟩
  | 21 => ⟨S2x8x512, .f32⟩
  | 22 => ⟨S2x8x512, .f32⟩
  | 23 => ⟨S2x8x512, .f32⟩
  | 24 => ⟨S2x8x512, .f32⟩
  | 25 => ⟨S2x8x512, .f32⟩
  | 26 => ⟨S2x8x512, .f32⟩
  | 27 => ⟨S2x8x512, .f32⟩
  | 28 => ⟨S2x8x512, .f32⟩
  | 29 => ⟨S2x8x512, .f32⟩
  | 30 => ⟨S1x2x8x512, .f32⟩
  | 31 => ⟨S_, .i32⟩
  | 32 => ⟨S_, .i32⟩
  | 33 => ⟨S_, .i32⟩
  | 34 => ⟨S2176x2x8x512, .f32⟩
  | 35 => ⟨S1x2x8x512, .f32⟩
  | 36 => ⟨S_, .i32⟩
  | 37 => ⟨S_, .i32⟩
  | 38 => ⟨S_, .i32⟩
  | 39 => ⟨S2176x2x8x512, .f32⟩
  | 40 => ⟨S_, .i32⟩
  | 41 => ⟨S_, .i32⟩
  | 42 => ⟨S2x2176x8x512, .f32⟩
  | 43 => ⟨S2x2176x8x512, .f32⟩
  | 44 => ⟨S_, .f32⟩
  | 45 => ⟨S2x1x8x512, .f32⟩
  | 46 => ⟨S2x2175x8x512, .f32⟩
  | 47 => ⟨S2x2176x8x512, .f32⟩
  | 48 => ⟨S_, .f32⟩
  | 49 => ⟨S2x1x8x512, .f32⟩
  | 50 => ⟨S2x2175x8x512, .f32⟩
  | 51 => ⟨S2x2176x8x512, .f32⟩
  | 52 => ⟨S1x1x8x512, .f32⟩
  | 53 => ⟨S2x2176x8x512, .f32⟩
  | 54 => ⟨S2x2176x8x512, .f32⟩
  | 55 => ⟨S1x1x8x512, .f32⟩
  | 56 => ⟨S2x2176x8x512, .f32⟩
  | 57 => ⟨S2x2176x8x512, .f32⟩
  | 58 => ⟨S2x2176x8x512, .f32⟩
  | 59 => ⟨S1x1x8x512, .f32⟩
  | 60 => ⟨S2x2176x8x512, .f32⟩
  | 61 => ⟨S2x2176x8x512, .f32⟩
  | 62 => ⟨S1x1x8x512, .f32⟩
  | 63 => ⟨S2x2176x8x512, .f32⟩
  | 64 => ⟨S2x2176x8x512, .f32⟩
  | 65 => ⟨S2x2176x8x512, .f32⟩
  | 66 => ⟨S2x2176x8x512, .f32⟩
  | 67 => ⟨S_, .f32⟩
  | 68 => ⟨S8x512, .f32⟩
  | 69 => ⟨S1x1x8x512, .f32⟩
  | 70 => ⟨S_, .f32⟩
  | 71 => ⟨S8x512, .f32⟩
  | 72 => ⟨S2x2176x8x512, .f32⟩
  | 73 => ⟨S_, .f32⟩
  | 74 => ⟨S8x512, .f32⟩
  | 75 => ⟨S1x1x8x512, .f32⟩
  | 76 => ⟨S_, .f32⟩
  | 77 => ⟨S8x512, .f32⟩
  | 78 => ⟨S2x2176x8x512, .f32⟩
  | 79 => ⟨S2x2176x8x512, .f32⟩
  | 80 => ⟨S_, .f32⟩
  | 81 => ⟨S8x512, .f32⟩
  | 82 => ⟨S1x1x8x512, .f32⟩
  | 83 => ⟨S_, .f32⟩
  | 84 => ⟨S8x512, .f32⟩
  | 85 => ⟨S8x512, .f32⟩
  | 86 => ⟨S2x2176x8x512, .f32⟩
  | 87 => ⟨S_, .f32⟩
  | 88 => ⟨S8x512, .f32⟩
  | 89 => ⟨S1x1x8x512, .f32⟩
  | 90 => ⟨S_, .f32⟩
  | 91 => ⟨S8x512, .f32⟩
  | 92 => ⟨S8x512, .f32⟩
  | 93 => ⟨S8x512x2x2176, .f32⟩
  | 94 => ⟨S2x2176x8x512, .f32⟩
  | 95 => ⟨S8x512x2x2176, .f32⟩
  | 96 => ⟨S2x2176x8x512, .f32⟩
  | 97 => ⟨S8x512x2x2176, .f32⟩
  | 98 => ⟨S8x2x2176x128, .f32⟩
  | 99 => ⟨S2x2176x8x128, .f32⟩
  | 100 => ⟨S8x512x128, .f32⟩
  | 101 => ⟨S8x128x512, .f32⟩
  | 102 => ⟨S8x512x2x2176, .f32⟩
  | 103 => ⟨S8x2x2176x128, .f32⟩
  | 104 => ⟨S2x2176x8x128, .f32⟩
  | 105 => ⟨S2x2176x8x128, .f32⟩
  | 106 => ⟨S8x512x128, .f32⟩
  | 107 => ⟨S8x128x512, .f32⟩
  | 108 => ⟨S2x2176x8x128, .f32⟩
  | 109 => ⟨S2x2176x1024, .f32⟩
  | 110 => ⟨S2x2176x1024, .bf16⟩
  | 111 => ⟨S1x1024, .f32⟩
  | 112 => ⟨S1x4096, .f32⟩
  | 113 => ⟨S1x4096, .f32⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_c : Ref sig .tc := ⟨.hbm, 105, rfl⟩
abbrev main_v76_0 : Ref sig .tc := ⟨.hbm, 106, rfl⟩
abbrev main_v76_1 : Ref sig .tc := ⟨.hbm, 107, rfl⟩
abbrev main_v76_2 : Ref sig .tc := ⟨.hbm, 108, rfl⟩
abbrev main_v76_3 : Ref sig .tc := ⟨.hbm, 109, rfl⟩
abbrev main_v76_4 : Ref sig .tc := ⟨.hbm, 110, rfl⟩
abbrev main_v76_5 : Ref sig .tc := ⟨.hbm, 111, rfl⟩
abbrev main_v76_6 : Ref sig .tc := ⟨.hbm, 112, rfl⟩
abbrev main_v76_7 : Ref sig .tc := ⟨.hbm, 113, rfl⟩
abbrev main_v76_8 : Ref sig .tc := ⟨.hbm, 114, rfl⟩
abbrev main_while0c_c_34 : Ref sig .tc := ⟨.hbm, 115, rfl⟩
abbrev main_while0c_v139 : Ref sig .tc := ⟨.hbm, 116, rfl⟩
abbrev main_while0b_c_34 : Ref sig .tc := ⟨.hbm, 117, rfl⟩
abbrev main_while0b_v139 : Ref sig .tc := ⟨.hbm, 118, rfl⟩
abbrev main_while0b_c_35 : Ref sig .tc := ⟨.hbm, 119, rfl⟩
abbrev main_while0b_v140 : Ref sig .tc := ⟨.hbm, 120, rfl⟩
abbrev main_while0b_call0_c : Ref sig .tc := ⟨.hbm, 121, rfl⟩
abbrev main_while0b_call0_c_0 : Ref sig .tc := ⟨.hbm, 122, rfl⟩
abbrev main_while0b_call0_c_1 : Ref sig .tc := ⟨.hbm, 123, rfl⟩
abbrev main_while0b_call0_v0 : Ref sig .tc := ⟨.hbm, 124, rfl⟩
abbrev main_while0b_v141 : Ref sig .tc := ⟨.hbm, 125, rfl⟩
abbrev main_while0b_call1_c : Ref sig .tc := ⟨.hbm, 126, rfl⟩
abbrev main_while0b_call1_c_0 : Ref sig .tc := ⟨.hbm, 127, rfl⟩
abbrev main_while0b_call1_c_1 : Ref sig .tc := ⟨.hbm, 128, rfl⟩
abbrev main_while0b_call1_v0 : Ref sig .tc := ⟨.hbm, 129, rfl⟩
abbrev main_while0b_v142 : Ref sig .tc := ⟨.hbm, 130, rfl⟩
abbrev main_while0b_v143 : Ref sig .tc := ⟨.hbm, 131, rfl⟩
abbrev main_while0b_v144 : Ref sig .tc := ⟨.hbm, 132, rfl⟩
abbrev main_while0b_v145 : Ref sig .tc := ⟨.hbm, 133, rfl⟩
abbrev main_while0b_v146 : Ref sig .tc := ⟨.hbm, 134, rfl⟩
abbrev main_while0b_v147 : Ref sig .tc := ⟨.hbm, 135, rfl⟩
abbrev main_while0b_v148 : Ref sig .tc := ⟨.hbm, 136, rfl⟩
abbrev main_while0b_v149 : Ref sig .tc := ⟨.hbm, 137, rfl⟩
abbrev main_while0b_v150 : Ref sig .tc := ⟨.hbm, 138, rfl⟩
abbrev main_while0b_v151 : Ref sig .tc := ⟨.hbm, 139, rfl⟩
abbrev main_while0b_v152 : Ref sig .tc := ⟨.hbm, 140, rfl⟩
abbrev main_while0b_v153 : Ref sig .tc := ⟨.hbm, 141, rfl⟩
abbrev main_while0b_v154 : Ref sig .tc := ⟨.hbm, 142, rfl⟩
abbrev main_while0b_v155 : Ref sig .tc := ⟨.hbm, 143, rfl⟩
abbrev main_while0b_v156 : Ref sig .tc := ⟨.hbm, 144, rfl⟩
abbrev main_while0b_v157 : Ref sig .tc := ⟨.hbm, 145, rfl⟩
abbrev main_while0b_v158 : Ref sig .tc := ⟨.hbm, 146, rfl⟩
abbrev main_while0b_v159 : Ref sig .tc := ⟨.hbm, 147, rfl⟩
abbrev main_while0b_v160 : Ref sig .tc := ⟨.hbm, 148, rfl⟩
abbrev main_while0b_v161 : Ref sig .tc := ⟨.hbm, 149, rfl⟩
abbrev main_while0b_v162 : Ref sig .tc := ⟨.hbm, 150, rfl⟩
abbrev main_while0b_v163 : Ref sig .tc := ⟨.hbm, 151, rfl⟩
abbrev main_while0b_v164 : Ref sig .tc := ⟨.hbm, 152, rfl⟩
abbrev main_while0b_v165 : Ref sig .tc := ⟨.hbm, 153, rfl⟩
abbrev main_while0b_v166 : Ref sig .tc := ⟨.hbm, 154, rfl⟩
abbrev main_while0b_v167 : Ref sig .tc := ⟨.hbm, 155, rfl⟩
abbrev main_while0b_v168 : Ref sig .tc := ⟨.hbm, 156, rfl⟩
abbrev main_while0b_v169 : Ref sig .tc := ⟨.hbm, 157, rfl⟩
abbrev main_while0b_call2_v0 : Ref sig .tc := ⟨.hbm, 158, rfl⟩
abbrev main_while0b_call2_c : Ref sig .tc := ⟨.hbm, 159, rfl⟩
abbrev main_while0b_call2_c_0 : Ref sig .tc := ⟨.hbm, 160, rfl⟩
abbrev main_while0b_call2_c_1 : Ref sig .tc := ⟨.hbm, 161, rfl⟩
abbrev main_while0b_v170 : Ref sig .tc := ⟨.hbm, 162, rfl⟩
abbrev main_while0b_call3_v0 : Ref sig .tc := ⟨.hbm, 163, rfl⟩
abbrev main_while0b_call3_c : Ref sig .tc := ⟨.hbm, 164, rfl⟩
abbrev main_while0b_call3_c_0 : Ref sig .tc := ⟨.hbm, 165, rfl⟩
abbrev main_while0b_call3_c_1 : Ref sig .tc := ⟨.hbm, 166, rfl⟩
abbrev main_while0b_v171 : Ref sig .tc := ⟨.hbm, 167, rfl⟩
abbrev main_while0b_c_36 : Ref sig .tc := ⟨.hbm, 168, rfl⟩
abbrev main_while0b_v172 : Ref sig .tc := ⟨.hbm, 169, rfl⟩
abbrev main_v77 : Ref sig .tc := ⟨.hbm, 170, rfl⟩
abbrev main_v78 : Ref sig .tc := ⟨.hbm, 171, rfl⟩
abbrev main_cst_16 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_cst_17 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_cst_18 : Ref sig .tc := ⟨.hbm, 195, rfl⟩
abbrev main_v100 : Ref sig .tc := ⟨.hbm, 196, rfl⟩
abbrev main_v101 : Ref sig .tc := ⟨.hbm, 197, rfl⟩
abbrev main_cst_19 : Ref sig .tc := ⟨.hbm, 198, rfl⟩
abbrev main_v102 : Ref sig .tc := ⟨.hbm, 199, rfl⟩
abbrev main_v103 : Ref sig .tc := ⟨.hbm, 200, rfl⟩
abbrev main_cst_20 : Ref sig .tc := ⟨.hbm, 201, rfl⟩
abbrev main_v104 : Ref sig .tc := ⟨.hbm, 202, rfl⟩
abbrev main_v105 : Ref sig .tc := ⟨.hbm, 203, rfl⟩
abbrev main_cst_21 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_cst_22 : Ref sig .tc := ⟨.hbm, 208, rfl⟩
abbrev main_v109 : Ref sig .tc := ⟨.hbm, 209, rfl⟩
abbrev main_v110 : Ref sig .tc := ⟨.hbm, 210, rfl⟩
abbrev main_cst_23 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_cst_24 : Ref sig .tc := ⟨.hbm, 215, rfl⟩
abbrev main_v114 : Ref sig .tc := ⟨.hbm, 216, rfl⟩
abbrev main_v115 : Ref sig .tc := ⟨.hbm, 217, rfl⟩
abbrev main_cst_25 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩

abbrev nD : Nat := 1
abbrev τ : Topo := Topo.v7x

variable {F : FTy → Type} [FloatOps F]

abbrev main_while0_count : Scf.Loop 32 := ⟨0#32, 2176#32, 1#32⟩
-- ==== Kernel2.lean ====
abbrev S4352x2048 : Shape := ⟨2, ![4352, 2048]⟩
abbrev S4096x2048 : Shape := ⟨2, ![4096, 2048]⟩
abbrev S4352x4096 : Shape := ⟨2, ![4352, 4096]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4096x2048, .bf16⟩
  | .hbm, ⟨2, _⟩ => ⟨S4352x4096, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4352x2048 : Shape := ⟨2, ![4352, 2048]⟩
abbrev S4096x2048 : Shape := ⟨2, ![4096, 2048]⟩
abbrev S_ : Shape := ⟨0, ![]⟩
abbrev S4352x4096 : Shape := ⟨2, ![4352, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4096x2048, .bf16⟩
  | .hbm, ⟨2, _⟩ => ⟨S_, .f32⟩
  | .hbm, ⟨3, _⟩ => ⟨S4352x4096, .f32⟩
  | .hbm, ⟨4, _⟩ => ⟨S4096x2048, .f32⟩
  | .hbm, ⟨5, _⟩ => ⟨S4352x2048, .f32⟩
  | .hbm, ⟨6, _⟩ => ⟨S4352x2048, .f32⟩
  | .hbm, ⟨7, _⟩ => ⟨S4352x4096, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4352x4096 : Shape := ⟨2, ![4352, 4096]⟩
abbrev S4352x2048 : Shape := ⟨2, ![4352, 2048]⟩
abbrev S4096x2048 : Shape := ⟨2, ![4096, 2048]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S4352x2048, .bf16⟩
  | .hbm, ⟨2, _⟩ => ⟨S4096x2048, .bf16⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S512x512, .bf16⟩
  | .local _ .vmem, ⟨5, _⟩ => ⟨S512x512, .bf16⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x4096 : Shape := ⟨2, ![4352, 4096]⟩
abbrev S4352x2048 : Shape := ⟨2, ![4352, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x2048, .bf16⟩
  | .hbm, ⟨2, _⟩ => ⟨S_, .f32⟩
  | .hbm, ⟨3, _⟩ => ⟨S4096x2048, .f32⟩
  | .hbm, ⟨4, _⟩ => ⟨S4352x4096, .f32⟩
  | .hbm, ⟨5, _⟩ => ⟨S4352x2048, .f32⟩
  | .hbm, ⟨6, _⟩ => ⟨S4352x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4352x4096 : Shape := ⟨2, ![4352, 4096]⟩
abbrev S2048x4096 : Shape := ⟨2, ![2048, 4096]⟩
abbrev S4352x2048 : Shape := ⟨2, ![4352, 2048]⟩
abbrev S1088x4096 : Shape := ⟨2, ![1088, 4096]⟩
abbrev S512x4096 : Shape := ⟨2, ![512, 4096]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S2048x4096, .bf16⟩
  | .hbm, ⟨2, _⟩ => ⟨S4352x2048, .f32⟩
  | .local _ .vmem, ⟨0, _⟩ => ⟨S1088x4096, .bf16⟩
  | .local _ .vmem, ⟨1, _⟩ => ⟨S1088x4096, .bf16⟩
  | .local _ .vmem, ⟨2, _⟩ => ⟨S512x4096, .bf16⟩
  | .local _ .vmem, ⟨3, _⟩ => ⟨S512x4096, .bf16⟩
  | .local _ .vmem, ⟨4, _⟩ => ⟨S1088x512, .f32⟩
  | .local _ .vmem, ⟨5, _⟩ => ⟨S1088x512, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x4096 : Shape := ⟨2, ![4352, 4096]⟩
abbrev S2048x4096 : Shape := ⟨2, ![2048, 4096]⟩
abbrev S_ : Shape := ⟨0, ![]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S2048x4096, .bf16⟩
  | .hbm, ⟨2, _⟩ => ⟨S_, .f32⟩
  | .hbm, ⟨3, _⟩ => ⟨S4352x2048, .f32⟩
  | .hbm, ⟨4, _⟩ => ⟨S2048x4096, .f32⟩
  | .hbm, ⟨5, _⟩ => ⟨S4352x4096, .f32⟩
  | .hbm, ⟨6, _⟩ => ⟨S4352x4096, .f32⟩
  | .hbm, ⟨7, _⟩ => ⟨S4352x2048, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4352x4096 : Shape := ⟨2, ![4352, 4096]⟩
abbrev S2048x4096 : Shape := ⟨2, ![2048, 4096]⟩
abbrev S4352x2048 : Shape := ⟨2, ![4352, 2048]⟩
abbrev S1088x4096 : Shape := ⟨2, ![1088, 4096]⟩
abbrev S512x4096 : Shape := ⟨2, ![512, 4096]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x4096, .bf16⟩
  | .hbm, ⟨1, _⟩ => ⟨S2048x4096, .bf16⟩
  | .hbm, ⟨2, _⟩ => ⟨S4352x2048, .f32⟩
  | .hbm, ⟨3, _⟩ => ⟨S4352x2048, .f32⟩
  | .local _ .vmem, ⟨0, _⟩ => ⟨S1088x4096, .bf16⟩
  | .local _ .vmem, ⟨1, _⟩ => ⟨S1088x4096, .bf16⟩
  | .local _ .vmem, ⟨2, _⟩ => ⟨S512x4096, .bf16⟩
  | .local _ .vmem, ⟨3, _⟩ => ⟨S512x4096, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4352x4096 : Shape := ⟨2, ![4352, 4096]⟩
abbrev S2048x4096 : Shape := ⟨2, ![2048, 4096]⟩
abbrev S4352x2048 : Shape := ⟨2, ![4352, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S2048x4096, .bf16⟩
  | .hbm, ⟨2, _⟩ => ⟨S4352x2048, .f32⟩
  | .hbm, ⟨3, _⟩ => ⟨S_, .f32⟩
  | .hbm, ⟨4, _⟩ => ⟨S4352x2048, .f32⟩
  | .hbm, ⟨5, _⟩ => ⟨S2048x4096, .f32⟩
  | .hbm, ⟨6, _⟩ => ⟨S4352x4096, .f32⟩
  | .hbm, ⟨7, _⟩ => ⟨S4352x4096, .f32⟩
  | .hbm, ⟨8, _⟩ => ⟨S4352x2048, .f32⟩
  | .hbm, ⟨9, _⟩ => ⟨S4352x2048, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S4352x2048 : Shape := ⟨2, ![4352, 2048]⟩
abbrev S4352x4096 : Shape := ⟨2, ![4352, 4096]⟩
abbrev S2048x4096 : Shape := ⟨2, ![2048, 4096]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x4096, .bf16⟩
  | .hbm, ⟨2, _⟩ => ⟨S2048x4096, .bf16⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S512x512, .bf16⟩
  | .local _ .vmem, ⟨5, _⟩ => ⟨S512x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x2048 : Shape := ⟨2, ![4352, 2048]⟩
abbrev S4352x4096 : Shape := ⟨2, ![4352, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x4096, .bf16⟩
  | .hbm, ⟨2, _⟩ => ⟨S_, .f32⟩
  | .hbm, ⟨3, _⟩ => ⟨S2048x4096, .f32⟩
  | .hbm, ⟨4, _⟩ => ⟨S4352x2048, .f32⟩
  | .hbm, ⟨5, _⟩ => ⟨S4352x4096, .f32⟩
  | .hbm, ⟨6, _⟩ => ⟨S4352x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4352x3072 : Shape := ⟨2, ![4352, 3072]⟩
abbrev S2048x3072 : Shape := ⟨2, ![2048, 3072]⟩
abbrev S4352x2048 : Shape := ⟨2, ![4352, 2048]⟩
abbrev S1088x3072 : Shape := ⟨2, ![1088, 3072]⟩
abbrev S512x3072 : Shape := ⟨2, ![512, 3072]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x3072, .bf16⟩
  | .hbm, ⟨1, _⟩ => ⟨S2048x3072, .bf16⟩
  | .hbm, ⟨2, _⟩ => ⟨S4352x2048, .f32⟩
  | .hbm, ⟨3, _⟩ => ⟨S4352x2048, .f32⟩
  | .local _ .vmem, ⟨0, _⟩ => ⟨S1088x3072, .bf16⟩
  | .local _ .vmem, ⟨1, _⟩ => ⟨S1088x3072, .bf16⟩
  | .local _ .vmem, ⟨2, _⟩ => ⟨S512x3072, .bf16⟩
  | .local _ .vmem, ⟨3, _⟩ => ⟨S512x3072, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4352x3072 : Shape := ⟨2, ![4352, 3072]⟩
abbrev S2048x3072 : Shape := ⟨2, ![2048, 3072]⟩
abbrev S4352x2048 : Shape := ⟨2, ![4352, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S2048x3072, .bf16⟩
  | .hbm, ⟨2, _⟩ => ⟨S4352x2048, .f32⟩
  | .hbm, ⟨3, _⟩ => ⟨S_, .f32⟩
  | .hbm, ⟨4, _⟩ => ⟨S4352x2048, .f32⟩
  | .hbm, ⟨5, _⟩ => ⟨S2048x3072, .f32⟩
  | .hbm, ⟨6, _⟩ => ⟨S4352x3072, .f32⟩
  | .hbm, ⟨7, _⟩ => ⟨S4352x3072, .f32⟩
  | .hbm, ⟨8, _⟩ => ⟨S4352x2048, .f32⟩
  | .hbm, ⟨9, _⟩ => ⟨S4352x2048, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S4352x2048 : Shape := ⟨2, ![4352, 2048]⟩
abbrev S4352x3072 : Shape := ⟨2, ![4352, 3072]⟩
abbrev S3x2048x1024 : Shape := ⟨3, ![3, 2048, 1024]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x3072, .bf16⟩
  | .hbm, ⟨2, _⟩ => ⟨S3x2048x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x2048 : Shape := ⟨2, ![4352, 2048]⟩
abbrev S4352x3072 : Shape := ⟨2, ![4352, 3072]⟩
abbrev S_ : Shape := ⟨0, ![]⟩
abbrev S2048x3072 : Shape := ⟨2, ![2048, 3072]⟩
abbrev S3072x2048 : Shape := ⟨2, ![3072, 2048]⟩
abbrev S2048x3x1024 : Shape := ⟨3, ![2048, 3, 1024]⟩
abbrev S3x2048x1024 : Shape := ⟨3, ![3, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x3072, .bf16⟩
  | .hbm, ⟨2, _⟩ => ⟨S_, .f32⟩
  | .hbm, ⟨3, _⟩ => ⟨S2048x3072, .f32⟩
  | .hbm, ⟨4, _⟩ => ⟨S4352x2048, .f32⟩
  | .hbm, ⟨5, _⟩ => ⟨S4352x3072, .f32⟩
  | .hbm, ⟨6, _⟩ => ⟨S4352x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | .hbm, ⟨10, _⟩ => ⟨S2048x3x1024, .bf16⟩
  | .hbm, ⟨11, _⟩ => ⟨S3x2048x1024, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4352x2048 : Shape := ⟨2, ![4352, 2048]⟩
abbrev S3072x2048 : Shape := ⟨2, ![3072, 2048]⟩
abbrev S4352x3072 : Shape := ⟨2, ![4352, 3072]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S3072x2048, .bf16⟩
  | .hbm, ⟨2, _⟩ => ⟨S4352x3072, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x2048 : Shape := ⟨2, ![4352, 2048]⟩
abbrev S3072x2048 : Shape := ⟨2, ![3072, 2048]⟩
abbrev S_ : Shape := ⟨0, ![]⟩
abbrev S4352x3072 : Shape := ⟨2, ![4352, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S3072x2048, .bf16⟩
  | .hbm, ⟨2, _⟩ => ⟨S_, .f32⟩
  | .hbm, ⟨3, _⟩ => ⟨S4352x3072, .f32⟩
  | .hbm, ⟨4, _⟩ => ⟨S3072x2048, .f32⟩
  | .hbm, ⟨5, _⟩ => ⟨S4352x2048, .f32⟩
  | .hbm, ⟨6, _⟩ => ⟨S4352x2048, .f32⟩
  | .hbm, ⟨7, _⟩ => ⟨S4352x3072, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4352x3072 : Shape := ⟨2, ![4352, 3072]⟩
abbrev S4352x2048 : Shape := ⟨2, ![4352, 2048]⟩
abbrev S3072x2048 : Shape := ⟨2, ![3072, 2048]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x3072, .bf16⟩
  | .hbm, ⟨1, _⟩ => ⟨S4352x2048, .bf16⟩
  | .hbm, ⟨2, _⟩ => ⟨S3072x2048, .bf16⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S512x512, .bf16⟩
  | .local _ .vmem, ⟨5, _⟩ => ⟨S512x512, .bf16⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x3072 : Shape := ⟨2, ![4352, 3072]⟩
abbrev S4352x2048 : Shape := ⟨2, ![4352, 2048]⟩
abbrev S_ : Shape := ⟨0, ![]⟩
abbrev S3072x2048 : Shape := ⟨2, ![3072, 2048]⟩
abbrev S2048x3072 : Shape := ⟨2, ![2048, 3072]⟩

abbrev nBuf : Space → Nat
  | .hbm => 10
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S4352x2048, .bf16⟩
  | .hbm, ⟨2, _⟩ => ⟨S_, .f32⟩
  | .hbm, ⟨3, _⟩ => ⟨S3072x2048, .f32⟩
  | .hbm, ⟨4, _⟩ => ⟨S4352x3072, .f32⟩
  | .hbm, ⟨5, _⟩ => ⟨S4352x2048, .f32⟩
  | .hbm, ⟨6, _⟩ => ⟨S4352x2048, .f32⟩
  | .hbm, ⟨7, _⟩ => ⟨S2048x3072, .f32⟩
  | .hbm, ⟨8, _⟩ => ⟨S3072x2048, .f32⟩
  | .hbm, ⟨9, _⟩ => ⟨S3072x2048, .bf16⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4352x2048 : Shape := ⟨2, ![4352, 2048]⟩
abbrev S2048x4096 : Shape := ⟨2, ![2048, 4096]⟩
abbrev S4352x4096 : Shape := ⟨2, ![4352, 4096]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x4096, .bf16⟩
  | .hbm, ⟨2, _⟩ => ⟨S4352x4096, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4352x2048 : Shape := ⟨2, ![4352, 2048]⟩
abbrev S2048x4096 : Shape := ⟨2, ![2048, 4096]⟩
abbrev S4352x4096 : Shape := ⟨2, ![4352, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x4096, .bf16⟩
  | .hbm, ⟨2, _⟩ => ⟨S4352x2048, .f32⟩
  | .hbm, ⟨3, _⟩ => ⟨S2048x4096, .f32⟩
  | .hbm, ⟨4, _⟩ => ⟨S4352x4096, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4352x2048 : Shape := ⟨2, ![4352, 2048]⟩
abbrev S2048x3072 : Shape := ⟨2, ![2048, 3072]⟩
abbrev S4352x3072 : Shape := ⟨2, ![4352, 3072]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x3072, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4352x2048 : Shape := ⟨2, ![4352, 2048]⟩
abbrev S2048x3072 : Shape := ⟨2, ![2048, 3072]⟩
abbrev S4352x3072 : Shape := ⟨2, ![4352, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x2048, .f32⟩
  | .hbm, ⟨3, _⟩ => ⟨S2048x3072, .f32⟩
  | .hbm, ⟨4, _⟩ => ⟨S4352x3072, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4352x4096 : Shape := ⟨2, ![4352, 4096]⟩
abbrev S4096x2048 : Shape := ⟨2, ![4096, 2048]⟩
abbrev S4352x2048 : Shape := ⟨2, ![4352, 2048]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .f32⟩
  | .hbm, ⟨3, _⟩ => ⟨S4352x2048, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4352x4096 : Shape := ⟨2, ![4352, 4096]⟩
abbrev S4096x2048 : Shape := ⟨2, ![4096, 2048]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .f32⟩
  | .hbm, ⟨3, _⟩ => ⟨S4352x4096, .f32⟩
  | .hbm, ⟨4, _⟩ => ⟨S4096x2048, .f32⟩
  | .hbm, ⟨5, _⟩ => ⟨S4352x2048, .f32⟩
  | .hbm, ⟨6, _⟩ => ⟨S4352x2048, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4352x3072 : Shape := ⟨2, ![4352, 3072]⟩
abbrev S3072x2048 : Shape := ⟨2, ![3072, 2048]⟩
abbrev S4352x2048 : Shape := ⟨2, ![4352, 2048]⟩
abbrev S1088x3072 : Shape := ⟨2, ![1088, 3072]⟩
abbrev S3072x512 : Shape := ⟨2, ![3072, 512]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x3072, .bf16⟩
  | .hbm, ⟨1, _⟩ => ⟨S3072x2048, .bf16⟩
  | .hbm, ⟨2, _⟩ => ⟨S4352x2048, .f32⟩
  | .hbm, ⟨3, _⟩ => ⟨S4352x2048, .f32⟩
  | .local _ .vmem, ⟨0, _⟩ => ⟨S1088x3072, .bf16⟩
  | .local _ .vmem, ⟨1, _⟩ => ⟨S1088x3072, .bf16⟩
  | .local _ .vmem, ⟨2, _⟩ => ⟨S3072x512, .bf16⟩
  | .local _ .vmem, ⟨3, _⟩ => ⟨S3072x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4352x3072 : Shape := ⟨2, ![4352, 3072]⟩
abbrev S3072x2048 : Shape := ⟨2, ![3072, 2048]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S3072x2048, .bf16⟩
  | .hbm, ⟨2, _⟩ => ⟨S4352x2048, .f32⟩
  | .hbm, ⟨3, _⟩ => ⟨S4352x3072, .f32⟩
  | .hbm, ⟨4, _⟩ => ⟨S3072x2048, .f32⟩
  | .hbm, ⟨5, _⟩ => ⟨S4352x2048, .f32⟩
  | .hbm, ⟨6, _⟩ => ⟨S4352x2048, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4352x1024 : Shape := ⟨2, ![4352, 1024]⟩
abbrev S2048x1024 : Shape := ⟨2, ![2048, 1024]⟩
abbrev S4352x2048 : Shape := ⟨2, ![4352, 2048]⟩
abbrev S1088x1024 : Shape := ⟨2, ![1088, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S2048x1024, .bf16⟩
  | .hbm, ⟨2, _⟩ => ⟨S4352x2048, .f32⟩
  | .hbm, ⟨3, _⟩ => ⟨S4352x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4352x1024 : Shape := ⟨2, ![4352, 1024]⟩
abbrev S2048x1024 : Shape := ⟨2, ![2048, 1024]⟩
abbrev S4352x2048 : Shape := ⟨2, ![4352, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2048x1024, .bf16⟩
  | .hbm, ⟨2, _⟩ => ⟨S4352x2048, .f32⟩
  | .hbm, ⟨3, _⟩ => ⟨S_, .f32⟩
  | .hbm, ⟨4, _⟩ => ⟨S4352x2048, .f32⟩
  | .hbm, ⟨5, _⟩ => ⟨S2048x1024, .f32⟩
  | .hbm, ⟨6, _⟩ => ⟨S4352x1024, .f32⟩
  | .hbm, ⟨7, _⟩ => ⟨S4352x1024, .f32⟩
  | .hbm, ⟨8, _⟩ => ⟨S4352x2048, .f32⟩
  | .hbm, ⟨9, _⟩ => ⟨S4352x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel16.lean ====
abbrev S4352x2048 : Shape := ⟨2, ![4352, 2048]⟩
abbrev S4352x1024 : Shape := ⟨2, ![4352, 1024]⟩
abbrev S2048x1024 : Shape := ⟨2, ![2048, 1024]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S2048x1024, .bf16⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S512x512, .bf16⟩
  | .local _ .vmem, ⟨5, _⟩ => ⟨S512x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4352x2048 : Shape := ⟨2, ![4352, 2048]⟩
abbrev S4352x1024 : Shape := ⟨2, ![4352, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S_, .f32⟩
  | .hbm, ⟨3, _⟩ => ⟨S2048x1024, .f32⟩
  | .hbm, ⟨4, _⟩ => ⟨S4352x2048, .f32⟩
  | .hbm, ⟨5, _⟩ => ⟨S4352x1024, .f32⟩
  | .hbm, ⟨6, _⟩ => ⟨S4352x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4352x2048 : Shape := ⟨2, ![4352, 2048]⟩
abbrev S4352x1024 : Shape := ⟨2, ![4352, 1024]⟩
abbrev S1x2048x1024 : Shape := ⟨3, ![1, 2048, 1024]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S1x2048x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4352x2048 : Shape := ⟨2, ![4352, 2048]⟩
abbrev S4352x1024 : Shape := ⟨2, ![4352, 1024]⟩
abbrev S_ : Shape := ⟨0, ![]⟩
abbrev S2048x1024 : Shape := ⟨2, ![2048, 1024]⟩
abbrev S1024x2048 : Shape := ⟨2, ![1024, 2048]⟩
abbrev S2048x1x1024 : Shape := ⟨3, ![2048, 1, 1024]⟩
abbrev S1x2048x1024 : Shape := ⟨3, ![1, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S_, .f32⟩
  | .hbm, ⟨3, _⟩ => ⟨S2048x1024, .f32⟩
  | .hbm, ⟨4, _⟩ => ⟨S4352x2048, .f32⟩
  | .hbm, ⟨5, _⟩ => ⟨S4352x1024, .f32⟩
  | .hbm, ⟨6, _⟩ => ⟨S4352x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | .hbm, ⟨10, _⟩ => ⟨S2048x1x1024, .bf16⟩
  | .hbm, ⟨11, _⟩ => ⟨S1x2048x1024, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel18.lean ====
abbrev S4352x2048 : Shape := ⟨2, ![4352, 2048]⟩
abbrev S1024x2048 : Shape := ⟨2, ![1024, 2048]⟩
abbrev S4352x1024 : Shape := ⟨2, ![4352, 1024]⟩
abbrev S1088x2048 : Shape := ⟨2, ![1088, 2048]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S4352x1024, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1088x1024, .f32⟩
  | .local _ .vmem, ⟨4, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4352x2048 : Shape := ⟨2, ![4352, 2048]⟩
abbrev S1024x2048 : Shape := ⟨2, ![1024, 2048]⟩
abbrev S_ : Shape := ⟨0, ![]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S_, .f32⟩
  | .hbm, ⟨3, _⟩ => ⟨S4352x1024, .f32⟩
  | .hbm, ⟨4, _⟩ => ⟨S1024x2048, .f32⟩
  | .hbm, ⟨5, _⟩ => ⟨S4352x2048, .f32⟩
  | .hbm, ⟨6, _⟩ => ⟨S4352x2048, .f32⟩
  | .hbm, ⟨7, _⟩ => ⟨S4352x1024, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S4352x1024 : Shape := ⟨2, ![4352, 1024]⟩
abbrev S4352x2048 : Shape := ⟨2, ![4352, 2048]⟩
abbrev S1024x2048 : Shape := ⟨2, ![1024, 2048]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S1024x2048, .bf16⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S512x512, .bf16⟩
  | .local _ .vmem, ⟨5, _⟩ => ⟨S512x512, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4352x1024 : Shape := ⟨2, ![4352, 1024]⟩
abbrev S4352x2048 : Shape := ⟨2, ![4352, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S_, .f32⟩
  | .hbm, ⟨3, _⟩ => ⟨S1024x2048, .f32⟩
  | .hbm, ⟨4, _⟩ => ⟨S4352x1024, .f32⟩
  | .hbm, ⟨5, _⟩ => ⟨S4352x2048, .f32⟩
  | .hbm, ⟨6, _⟩ => ⟨S4352x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S_, .f32⟩
  | .hbm, ⟨4, _⟩ => ⟨S4352x1024, .f32⟩
  | .hbm, ⟨5, _⟩ => ⟨S1024x1024, .f32⟩
  | .hbm, ⟨6, _⟩ => ⟨S4352x1024, .f32⟩
  | .hbm, ⟨7, _⟩ => ⟨S4352x1024, .f32⟩
  | .hbm, ⟨8, _⟩ => ⟨S4352x1024, .f32⟩
  | .hbm, ⟨9, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel21.lean ====
abbrev S4352x1024 : Shape := ⟨2, ![4352, 1024]⟩
abbrev S1024x1024 : Shape := ⟨2, ![1024, 1024]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .f32⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S512x512, .f32⟩
  | .local _ .vmem, ⟨5, _⟩ => ⟨S512x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S4352x2048 : Shape := ⟨2, ![4352, 2048]⟩
abbrev S2048x1024 : Shape := ⟨2, ![2048, 1024]⟩
abbrev S4352x1024 : Shape := ⟨2, ![4352, 1024]⟩
abbrev S1088x2048 : Shape := ⟨2, ![1088, 2048]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x1024, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S1088x1024, .f32⟩
  | .local _ .vmem, ⟨4, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4352x2048 : Shape := ⟨2, ![4352, 2048]⟩
abbrev S2048x1024 : Shape := ⟨2, ![2048, 1024]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x2048, .f32⟩
  | .hbm, ⟨3, _⟩ => ⟨S2048x1024, .f32⟩
  | .hbm, ⟨4, _⟩ => ⟨S4352x1024, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S4352x1024 : Shape := ⟨2, ![4352, 1024]⟩
abbrev S1024x2048 : Shape := ⟨2, ![1024, 2048]⟩
abbrev S4352x2048 : Shape := ⟨2, ![4352, 2048]⟩
abbrev S1088x1024 : Shape := ⟨2, ![1088, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S1024x2048, .bf16⟩
  | .hbm, ⟨2, _⟩ => ⟨S4352x2048, .f32⟩
  | .hbm, ⟨3, _⟩ => ⟨S4352x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S4352x1024 : Shape := ⟨2, ![4352, 1024]⟩
abbrev S1024x2048 : Shape := ⟨2, ![1024, 2048]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x2048, .bf16⟩
  | .hbm, ⟨2, _⟩ => ⟨S4352x2048, .f32⟩
  | .hbm, ⟨3, _⟩ => ⟨S4352x1024, .f32⟩
  | .hbm, ⟨4, _⟩ => ⟨S1024x2048, .f32⟩
  | .hbm, ⟨5, _⟩ => ⟨S4352x2048, .f32⟩
  | .hbm, ⟨6, _⟩ => ⟨S4352x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4352x1024 : Shape := ⟨2, ![4352, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S4352x1024 : Shape := ⟨2, ![4352, 1024]⟩
abbrev S2048x1024 : Shape := ⟨2, ![2048, 1024]⟩
abbrev S4352x2048 : Shape := ⟨2, ![4352, 2048]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S2048x1024, .bf16⟩
  | .hbm, ⟨2, _⟩ => ⟨S4352x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4352x1024 : Shape := ⟨2, ![4352, 1024]⟩
abbrev S2048x1024 : Shape := ⟨2, ![2048, 1024]⟩
abbrev S_ : Shape := ⟨0, ![]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2048x1024, .bf16⟩
  | .hbm, ⟨2, _⟩ => ⟨S_, .f32⟩
  | .hbm, ⟨3, _⟩ => ⟨S4352x2048, .f32⟩
  | .hbm, ⟨4, _⟩ => ⟨S2048x1024, .f32⟩
  | .hbm, ⟨5, _⟩ => ⟨S4352x1024, .f32⟩
  | .hbm, ⟨6, _⟩ => ⟨S4352x1024, .f32⟩
  | .hbm, ⟨7, _⟩ => ⟨S4352x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S4352x128 : Shape := ⟨2, ![4352, 128]⟩
abbrev S2048x128 : Shape := ⟨2, ![2048, 128]⟩
abbrev S4352x2048 : Shape := ⟨2, ![4352, 2048]⟩
abbrev S1088x128 : Shape := ⟨2, ![1088, 128]⟩
abbrev S1024x128 : Shape := ⟨2, ![1024, 128]⟩
abbrev S1088x1024 : Shape := ⟨2, ![1088, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x128, .bf16⟩
  | .hbm, ⟨1, _⟩ => ⟨S2048x128, .bf16⟩
  | .hbm, ⟨2, _⟩ => ⟨S4352x2048, .f32⟩
  | .hbm, ⟨3, _⟩ => ⟨S4352x2048, .f32⟩
  | .local _ .vmem, ⟨0, _⟩ => ⟨S1088x128, .bf16⟩
  | .local _ .vmem, ⟨1, _⟩ => ⟨S1088x128, .bf16⟩
  | .local _ .vmem, ⟨2, _⟩ => ⟨S1024x128, .bf16⟩
  | .local _ .vmem, ⟨3, _⟩ => ⟨S1024x128, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S4352x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference26Ideal.lean ====
abbrev S4352x128 : Shape := ⟨2, ![4352, 128]⟩
abbrev S2048x128 : Shape := ⟨2, ![2048, 128]⟩
abbrev S4352x2048 : Shape := ⟨2, ![4352, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x128, .bf16⟩
  | .hbm, ⟨1, _⟩ => ⟨S2048x128, .bf16⟩
  | .hbm, ⟨2, _⟩ => ⟨S4352x2048, .f32⟩
  | .hbm, ⟨3, _⟩ => ⟨S_, .f32⟩
  | .hbm, ⟨4, _⟩ => ⟨S4352x2048, .f32⟩
  | .hbm, ⟨5, _⟩ => ⟨S2048x128, .f32⟩
  | .hbm, ⟨6, _⟩ => ⟨S4352x128, .f32⟩
  | .hbm, ⟨7, _⟩ => ⟨S4352x128, .f32⟩
  | .hbm, ⟨8, _⟩ => ⟨S4352x2048, .f32⟩
  | .hbm, ⟨9, _⟩ => ⟨S4352x2048, .f32⟩
  | _, _ => ⟨S4352x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel27.lean ====
abbrev S4352x2048 : Shape := ⟨2, ![4352, 2048]⟩
abbrev S4352x128 : Shape := ⟨2, ![4352, 128]⟩
abbrev S2048x128 : Shape := ⟨2, ![2048, 128]⟩
abbrev S4352x1024 : Shape := ⟨2, ![4352, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S4352x128, .bf16⟩
  | .hbm, ⟨2, _⟩ => ⟨S2048x128, .bf16⟩
  | .local _ .vmem, ⟨0, _⟩ => ⟨S4352x1024, .bf16⟩
  | .local _ .vmem, ⟨1, _⟩ => ⟨S4352x1024, .bf16⟩
  | .local _ .vmem, ⟨2, _⟩ => ⟨S4352x128, .bf16⟩
  | .local _ .vmem, ⟨3, _⟩ => ⟨S1024x128, .bf16⟩
  | .local _ .vmem, ⟨4, _⟩ => ⟨S1024x128, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4352x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4352x2048 : Shape := ⟨2, ![4352, 2048]⟩
abbrev S4352x128 : Shape := ⟨2, ![4352, 128]⟩
abbrev S_ : Shape := ⟨0, ![]⟩
abbrev S2048x128 : Shape := ⟨2, ![2048, 128]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x128, .bf16⟩
  | .hbm, ⟨2, _⟩ => ⟨S_, .f32⟩
  | .hbm, ⟨3, _⟩ => ⟨S2048x128, .f32⟩
  | .hbm, ⟨4, _⟩ => ⟨S4352x2048, .f32⟩
  | .hbm, ⟨5, _⟩ => ⟨S4352x128, .f32⟩
  | .hbm, ⟨6, _⟩ => ⟨S4352x128, .f32⟩
  | .hbm, ⟨7, _⟩ => ⟨S128x2048, .f32⟩
  | .hbm, ⟨8, _⟩ => ⟨S2048x128, .f32⟩
  | .hbm, ⟨9, _⟩ => ⟨S2048x128, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel28.lean ====
abbrev S4352x2048 : Shape := ⟨2, ![4352, 2048]⟩
abbrev S2048x128 : Shape := ⟨2, ![2048, 128]⟩
abbrev S4352x128 : Shape := ⟨2, ![4352, 128]⟩
abbrev S1088x2048 : Shape := ⟨2, ![1088, 2048]⟩
abbrev S1088x128 : Shape := ⟨2, ![1088, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S2048x128, .bf16⟩
  | .hbm, ⟨2, _⟩ => ⟨S4352x128, .f32⟩
  | .local _ .vmem, ⟨0, _⟩ => ⟨S1088x2048, .bf16⟩
  | .local _ .vmem, ⟨1, _⟩ => ⟨S1088x2048, .bf16⟩
  | .local _ .vmem, ⟨2, _⟩ => ⟨S2048x128, .bf16⟩
  | .local _ .vmem, ⟨3, _⟩ => ⟨S1088x128, .f32⟩
  | .local _ .vmem, ⟨4, _⟩ => ⟨S1088x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4352x2048 : Shape := ⟨2, ![4352, 2048]⟩
abbrev S2048x128 : Shape := ⟨2, ![2048, 128]⟩
abbrev S4352x128 : Shape := ⟨2, ![4352, 128]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x128, .bf16⟩
  | .hbm, ⟨2, _⟩ => ⟨S4352x2048, .f32⟩
  | .hbm, ⟨3, _⟩ => ⟨S2048x128, .f32⟩
  | .hbm, ⟨4, _⟩ => ⟨S4352x128, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel29.lean ====
abbrev S2048x1024 : Shape := ⟨2, ![2048, 1024]⟩
abbrev S8x2048x1024 : Shape := ⟨3, ![8, 2048, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x2048x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x1024, .bf16⟩
  | .local _ .vmem, ⟨7, _⟩ => ⟨S8x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel29Ideal.lean ====
abbrev S2048x1024 : Shape := ⟨2, ![2048, 1024]⟩
abbrev S8x2048x1024 : Shape := ⟨3, ![8, 2048, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x2048x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x1024, .bf16⟩
  | .local _ .vmem, ⟨7, _⟩ => ⟨S8x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29Ideal.lean ====
abbrev S2048x1024 : Shape := ⟨2, ![2048, 1024]⟩
abbrev S8x2048x1024 : Shape := ⟨3, ![8, 2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x2048x1024, .bf16⟩
  | .hbm, ⟨4, _⟩ => ⟨S8x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel30.lean ====
abbrev S2048x1288 : Shape := ⟨2, ![2048, 1288]⟩
abbrev S8x2048x1288 : Shape := ⟨3, ![8, 2048, 1288]⟩
abbrev S256x1288 : Shape := ⟨2, ![256, 1288]⟩
abbrev S8x256x1288 : Shape := ⟨3, ![8, 256, 1288]⟩
abbrev S1x256x1288 : Shape := ⟨3, ![1, 256, 1288]⟩

abbrev nBuf : Space → Nat
  | .hbm => 8
  | .vmem => 16
  | .smem => 0
  | _ => 0

abbrev bufTy : (tb : Table) → Fin (tcTables nBuf tb) → BufTy
  | .hbm, ⟨0, _⟩ => ⟨S2048x1288, .f32⟩
  | .hbm, ⟨1, _⟩ => ⟨S2048x1288, .f32⟩
  | .hbm, ⟨2, _⟩ => ⟨S2048x1288, .f32⟩
  | .hbm, ⟨3, _⟩ => ⟨S8x2048x1288, .bf16⟩
  | .hbm, ⟨4, _⟩ => ⟨S2048x1288, .f32⟩
  | .hbm, ⟨5, _⟩ => ⟨S2048x1288, .f32⟩
  | .hbm, ⟨6, _⟩ => ⟨S2048x1288, .f32⟩
  | .hbm, ⟨7, _⟩ => ⟨S2048x1288, .f32⟩
  | .local _ .vmem, ⟨0, _⟩ => ⟨S256x1288, .f32⟩
  | .local _ .vmem, ⟨1, _⟩ => ⟨S256x1288, .f32⟩
  | .local _ .vmem, ⟨2, _⟩ => ⟨S256x1288, .f32⟩
  | .local _ .vmem, ⟨3, _⟩ => ⟨S256x1288, .f32⟩
  | .local _ .vmem, ⟨4, _⟩ => ⟨S256x1288, .f32⟩
  | .local _ .vmem, ⟨5, _⟩ => ⟨S256x1288, .f32⟩
  | .local _ .vmem, ⟨6, _⟩ => ⟨S8x256x1288, .bf16⟩
  | .local _ .vmem, ⟨7, _⟩ => ⟨S8x256x1288, .bf16⟩
  | .local _ .vmem, ⟨8, _⟩ => ⟨S256x1288, .f32⟩
  | .local _ .vmem, ⟨9, _⟩ => ⟨S256x1288, .f32⟩
  | .local _ .vmem, ⟨10, _⟩ => ⟨S256x1288, .f32⟩
  | .local _ .vmem, ⟨11, _⟩ => ⟨S256x1288, .f32⟩
  | .local _ .vmem, ⟨12, _⟩ => ⟨S256x1288, .f32⟩
  | .local _ .vmem, ⟨13, _⟩ => ⟨S256x1288, .f32⟩
  | .local _ .vmem, ⟨14, _⟩ => ⟨S256x1288, .f32⟩
  | .local _ .vmem, ⟨15, _⟩ => ⟨S256x1288, .f32⟩
  | _, _ => ⟨S2048x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1288 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel30Ideal.lean ====
abbrev S2048x1288 : Shape := ⟨2, ![2048, 1288]⟩
abbrev S8x2048x1288 : Shape := ⟨3, ![8, 2048, 1288]⟩
abbrev S256x1288 : Shape := ⟨2, ![256, 1288]⟩
abbrev S8x256x1288 : Shape := ⟨3, ![8, 256, 1288]⟩
abbrev S1x256x1288 : Shape := ⟨3, ![1, 256, 1288]⟩

abbrev nBuf : Space → Nat
  | .hbm => 8
  | .vmem => 16
  | .smem => 0
  | _ => 0

abbrev bufTy : (tb : Table) → Fin (tcTables nBuf tb) → BufTy
  | .hbm, ⟨0, _⟩ => ⟨S2048x1288, .f32⟩
  | .hbm, ⟨1, _⟩ => ⟨S2048x1288, .f32⟩
  | .hbm, ⟨2, _⟩ => ⟨S2048x1288, .f32⟩
  | .hbm, ⟨3, _⟩ => ⟨S8x2048x1288, .bf16⟩
  | .hbm, ⟨4, _⟩ => ⟨S2048x1288, .f32⟩
  | .hbm, ⟨5, _⟩ => ⟨S2048x1288, .f32⟩
  | .hbm, ⟨6, _⟩ => ⟨S2048x1288, .f32⟩
  | .hbm, ⟨7, _⟩ => ⟨S2048x1288, .f32⟩
  | .local _ .vmem, ⟨0, _⟩ => ⟨S256x1288, .f32⟩
  | .local _ .vmem, ⟨1, _⟩ => ⟨S256x1288, .f32⟩
  | .local _ .vmem, ⟨2, _⟩ => ⟨S256x1288, .f32⟩
  | .local _ .vmem, ⟨3, _⟩ => ⟨S256x1288, .f32⟩
  | .local _ .vmem, ⟨4, _⟩ => ⟨S256x1288, .f32⟩
  | .local _ .vmem, ⟨5, _⟩ => ⟨S256x1288, .f32⟩
  | .local _ .vmem, ⟨6, _⟩ => ⟨S8x256x1288, .bf16⟩
  | .local _ .vmem, ⟨7, _⟩ => ⟨S8x256x1288, .bf16⟩
  | .local _ .vmem, ⟨8, _⟩ => ⟨S256x1288, .f32⟩
  | .local _ .vmem, ⟨9, _⟩ => ⟨S256x1288, .f32⟩
  | .local _ .vmem, ⟨10, _⟩ => ⟨S256x1288, .f32⟩
  | .local _ .vmem, ⟨11, _⟩ => ⟨S256x1288, .f32⟩
  | .local _ .vmem, ⟨12, _⟩ => ⟨S256x1288, .f32⟩
  | .local _ .vmem, ⟨13, _⟩ => ⟨S256x1288, .f32⟩
  | .local _ .vmem, ⟨14, _⟩ => ⟨S256x1288, .f32⟩
  | .local _ .vmem, ⟨15, _⟩ => ⟨S256x1288, .f32⟩
  | _, _ => ⟨S2048x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1288 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S2048x1288 : Shape := ⟨2, ![2048, 1288]⟩
abbrev S8x2048x1288 : Shape := ⟨3, ![8, 2048, 1288]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1288, .f32⟩
  | .hbm, ⟨1, _⟩ => ⟨S2048x1288, .f32⟩
  | .hbm, ⟨2, _⟩ => ⟨S2048x1288, .f32⟩
  | .hbm, ⟨3, _⟩ => ⟨S8x2048x1288, .bf16⟩
  | .hbm, ⟨4, _⟩ => ⟨S8x2048x1288, .f32⟩
  | .hbm, ⟨5, _⟩ => ⟨S_, .f32⟩
  | .hbm, ⟨6, _⟩ => ⟨S2048x1288, .f32⟩
  | .hbm, ⟨7, _⟩ => ⟨S_, .f32⟩
  | .hbm, ⟨8, _⟩ => ⟨S2048x1288, .f32⟩
  | .hbm, ⟨9, _⟩ => ⟨S2048x1288, .f32⟩
  | .hbm, ⟨10, _⟩ => ⟨S_, .f32⟩
  | .hbm, ⟨11, _⟩ => ⟨S2048x1288, .f32⟩
  | .hbm, ⟨12, _⟩ => ⟨S2048x1288, .f32⟩
  | .hbm, ⟨13, _⟩ => ⟨S2048x1288, .f32⟩
  | .hbm, ⟨14, _⟩ => ⟨S_, .f32⟩
  | .hbm, ⟨15, _⟩ => ⟨S2048x1288, .f32⟩
  | .hbm, ⟨16, _⟩ => ⟨S2048x1288, .f32⟩
  | .hbm, ⟨17, _⟩ => ⟨S2048x1288, .f32⟩
  | .hbm, ⟨18, _⟩ => ⟨S_, .f32⟩
  | .hbm, ⟨19, _⟩ => ⟨S2048x1288, .f32⟩
  | .hbm, ⟨20, _⟩ => ⟨S2048x1288, .f32⟩
  | .hbm, ⟨21, _⟩ => ⟨S2048x1288, .f32⟩
  | .hbm, ⟨22, _⟩ => ⟨S_, .f32⟩
  | .hbm, ⟨23, _⟩ => ⟨S2048x1288, .f32⟩
  | .hbm, ⟨24, _⟩ => ⟨S2048x1288, .f32⟩
  | .hbm, ⟨25, _⟩ => ⟨S_, .f32⟩
  | .hbm, ⟨26, _⟩ => ⟨S2048x1288, .f32⟩
  | .hbm, ⟨27, _⟩ => ⟨S2048x1288, .f32⟩
  | .hbm, ⟨28, _⟩ => ⟨S2048x1288, .f32⟩
  | .hbm, ⟨29, _⟩ => ⟨S_, .f32⟩
  | .hbm, ⟨30, _⟩ => ⟨S2048x1288, .f32⟩
  | .hbm, ⟨31, _⟩ => ⟨S2048x1288, .f32⟩
  | .hbm, ⟨32, _⟩ => ⟨S2048x1288, .f32⟩
  | .hbm, ⟨33, _⟩ => ⟨S_, .f32⟩
  | .hbm, ⟨34, _⟩ => ⟨S2048x1288, .f32⟩
  | .hbm, ⟨35, _⟩ => ⟨S2048x1288, .f32⟩
  | .hbm, ⟨36, _⟩ => ⟨S2048x1288, .f32⟩
  | .hbm, ⟨37, _⟩ => ⟨S_, .f32⟩
  | .hbm, ⟨38, _⟩ => ⟨S2048x1288, .f32⟩
  | .hbm, ⟨39, _⟩ => ⟨S2048x1288, .f32⟩
  | _, _ => ⟨S2048x1288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel31.lean ====
abbrev S512x2048 : Shape := ⟨2, ![512, 2048]⟩
abbrev S8x512x2048 : Shape := ⟨3, ![8, 512, 2048]⟩
abbrev S256x2048 : Shape := ⟨2, ![256, 2048]⟩
abbrev S8x256x2048 : Shape := ⟨3, ![8, 256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S8x512x2048, .bf16⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x256x2048, .bf16⟩
  | .local _ .vmem, ⟨7, _⟩ => ⟨S8x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel31Ideal.lean ====
abbrev S512x2048 : Shape := ⟨2, ![512, 2048]⟩
abbrev S8x512x2048 : Shape := ⟨3, ![8, 512, 2048]⟩
abbrev S256x2048 : Shape := ⟨2, ![256, 2048]⟩
abbrev S8x256x2048 : Shape := ⟨3, ![8, 256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S8x512x2048, .bf16⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x256x2048, .bf16⟩
  | .local _ .vmem, ⟨7, _⟩ => ⟨S8x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference31Ideal.lean ====
abbrev S512x2048 : Shape := ⟨2, ![512, 2048]⟩
abbrev S8x512x2048 : Shape := ⟨3, ![8, 512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S8x512x2048, .bf16⟩
  | .hbm, ⟨4, _⟩ => ⟨S8x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel32.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel32Ideal.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference32Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel33.lean ====
abbrev S288x128 : Shape := ⟨2, ![288, 128]⟩
abbrev S8x288x128 : Shape := ⟨3, ![8, 288, 128]⟩
abbrev S1x288x128 : Shape := ⟨3, ![1, 288, 128]⟩

abbrev nBuf : Space → Nat
  | .hbm => 8
  | .vmem => 8
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S8x288x128, .f32⟩
  | .hbm, ⟨4, _⟩ => ⟨S288x128, .f32⟩
  | .hbm, ⟨5, _⟩ => ⟨S288x128, .f32⟩
  | .hbm, ⟨6, _⟩ => ⟨S288x128, .f32⟩
  | .hbm, ⟨7, _⟩ => ⟨S288x128, .f32⟩
  | .local _ .vmem, ⟨0, _⟩ => ⟨S288x128, .f32⟩
  | .local _ .vmem, ⟨1, _⟩ => ⟨S288x128, .f32⟩
  | .local _ .vmem, ⟨2, _⟩ => ⟨S288x128, .f32⟩
  | .local _ .vmem, ⟨3, _⟩ => ⟨S8x288x128, .f32⟩
  | .local _ .vmem, ⟨4, _⟩ => ⟨S288x128, .f32⟩
  | .local _ .vmem, ⟨5, _⟩ => ⟨S288x128, .f32⟩
  | .local _ .vmem, ⟨6, _⟩ => ⟨S288x128, .f32⟩
  | .local _ .vmem, ⟨7, _⟩ => ⟨S288x128, .f32⟩
  | _, _ => ⟨S288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S288x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S288x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S288x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S288x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel33Ideal.lean ====
abbrev S288x128 : Shape := ⟨2, ![288, 128]⟩
abbrev S8x288x128 : Shape := ⟨3, ![8, 288, 128]⟩
abbrev S1x288x128 : Shape := ⟨3, ![1, 288, 128]⟩

abbrev nBuf : Space → Nat
  | .hbm => 8
  | .vmem => 8
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S8x288x128, .f32⟩
  | .hbm, ⟨4, _⟩ => ⟨S288x128, .f32⟩
  | .hbm, ⟨5, _⟩ => ⟨S288x128, .f32⟩
  | .hbm, ⟨6, _⟩ => ⟨S288x128, .f32⟩
  | .hbm, ⟨7, _⟩ => ⟨S288x128, .f32⟩
  | .local _ .vmem, ⟨0, _⟩ => ⟨S288x128, .f32⟩
  | .local _ .vmem, ⟨1, _⟩ => ⟨S288x128, .f32⟩
  | .local _ .vmem, ⟨2, _⟩ => ⟨S288x128, .f32⟩
  | .local _ .vmem, ⟨3, _⟩ => ⟨S8x288x128, .f32⟩
  | .local _ .vmem, ⟨4, _⟩ => ⟨S288x128, .f32⟩
  | .local _ .vmem, ⟨5, _⟩ => ⟨S288x128, .f32⟩
  | .local _ .vmem, ⟨6, _⟩ => ⟨S288x128, .f32⟩
  | .local _ .vmem, ⟨7, _⟩ => ⟨S288x128, .f32⟩
  | _, _ => ⟨S288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S288x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S288x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S288x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S288x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference33Ideal.lean ====
abbrev S288x128 : Shape := ⟨2, ![288, 128]⟩
abbrev S8x288x128 : Shape := ⟨3, ![8, 288, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S8x288x128, .f32⟩
  | .hbm, ⟨4, _⟩ => ⟨S_, .f32⟩
  | .hbm, ⟨5, _⟩ => ⟨S288x128, .f32⟩
  | .hbm, ⟨6, _⟩ => ⟨S_, .f32⟩
  | .hbm, ⟨7, _⟩ => ⟨S288x128, .f32⟩
  | .hbm, ⟨8, _⟩ => ⟨S288x128, .f32⟩
  | .hbm, ⟨9, _⟩ => ⟨S_, .f32⟩
  | .hbm, ⟨10, _⟩ => ⟨S288x128, .f32⟩
  | .hbm, ⟨11, _⟩ => ⟨S288x128, .f32⟩
  | .hbm, ⟨12, _⟩ => ⟨S288x128, .f32⟩
  | .hbm, ⟨13, _⟩ => ⟨S_, .f32⟩
  | .hbm, ⟨14, _⟩ => ⟨S288x128, .f32⟩
  | .hbm, ⟨15, _⟩ => ⟨S288x128, .f32⟩
  | .hbm, ⟨16, _⟩ => ⟨S288x128, .f32⟩
  | .hbm, ⟨17, _⟩ => ⟨S_, .f32⟩
  | .hbm, ⟨18, _⟩ => ⟨S288x128, .f32⟩
  | .hbm, ⟨19, _⟩ => ⟨S288x128, .f32⟩
  | .hbm, ⟨20, _⟩ => ⟨S288x128, .f32⟩
  | .hbm, ⟨21, _⟩ => ⟨S_, .f32⟩
  | .hbm, ⟨22, _⟩ => ⟨S288x128, .f32⟩
  | .hbm, ⟨23, _⟩ => ⟨S288x128, .f32⟩
  | .hbm, ⟨24, _⟩ => ⟨S_, .f32⟩
  | .hbm, ⟨25, _⟩ => ⟨S288x128, .f32⟩
  | .hbm, ⟨26, _⟩ => ⟨S288x128, .f32⟩
  | .hbm, ⟨27, _⟩ => ⟨S288x128, .f32⟩
  | .hbm, ⟨28, _⟩ => ⟨S_, .f32⟩
  | .hbm, ⟨29, _⟩ => ⟨S288x128, .f32⟩
  | .hbm, ⟨30, _⟩ => ⟨S288x128, .f32⟩
  | .hbm, ⟨31, _⟩ => ⟨S288x128, .f32⟩
  | .hbm, ⟨32, _⟩ => ⟨S_, .f32⟩
  | .hbm, ⟨33, _⟩ => ⟨S288x128, .f32⟩
  | .hbm, ⟨34, _⟩ => ⟨S288x128, .f32⟩
  | .hbm, ⟨35, _⟩ => ⟨S288x128, .f32⟩
  | .hbm, ⟨36, _⟩ => ⟨S_, .f32⟩
  | .hbm, ⟨37, _⟩ => ⟨S288x128, .f32⟩
  | .hbm, ⟨38, _⟩ => ⟨S288x128, .f32⟩
  | _, _ => ⟨S288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel34.lean ====
abbrev S2272x128 : Shape := ⟨2, ![2272, 128]⟩
abbrev S8x2272x128 : Shape := ⟨3, ![8, 2272, 128]⟩
abbrev S1x2272x128 : Shape := ⟨3, ![1, 2272, 128]⟩

abbrev nBuf : Space → Nat
  | .hbm => 8
  | .vmem => 8
  | .smem => 0
  | _ => 0

abbrev bufTy : (tb : Table) → Fin (tcTables nBuf tb) → BufTy
  | .hbm, ⟨0, _⟩ => ⟨S2272x128, .f32⟩
  | .hbm, ⟨1, _⟩ => ⟨S2272x128, .f32⟩
  | .hbm, ⟨2, _⟩ => ⟨S2272x128, .f32⟩
  | .hbm, ⟨3, _⟩ => ⟨S8x2272x128, .f32⟩
  | .hbm, ⟨4, _⟩ => ⟨S2272x128, .f32⟩
  | .hbm, ⟨5, _⟩ => ⟨S2272x128, .f32⟩
  | .hbm, ⟨6, _⟩ => ⟨S2272x128, .f32⟩
  | .hbm, ⟨7, _⟩ => ⟨S2272x128, .f32⟩
  | .local _ .vmem, ⟨0, _⟩ => ⟨S2272x128, .f32⟩
  | .local _ .vmem, ⟨1, _⟩ => ⟨S2272x128, .f32⟩
  | .local _ .vmem, ⟨2, _⟩ => ⟨S2272x128, .f32⟩
  | .local _ .vmem, ⟨3, _⟩ => ⟨S8x2272x128, .f32⟩
  | .local _ .vmem, ⟨4, _⟩ => ⟨S2272x128, .f32⟩
  | .local _ .vmem, ⟨5, _⟩ => ⟨S2272x128, .f32⟩
  | .local _ .vmem, ⟨6, _⟩ => ⟨S2272x128, .f32⟩
  | .local _ .vmem, ⟨7, _⟩ => ⟨S2272x128, .f32⟩
  | _, _ => ⟨S2272x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2272x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2272x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2272x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x2272x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2272x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2272x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2272x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2272x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference34Ideal.lean ====
abbrev S2272x128 : Shape := ⟨2, ![2272, 128]⟩
abbrev S8x2272x128 : Shape := ⟨3, ![8, 2272, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2272x128, .f32⟩
  | .hbm, ⟨1, _⟩ => ⟨S2272x128, .f32⟩
  | .hbm, ⟨2, _⟩ => ⟨S2272x128, .f32⟩
  | .hbm, ⟨3, _⟩ => ⟨S8x2272x128, .f32⟩
  | .hbm, ⟨4, _⟩ => ⟨S_, .f32⟩
  | .hbm, ⟨5, _⟩ => ⟨S2272x128, .f32⟩
  | .hbm, ⟨6, _⟩ => ⟨S_, .f32⟩
  | .hbm, ⟨7, _⟩ => ⟨S2272x128, .f32⟩
  | .hbm, ⟨8, _⟩ => ⟨S2272x128, .f32⟩
  | .hbm, ⟨9, _⟩ => ⟨S_, .f32⟩
  | .hbm, ⟨10, _⟩ => ⟨S2272x128, .f32⟩
  | .hbm, ⟨11, _⟩ => ⟨S2272x128, .f32⟩
  | .hbm, ⟨12, _⟩ => ⟨S2272x128, .f32⟩
  | .hbm, ⟨13, _⟩ => ⟨S_, .f32⟩
  | .hbm, ⟨14, _⟩ => ⟨S2272x128, .f32⟩
  | .hbm, ⟨15, _⟩ => ⟨S2272x128, .f32⟩
  | .hbm, ⟨16, _⟩ => ⟨S2272x128, .f32⟩
  | .hbm, ⟨17, _⟩ => ⟨S_, .f32⟩
  | .hbm, ⟨18, _⟩ => ⟨S2272x128, .f32⟩
  | .hbm, ⟨19, _⟩ => ⟨S2272x128, .f32⟩
  | .hbm, ⟨20, _⟩ => ⟨S2272x128, .f32⟩
  | .hbm, ⟨21, _⟩ => ⟨S_, .f32⟩
  | .hbm, ⟨22, _⟩ => ⟨S2272x128, .f32⟩
  | .hbm, ⟨23, _⟩ => ⟨S2272x128, .f32⟩
  | .hbm, ⟨24, _⟩ => ⟨S_, .f32⟩
  | .hbm, ⟨25, _⟩ => ⟨S2272x128, .f32⟩
  | .hbm, ⟨26, _⟩ => ⟨S2272x128, .f32⟩
  | .hbm, ⟨27, _⟩ => ⟨S2272x128, .f32⟩
  | .hbm, ⟨28, _⟩ => ⟨S_, .f32⟩
  | .hbm, ⟨29, _⟩ => ⟨S2272x128, .f32⟩
  | .hbm, ⟨30, _⟩ => ⟨S2272x128, .f32⟩
  | .hbm, ⟨31, _⟩ => ⟨S2272x128, .f32⟩
  | .hbm, ⟨32, _⟩ => ⟨S_, .f32⟩
  | .hbm, ⟨33, _⟩ => ⟨S2272x128, .f32⟩
  | .hbm, ⟨34, _⟩ => ⟨S2272x128, .f32⟩
  | .hbm, ⟨35, _⟩ => ⟨S2272x128, .f32⟩
  | .hbm, ⟨36, _⟩ => ⟨S_, .f32⟩
  | .hbm, ⟨37, _⟩ => ⟨S2272x128, .f32⟩
  | .hbm, ⟨38, _⟩ => ⟨S2272x128, .f32⟩
  | _, _ => ⟨S2272x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel35.lean ====
abbrev S4352x2048 : Shape := ⟨2, ![4352, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4352x2048, .f32⟩
  | .hbm, ⟨1, _⟩ => ⟨S2048, .f32⟩
  | .hbm, ⟨2, _⟩ => ⟨S1x2048, .f32⟩
  | .hbm, ⟨3, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference35Ideal.lean ====
abbrev S4352x2048 : Shape := ⟨2, ![4352, 2048]⟩
abbrev S2048 : Shape := ⟨1, ![2048]⟩
abbrev S_ : Shape := ⟨0, ![]⟩
abbrev S4352 : Shape := ⟨1, ![4352]⟩
abbrev S4352x1 : Shape := ⟨2, ![4352, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048, .f32⟩
  | .hbm, ⟨2, _⟩ => ⟨S4352x2048, .f32⟩
  | .hbm, ⟨3, _⟩ => ⟨S_, .f32⟩
  | .hbm, ⟨4, _⟩ => ⟨S4352, .f32⟩
  | .hbm, ⟨5, _⟩ => ⟨S4352x1, .f32⟩
  | .hbm, ⟨6, _⟩ => ⟨S_, .f32⟩
  | .hbm, ⟨7, _⟩ => ⟨S4352x1, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S4352x1, .f32⟩
  | .hbm, ⟨13, _⟩ => ⟨S4352x2048, .f32⟩
  | .hbm, ⟨14, _⟩ => ⟨S4352x2048, .f32⟩
  | .hbm, ⟨15, _⟩ => ⟨S1x2048, .f32⟩
  | .hbm, ⟨16, _⟩ => ⟨S4352x2048, .f32⟩
  | .hbm, ⟨17, _⟩ => ⟨S4352x2048, .f32⟩
  | .hbm, ⟨18, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel36.lean ====
abbrev S4352x1024 : Shape := ⟨2, ![4352, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1024, .f32⟩
  | .hbm, ⟨3, _⟩ => ⟨S4352x1024, .f32⟩
  | .hbm, ⟨4, _⟩ => ⟨S1x1024, .f32⟩
  | .hbm, ⟨5, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference36Ideal.lean ====
abbrev S4352x1024 : Shape := ⟨2, ![4352, 1024]⟩
abbrev S1024 : Shape := ⟨1, ![1024]⟩
abbrev S_ : Shape := ⟨0, ![]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1024, .f32⟩
  | .hbm, ⟨3, _⟩ => ⟨S4352x1024, .f32⟩
  | .hbm, ⟨4, _⟩ => ⟨S4352x1024, .f32⟩
  | .hbm, ⟨5, _⟩ => ⟨S4352x1024, .f32⟩
  | .hbm, ⟨6, _⟩ => ⟨S_, .f32⟩
  | .hbm, ⟨7, _⟩ => ⟨S4352x1024, .f32⟩
  | .hbm, ⟨8, _⟩ => ⟨S4352x1024, .f32⟩
  | .hbm, ⟨9, _⟩ => ⟨S4352x1024, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S4352x1024, .f32⟩
  | .hbm, ⟨14, _⟩ => ⟨S_, .f32⟩
  | .hbm, ⟨15, _⟩ => ⟨S4352x1024, .f32⟩
  | .hbm, ⟨16, _⟩ => ⟨S4352x1024, .f32⟩
  | .hbm, ⟨17, _⟩ => ⟨S_, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S1x1024, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S_, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352x1024, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S_, .f32⟩
  | .hbm, ⟨36, _⟩ => ⟨S4352x1024, .f32⟩
  | .hbm, ⟨37, _⟩ => ⟨S4352x1024, .f32⟩
  | .hbm, ⟨38, _⟩ => ⟨S_, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel37.lean ====
abbrev S4352x3072 : Shape := ⟨2, ![4352, 3072]⟩
abbrev S4x3072 : Shape := ⟨2, ![4, 3072]⟩
abbrev S3072 : Shape := ⟨1, ![3072]⟩
abbrev S1x3072 : Shape := ⟨2, ![1, 3072]⟩
abbrev S128x1536 : Shape := ⟨2, ![128, 1536]⟩
abbrev S8x1536 : Shape := ⟨2, ![8, 1536]⟩
abbrev S4x1536 : Shape := ⟨2, ![4, 1536]⟩
abbrev S1x1536 : Shape := ⟨2, ![1, 1536]⟩
abbrev S120x1536 : Shape := ⟨2, ![120, 1536]⟩

abbrev nBuf : Space → Nat
  | .hbm => 5
  | .vmem => 10
  | .smem => 0
  | _ => 0

abbrev bufTy : (tb : Table) → Fin (tcTables nBuf tb) → BufTy
  | .hbm, ⟨0, _⟩ => ⟨S4352x3072, .f32⟩
  | .hbm, ⟨1, _⟩ => ⟨S4x3072, .f32⟩
  | .hbm, ⟨2, _⟩ => ⟨S3072, .f32⟩
  | .hbm, ⟨3, _⟩ => ⟨S1x3072, .f32⟩
  | .hbm, ⟨4, _⟩ => ⟨S4352x3072, .f32⟩
  | .local _ .vmem, ⟨0, _⟩ => ⟨S128x1536, .f32⟩
  | .local _ .vmem, ⟨1, _⟩ => ⟨S128x1536, .f32⟩
  | .local _ .vmem, ⟨2, _⟩ => ⟨S8x1536, .f32⟩
  | .local _ .vmem, ⟨3, _⟩ => ⟨S8x1536, .f32⟩
  | .local _ .vmem, ⟨4, _⟩ => ⟨S4x1536, .f32⟩
  | .local _ .vmem, ⟨5, _⟩ => ⟨S4x1536, .f32⟩
  | .local _ .vmem, ⟨6, _⟩ => ⟨S1x1536, .f32⟩
  | .local _ .vmem, ⟨7, _⟩ => ⟨S1x1536, .f32⟩
  | .local _ .vmem, ⟨8, _⟩ => ⟨S128x1536, .f32⟩
  | .local _ .vmem, ⟨9, _⟩ => ⟨S128x1536, .f32⟩
  | _, _ => ⟨S4352x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 17], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat, arg0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel37Ideal.lean ====
abbrev S4352x3072 : Shape := ⟨2, ![4352, 3072]⟩
abbrev S4x3072 : Shape := ⟨2, ![4, 3072]⟩
abbrev S3072 : Shape := ⟨1, ![3072]⟩
abbrev S1x3072 : Shape := ⟨2, ![1, 3072]⟩
abbrev S128x1536 : Shape := ⟨2, ![128, 1536]⟩
abbrev S8x1536 : Shape := ⟨2, ![8, 1536]⟩
abbrev S4x1536 : Shape := ⟨2, ![4, 1536]⟩
abbrev S1x1536 : Shape := ⟨2, ![1, 1536]⟩
abbrev S120x1536 : Shape := ⟨2, ![120, 1536]⟩

abbrev nBuf : Space → Nat
  | .hbm => 5
  | .vmem => 10
  | .smem => 0
  | _ => 0

abbrev bufTy : (tb : Table) → Fin (tcTables nBuf tb) → BufTy
  | .hbm, ⟨0, _⟩ => ⟨S4352x3072, .f32⟩
  | .hbm, ⟨1, _⟩ => ⟨S4x3072, .f32⟩
  | .hbm, ⟨2, _⟩ => ⟨S3072, .f32⟩
  | .hbm, ⟨3, _⟩ => ⟨S1x3072, .f32⟩
  | .hbm, ⟨4, _⟩ => ⟨S4352x3072, .f32⟩
  | .local _ .vmem, ⟨0, _⟩ => ⟨S128x1536, .f32⟩
  | .local _ .vmem, ⟨1, _⟩ => ⟨S128x1536, .f32⟩
  | .local _ .vmem, ⟨2, _⟩ => ⟨S8x1536, .f32⟩
  | .local _ .vmem, ⟨3, _⟩ => ⟨S8x1536, .f32⟩
  | .local _ .vmem, ⟨4, _⟩ => ⟨S4x1536, .f32⟩
  | .local _ .vmem, ⟨5, _⟩ => ⟨S4x1536, .f32⟩
  | .local _ .vmem, ⟨6, _⟩ => ⟨S1x1536, .f32⟩
  | .local _ .vmem, ⟨7, _⟩ => ⟨S1x1536, .f32⟩
  | .local _ .vmem, ⟨8, _⟩ => ⟨S128x1536, .f32⟩
  | .local _ .vmem, ⟨9, _⟩ => ⟨S128x1536, .f32⟩
  | _, _ => ⟨S4352x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 17], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat, arg0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference37Ideal.lean ====
abbrev S4352x3072 : Shape := ⟨2, ![4352, 3072]⟩
abbrev S4x3072 : Shape := ⟨2, ![4, 3072]⟩
abbrev S3072 : Shape := ⟨1, ![3072]⟩
abbrev S2x2176x3072 : Shape := ⟨3, ![2, 2176, 3072]⟩
abbrev S_ : Shape := ⟨0, ![]⟩
abbrev S2x2179x3072 : Shape := ⟨3, ![2, 2179, 3072]⟩
abbrev S1x3072 : Shape := ⟨2, ![1, 3072]⟩
abbrev S1x1x3072 : Shape := ⟨3, ![1, 1, 3072]⟩

abbrev nBuf : Space → Nat
  | .hbm => 41
  | .vmem => 0
  | .smem => 0
  | _ => 0

abbrev bufTy : (tb : Table) → Fin (tcTables nBuf tb) → BufTy
  | .hbm, ⟨0, _⟩ => ⟨S4352x3072, .f32⟩
  | .hbm, ⟨1, _⟩ => ⟨S4x3072, .f32⟩
  | .hbm, ⟨2, _⟩ => ⟨S3072, .f32⟩
  | .hbm, ⟨3, _⟩ => ⟨S2x2176x3072, .f32⟩
  | .hbm, ⟨4, _⟩ => ⟨S_, .i32⟩
  | .hbm, ⟨5, _⟩ => ⟨S_, .f32⟩
  | .hbm, ⟨6, _⟩ => ⟨S2x2179x3072, .f32⟩
  | .hbm, ⟨7, _⟩ => ⟨S1x3072, .f32⟩
  | .hbm, ⟨8, _⟩ => ⟨S3072, .f32⟩
  | .hbm, ⟨9, _⟩ => ⟨S2x2176x3072, .f32⟩
  | .hbm, ⟨10, _⟩ => ⟨S1x1x3072, .f32⟩
  | .hbm, ⟨11, _⟩ => ⟨S2x2176x3072, .f32⟩
  | .hbm, ⟨12, _⟩ => ⟨S2x2176x3072, .f32⟩
  | .hbm, ⟨13, _⟩ => ⟨S_, .f32⟩
  | .hbm, ⟨14, _⟩ => ⟨S2x2176x3072, .f32⟩
  | .hbm, ⟨15, _⟩ => ⟨S2x2176x3072, .f32⟩
  | .hbm, ⟨16, _⟩ => ⟨S1x3072, .f32⟩
  | .hbm, ⟨17, _⟩ => ⟨S3072, .f32⟩
  | .hbm, ⟨18, _⟩ => ⟨S2x2176x3072, .f32⟩
  | .hbm, ⟨19, _⟩ => ⟨S1x1x3072, .f32⟩
  | .hbm, ⟨20, _⟩ => ⟨S2x2176x3072, .f32⟩
  | .hbm, ⟨21, _⟩ => ⟨S2x2176x3072, .f32⟩
  | .hbm, ⟨22, _⟩ => ⟨S2x2176x3072, .f32⟩
  | .hbm, ⟨23, _⟩ => ⟨S1x3072, .f32⟩
  | .hbm, ⟨24, _⟩ => ⟨S3072, .f32⟩
  | .hbm, ⟨25, _⟩ => ⟨S2x2176x3072, .f32⟩
  | .hbm, ⟨26, _⟩ => ⟨S1x1x3072, .f32⟩
  | .hbm, ⟨27, _⟩ => ⟨S2x2176x3072, .f32⟩
  | .hbm, ⟨28, _⟩ => ⟨S2x2176x3072, .f32⟩
  | .hbm, ⟨29, _⟩ => ⟨S2x2176x3072, .f32⟩
  | .hbm, ⟨30, _⟩ => ⟨S1x3072, .f32⟩
  | .hbm, ⟨31, _⟩ => ⟨S3072, .f32⟩
  | .hbm, ⟨32, _⟩ => ⟨S2x2176x3072, .f32⟩
  | .hbm, ⟨33, _⟩ => ⟨S1x1x3072, .f32⟩
  | .hbm, ⟨34, _⟩ => ⟨S2x2176x3072, .f32⟩
  | .hbm, ⟨35, _⟩ => ⟨S2x2176x3072, .f32⟩
  | .hbm, ⟨36, _⟩ => ⟨S2x2176x3072, .f32⟩
  | .hbm, ⟨37, _⟩ => ⟨S1x1x3072, .f32⟩
  | .hbm, ⟨38, _⟩ => ⟨S2x2176x3072, .f32⟩
  | .hbm, ⟨39, _⟩ => ⟨S2x2176x3072, .f32⟩
  | .hbm, ⟨40, _⟩ => ⟨S4352x3072, .f32⟩
  | _, _ => ⟨S4352x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== Kernel38.lean ====
abbrev S4352x4096 : Shape := ⟨2, ![4352, 4096]⟩
abbrev S4x4096 : Shape := ⟨2, ![4, 4096]⟩
abbrev S4096 : Shape := ⟨1, ![4096]⟩
abbrev S1x4096 : Shape := ⟨2, ![1, 4096]⟩
abbrev S128x2048 : Shape := ⟨2, ![128, 2048]⟩
abbrev S8x2048 : Shape := ⟨2, ![8, 2048]⟩
abbrev S4x2048 : Shape := ⟨2, ![4, 2048]⟩
abbrev S1x2048 : Shape := ⟨2, ![1, 2048]⟩
abbrev S120x2048 : Shape := ⟨2, ![120, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4352x4096, .f32⟩
  | .hbm, ⟨1, _⟩ => ⟨S4x4096, .f32⟩
  | .hbm, ⟨2, _⟩ => ⟨S4096, .f32⟩
  | .hbm, ⟨3, _⟩ => ⟨S1x4096, .f32⟩
  | .hbm, ⟨4, _⟩ => ⟨S4352x4096, .f32⟩
  | .local _ .vmem, ⟨0, _⟩ => ⟨S128x2048, .f32⟩
  | .local _ .vmem, ⟨1, _⟩ => ⟨S128x2048, .f32⟩
  | .local _ .vmem, ⟨2, _⟩ => ⟨S8x2048, .f32⟩
  | .local _ .vmem, ⟨3, _⟩ => ⟨S8x2048, .f32⟩
  | .local _ .vmem, ⟨4, _⟩ => ⟨S4x2048, .f32⟩
  | .local _ .vmem, ⟨5, _⟩ => ⟨S4x2048, .f32⟩
  | .local _ .vmem, ⟨6, _⟩ => ⟨S1x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 17], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel38Ideal.lean ====
abbrev S4352x4096 : Shape := ⟨2, ![4352, 4096]⟩
abbrev S4x4096 : Shape := ⟨2, ![4, 4096]⟩
abbrev S4096 : Shape := ⟨1, ![4096]⟩
abbrev S1x4096 : Shape := ⟨2, ![1, 4096]⟩
abbrev S128x2048 : Shape := ⟨2, ![128, 2048]⟩
abbrev S8x2048 : Shape := ⟨2, ![8, 2048]⟩
abbrev S4x2048 : Shape := ⟨2, ![4, 2048]⟩
abbrev S1x2048 : Shape := ⟨2, ![1, 2048]⟩
abbrev S120x2048 : Shape := ⟨2, ![120, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4352x4096, .f32⟩
  | .hbm, ⟨1, _⟩ => ⟨S4x4096, .f32⟩
  | .hbm, ⟨2, _⟩ => ⟨S4096, .f32⟩
  | .hbm, ⟨3, _⟩ => ⟨S1x4096, .f32⟩
  | .hbm, ⟨4, _⟩ => ⟨S4352x4096, .f32⟩
  | .local _ .vmem, ⟨0, _⟩ => ⟨S128x2048, .f32⟩
  | .local _ .vmem, ⟨1, _⟩ => ⟨S128x2048, .f32⟩
  | .local _ .vmem, ⟨2, _⟩ => ⟨S8x2048, .f32⟩
  | .local _ .vmem, ⟨3, _⟩ => ⟨S8x2048, .f32⟩
  | .local _ .vmem, ⟨4, _⟩ => ⟨S4x2048, .f32⟩
  | .local _ .vmem, ⟨5, _⟩ => ⟨S4x2048, .f32⟩
  | .local _ .vmem, ⟨6, _⟩ => ⟨S1x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 17], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference38Ideal.lean ====
abbrev S4352x4096 : Shape := ⟨2, ![4352, 4096]⟩
abbrev S4x4096 : Shape := ⟨2, ![4, 4096]⟩
abbrev S4096 : Shape := ⟨1, ![4096]⟩
abbrev S2x2176x4096 : Shape := ⟨3, ![2, 2176, 4096]⟩
abbrev S_ : Shape := ⟨0, ![]⟩
abbrev S2x2179x4096 : Shape := ⟨3, ![2, 2179, 4096]⟩
abbrev S1x4096 : Shape := ⟨2, ![1, 4096]⟩
abbrev S1x1x4096 : Shape := ⟨3, ![1, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4x4096, .f32⟩
  | .hbm, ⟨2, _⟩ => ⟨S4096, .f32⟩
  | .hbm, ⟨3, _⟩ => ⟨S2x2176x4096, .f32⟩
  | .hbm, ⟨4, _⟩ => ⟨S_, .i32⟩
  | .hbm, ⟨5, _⟩ => ⟨S_, .f32⟩
  | .hbm, ⟨6, _⟩ => ⟨S2x2179x4096, .f32⟩
  | .hbm, ⟨7, _⟩ => ⟨S1x4096, .f32⟩
  | .hbm, ⟨8, _⟩ => ⟨S4096, .f32⟩
  | .hbm, ⟨9, _⟩ => ⟨S2x2176x4096, .f32⟩
  | .hbm, ⟨10, _⟩ => ⟨S1x1x4096, .f32⟩
  | .hbm, ⟨11, _⟩ => ⟨S2x2176x4096, .f32⟩
  | .hbm, ⟨12, _⟩ => ⟨S2x2176x4096, .f32⟩
  | .hbm, ⟨13, _⟩ => ⟨S_, .f32⟩
  | .hbm, ⟨14, _⟩ => ⟨S2x2176x4096, .f32⟩
  | .hbm, ⟨15, _⟩ => ⟨S2x2176x4096, .f32⟩
  | .hbm, ⟨16, _⟩ => ⟨S1x4096, .f32⟩
  | .hbm, ⟨17, _⟩ => ⟨S4096, .f32⟩
  | .hbm, ⟨18, _⟩ => ⟨S2x2176x4096, .f32⟩
  | .hbm, ⟨19, _⟩ => ⟨S1x1x4096, .f32⟩
  | .hbm, ⟨20, _⟩ => ⟨S2x2176x4096, .f32⟩
  | .hbm, ⟨21, _⟩ => ⟨S2x2176x4096, .f32⟩
  | .hbm, ⟨22, _⟩ => ⟨S2x2176x4096, .f32⟩
  | .hbm, ⟨23, _⟩ => ⟨S1x4096, .f32⟩
  | .hbm, ⟨24, _⟩ => ⟨S4096, .f32⟩
  | .hbm, ⟨25, _⟩ => ⟨S2x2176x4096, .f32⟩
  | .hbm, ⟨26, _⟩ => ⟨S1x1x4096, .f32⟩
  | .hbm, ⟨27, _⟩ => ⟨S2x2176x4096, .f32⟩
  | .hbm, ⟨28, _⟩ => ⟨S2x2176x4096, .f32⟩
  | .hbm, ⟨29, _⟩ => ⟨S2x2176x4096, .f32⟩
  | .hbm, ⟨30, _⟩ => ⟨S1x4096, .f32⟩
  | .hbm, ⟨31, _⟩ => ⟨S4096, .f32⟩
  | .hbm, ⟨32, _⟩ => ⟨S2x2176x4096, .f32⟩
  | .hbm, ⟨33, _⟩ => ⟨S1x1x4096, .f32⟩
  | .hbm, ⟨34, _⟩ => ⟨S2x2176x4096, .f32⟩
  | .hbm, ⟨35, _⟩ => ⟨S2x2176x4096, .f32⟩
  | .hbm, ⟨36, _⟩ => ⟨S2x2176x4096, .f32⟩
  | .hbm, ⟨37, _⟩ => ⟨S1x1x4096, .f32⟩
  | .hbm, ⟨38, _⟩ => ⟨S2x2176x4096, .f32⟩
  | .hbm, ⟨39, _⟩ => ⟨S2x2176x4096, .f32⟩
  | .hbm, ⟨40, _⟩ => ⟨S4352x4096, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== Kernel39.lean ====
abbrev S4352x1024 : Shape := ⟨2, ![4352, 1024]⟩
abbrev S4x1024 : Shape := ⟨2, ![4, 1024]⟩
abbrev S1024 : Shape := ⟨1, ![1024]⟩
abbrev S1x1024 : Shape := ⟨2, ![1, 1024]⟩
abbrev S128x1024 : Shape := ⟨2, ![128, 1024]⟩
abbrev S8x1024 : Shape := ⟨2, ![8, 1024]⟩
abbrev S120x1024 : Shape := ⟨2, ![120, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4352x1024, .f32⟩
  | .hbm, ⟨1, _⟩ => ⟨S4x1024, .f32⟩
  | .hbm, ⟨2, _⟩ => ⟨S1024, .f32⟩
  | .hbm, ⟨3, _⟩ => ⟨S1x1024, .f32⟩
  | .hbm, ⟨4, _⟩ => ⟨S4352x1024, .f32⟩
  | .local _ .vmem, ⟨0, _⟩ => ⟨S128x1024, .f32⟩
  | .local _ .vmem, ⟨1, _⟩ => ⟨S128x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 2, 17], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference39Ideal.lean ====
abbrev S4352x1024 : Shape := ⟨2, ![4352, 1024]⟩
abbrev S4x1024 : Shape := ⟨2, ![4, 1024]⟩
abbrev S1024 : Shape := ⟨1, ![1024]⟩
abbrev S2x2176x1024 : Shape := ⟨3, ![2, 2176, 1024]⟩
abbrev S_ : Shape := ⟨0, ![]⟩
abbrev S2x2179x1024 : Shape := ⟨3, ![2, 2179, 1024]⟩
abbrev S1x1024 : Shape := ⟨2, ![1, 1024]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4x1024, .f32⟩
  | .hbm, ⟨2, _⟩ => ⟨S1024, .f32⟩
  | .hbm, ⟨3, _⟩ => ⟨S2x2176x1024, .f32⟩
  | .hbm, ⟨4, _⟩ => ⟨S_, .i32⟩
  | .hbm, ⟨5, _⟩ => ⟨S_, .f32⟩
  | .hbm, ⟨6, _⟩ => ⟨S2x2179x1024, .f32⟩
  | .hbm, ⟨7, _⟩ => ⟨S1x1024, .f32⟩
  | .hbm, ⟨8, _⟩ => ⟨S1024, .f32⟩
  | .hbm, ⟨9, _⟩ => ⟨S2x2176x1024, .f32⟩
  | .hbm, ⟨10, _⟩ => ⟨S1x1x1024, .f32⟩
  | .hbm, ⟨11, _⟩ => ⟨S2x2176x1024, .f32⟩
  | .hbm, ⟨12, _⟩ => ⟨S2x2176x1024, .f32⟩
  | .hbm, ⟨13, _⟩ => ⟨S_, .f32⟩
  | .hbm, ⟨14, _⟩ => ⟨S2x2176x1024, .f32⟩
  | .hbm, ⟨15, _⟩ => ⟨S2x2176x1024, .f32⟩
  | .hbm, ⟨16, _⟩ => ⟨S1x1024, .f32⟩
  | .hbm, ⟨17, _⟩ => ⟨S1024, .f32⟩
  | .hbm, ⟨18, _⟩ => ⟨S2x2176x1024, .f32⟩
  | .hbm, ⟨19, _⟩ => ⟨S1x1x1024, .f32⟩
  | .hbm, ⟨20, _⟩ => ⟨S2x2176x1024, .f32⟩
  | .hbm, ⟨21, _⟩ => ⟨S2x2176x1024, .f32⟩
  | .hbm, ⟨22, _⟩ => ⟨S2x2176x1024, .f32⟩
  | .hbm, ⟨23, _⟩ => ⟨S1x1024, .f32⟩
  | .hbm, ⟨24, _⟩ => ⟨S1024, .f32⟩
  | .hbm, ⟨25, _⟩ => ⟨S2x2176x1024, .f32⟩
  | .hbm, ⟨26, _⟩ => ⟨S1x1x1024, .f32⟩
  | .hbm, ⟨27, _⟩ => ⟨S2x2176x1024, .f32⟩
  | .hbm, ⟨28, _⟩ => ⟨S2x2176x1024, .f32⟩
  | .hbm, ⟨29, _⟩ => ⟨S2x2176x1024, .f32⟩
  | .hbm, ⟨30, _⟩ => ⟨S1x1024, .f32⟩
  | .hbm, ⟨31, _⟩ => ⟨S1024, .f32⟩
  | .hbm, ⟨32, _⟩ => ⟨S2x2176x1024, .f32⟩
  | .hbm, ⟨33, _⟩ => ⟨S1x1x1024, .f32⟩
  | .hbm, ⟨34, _⟩ => ⟨S2x2176x1024, .f32⟩
  | .hbm, ⟨35, _⟩ => ⟨S2x2176x1024, .f32⟩
  | .hbm, ⟨36, _⟩ => ⟨S2x2176x1024, .f32⟩
  | .hbm, ⟨37, _⟩ => ⟨S1x1x1024, .f32⟩
  | .hbm, ⟨38, _⟩ => ⟨S2x2176x1024, .f32⟩
  | .hbm, ⟨39, _⟩ => ⟨S2x2176x1024, .f32⟩
  | .hbm, ⟨40, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== Proof.S5.RunA.lean ====
/- The whole-body run of the kernel in case A (the first step of a group of 128 channels): the body's triple by `sl_exec` over
   the skeleton, with the pieces each buffer ends with as the witness.  The body has more than seven hundred
   operations, so the run is given a larger budget than the generated one. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE A (`scf.if` 0 taken: points 0, 17, … 119: 8 of 136), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (e2 : Memref sig .tc .vmem S2x128x128 .f32) (k2 : e2.IsWhole) (e3 : Memref sig .tc .vmem S2x128x128 .f32) (k3 : e3.IsWhole) (e4 : Memref sig .tc .vmem S2x128x128 .f32) (k4 : e4.IsWhole) (e5 : Memref sig .tc .vmem S2x128x512 .f32) (k5 : e5.IsWhole) (e6 : Memref sig .tc .vmem S2x128x512 .f32) (k6 : e6.IsWhole) (e7 : Memref sig .tc .vmem S2x8x512 .f32) (k7 : e7.IsWhole) (e8 : Memref sig .tc .vmem S2x8x512 .f32) (k8 : e8.IsWhole) (e9 : Memref sig .tc .vmem S1x128x512 .bf16) (k9 : e9.IsWhole) (e10 : Memref sig .tc .vmem S1x128x512 .bf16) (k10 : e10.IsWhole) (e11 : Memref sig .tc .vmem S8x512 .f32) (k11 : e11.IsWhole) (e12 : Memref sig .tc .vmem S8x512 .f32) (k12 : e12.IsWhole) (e13 : Memref sig .tc .vmem S8x512 .f32) (k13 : e13.IsWhole) (e14 : Memref sig .tc .vmem S8x512 .f32) (k14 : e14.IsWhole) (e15 : Memref sig .tc .vmem S1x512x128 .bf16) (k15 : e15.IsWhole) (e16 : Memref sig .tc .vmem S1x512x128 .bf16) (k16 : e16.IsWhole) (e17 : Memref sig .tc .vmem S1x128 .f32) (k17 : e17.IsWhole) (e18 : Memref sig .tc .vmem S2x128x128 .bf16) (k18 : e18.IsWhole) (e19 : Memref sig .tc .vmem S1x128 .f32) (k19 : e19.IsWhole) (e20 : Memref sig .tc .vmem S1x512x128 .f32) (k20 : e20.IsWhole) (e21 : Memref sig .tc .vmem S1x512x128 .f32) (k21 : e21.IsWhole) (e22 : Memref sig .tc .vmem S1x128x512 .f32) (k22 : e22.IsWhole) (e23 : Memref sig .tc .vmem S1x128x512 .f32) (k23 : e23.IsWhole) (e24 : Memref sig .tc .vmem S1x512 .f32) (k24 : e24.IsWhole) (e25 : Memref sig .tc .vmem S1x512 .f32) (k25 : e25.IsWhole) (e26 : Memref sig .tc .vmem S2x1x512 .f32) (k26 : e26.IsWhole) (e27 : Memref sig .tc .vmem S2x1x512 .f32) (k27 : e27.IsWhole) (hc0 : cond0_0 i)
    (x0 : Vec F S2x128x128 .f32) (x1 : Vec F S2x128x128 .f32) (x2 : Vec F S2x128x128 .f32) (x3 : Vec F S2x128x512 .f32) (x4 : Vec F S2x128x512 .f32) (x5 : Vec F S2x8x512 .f32) (x6 : Vec F S2x8x512 .f32) (x7 : Vec F S1x128x512 .bf16) (x8 : Vec F S1x128x512 .bf16) (x9 : Vec F S8x512 .f32) (x10 : Vec F S8x512 .f32) (x11 : Vec F S8x512 .f32) (x12 : Vec F S8x512 .f32) (x13 : Vec F S1x512x128 .bf16) (x14 : Vec F S1x512x128 .bf16) (x15 : Vec F S1x128 .f32) :
    Σ' (L16 : List (View.Piece (Elt F) S2x128x128 .bf16)), Σ' (L17 : List (View.Piece (Elt F) S1x128 .f32)), Σ' (L18 : List (View.Piece (Elt F) S1x512x128 .f32)), Σ' (L19 : List (View.Piece (Elt F) S1x512x128 .f32)), Σ' (L20 : List (View.Piece (Elt F) S1x128x512 .f32)), Σ' (L21 : List (View.Piece (Elt F) S1x128x512 .f32)), Σ' (L22 : List (View.Piece (Elt F) S1x512 .f32)), Σ' (L23 : List (View.Piece (Elt F) S1x512 .f32)), Σ' (LS0 : List (View.Piece (Elt F) S2x1x512 .f32)), { LS1 : List (View.Piece (Elt F) S2x1x512 .f32) //
      ∀ (E : Set ℕ) (K : PUnit → sProp 𝕄),
        iprop(owns (c : Thread nD τ) e2 fullShare x0 ∗ owns (c : Thread nD τ) e3 fullShare x1 ∗ owns (c : Thread nD τ) e4 fullShare x2 ∗ owns (c : Thread nD τ) e5 fullShare x3 ∗ owns (c : Thread nD τ) e6 fullShare x4 ∗ owns (c : Thread nD τ) e7 fullShare x5 ∗ owns (c : Thread nD τ) e8 fullShare x6 ∗ owns (c : Thread nD τ) e9 fullShare x7 ∗ owns (c : Thread nD τ) e10 fullShare x8 ∗ owns (c : Thread nD τ) e11 fullShare x9 ∗ owns (c : Thread nD τ) e12 fullShare x10 ∗ owns (c : Thread nD τ) e13 fullShare x11 ∗ owns (c : Thread nD τ) e14 fullShare x12 ∗ owns (c : Thread nD τ) e15 fullShare x13 ∗ owns (c : Thread nD τ) e16 fullShare x14 ∗ owns (c : Thread nD τ) e17 fullShare x15 ∗ (∃ d, owns (c : Thread nD τ) e18 fullShare d) ∗ (∃ d, owns (c : Thread nD τ) e19 fullShare d) ∗ (∃ d, owns (c : Thread nD τ) e20 fullShare d) ∗ (∃ d, owns (c : Thread nD τ) e21 fullShare d) ∗ (∃ d, owns (c : Thread nD τ) e22 fullShare d) ∗ (∃ d, owns (c : Thread nD τ) e23 fullShare d) ∗ (∃ d, owns (c : Thread nD τ) e24 fullShare d) ∗ (∃ d, owns (c : Thread nD τ) e25 fullShare d) ∗ (∃ d, owns (c : Thread nD τ) e26 fullShare d) ∗ (∃ d, owns (c : Thread nD τ) e27 fullShare d)
            ∗ (iprop(owns (c : Thread nD τ) e2 fullShare x0 ∗ owns (c : Thread nD τ) e3 fullShare x1 ∗ owns (c : Thread nD τ) e4 fullShare x2 ∗ owns (c : Thread nD τ) e5 fullShare x3 ∗ owns (c : Thread nD τ) e6 fullShare x4 ∗ owns (c : Thread nD τ) e7 fullShare x5 ∗ owns (c : Thread nD τ) e8 fullShare x6 ∗ owns (c : Thread nD τ) e9 fullShare x7 ∗ owns (c : Thread nD τ) e10 fullShare x8 ∗ owns (c : Thread nD τ) e11 fullShare x9 ∗ owns (c : Thread nD τ) e12 fullShare x10 ∗ owns (c : Thread nD τ) e13 fullShare x11 ∗ owns (c : Thread nD τ) e14 fullShare x12 ∗ owns (c : Thread nD τ) e15 fullShare x13 ∗ owns (c : Thread nD τ) e16 fullShare x14 ∗ owns (c : Thread nD τ) e17 fullShare x15 ∗ (∃ f, e18.view.loc (c : Thread nD τ) ↦[e18.view.set]{fullShare} e18.view.writes (Elt F) f L16) ∗ (∃ f, e19.view.loc (c : Thread nD τ) ↦[e19.view.set]{fullShare} e19.view.writes (Elt F) f L17) ∗ (∃ f, e20.view.loc (c : Thread nD τ) ↦[e20.view.set]{fullShare} e20.view.writes (Elt F) f L18) ∗ (∃ f, e21.view.loc (c : Thread nD τ) ↦[e21.view.set]{fullShare} e21.view.writes (Elt F) f L19) ∗ (∃ f, e22.view.loc (c : Thread nD τ) ↦[e22.view.set]{fullShare} e22.view.writes (Elt F) f L20) ∗ (∃ f, e23.view.loc (c : Thread nD τ) ↦[e23.view.set]{fullShare} e23.view.writes (Elt F) f L21) ∗ (∃ f, e24.view.loc (c : Thread nD τ) ↦[e24.view.set]{fullShare} e24.view.writes (Elt F) f L22) ∗ (∃ f, e25.view.loc (c : Thread nD τ) ↦[e25.view.set]{fullShare} e25.view.writes (Elt F) f L23) ∗ (∃ f, e26.view.loc (c : Thread nD τ) ↦[e26.view.set]{fullShare} e26.view.writes (Elt F) f LS0) ∗ (∃ f, e27.view.loc (c : Thread nD τ) ↦[e27.view.set]{fullShare} e27.view.writes (Elt F) f LS1)) -∗ K ⟨⟩))
          ⊢ wp frame (wpE (defs₀ (F := F)) Variants.none c none) E (cc0_s5_bwd i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27) K } := by
  refine ⟨?_, ?_, ?_, ?_, ?_, ?_, ?_, ?_, ?_, ?_, fun E K => ?run⟩
  case run =>
    simp only [cc0_s5_bwd_eq_skeleton]; unfold cc0_s5_bwd_skel
    simp only [k0_part24_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := k2.eq_unread hf0; obtain rfl := k3.eq_unread hf1; obtain rfl := k4.eq_unread hf2; obtain rfl := k5.eq_unread hf3; obtain rfl := k6.eq_unread hf4; obtain rfl := k7.eq_unread hf5; obtain rfl := k8.eq_unread hf6; obtain rfl := k9.eq_unread hf7; obtain rfl := k10.eq_unread hf8; obtain rfl := k11.eq_unread hf9; obtain rfl := k12.eq_unread hf10; obtain rfl := k13.eq_unread hf11; obtain rfl := k14.eq_unread hf12; obtain rfl := k15.eq_unread hf13; obtain rfl := k16.eq_unread hf14; obtain rfl := k17.eq_unread hf15
    sl_exec (disch := first | sl_exact hc0)
    sl_step
    iapply Hk
    isplitl [H0]
    · iexists _; isplitr; · ipureintro; exact k2.read_unread _
      iexact H0
    isplitl [H1]
    · iexists _; isplitr; · ipureintro; exact k3.read_unread _
      iexact H1
    isplitl [H2]
    · iexists _; isplitr; · ipureintro; exact k4.read_unread _
      iexact H2
    isplitl [H3]
    · iexists _; isplitr; · ipureintro; exact k5.read_unread _
      iexact H3
    isplitl [H4]
    · iexists _; isplitr; · ipureintro; exact k6.read_unread _
      iexact H4
    isplitl [H5]
    · iexists _; isplitr; · ipureintro; exact k7.read_unread _
      iexact H5
    isplitl [H6]
    · iexists _; isplitr; · ipureintro; exact k8.read_unread _
      iexact H6
    isplitl [H7]
    · iexists _; isplitr; · ipureintro; exact k9.read_unread _
      iexact H7
    isplitl [H8]
    · iexists _; isplitr; · ipureintro; exact k10.read_unread _
      iexact H8
    isplitl [H9]
    · iexists _; isplitr; · ipureintro; exact k11.read_unread _
      iexact H9
    isplitl [H10]
    · iexists _; isplitr; · ipureintro; exact k12.read_unread _
      iexact H10
    isplitl [H11]
    · iexists _; isplitr; · ipureintro; exact k13.read_unread _
      iexact H11
    isplitl [H12]
    · iexists _; isplitr; · ipureintro; exact k14.read_unread _
      iexact H12
    isplitl [H13]
    · iexists _; isplitr; · ipureintro; exact k15.read_unread _
      iexact H13
    isplitl [H14]
    · iexists _; isplitr; · ipureintro; exact k16.read_unread _
      iexact H14
    isplitl [H15]
    · iexists _; isplitr; · ipureintro; exact k17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [HS0]; · iexists _; iexact HS0
    iexists _; iexact HS1

end Cert.KernelIdeal.Gen

end
-- ==== Proof.S5.Cover.lean ====
/- What the body leaves in each output block and in the carried scratch, in each of its two cases: the pieces its
   stores write cover the block, and read back they give its contents. -/
module

public import proofs.«01_k».proof.Proof.S5.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (e2 : Memref sig .tc .vmem S2x128x128 .f32) (k2 : e2.IsWhole) (e3 : Memref sig .tc .vmem S2x128x128 .f32) (k3 : e3.IsWhole) (e4 : Memref sig .tc .vmem S2x128x128 .f32) (k4 : e4.IsWhole) (e5 : Memref sig .tc .vmem S2x128x512 .f32) (k5 : e5.IsWhole) (e6 : Memref sig .tc .vmem S2x128x512 .f32) (k6 : e6.IsWhole) (e7 : Memref sig .tc .vmem S2x8x512 .f32) (k7 : e7.IsWhole) (e8 : Memref sig .tc .vmem S2x8x512 .f32) (k8 : e8.IsWhole) (e9 : Memref sig .tc .vmem S1x128x512 .bf16) (k9 : e9.IsWhole) (e10 : Memref sig .tc .vmem S1x128x512 .bf16) (k10 : e10.IsWhole) (e11 : Memref sig .tc .vmem S8x512 .f32) (k11 : e11.IsWhole) (e12 : Memref sig .tc .vmem S8x512 .f32) (k12 : e12.IsWhole) (e13 : Memref sig .tc .vmem S8x512 .f32) (k13 : e13.IsWhole) (e14 : Memref sig .tc .vmem S8x512 .f32) (k14 : e14.IsWhole) (e15 : Memref sig .tc .vmem S1x512x128 .bf16) (k15 : e15.IsWhole) (e16 : Memref sig .tc .vmem S1x512x128 .bf16) (k16 : e16.IsWhole) (e17 : Memref sig .tc .vmem S1x128 .f32) (k17 : e17.IsWhole) (e18 : Memref sig .tc .vmem S2x128x128 .bf16) (k18 : e18.IsWhole) (e19 : Memref sig .tc .vmem S1x128 .f32) (k19 : e19.IsWhole) (e20 : Memref sig .tc .vmem S1x512x128 .f32) (k20 : e20.IsWhole) (e21 : Memref sig .tc .vmem S1x512x128 .f32) (k21 : e21.IsWhole) (e22 : Memref sig .tc .vmem S1x128x512 .f32) (k22 : e22.IsWhole) (e23 : Memref sig .tc .vmem S1x128x512 .f32) (k23 : e23.IsWhole) (e24 : Memref sig .tc .vmem S1x512 .f32) (k24 : e24.IsWhole) (e25 : Memref sig .tc .vmem S1x512 .f32) (k25 : e25.IsWhole) (e26 : Memref sig .tc .vmem S2x1x512 .f32) (k26 : e26.IsWhole) (e27 : Memref sig .tc .vmem S2x1x512 .f32) (k27 : e27.IsWhole) (hc0 : cond0_0 i)
    (x0 : Vec F S2x128x128 .f32) (x1 : Vec F S2x128x128 .f32) (x2 : Vec F S2x128x128 .f32) (x3 : Vec F S2x128x512 .f32) (x4 : Vec F S2x128x512 .f32) (x5 : Vec F S2x8x512 .f32) (x6 : Vec F S2x8x512 .f32) (x7 : Vec F S1x128x512 .bf16) (x8 : Vec F S1x128x512 .bf16) (x9 : Vec F S8x512 .f32) (x10 : Vec F S8x512 .f32) (x11 : Vec F S8x512 .f32) (x12 : Vec F S8x512 .f32) (x13 : Vec F S1x512x128 .bf16) (x14 : Vec F S1x512x128 .bf16) (x15 : Vec F S1x128 .f32)

/-- Case A's pieces for output 16 tile its block (2 stores of `S1x128x128`), so they cover it. -/
theorem cover0_A_16 (y : S2x128x128.Idx) :
    ∃ pc ∈ (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).1, y ∈ pc.1.set :=
  View.cover_of_tiledL (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).1 S1x128x128.size (by sl_kernel_rfl) y

/-- What case A leaves in output 16's staging buffer: its pieces read back over junk. -/
def out0_A_16 : Vec F S2x128x128 .bf16 :=
  VO0_16.read (Elt F) (VO0_16.writes (Elt F) VO0_16.junk (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).1)

/-- Case A's pieces for output 17 tile its block (3 stores of `S1x128`), so they cover it. -/
theorem cover0_A_17 (y : S1x128.Idx) :
    ∃ pc ∈ (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.1, y ∈ pc.1.set :=
  View.cover_of_tiledL (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.1 S1x128.size (by sl_kernel_rfl) y

/-- What case A leaves in output 17's staging buffer: its pieces read back over junk. -/
def out0_A_17 : Vec F S1x128 .f32 :=
  VO0_17.read (Elt F) (VO0_17.writes (Elt F) VO0_17.junk (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.1)

/-- Case A's pieces for output 18 tile its block (3 stores of `S1x512x128`), so they cover it. -/
theorem cover0_A_18 (y : S1x512x128.Idx) :
    ∃ pc ∈ (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.1, y ∈ pc.1.set :=
  View.cover_of_tiledL (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.1 S1x512x128.size (by sl_kernel_rfl) y

/-- What case A leaves in output 18's staging buffer: its pieces read back over junk. -/
def out0_A_18 : Vec F S1x512x128 .f32 :=
  VO0_18.read (Elt F) (VO0_18.writes (Elt F) VO0_18.junk (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.1)

/-- Case A's pieces for output 19 tile its block (3 stores of `S1x512x128`), so they cover it. -/
theorem cover0_A_19 (y : S1x512x128.Idx) :
    ∃ pc ∈ (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.1, y ∈ pc.1.set :=
  View.cover_of_tiledL (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.1 S1x512x128.size (by sl_kernel_rfl) y

/-- What case A leaves in output 19's staging buffer: its pieces read back over junk. -/
def out0_A_19 : Vec F S1x512x128 .f32 :=
  VO0_19.read (Elt F) (VO0_19.writes (Elt F) VO0_19.junk (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.1)

/-- Case A's pieces for output 20 tile its block (3 stores of `S1x128x512`), so they cover it. -/
theorem cover0_A_20 (y : S1x128x512.Idx) :
    ∃ pc ∈ (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.1, y ∈ pc.1.set :=
  View.cover_of_tiledL (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.1 S1x128x512.size (by sl_kernel_rfl) y

/-- What case A leaves in output 20's staging buffer: its pieces read back over junk. -/
def out0_A_20 : Vec F S1x128x512 .f32 :=
  VO0_20.read (Elt F) (VO0_20.writes (Elt F) VO0_20.junk (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.1)

/-- Case A's pieces for output 21 tile its block (3 stores of `S1x128x512`), so they cover it. -/
theorem cover0_A_21 (y : S1x128x512.Idx) :
    ∃ pc ∈ (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.1, y ∈ pc.1.set :=
  View.cover_of_tiledL (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.1 S1x128x512.size (by sl_kernel_rfl) y

/-- What case A leaves in output 21's staging buffer: its pieces read back over junk. -/
def out0_A_21 : Vec F S1x128x512 .f32 :=
  VO0_21.read (Elt F) (VO0_21.writes (Elt F) VO0_21.junk (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.1)

/-- Case A's pieces for output 22 tile its block (3 stores of `S1x512`), so they cover it. -/
theorem cover0_A_22 (y : S1x512.Idx) :
    ∃ pc ∈ (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.1, y ∈ pc.1.set :=
  View.cover_of_tiledL (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.1 S1x512.size (by sl_kernel_rfl) y

/-- What case A leaves in output 22's staging buffer: its pieces read back over junk. -/
def out0_A_22 : Vec F S1x512 .f32 :=
  VO0_22.read (Elt F) (VO0_22.writes (Elt F) VO0_22.junk (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.1)

/-- Case A's pieces for output 23 tile its block (3 stores of `S1x512`), so they cover it. -/
theorem cover0_A_23 (y : S1x512.Idx) :
    ∃ pc ∈ (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.2.1, y ∈ pc.1.set :=
  View.cover_of_tiledL (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.2.1 S1x512.size (by sl_kernel_rfl) y

/-- What case A leaves in output 23's staging buffer: its pieces read back over junk. -/
def out0_A_23 : Vec F S1x512 .f32 :=
  VO0_23.read (Elt F) (VO0_23.writes (Elt F) VO0_23.junk (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.2.1)

/-- Case A's pieces for scratch `e26`, which the kernel carries between points, cover it: one of them a store of the WHOLE buffer (Lib/Ring.lean `sl_whole_mem`). -/
theorem scover0_A_0 (y : S2x1x512.Idx) :
    ∃ pc ∈ (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.2.2.1, y ∈ pc.1.set :=
  View.cover_of_wholeMem (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.2.2.1 (by sl_whole_mem) y

/-- What case A leaves in scratch `e26`: its pieces read back over junk. -/
def sout0_A_0 : Vec F S2x1x512 .f32 :=
  VS0_0.read (Elt F) (VS0_0.writes (Elt F) VS0_0.junk (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.2.2.1)

/-- Case A's pieces for scratch `e27`, which the kernel carries between points, cover it: one of them a store of the WHOLE buffer (Lib/Ring.lean `sl_whole_mem`). -/
theorem scover0_A_1 (y : S2x1x512.Idx) :
    ∃ pc ∈ (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.2.2.2.1, y ∈ pc.1.set :=
  View.cover_of_wholeMem (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.2.2.2.1 (by sl_whole_mem) y

/-- What case A leaves in scratch `e27`: its pieces read back over junk. -/
def sout0_A_1 : Vec F S2x1x512 .f32 :=
  VS0_1.read (Elt F) (VS0_1.writes (Elt F) VS0_1.junk (kernelRun0_A c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15).2.2.2.2.2.2.2.2.2.1)

end

section

variable (c : Dev nD) (i : grid0.Coords) (e2 : Memref sig .tc .vmem S2x128x128 .f32) (k2 : e2.IsWhole) (e3 : Memref sig .tc .vmem S2x128x128 .f32) (k3 : e3.IsWhole) (e4 : Memref sig .tc .vmem S2x128x128 .f32) (k4 : e4.IsWhole) (e5 : Memref sig .tc .vmem S2x128x512 .f32) (k5 : e5.IsWhole) (e6 : Memref sig .tc .vmem S2x128x512 .f32) (k6 : e6.IsWhole) (e7 : Memref sig .tc .vmem S2x8x512 .f32) (k7 : e7.IsWhole) (e8 : Memref sig .tc .vmem S2x8x512 .f32) (k8 : e8.IsWhole) (e9 : Memref sig .tc .vmem S1x128x512 .bf16) (k9 : e9.IsWhole) (e10 : Memref sig .tc .vmem S1x128x512 .bf16) (k10 : e10.IsWhole) (e11 : Memref sig .tc .vmem S8x512 .f32) (k11 : e11.IsWhole) (e12 : Memref sig .tc .vmem S8x512 .f32) (k12 : e12.IsWhole) (e13 : Memref sig .tc .vmem S8x512 .f32) (k13 : e13.IsWhole) (e14 : Memref sig .tc .vmem S8x512 .f32) (k14 : e14.IsWhole) (e15 : Memref sig .tc .vmem S1x512x128 .bf16) (k15 : e15.IsWhole) (e16 : Memref sig .tc .vmem S1x512x128 .bf16) (k16 : e16.IsWhole) (e17 : Memref sig .tc .vmem S1x128 .f32) (k17 : e17.IsWhole) (e18 : Memref sig .tc .vmem S2x128x128 .bf16) (k18 : e18.IsWhole) (e19 : Memref sig .tc .vmem S1x128 .f32) (k19 : e19.IsWhole) (e20 : Memref sig .tc .vmem S1x512x128 .f32) (k20 : e20.IsWhole) (e21 : Memref sig .tc .vmem S1x512x128 .f32) (k21 : e21.IsWhole) (e22 : Memref sig .tc .vmem S1x128x512 .f32) (k22 : e22.IsWhole) (e23 : Memref sig .tc .vmem S1x128x512 .f32) (k23 : e23.IsWhole) (e24 : Memref sig .tc .vmem S1x512 .f32) (k24 : e24.IsWhole) (e25 : Memref sig .tc .vmem S1x512 .f32) (k25 : e25.IsWhole) (e26 : Memref sig .tc .vmem S2x1x512 .f32) (k26 : e26.IsWhole) (e27 : Memref sig .tc .vmem S2x1x512 .f32) (k27 : e27.IsWhole) (hc0 : ¬cond0_0 i)
    (x0 : Vec F S2x128x128 .f32) (x1 : Vec F S2x128x128 .f32) (x2 : Vec F S2x128x128 .f32) (x3 : Vec F S2x128x512 .f32) (x4 : Vec F S2x128x512 .f32) (x5 : Vec F S2x8x512 .f32) (x6 : Vec F S2x8x512 .f32) (x7 : Vec F S1x128x512 .bf16) (x8 : Vec F S1x128x512 .bf16) (x9 : Vec F S8x512 .f32) (x10 : Vec F S8x512 .f32) (x11 : Vec F S8x512 .f32) (x12 : Vec F S8x512 .f32) (x13 : Vec F S1x512x128 .bf16) (x14 : Vec F S1x512x128 .bf16) (x15 : Vec F S1x128 .f32) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32)

/-- Case B's pieces for output 16 tile its block (2 stores of `S1x128x128`), so they cover it. -/
theorem cover0_B_16 (y : S2x128x128.Idx) :
    ∃ pc ∈ (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).1, y ∈ pc.1.set :=
  View.cover_of_tiledL (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).1 S1x128x128.size (by sl_kernel_rfl) y

/-- What case B leaves in output 16's staging buffer: its pieces read back over junk. -/
def out0_B_16 : Vec F S2x128x128 .bf16 :=
  VO0_16.read (Elt F) (VO0_16.writes (Elt F) VO0_16.junk (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).1)

/-- Case B's pieces for output 17 tile its block (2 stores of `S1x128`), so they cover it. -/
theorem cover0_B_17 (y : S1x128.Idx) :
    ∃ pc ∈ (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.1, y ∈ pc.1.set :=
  View.cover_of_tiledL (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.1 S1x128.size (by sl_kernel_rfl) y

/-- What case B leaves in output 17's staging buffer: its pieces read back over junk. -/
def out0_B_17 : Vec F S1x128 .f32 :=
  VO0_17.read (Elt F) (VO0_17.writes (Elt F) VO0_17.junk (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.1)

/-- Case B's pieces for output 18 tile its block (2 stores of `S1x512x128`), so they cover it. -/
theorem cover0_B_18 (y : S1x512x128.Idx) :
    ∃ pc ∈ (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.1, y ∈ pc.1.set :=
  View.cover_of_tiledL (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.1 S1x512x128.size (by sl_kernel_rfl) y

/-- What case B leaves in output 18's staging buffer: its pieces read back over junk. -/
def out0_B_18 : Vec F S1x512x128 .f32 :=
  VO0_18.read (Elt F) (VO0_18.writes (Elt F) VO0_18.junk (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.1)

/-- Case B's pieces for output 19 tile its block (2 stores of `S1x512x128`), so they cover it. -/
theorem cover0_B_19 (y : S1x512x128.Idx) :
    ∃ pc ∈ (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.1, y ∈ pc.1.set :=
  View.cover_of_tiledL (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.1 S1x512x128.size (by sl_kernel_rfl) y

/-- What case B leaves in output 19's staging buffer: its pieces read back over junk. -/
def out0_B_19 : Vec F S1x512x128 .f32 :=
  VO0_19.read (Elt F) (VO0_19.writes (Elt F) VO0_19.junk (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.1)

/-- Case B's pieces for output 20 tile its block (2 stores of `S1x128x512`), so they cover it. -/
theorem cover0_B_20 (y : S1x128x512.Idx) :
    ∃ pc ∈ (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.1, y ∈ pc.1.set :=
  View.cover_of_tiledL (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.1 S1x128x512.size (by sl_kernel_rfl) y

/-- What case B leaves in output 20's staging buffer: its pieces read back over junk. -/
def out0_B_20 : Vec F S1x128x512 .f32 :=
  VO0_20.read (Elt F) (VO0_20.writes (Elt F) VO0_20.junk (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.1)

/-- Case B's pieces for output 21 tile its block (2 stores of `S1x128x512`), so they cover it. -/
theorem cover0_B_21 (y : S1x128x512.Idx) :
    ∃ pc ∈ (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.1, y ∈ pc.1.set :=
  View.cover_of_tiledL (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.1 S1x128x512.size (by sl_kernel_rfl) y

/-- What case B leaves in output 21's staging buffer: its pieces read back over junk. -/
def out0_B_21 : Vec F S1x128x512 .f32 :=
  VO0_21.read (Elt F) (VO0_21.writes (Elt F) VO0_21.junk (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.1)

/-- Case B's pieces for output 22 tile its block (2 stores of `S1x512`), so they cover it. -/
theorem cover0_B_22 (y : S1x512.Idx) :
    ∃ pc ∈ (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.1, y ∈ pc.1.set :=
  View.cover_of_tiledL (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.1 S1x512.size (by sl_kernel_rfl) y

/-- What case B leaves in output 22's staging buffer: its pieces read back over junk. -/
def out0_B_22 : Vec F S1x512 .f32 :=
  VO0_22.read (Elt F) (VO0_22.writes (Elt F) VO0_22.junk (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.1)

/-- Case B's pieces for output 23 tile its block (2 stores of `S1x512`), so they cover it. -/
theorem cover0_B_23 (y : S1x512.Idx) :
    ∃ pc ∈ (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.2.1, y ∈ pc.1.set :=
  View.cover_of_tiledL (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.2.1 S1x512.size (by sl_kernel_rfl) y

/-- What case B leaves in output 23's staging buffer: its pieces read back over junk. -/
def out0_B_23 : Vec F S1x512 .f32 :=
  VO0_23.read (Elt F) (VO0_23.writes (Elt F) VO0_23.junk (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.2.1)

/-- Case B's pieces for scratch `e26`, which the kernel carries between points, cover it: 2 pieces of `S1x1x512` tiling it (Lib/Ring.lean `Piece.tiledL`). -/
theorem scover0_B_0 (y : S2x1x512.Idx) :
    ∃ pc ∈ (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.2.2.1, y ∈ pc.1.set :=
  View.cover_of_tiledL (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.2.2.1 S1x1x512.size (by sl_kernel_rfl) y

/-- What case B leaves in scratch `e26`: its pieces read back over junk. -/
def sout0_B_0 : Vec F S2x1x512 .f32 :=
  VS0_0.read (Elt F) (VS0_0.writes (Elt F) VS0_0.junk (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.2.2.1)

/-- Case B's pieces for scratch `e27`, which the kernel carries between points, cover it: 2 pieces of `S1x1x512` tiling it (Lib/Ring.lean `Piece.tiledL`). -/
theorem scover0_B_1 (y : S2x1x512.Idx) :
    ∃ pc ∈ (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.2.2.2.1, y ∈ pc.1.set :=
  View.cover_of_tiledL (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.2.2.2.1 S1x1x512.size (by sl_kernel_rfl) y

/-- What case B leaves in scratch `e27`: its pieces read back over junk. -/
def sout0_B_1 : Vec F S2x1x512 .f32 :=
  VS0_1.read (Elt F) (VS0_1.writes (Elt F) VS0_1.junk (kernelRun0_B c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1).2.2.2.2.2.2.2.2.2.1)

/-! ## What the outputs hold after each point -/

end

end Cert.KernelIdeal.Gen

end
-- ==== Proof.S5.Frame.lean ====
/- The contents after each grid point, the pipeline's invariant and the frame: every weakly fair run of the kernel ends
   with each output array at the blocks its steps wrote, the arguments unchanged and every semaphore at zero. -/
module

public import proofs.«01_k».proof.Proof.S5.Cover
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- What the body leaves at a point `t` of case A: the outputs in window order, then the carried scratch. -/
abbrev outsA (c : Dev nD) (t : Fin cfg0.N) (h0 : t.val % 17 = 0) : Vec F S2x128x128 .bf16 × Vec F S1x128 .f32 × Vec F S1x512x128 .f32 × Vec F S1x512x128 .f32 × Vec F S1x128x512 .f32 × Vec F S1x128x512 .f32 × Vec F S1x512 .f32 × Vec F S1x512 .f32 × Vec F S2x1x512 .f32 × Vec F S2x1x512 .f32 :=
  (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

/-- What it leaves at a point of case B, over what the point before left (`q`). -/
abbrev outsB (c : Dev nD) (t : Fin cfg0.N) (h0 : ¬t.val % 17 = 0) (q : Vec F S2x128x128 .bf16 × Vec F S1x128 .f32 × Vec F S1x512x128 .f32 × Vec F S1x512x128 .f32 × Vec F S1x128x512 .f32 × Vec F S1x128x512 .f32 × Vec F S1x512 .f32 × Vec F S1x512 .f32 × Vec F S2x1x512 .f32 × Vec F S2x1x512 .f32) : Vec F S2x128x128 .bf16 × Vec F S1x128 .f32 × Vec F S1x512x128 .f32 × Vec F S1x512x128 .f32 × Vec F S1x128x512 .f32 × Vec F S1x128x512 .f32 × Vec F S1x512 .f32 × Vec F S1x512 .f32 × Vec F S2x1x512 .f32 × Vec F S2x1x512 .f32 :=
  (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q.2.1 q.2.2.1 q.2.2.2.1 q.2.2.2.2.1 q.2.2.2.2.2.1 q.2.2.2.2.2.2.1 q.2.2.2.2.2.2.2.1 q.2.2.2.2.2.2.2.2.1 q.2.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q.2.1 q.2.2.1 q.2.2.2.1 q.2.2.2.2.1 q.2.2.2.2.2.1 q.2.2.2.2.2.2.1 q.2.2.2.2.2.2.2.1 q.2.2.2.2.2.2.2.2.1 q.2.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q.2.1 q.2.2.1 q.2.2.2.1 q.2.2.2.2.1 q.2.2.2.2.2.1 q.2.2.2.2.2.2.1 q.2.2.2.2.2.2.2.1 q.2.2.2.2.2.2.2.2.1 q.2.2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q.2.1 q.2.2.1 q.2.2.2.1 q.2.2.2.2.1 q.2.2.2.2.2.1 q.2.2.2.2.2.2.1 q.2.2.2.2.2.2.2.1 q.2.2.2.2.2.2.2.2.1 q.2.2.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q.2.1 q.2.2.1 q.2.2.2.1 q.2.2.2.2.1 q.2.2.2.2.2.1 q.2.2.2.2.2.2.1 q.2.2.2.2.2.2.2.1 q.2.2.2.2.2.2.2.2.1 q.2.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q.2.1 q.2.2.1 q.2.2.2.1 q.2.2.2.2.1 q.2.2.2.2.2.1 q.2.2.2.2.2.2.1 q.2.2.2.2.2.2.2.1 q.2.2.2.2.2.2.2.2.1 q.2.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q.2.1 q.2.2.1 q.2.2.2.1 q.2.2.2.2.1 q.2.2.2.2.2.1 q.2.2.2.2.2.2.1 q.2.2.2.2.2.2.2.1 q.2.2.2.2.2.2.2.2.1 q.2.2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q.2.1 q.2.2.1 q.2.2.2.1 q.2.2.2.2.1 q.2.2.2.2.2.1 q.2.2.2.2.2.2.1 q.2.2.2.2.2.2.2.1 q.2.2.2.2.2.2.2.2.1 q.2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q.2.1 q.2.2.1 q.2.2.2.1 q.2.2.2.2.1 q.2.2.2.2.2.1 q.2.2.2.2.2.2.1 q.2.2.2.2.2.2.2.1 q.2.2.2.2.2.2.2.2.1 q.2.2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q.2.1 q.2.2.1 q.2.2.2.1 q.2.2.2.2.1 q.2.2.2.2.2.1 q.2.2.2.2.2.2.1 q.2.2.2.2.2.2.2.1 q.2.2.2.2.2.2.2.2.1 q.2.2.2.2.2.2.2.2.2)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x128x128 .bf16 × Vec F S1x128 .f32 × Vec F S1x512x128 .f32 × Vec F S1x512x128 .f32 × Vec F S1x128x512 .f32 × Vec F S1x128x512 .f32 × Vec F S1x512 .f32 × Vec F S1x512 .f32 × Vec F S2x1x512 .f32 × Vec F S2x1x512 .f32
  | 0, hn => outsA m c ⟨0, hn⟩ (Nat.zero_mod _)
  | n + 1, hn =>
    if h0 : (n + 1) % 17 = 0 then outsA m c ⟨n + 1, hn⟩ h0
    else outsB m c ⟨n + 1, hn⟩ h0 (outsAt0 c n (Nat.lt_of_succ_lt hn))

set_option maxHeartbeats 8000000 in
/-- `outsAt0` at a point of case A: that case's contents. -/
theorem outsAt0_A (c : Dev nD) (t : Fin cfg0.N) (h0 : t.val % 17 = 0) :
    outsAt0 m c t.val t.isLt = outsA m c t h0 := by
  obtain ⟨n, hn⟩ := t
  cases n with
  | zero => exact rfl
  | succ n => exact (dif_pos h0).trans rfl

set_option maxHeartbeats 8000000 in
/-- `outsAt0` at a point of case B: that case's contents, over what the point before left. -/
theorem outsAt0_B (c : Dev nD) (t : Fin cfg0.N) (h0 : ¬t.val % 17 = 0) :
    outsAt0 m c t.val t.isLt = outsB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨20, _⟩ => (outsAt0 m c t.val t.isLt).2.2.2.2.1
    | ⟨21, _⟩ => (outsAt0 m c t.val t.isLt).2.2.2.2.2.1
    | ⟨22, _⟩ => (outsAt0 m c t.val t.isLt).2.2.2.2.2.2.1
    | ⟨23, _⟩ => (outsAt0 m c t.val t.isLt).2.2.2.2.2.2.2.1
    | ⟨_ + 24, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]
theorem after0_20 (c : Dev nD) (t : Fin cfg0.N) : (dats m 0 c).after 20 t = (outsAt0 m c t.val t.isLt).2.2.2.2.1 := by dsimp only [dats]
theorem after0_21 (c : Dev nD) (t : Fin cfg0.N) : (dats m 0 c).after 21 t = (outsAt0 m c t.val t.isLt).2.2.2.2.2.1 := by dsimp only [dats]
theorem after0_22 (c : Dev nD) (t : Fin cfg0.N) : (dats m 0 c).after 22 t = (outsAt0 m c t.val t.isLt).2.2.2.2.2.2.1 := by dsimp only [dats]
theorem after0_23 (c : Dev nD) (t : Fin cfg0.N) : (dats m 0 c).after 23 t = (outsAt0 m c t.val t.isLt).2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 17 = 0) (d) :
    (dats m 0 c).before 17 t d = (outsAt0 m c (t.val - 1) (Nat.lt_of_le_of_lt (Nat.sub_le _ _) t.isLt)).2.1 := by
  have hN : t.val < 136 := lt_of_lt_of_eq t.isLt (show cfg0.N = 136 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 17 = 0) (d) :
    (dats m 0 c).before 18 t d = (outsAt0 m c (t.val - 1) (Nat.lt_of_le_of_lt (Nat.sub_le _ _) t.isLt)).2.2.1 := by
  have hN : t.val < 136 := lt_of_lt_of_eq t.isLt (show cfg0.N = 136 from N_0)
  rw [Dat.before_out_kept _ 18 rfl t (by omega) (Bool.eq_false_iff.mpr fun h => by have := (flush0_18 _).mp h; dsimp only at this; omega)
    (fun _ => rfl) (fun _ _ => rfl)]
  dsimp only [dats]
/-- At a point of case B output 19's current staging buffer holds what the body left at the point before: the point is
    not the first, the buffer was not written back between (`flush0_19`), the window is live and uncut (Lib/Pipeline/Frame.lean
    `Dat.before_out_kept`). -/
theorem before0_19_B (c : Dev nD) (t : Fin cfg0.N) (h0 : ¬t.val % 17 = 0) (d) :
    (dats m 0 c).before 19 t d = (outsAt0 m c (t.val - 1) (Nat.lt_of_le_of_lt (Nat.sub_le _ _) t.isLt)).2.2.2.1 := by
  have hN : t.val < 136 := lt_of_lt_of_eq t.isLt (show cfg0.N = 136 from N_0)
  rw [Dat.before_out_kept _ 19 rfl t (by omega) (Bool.eq_false_iff.mpr fun h => by have := (flush0_19 _).mp h; dsimp only at this; omega)
    (fun _ => rfl) (fun _ _ => rfl)]
  dsimp only [dats]
/-- At a point of case B output 20's current staging buffer holds what the body left at the point before: the point is
    not the first, the buffer was not written back between (`flush0_20`), the window is live and uncut (Lib/Pipeline/Frame.lean
    `Dat.before_out_kept`). -/
theorem before0_20_B (c : Dev nD) (t : Fin cfg0.N) (h0 : ¬t.val % 17 = 0) (d) :
    (dats m 0 c).before 20 t d = (outsAt0 m c (t.val - 1) (Nat.lt_of_le_of_lt (Nat.sub_le _ _) t.isLt)).2.2.2.2.1 := by
  have hN : t.val < 136 := lt_of_lt_of_eq t.isLt (show cfg0.N = 136 from N_0)
  rw [Dat.before_out_kept _ 20 rfl t (by omega) (Bool.eq_false_iff.mpr fun h => by have := (flush0_20 _).mp h; dsimp only at this; omega)
    (fun _ => rfl) (fun _ _ => rfl)]
  dsimp only [dats]
/-- At a point of case B output 21's current staging buffer holds what the body left at the point before: the point is
    not the first, the buffer was not written back between (`flush0_21`), the window is live and uncut (Lib/Pipeline/Frame.lean
    `Dat.before_out_kept`). -/
theorem before0_21_B (c : Dev nD) (t : Fin cfg0.N) (h0 : ¬t.val % 17 = 0) (d) :
    (dats m 0 c).before 21 t d = (outsAt0 m c (t.val - 1) (Nat.lt_of_le_of_lt (Nat.sub_le _ _) t.isLt)).2.2.2.2.2.1 := by
  have hN : t.val < 136 := lt_of_lt_of_eq t.isLt (show cfg0.N = 136 from N_0)
  rw [Dat.before_out_kept _ 21 rfl t (by omega) (Bool.eq_false_iff.mpr fun h => by have := (flush0_21 _).mp h; dsimp only at this; omega)
    (fun _ => rfl) (fun _ _ => rfl)]
  dsimp only [dats]
/-- At a point of case B output 22's current staging buffer holds what the body left at the point before: the point is
    not the first, the buffer was not written back between (`flush0_22`), the window is live and uncut (Lib/Pipeline/Frame.lean
    `Dat.before_out_kept`). -/
theorem before0_22_B (c : Dev nD) (t : Fin cfg0.N) (h0 : ¬t.val % 17 = 0) (d) :
    (dats m 0 c).before 22 t d = (outsAt0 m c (t.val - 1) (Nat.lt_of_le_of_lt (Nat.sub_le _ _) t.isLt)).2.2.2.2.2.2.1 := by
  have hN : t.val < 136 := lt_of_lt_of_eq t.isLt (show cfg0.N = 136 from N_0)
  rw [Dat.before_out_kept _ 22 rfl t (by omega) (Bool.eq_false_iff.mpr fun h => by have := (flush0_22 _).mp h; dsimp only at this; omega)
    (fun _ => rfl) (fun _ _ => rfl)]
  dsimp only [dats]
/-- At a point of case B output 23's current staging buffer holds what the body left at the point before: the point is
    not the first, the buffer was not written back between (`flush0_23`), the window is live and uncut (Lib/Pipeline/Frame.lean
    `Dat.before_out_kept`). -/
theorem before0_23_B (c : Dev nD) (t : Fin cfg0.N) (h0 : ¬t.val % 17 = 0) (d) :
    (dats m 0 c).before 23 t d = (outsAt0 m c (t.val - 1) (Nat.lt_of_le_of_lt (Nat.sub_le _ _) t.isLt)).2.2.2.2.2.2.2.1 := by
  have hN : t.val < 136 := lt_of_lt_of_eq t.isLt (show cfg0.N = 136 from N_0)
  rw [Dat.before_out_kept _ 23 rfl t (by omega) (Bool.eq_false_iff.mpr fun h => by have := (flush0_23 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.succ = PhiS m c (t.val + 1) t.isLt from rfl, PhiS_succ]
  have hN : t.val < 136 := lt_of_lt_of_eq t.isLt (show cfg0.N = 136 from N_0)
  by_cases h0 : t.val % 17 = 0
  · by_cases hz : t.val = 0
    · rw [PhiS_castSucc m c t, PhiS_zero m c _ _ hz, PhiA0_eq]
      rw [outsAt0_A m c t h0]; unfold outsA
      unfold out0_A_16 out0_A_17 out0_A_18 out0_A_19 out0_A_20 out0_A_21 out0_A_22 out0_A_23 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [HS0]; · iexact HS0
      isplitl [HS1]; · iexact HS1
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H23
      ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]; unfold outsA
      unfold out0_A_16 out0_A_17 out0_A_18 out0_A_19 out0_A_20 out0_A_21 out0_A_22 out0_A_23 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [HS0]; · iexists _; iexact HS0
      isplitl [HS1]; · iexists _; iexact HS1
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H23
      ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 136 := lt_of_lt_of_eq t.isLt (show cfg0.N = 136 from N_0); omega
    · rw [PhiS_castSucc m c t, PhiS_pos m c _ _ hz]
      rw [outsAt0_B m c t h0]; unfold outsB
      simp only [before0_17_B m c t h0, before0_18_B m c t h0, before0_19_B m c t h0, before0_20_B m c t h0, before0_21_B m c t h0, before0_22_B m c t h0, before0_23_B m c t h0]
      unfold out0_B_16 out0_B_17 out0_B_18 out0_B_19 out0_B_20 out0_B_21 out0_B_22 out0_B_23 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _ _ _ _ _ _ _ _).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [HS0]; · iexact HS0
      isplitl [HS1]; · iexact HS1
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H23
      ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 136 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Gen

end
-- ==== Proof.S5.Other.lean ====
/- The frame of the kernel at the machine's own words: its text is the idealised kernel's text with each named constant at
   its own word. -/
module

public import proofs.«01_k».proof.Defs
public import proofs.«01_k».proof.Proof.Gen.Kernel
public import proofs.«01_k».proof.Proof.S5.Frame

@[expose] public section

set_option maxRecDepth 16384
set_option maxHeartbeats 400000000

noncomputable section

namespace Cert.S5

open Idealize.ShloMosaic Idealize.ShloMosaic.TcCoe Idealize.SL.Sem

/-- A named constant read at its own word. -/
local instance wordNamed : Named Bits := ⟨fun _ _ φ b => FloatOps.ofBits φ b⟩

/-- The two bodies are one text. -/
theorem defs0_eq : Cert.KernelIdeal.defs₀ (F := Bits) = Cert.Kernel.defs₀ (F := Bits) := by
  funext p ℓ a
  cases p with
  | tc =>
    rcases ℓ with ⟨ℓ, hℓ⟩
    cases ℓ with
    | zero =>
      rcases a with ⟨t, s⟩
      exact id rfl
    | succ n => exact absurd hℓ (Nat.not_lt.2 (Nat.le_add_left _ _))
  | scScalar _ => rfl
  | scVector _ _ => rfl

theorem defs_eq : Cert.KernelIdeal.defs (F := Bits) = Cert.Kernel.defs (F := Bits) :=
  congrArg (Pipeline.defs (Cert.Kernel.pcfgs (F := Bits))) defs0_eq

theorem main_eq : Cert.KernelIdeal.main (F := Bits) = Cert.Kernel.main (F := Bits) := id rfl

/-- The kernel terminates and leaves its arguments alone. -/
theorem frame_kernel : Cert.quiescent_Kernel := fun m ρ _ =>
  Eq.mp (congrArg₂ (fun d p => θ_run d (onTc (τ := Cert.Kernel.τ) p) ⟨m, fun _ => 0, ρ⟩ _) defs_eq main_eq)
    (Cert.KernelIdeal.Gen.frame (F := Bits) m ρ)

end Cert.S5

end
-- ==== Proof.S5.Value.lean ====
/- The results of a run block by block: what each flush writes back, and every result array as the fold of the
   flushed blocks. -/
module

public import proofs.«01_k».proof.Proof.S5.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v68_0) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v68_1) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v68_2) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v68_3) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v68_4) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v68_5) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v68_6) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v68_7) = (dats m 0 c).arrAt 23 cfg0.N :=
  (h c).1 23

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

set_option maxHeartbeats 226800 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v68_0) = (dats m 0 c).arrAt 16 cfg0.N
      ∧ r.2.mem ((c : Thread nD τ).loc main_v68_1) = (dats m 0 c).arrAt 17 cfg0.N
      ∧ r.2.mem ((c : Thread nD τ).loc main_v68_2) = (dats m 0 c).arrAt 18 cfg0.N
      ∧ r.2.mem ((c : Thread nD τ).loc main_v68_3) = (dats m 0 c).arrAt 19 cfg0.N
      ∧ r.2.mem ((c : Thread nD τ).loc main_v68_4) = (dats m 0 c).arrAt 20 cfg0.N
      ∧ r.2.mem ((c : Thread nD τ).loc main_v68_5) = (dats m 0 c).arrAt 21 cfg0.N
      ∧ r.2.mem ((c : Thread nD τ).loc main_v68_6) = (dats m 0 c).arrAt 22 cfg0.N
      ∧ r.2.mem ((c : Thread nD τ).loc main_v68_7) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post16 m r h c,
      post17 m r h c,
      post18 m r h c,
      post19 m r h c,
      post20 m r h c,
      post21 m r h c,
      post22 m r h c,
      post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.KernelIdeal.Value

end
-- ==== Proof.S5.Body.lean ====
/- The arithmetic of one grid step of the kernel, written over the blocks it loads: for one batch element, the gradient of
   the pre-activation, the two readout products, the three in-block stages of the reverse recurrence, the sixteen blocks of
   eight rows that take the carry, and what the step adds to each accumulator.  `RunA`/`RunB` hold the same operations as
   the run found them, one definition per operation. -/
module

public import proofs.«01_k».proof.Proof.Gen.KernelIdeal.Skeleton

@[expose] public section

set_option maxRecDepth 16384

noncomputable section

namespace Cert.KernelIdeal.S5

open Idealize.ShloMosaic Idealize.ShloMosaic.TcCoe Idealize.SL.Sem
open Cert.KernelIdeal.Gen

variable {F : FTy → Type} [FloatOps F] [Named F]

/-- What a grid step loads of one batch element. -/
structure Bt (F : FTy → Type) where
  g : Vec F S1x128x128 .f32
  y : Vec F S1x128x128 .f32
  u : Vec F S1x128x128 .f32
  xr : Vec F S1x128x512 .f32
  xi : Vec F S1x128x512 .f32
  pr : Vec F S1x512 .f32
  pi : Vec F S1x512 .f32

/-- What a grid step loads once for both batch elements: the weights, the power tables, and whether the step is the last
    one, whose chunk has no predecessor. -/
structure Tb (F : FTy → Type) where
  wbr : Vec F S1x128x512 .bf16
  wbi : Vec F S1x128x512 .bf16
  qr : Vec F S8x512 .f32
  qi : Vec F S8x512 .f32
  s0r : Vec F S1x512 .f32
  s0i : Vec F S1x512 .f32
  s1r : Vec F S1x512 .f32
  s1i : Vec F S1x512 .f32
  s2r : Vec F S1x512 .f32
  s2i : Vec F S1x512 .f32
  wcr : Vec F S1x512x128 .bf16
  wci : Vec F S1x512x128 .bf16
  d : Vec F S1x128 .f32
  last : BitVec 1

/-- A block of zeros. -/
def zero (s : Shape) : FVec F s .f32 := broadcast s (Scalar.ofBits .f32 0x00000000#32 : F .f32)

/-! ### Before the recurrence -/

def dy (b : Bt F) : FVec F S128x128 .f32 := mulf (k0_pay14 b.g) (k0_pay15 b.y)
def dyb (b : Bt F) : FVec F S128x128 .bf16 := truncf .bf16 (dy b) bitsLt_bf16_f32
def ub (b : Bt F) : FVec F S128x128 .bf16 := truncf .bf16 (k0_pay12 b.u) bitsLt_bf16_f32
def xr2 (b : Bt F) : FVec F S128x512 .f32 := shapeCast S128x512 b.xr shapeCasts_S1x128x512_S128x512
def xi2 (b : Bt F) : FVec F S128x512 .f32 := shapeCast S128x512 b.xi shapeCasts_S1x128x512_S128x512

def ddStep (b : Bt F) (acc : Vec F S1x128 .f32) : FVec F S1x128 .f32 :=
  addf (shapeCast S1x128 acc shapeCasts_S1x128_S1x128 : FVec F S1x128 .f32)
    (shapeCast S1x128 (multiReduction .add [0] S128 (mulf (dy b) (k0_pay12 b.u)) 0x00000000#32 reduces_S128x128_S128
      (.inl rfl) rfl : FVec F S128 .f32) shapeCasts_S128_S1x128)

def wcPart (b : Bt F) (x : FVec F S128x512 .f32) : FVec F S512x128 .f32 :=
  matmul dot_S128x512_S128x128_S512x128_0_0_1_1_n_n none (truncf .bf16 x bitsLt_bf16_f32 : FVec F S128x512 .bf16) (dyb b)
    (constant S512x128 .f32 0x00000000#32)

def dwcrStep (b : Bt F) (acc : Vec F S1x512x128 .f32) : FVec F S1x512x128 .f32 :=
  shapeCast S1x512x128 (addf (shapeCast S512x128 acc shapeCasts_S1x512x128_S512x128 : FVec F S512x128 .f32)
    (wcPart b (xr2 b))) shapeCasts_S512x128_S1x512x128

def dwciStep (b : Bt F) (acc : Vec F S1x512x128 .f32) : FVec F S1x512x128 .f32 :=
  shapeCast S1x512x128 (subf (shapeCast S512x128 acc shapeCasts_S1x512x128_S512x128 : FVec F S512x128 .f32)
    (wcPart b (xi2 b))) shapeCasts_S512x128_S1x512x128

/-! ### The reverse recurrence inside the blocks of eight rows -/

def out2 (b : Bt F) (w : Vec F S1x512x128 .bf16) : FVec F S128x512 .f32 :=
  matmul dot_S128x128_S512x128_S128x512_1_1_0_0_n_n none (dyb b)
    (shapeCast S512x128 w shapeCasts_S1x512x128_S512x128 : FVec F S512x128 .bf16) (constant S128x512 .f32 0x00000000#32)

def l0r (b : Bt F) (T : Tb F) : FVec F S128x512 .f32 := out2 b T.wcr
def l0i (b : Bt F) (T : Tb F) : FVec F S128x512 .f32 := subf (zero S128x512) (out2 b T.wci)

/-- The rows `rot` further down, zero for the last rows of a block of eight. -/
def shl (lim rot : BitVec 32) (x : FVec F S128x512 .f32) : FVec F S128x512 .f32 :=
  select (cmpi .slt k0_pay25 (broadcast S128x512 lim)) (dynamicRotate 0 rot none x rotates_S128x512_d0) (zero S128x512)

def bc (s : Vec F S1x512 .f32) : FVec F S128x512 .f32 :=
  broadcastTo S128x512 (shapeCast S1x512 s shapeCasts_S1x512_S1x512 : FVec F S1x512 .f32) broadcasts_S1x512_S128x512

def stR (lim rot : BitVec 32) (ar ai : Vec F S1x512 .f32) (R I : FVec F S128x512 .f32) : FVec F S128x512 .f32 :=
  addf R (addf (mulf (bc ar) (shl lim rot R)) (mulf (bc ai) (shl lim rot I)))
def stI (lim rot : BitVec 32) (ar ai : Vec F S1x512 .f32) (R I : FVec F S128x512 .f32) : FVec F S128x512 .f32 :=
  addf I (subf (mulf (bc ar) (shl lim rot I)) (mulf (bc ai) (shl lim rot R)))

def l1r (b : Bt F) (T : Tb F) : FVec F S128x512 .f32 := stR 7#32 127#32 T.s0r T.s0i (l0r b T) (l0i b T)
def l1i (b : Bt F) (T : Tb F) : FVec F S128x512 .f32 := stI 7#32 127#32 T.s0r T.s0i (l0r b T) (l0i b T)
def l2r (b : Bt F) (T : Tb F) : FVec F S128x512 .f32 := stR 6#32 126#32 T.s1r T.s1i (l1r b T) (l1i b T)
def l2i (b : Bt F) (T : Tb F) : FVec F S128x512 .f32 := stI 6#32 126#32 T.s1r T.s1i (l1r b T) (l1i b T)
def l3r (b : Bt F) (T : Tb F) : FVec F S128x512 .f32 := stR 4#32 124#32 T.s2r T.s2i (l2r b T) (l2i b T)
def l3i (b : Bt F) (T : Tb F) : FVec F S128x512 .f32 := stI 4#32 124#32 T.s2r T.s2i (l2r b T) (l2i b T)

/-! ### The carry through the sixteen blocks -/

theorem slices8 (k : ℕ) : S128x512.Slices ![120 - 8 * k, 0] S8x512 :=
  ⟨rfl, fun a => by fin_cases a <;> simp [S8x512, S128x512] <;> omega⟩

def tab (q : Vec F S8x512 .f32) : FVec F S8x512 .f32 := shapeCast S8x512 q shapeCasts_S8x512_S8x512
def bc8 (s : FVec F S1x512 .f32) : FVec F S8x512 .f32 := broadcastTo S8x512 s broadcasts_S1x512_S8x512
def top (x : FVec F S8x512 .f32) : FVec F S1x512 .f32 := extractStridedSlice S1x512 ![0, 0] x slices_S8x512_o0_0_S1x512
def c1 (c : Vec F S1x1x512 .f32) : FVec F S1x512 .f32 := shapeCast S1x512 c shapeCasts_S1x1x512_S1x512

def bkR (T : Tb F) (x : FVec F S8x512 .f32) (cr ci : FVec F S1x512 .f32) : FVec F S8x512 .f32 :=
  addf x (addf (mulf (tab T.qr) (bc8 cr)) (mulf (tab T.qi) (bc8 ci)))
def bkI (T : Tb F) (x : FVec F S8x512 .f32) (cr ci : FVec F S1x512 .f32) : FVec F S8x512 .f32 :=
  addf x (subf (mulf (tab T.qr) (bc8 ci)) (mulf (tab T.qi) (bc8 cr)))

/-- Blocks 15, 14, … of the chunk after they took the carry: block `15 - k`, real and imaginary part. -/
def chain (b : Bt F) (T : Tb F) (cr ci : FVec F S1x512 .f32) : ℕ → FVec F S8x512 .f32 × FVec F S8x512 .f32
  | 0 => (bkR T (extractStridedSlice S8x512 ![120 - 8 * 0, 0] (l3r b T) (slices8 0)) cr ci,
      bkI T (extractStridedSlice S8x512 ![120 - 8 * 0, 0] (l3i b T) (slices8 0)) cr ci)
  | k + 1 => (bkR T (extractStridedSlice S8x512 ![120 - 8 * (k + 1), 0] (l3r b T) (slices8 (k + 1)))
        (top (chain b T cr ci k).1) (top (chain b T cr ci k).2),
      bkI T (extractStridedSlice S8x512 ![120 - 8 * (k + 1), 0] (l3i b T) (slices8 (k + 1)))
        (top (chain b T cr ci k).1) (top (chain b T cr ci k).2))

/-- Sixteen blocks, the first one lowest, glued to a chunk. -/
def glue16 (x15 x14 x13 x12 x11 x10 x9 x8 x7 x6 x5 x4 x3 x2 x1 x0 : FVec F S8x512 .f32) : FVec F S128x512 .f32 :=
  concatenate S128x512 0 [⟨S8x512, x15⟩, ⟨S8x512, x14⟩, ⟨S8x512, x13⟩, ⟨S8x512, x12⟩, ⟨S8x512, x11⟩, ⟨S8x512, x10⟩,
    ⟨S8x512, x9⟩, ⟨S8x512, x8⟩, ⟨S8x512, x7⟩, ⟨S8x512, x6⟩, ⟨S8x512, x5⟩, ⟨S8x512, x4⟩, ⟨S8x512, x3⟩, ⟨S8x512, x2⟩,
    ⟨S8x512, x1⟩, ⟨S8x512, x0⟩]
    concatenates_S8x512_S8x512_S8x512_S8x512_S8x512_S8x512_S8x512_S8x512_S8x512_S8x512_S8x512_S8x512_S8x512_S8x512_S8x512_S8x512_S128x512_d0
def glue (f : ℕ → FVec F S8x512 .f32) : FVec F S128x512 .f32 :=
  glue16 (f 15) (f 14) (f 13) (f 12) (f 11) (f 10) (f 9) (f 8) (f 7) (f 6) (f 5) (f 4) (f 3) (f 2) (f 1) (f 0)

def lamR (b : Bt F) (T : Tb F) (cr ci : FVec F S1x512 .f32) : FVec F S128x512 .f32 := glue fun k => (chain b T cr ci k).1
def lamI (b : Bt F) (T : Tb F) (cr ci : FVec F S1x512 .f32) : FVec F S128x512 .f32 := glue fun k => (chain b T cr ci k).2

/-- What the carried scratch holds of this batch element after the step. -/
def outR (b : Bt F) (T : Tb F) (cr ci : FVec F S1x512 .f32) : FVec F S1x1x512 .f32 :=
  shapeCast S1x1x512 (top (chain b T cr ci 15).1) shapeCasts_S1x512_S1x1x512
def outI (b : Bt F) (T : Tb F) (cr ci : FVec F S1x512 .f32) : FVec F S1x1x512 .f32 :=
  shapeCast S1x1x512 (top (chain b T cr ci 15).2) shapeCasts_S1x512_S1x1x512

/-! ### After the recurrence -/

def wbMul (l : FVec F S128x512 .f32) (w : Vec F S1x128x512 .bf16) : FVec F S128x128 .f32 :=
  matmul dot_S128x512_S128x512_S128x128_1_1_0_0_n_n none (truncf .bf16 l bitsLt_bf16_f32 : FVec F S128x512 .bf16)
    (shapeCast S128x512 w shapeCasts_S1x128x512_S128x512 : FVec F S128x512 .bf16) (constant S128x128 .f32 0x00000000#32)

def duOf (b : Bt F) (T : Tb F) (lr li : FVec F S128x512 .f32) : FVec F S1x128x128 .bf16 :=
  shapeCast S1x128x128 (truncf .bf16 (addf (addf (wbMul lr T.wbr) (wbMul li T.wbi))
    (mulf (dy b) (broadcastTo S128x128 (shapeCast S1x128 T.d shapeCasts_S1x128_S1x128 : FVec F S1x128 .f32)
      broadcasts_S1x128_S128x128))) bitsLt_bf16_f32 : FVec F S128x128 .bf16) shapeCasts_S128x128_S1x128x128
def duOut (b : Bt F) (T : Tb F) (cr ci : FVec F S1x512 .f32) : FVec F S1x128x128 .bf16 :=
  duOf b T (lamR b T cr ci) (lamI b T cr ci)

def dwbStep (b : Bt F) (l : FVec F S128x512 .f32) (acc : Vec F S1x128x512 .f32) : FVec F S1x128x512 .f32 :=
  shapeCast S1x128x512 (addf (shapeCast S128x512 acc shapeCasts_S1x128x512_S128x512 : FVec F S128x512 .f32)
    (matmul dot_S128x128_S128x512_S128x512_0_0_1_1_n_n none (ub b) (truncf .bf16 l bitsLt_bf16_f32 : FVec F S128x512 .bf16)
      (constant S128x512 .f32 0x00000000#32))) shapeCasts_S128x512_S1x128x512

/-- The state one row earlier: the rows of the chunk one further down, the first row from the chunk before. -/
def before (T : Tb F) (x : FVec F S128x512 .f32) (p : Vec F S1x512 .f32) : FVec F S128x512 .f32 :=
  select (cmpi .eq (iota .tc S128x512 32 [0] iota_S128x512_d0_w32) (broadcast S128x512 0#32))
    (bc (Scalar.select T.last (zero S1x512) (shapeCast S1x512 p shapeCasts_S1x512_S1x512)))
    (dynamicRotate 0 1#32 none x rotates_S128x512_d0)

def xpr (b : Bt F) (T : Tb F) : FVec F S128x512 .f32 := before T (xr2 b) b.pr
def xpi (b : Bt F) (T : Tb F) : FVec F S128x512 .f32 := before T (xi2 b) b.pi

def darStep (b : Bt F) (T : Tb F) (cr ci : FVec F S1x512 .f32) (acc : Vec F S1x512 .f32) : FVec F S1x512 .f32 :=
  k0_pay137 (lamR b T cr ci) (lamI b T cr ci) (xpr b T) (xpi b T) acc
def daiStep (b : Bt F) (T : Tb F) (cr ci : FVec F S1x512 .f32) (acc : Vec F S1x512 .f32) : FVec F S1x512 .f32 :=
  k0_pay138 (lamR b T cr ci) (lamI b T cr ci) (xpr b T) (xpi b T) acc

end Cert.KernelIdeal.S5

end
-- ==== Proof.S5.Step.lean ====
/- What the two cases of a grid step leave, read out of the run: each accumulator takes both batch elements' parts, the
   first step of a head from zero, a later one from what the step before left. -/
module

public import proofs.«01_k».proof.Proof.S5.Frame
public import proofs.«01_k».proof.Proof.S5.Body
public import Idealize.ShloMosaic.Lib.WholeRead
public import Idealize.ShloMosaic.Lib.Pipeline.ReadBack
public import Idealize.ShloMosaic.Lib.Pipeline.ValueKit.Acc
public import Idealize.ShloMosaic.Lib.Pointwise
public import Idealize.ShloMosaic.Lib.ValueLayout

@[expose] public section

set_option maxRecDepth 16384

noncomputable section

namespace Cert.KernelIdeal.S5

open Idealize.ShloMosaic Idealize.ShloMosaic.TcCoe Idealize.SL.Sem
open Cert.KernelIdeal.Gen

variable {F : FTy → Type} [FloatOps F] [Named F]

/-- What the step loads of batch element `b`, out of its blocks. -/
def bt (x0 : Vec F S2x128x128 .f32) (x1 : Vec F S2x128x128 .f32) (x2 : Vec F S2x128x128 .f32) (x3 : Vec F S2x128x512 .f32) (x4 : Vec F S2x128x512 .f32) (x5 : Vec F S2x8x512 .f32) (x6 : Vec F S2x8x512 .f32) (b : Fin 2) : Bt F where
  g := fun j => x0 (ix3 b (j 1) (j 2))
  y := fun j => x1 (ix3 b (j 1) (j 2))
  u := fun j => x2 (ix3 b (j 1) (j 2))
  xr := fun j => x3 (ix3 b (j 1) (j 2))
  xi := fun j => x4 (ix3 b (j 1) (j 2))
  pr := fun j => x5 (ix3 b 7 (j 1))
  pi := fun j => x6 (ix3 b 7 (j 1))

/-- What the step loads once, out of its blocks. -/
def tb (i : grid0.Coords) (x7 : Vec F S1x128x512 .bf16) (x8 : Vec F S1x128x512 .bf16) (x9 : Vec F S8x512 .f32) (x10 : Vec F S8x512 .f32) (x11 : Vec F S8x512 .f32) (x12 : Vec F S8x512 .f32) (x13 : Vec F S1x512x128 .bf16) (x14 : Vec F S1x512x128 .bf16) (x15 : Vec F S1x128 .f32) : Tb F where
  wbr := x7
  wbi := x8
  qr := x9
  qi := x10
  s0r := fun j => x11 (ix2 0 (j 1))
  s0i := fun j => x12 (ix2 0 (j 1))
  s1r := fun j => x11 (ix2 1 (j 1))
  s1i := fun j => x12 (ix2 1 (j 1))
  s2r := fun j => x11 (ix2 2 (j 1))
  s2i := fun j => x12 (ix2 2 (j 1))
  wcr := x13
  wci := x14
  d := x15
  last := Scalar.cmpi .eq (BitVec.ofNat 32 (i 1).val) 16#32

/-! ### The recurrence, stage by stage -/

/-- Of two writes apart from each other the first is still read at its own place. -/
theorem canon_second {s : Shape} {e : EltTy} (r r' : Rect s) (h : LoadRect.disj r' r.toLoadRect = true) (w' : r'.shape.Idx → Elt F e)
    (w : r.shape.Idx → Elt F e) (L : List (View.Piece (Elt F) s e)) (x : r.shape.Idx) :
    View.canon (⟨r', w'⟩ :: ⟨r, w⟩ :: L) (r.emb x) = w x := by
  rw [View.canon_cons_of_not_mem (y := r.emb x) _ _ (LoadRect.idx_not_mem_of_disj h x), View.canon_cons_emb]

section

variable {b : Bt F} {T : Tb F} {cr ci : FVec F S1x512 .f32} {R I L X Y : FVec F S128x512 .f32} {p q : FVec F S8x512 .f32}

theorem stage1r (hr : R = l0r b T) (hi : I = l0i b T) :
    stR 7#32 127#32 T.s0r T.s0i R I = l1r b T := by rw [hr, hi]; rfl
theorem stage1i (hr : R = l0r b T) (hi : I = l0i b T) :
    stI 7#32 127#32 T.s0r T.s0i R I = l1i b T := by rw [hr, hi]; rfl
theorem stage2r (hr : R = l1r b T) (hi : I = l1i b T) :
    stR 6#32 126#32 T.s1r T.s1i R I = l2r b T := by rw [hr, hi]; rfl
theorem stage2i (hr : R = l1r b T) (hi : I = l1i b T) :
    stI 6#32 126#32 T.s1r T.s1i R I = l2i b T := by rw [hr, hi]; rfl
theorem stage3r (hr : R = l2r b T) (hi : I = l2i b T) :
    stR 4#32 124#32 T.s2r T.s2i R I = l3r b T := by rw [hr, hi]; rfl
theorem stage3i (hr : R = l2r b T) (hi : I = l2i b T) :
    stI 4#32 124#32 T.s2r T.s2i R I = l3i b T := by rw [hr, hi]; rfl
theorem firstr {c d : FVec F S1x512 .f32} (hl : L = l3r b T) (hc : c = cr) (hd : d = ci) :
    bkR T (extractStridedSlice S8x512 ![120, 0] L (slices8 0)) c d = (chain b T cr ci 0).1 := by
  rw [hl, hc, hd]; rfl
theorem nextr (k : ℕ) (hl : L = l3r b T) (hp : p = (chain b T cr ci k).1) (hq : q = (chain b T cr ci k).2) :
    bkR T (extractStridedSlice S8x512 ![120 - 8 * (k + 1), 0] L (slices8 (k + 1))) (top p) (top q) =
      (chain b T cr ci (k + 1)).1 := by rw [hl, hp, hq]; rfl
theorem firsti {c d : FVec F S1x512 .f32} (hl : L = l3i b T) (hc : c = cr) (hd : d = ci) :
    bkI T (extractStridedSlice S8x512 ![120, 0] L (slices8 0)) c d = (chain b T cr ci 0).2 := by
  rw [hl, hc, hd]; rfl
theorem nexti (k : ℕ) (hl : L = l3i b T) (hp : p = (chain b T cr ci k).1) (hq : q = (chain b T cr ci k).2) :
    bkI T (extractStridedSlice S8x512 ![120 - 8 * (k + 1), 0] L (slices8 (k + 1))) (top p) (top q) =
      (chain b T cr ci (k + 1)).2 := by rw [hl, hp, hq]; rfl
theorem glued {f : ℕ → FVec F S8x512 .f32} {x0 x1 x2 x3 x4 x5 x6 x7 x8 x9 x10 x11 x12 x13 x14 x15 : FVec F S8x512 .f32}
    (h0 : x0 = f 0) (h1 : x1 = f 1) (h2 : x2 = f 2) (h3 : x3 = f 3) (h4 : x4 = f 4) (h5 : x5 = f 5) (h6 : x6 = f 6)
    (h7 : x7 = f 7) (h8 : x8 = f 8) (h9 : x9 = f 9) (h10 : x10 = f 10) (h11 : x11 = f 11) (h12 : x12 = f 12)
    (h13 : x13 = f 13) (h14 : x14 = f 14) (h15 : x15 = f 15) :
    glue16 x15 x14 x13 x12 x11 x10 x9 x8 x7 x6 x5 x4 x3 x2 x1 x0 = glue f := by
  rw [h0, h1, h2, h3, h4, h5, h6, h7, h8, h9, h10, h11, h12, h13, h14, h15]; rfl

end

/-- The carry of batch element `b` that the step before left. -/
def carry (x : Vec F S2x1x512 .f32) (b : Fin 2) : FVec F S1x512 .f32 := fun j => x (ix3 b 0 (j 1))

theorem c1_row0 (v : View sig .tc .vmem S2x1x512 .f32) :
    c1 (F := F) (v.readCov [⟨(Rect.unit ![0, 0, 0] S2x1x512.size inb_S2x1x512_S2x1x512_0_0_0), (shapeCast S2x1x512 (zero (F := F) S2x1x512) shapeCasts_S2x1x512_S2x1x512)⟩] (Rect.unit (s := S2x1x512) ![0, 0, 0] S1x1x512.size inb_S2x1x512_S1x1x512_0_0_0).toLoadRect) = zero S1x512 := by
  rw [View.readCov_fill v (s := S2x1x512) inb_S2x1x512_S2x1x512_0_0_0 _ _ _ (by decide)]
  rfl

theorem c1_row1 (v : View sig .tc .vmem S2x1x512 .f32) (w : S1x1x512.Idx → Elt F .f32) :
    c1 (F := F) (v.readCov [⟨(Rect.unit (s := S2x1x512) ![0, 0, 0] S1x1x512.size inb_S2x1x512_S1x1x512_0_0_0), w⟩, ⟨(Rect.unit ![0, 0, 0] S2x1x512.size inb_S2x1x512_S2x1x512_0_0_0), (shapeCast S2x1x512 (zero (F := F) S2x1x512) shapeCasts_S2x1x512_S2x1x512)⟩] (Rect.unit (s := S2x1x512) ![1, 0, 0] S1x1x512.size inb_S2x1x512_S1x1x512_1_0_0).toLoadRect) = zero S1x512 := by
  rw [View.readCov_skip v _ _ _ _ (by decide), View.readCov_fill v (s := S2x1x512) inb_S2x1x512_S2x1x512_0_0_0 _ _ _ (by decide)]
  rfl

theorem carry_row0 {m : Memref sig .tc .vmem S2x1x512 .f32} (hm : m.IsWhole) (x : Vec F S2x1x512 .f32) :
    c1 (F := F) (View.readAt (Elt F) m.view (Rect.unit (s := S2x1x512) ![0, 0, 0] S1x1x512.size inb_S2x1x512_S1x1x512_0_0_0).toLoadRect (hm.unread x)) = carry x 0 := by
  funext j
  refine (hm.readAt_unread x _ _).trans (congrArg x ?_)
  have h0 : (j 0).val = 0 := Nat.lt_one_iff.mp (j 0).isLt
  have e : j = ix2 (0 : Fin 1) (j 1) := (eq_ix2 j).trans (congrArg (fun t => ix2 (n0 := 1) (n1 := 512) t (j 1)) (Fin.ext h0))
  rw [e]
  refine (congrArg _ (ValueIdx.reshapeEquiv_ix2_1ab _ (0 : Fin 1) (j 1))).trans ?_
  funext a
  refine Fin.ext ?_
  fin_cases a
  · rfl
  · rfl
  · exact (Nat.zero_add _).trans (Nat.one_mul _)

theorem carry_row1 {m : Memref sig .tc .vmem S2x1x512 .f32} (hm : m.IsWhole) (x : Vec F S2x1x512 .f32) :
    c1 (F := F) (View.readAt (Elt F) m.view (Rect.unit (s := S2x1x512) ![1, 0, 0] S1x1x512.size inb_S2x1x512_S1x1x512_1_0_0).toLoadRect (hm.unread x)) = carry x 1 := by
  funext j
  refine (hm.readAt_unread x _ _).trans (congrArg x ?_)
  have h0 : (j 0).val = 0 := Nat.lt_one_iff.mp (j 0).isLt
  have e : j = ix2 (0 : Fin 1) (j 1) := (eq_ix2 j).trans (congrArg (fun t => ix2 (n0 := 1) (n1 := 512) t (j 1)) (Fin.ext h0))
  rw [e]
  refine (congrArg _ (ValueIdx.reshapeEquiv_ix2_1ab _ (0 : Fin 1) (j 1))).trans ?_
  funext a
  refine Fin.ext ?_
  fin_cases a
  · rfl
  · rfl
  · exact (Nat.zero_add _).trans (Nat.one_mul _)

theorem squeezed_row {m : Memref sig .tc .vmem S2x8x512 .f32} (hm : m.IsWhole) (X : Vec F S2x8x512 .f32) (b : Fin 2) (inb) (inb') (hn) :
    View.readAt (Elt F) ((m.slice (Rect.unit (s := S2x8x512) ![b.val, 0, 0] S1x8x512.size inb) (fun _ => rfl)).squeeze S8x512 hn).view
      (Rect.unit (s := S8x512) ![7, 0] S1x512.size inb').toLoadRect (hm.unread X) = fun j => X (ix3 b 7 (j 1)) := by
  funext j
  refine (hm.readAt_slice_reshape_unread X _ _ _ j).trans (congrArg X ?_)
  have h0 : (j 0).val = 0 := Nat.lt_one_iff.mp (j 0).isLt
  have e : (Rect.unit (s := S8x512) ![7, 0] S1x512.size inb').toLoadRect.idx j = ix2 (7 : Fin 8) (j 1) := by
    funext a
    refine Fin.ext ?_
    fin_cases a
    · show 7 + 1 * (j 0).val = 7
      rw [h0]
    · exact (Nat.zero_add _).trans (Nat.one_mul _)
  refine (congrArg (fun t => (Rect.unit (s := S2x8x512) ![b.val, 0, 0] S1x8x512.size inb).emb (Shape.reshapeEquiv hn.numel_eq t)) e).trans ?_
  refine (congrArg _ (ValueIdx.reshapeEquiv_ix2_1ab _ (7 : Fin 8) (j 1))).trans ?_
  funext a
  refine Fin.ext ?_
  fin_cases a
  · rfl
  · rfl
  · exact (Nat.zero_add _).trans (Nat.one_mul _)

/-- A load at literal offsets, read at an index: each coordinate is the offset plus the index's. -/
theorem coord0 {n : ℕ} : 0 + 1 * n = n := by omega

section

variable (c : Dev nD) (i : grid0.Coords) (e2 : Memref sig .tc .vmem S2x128x128 .f32) (k2 : e2.IsWhole) (e3 : Memref sig .tc .vmem S2x128x128 .f32) (k3 : e3.IsWhole) (e4 : Memref sig .tc .vmem S2x128x128 .f32) (k4 : e4.IsWhole) (e5 : Memref sig .tc .vmem S2x128x512 .f32) (k5 : e5.IsWhole) (e6 : Memref sig .tc .vmem S2x128x512 .f32) (k6 : e6.IsWhole) (e7 : Memref sig .tc .vmem S2x8x512 .f32) (k7 : e7.IsWhole) (e8 : Memref sig .tc .vmem S2x8x512 .f32) (k8 : e8.IsWhole) (e9 : Memref sig .tc .vmem S1x128x512 .bf16) (k9 : e9.IsWhole) (e10 : Memref sig .tc .vmem S1x128x512 .bf16) (k10 : e10.IsWhole) (e11 : Memref sig .tc .vmem S8x512 .f32) (k11 : e11.IsWhole) (e12 : Memref sig .tc .vmem S8x512 .f32) (k12 : e12.IsWhole) (e13 : Memref sig .tc .vmem S8x512 .f32) (k13 : e13.IsWhole) (e14 : Memref sig .tc .vmem S8x512 .f32) (k14 : e14.IsWhole) (e15 : Memref sig .tc .vmem S1x512x128 .bf16) (k15 : e15.IsWhole) (e16 : Memref sig .tc .vmem S1x512x128 .bf16) (k16 : e16.IsWhole) (e17 : Memref sig .tc .vmem S1x128 .f32) (k17 : e17.IsWhole) (e18 : Memref sig .tc .vmem S2x128x128 .bf16) (k18 : e18.IsWhole) (e19 : Memref sig .tc .vmem S1x128 .f32) (k19 : e19.IsWhole) (e20 : Memref sig .tc .vmem S1x512x128 .f32) (k20 : e20.IsWhole) (e21 : Memref sig .tc .vmem S1x512x128 .f32) (k21 : e21.IsWhole) (e22 : Memref sig .tc .vmem S1x128x512 .f32) (k22 : e22.IsWhole) (e23 : Memref sig .tc .vmem S1x128x512 .f32) (k23 : e23.IsWhole) (e24 : Memref sig .tc .vmem S1x512 .f32) (k24 : e24.IsWhole) (e25 : Memref sig .tc .vmem S1x512 .f32) (k25 : e25.IsWhole) (e26 : Memref sig .tc .vmem S2x1x512 .f32) (k26 : e26.IsWhole) (e27 : Memref sig .tc .vmem S2x1x512 .f32) (k27 : e27.IsWhole)
  (x0 : Vec F S2x128x128 .f32) (x1 : Vec F S2x128x128 .f32) (x2 : Vec F S2x128x128 .f32) (x3 : Vec F S2x128x512 .f32) (x4 : Vec F S2x128x512 .f32) (x5 : Vec F S2x8x512 .f32) (x6 : Vec F S2x8x512 .f32) (x7 : Vec F S1x128x512 .bf16) (x8 : Vec F S1x128x512 .bf16) (x9 : Vec F S8x512 .f32) (x10 : Vec F S8x512 .f32) (x11 : Vec F S8x512 .f32) (x12 : Vec F S8x512 .f32) (x13 : Vec F S1x512x128 .bf16) (x14 : Vec F S1x512x128 .bf16) (x15 : Vec F S1x128 .f32)

/-- The loads of batch element 0, as the run takes them. -/
def raw0 : Bt F :=
  ⟨View.readAt (Elt F) e2.view (Rect.unit (s := S2x128x128) ![0, 0, 0] S1x128x128.size inb_S2x128x128_S1x128x128_0_0_0).toLoadRect (k2.unread x0),
   View.readAt (Elt F) e3.view (Rect.unit (s := S2x128x128) ![0, 0, 0] S1x128x128.size inb_S2x128x128_S1x128x128_0_0_0).toLoadRect (k3.unread x1),
   View.readAt (Elt F) e4.view (Rect.unit (s := S2x128x128) ![0, 0, 0] S1x128x128.size inb_S2x128x128_S1x128x128_0_0_0).toLoadRect (k4.unread x2),
   View.readAt (Elt F) e5.view (Rect.unit (s := S2x128x512) ![0, 0, 0] S1x128x512.size inb_S2x128x512_S1x128x512_0_0_0).toLoadRect (k5.unread x3),
   View.readAt (Elt F) e6.view (Rect.unit (s := S2x128x512) ![0, 0, 0] S1x128x512.size inb_S2x128x512_S1x128x512_0_0_0).toLoadRect (k6.unread x4),
   View.readAt (Elt F) ((e7.slice (Rect.unit (s := S2x8x512) ![0, 0, 0] S1x8x512.size inb_S2x8x512_S1x8x512_0_0_0) (fun _ => rfl)).squeeze S8x512 squeezes_S1x8x512_S8x512).view (Rect.unit (s := S8x512) ![7, 0] S1x512.size inb_S8x512_S1x512_7_0).toLoadRect (k7.unread x5),
   View.readAt (Elt F) ((e8.slice (Rect.unit (s := S2x8x512) ![0, 0, 0] S1x8x512.size inb_S2x8x512_S1x8x512_0_0_0) (fun _ => rfl)).squeeze S8x512 squeezes_S1x8x512_S8x512).view (Rect.unit (s := S8x512) ![7, 0] S1x512.size inb_S8x512_S1x512_7_0).toLoadRect (k8.unread x6)⟩

/-- The loads of batch element 1, as the run takes them. -/
def raw1 : Bt F :=
  ⟨View.readAt (Elt F) e2.view (Rect.unit (s := S2x128x128) ![1, 0, 0] S1x128x128.size inb_S2x128x128_S1x128x128_1_0_0).toLoadRect (k2.unread x0),
   View.readAt (Elt F) e3.view (Rect.unit (s := S2x128x128) ![1, 0, 0] S1x128x128.size inb_S2x128x128_S1x128x128_1_0_0).toLoadRect (k3.unread x1),
   View.readAt (Elt F) e4.view (Rect.unit (s := S2x128x128) ![1, 0, 0] S1x128x128.size inb_S2x128x128_S1x128x128_1_0_0).toLoadRect (k4.unread x2),
   View.readAt (Elt F) e5.view (Rect.unit (s := S2x128x512) ![1, 0, 0] S1x128x512.size inb_S2x128x512_S1x128x512_1_0_0).toLoadRect (k5.unread x3),
   View.readAt (Elt F) e6.view (Rect.unit (s := S2x128x512) ![1, 0, 0] S1x128x512.size inb_S2x128x512_S1x128x512_1_0_0).toLoadRect (k6.unread x4),
   View.readAt (Elt F) ((e7.slice (Rect.unit (s := S2x8x512) ![1, 0, 0] S1x8x512.size inb_S2x8x512_S1x8x512_1_0_0) (fun _ => rfl)).squeeze S8x512 squeezes_S1x8x512_S8x512).view (Rect.unit (s := S8x512) ![7, 0] S1x512.size inb_S8x512_S1x512_7_0).toLoadRect (k7.unread x5),
   View.readAt (Elt F) ((e8.slice (Rect.unit (s := S2x8x512) ![1, 0, 0] S1x8x512.size inb_S2x8x512_S1x8x512_1_0_0) (fun _ => rfl)).squeeze S8x512 squeezes_S1x8x512_S8x512).view (Rect.unit (s := S8x512) ![7, 0] S1x512.size inb_S8x512_S1x512_7_0).toLoadRect (k8.unread x6)⟩

/-- The loads shared by both batch elements, as the run takes them. -/
def rawT : Tb F :=
  ⟨View.readAt (Elt F) e9.view (Rect.unit (s := S1x128x512) ![0, 0, 0] S1x128x512.size inb_S1x128x512_S1x128x512_0_0_0).toLoadRect (k9.unread x7),
   View.readAt (Elt F) e10.view (Rect.unit (s := S1x128x512) ![0, 0, 0] S1x128x512.size inb_S1x128x512_S1x128x512_0_0_0).toLoadRect (k10.unread x8),
   View.readAt (Elt F) e11.view (Rect.unit (s := S8x512) ![0, 0] S8x512.size inb_S8x512_S8x512_0_0).toLoadRect (k11.unread x9),
   View.readAt (Elt F) e12.view (Rect.unit (s := S8x512) ![0, 0] S8x512.size inb_S8x512_S8x512_0_0).toLoadRect (k12.unread x10),
   View.readAt (Elt F) e13.view (Rect.unit (s := S8x512) ![0, 0] S1x512.size inb_S8x512_S1x512_0_0).toLoadRect (k13.unread x11),
   View.readAt (Elt F) e14.view (Rect.unit (s := S8x512) ![0, 0] S1x512.size inb_S8x512_S1x512_0_0).toLoadRect (k14.unread x12),
   View.readAt (Elt F) e13.view (Rect.unit (s := S8x512) ![1, 0] S1x512.size inb_S8x512_S1x512_1_0).toLoadRect (k13.unread x11),
   View.readAt (Elt F) e14.view (Rect.unit (s := S8x512) ![1, 0] S1x512.size inb_S8x512_S1x512_1_0).toLoadRect (k14.unread x12),
   View.readAt (Elt F) e13.view (Rect.unit (s := S8x512) ![2, 0] S1x512.size inb_S8x512_S1x512_2_0).toLoadRect (k13.unread x11),
   View.readAt (Elt F) e14.view (Rect.unit (s := S8x512) ![2, 0] S1x512.size inb_S8x512_S1x512_2_0).toLoadRect (k14.unread x12),
   View.readAt (Elt F) e15.view (Rect.unit (s := S1x512x128) ![0, 0, 0] S1x512x128.size inb_S1x512x128_S1x512x128_0_0_0).toLoadRect (k15.unread x13),
   View.readAt (Elt F) e16.view (Rect.unit (s := S1x512x128) ![0, 0, 0] S1x512x128.size inb_S1x512x128_S1x512x128_0_0_0).toLoadRect (k16.unread x14),
   View.readAt (Elt F) e17.view (Rect.unit (s := S1x128) ![0, 0] S1x128.size inb_S1x128_S1x128_0_0).toLoadRect (k17.unread x15),
   Scalar.cmpi .eq (BitVec.ofNat 32 (i 1).val) 16#32⟩

theorem raw0_eq : raw0 e2 k2 e3 k3 e4 k4 e5 k5 e6 k6 e7 k7 e8 k8 x0 x1 x2 x3 x4 x5 x6 = bt x0 x1 x2 x3 x4 x5 x6 0 := by
  unfold raw0 bt
  congr 1
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · exact squeezed_row k7 x5 0 _ _ _
  · exact squeezed_row k8 x6 0 _ _ _

theorem raw1_eq : raw1 e2 k2 e3 k3 e4 k4 e5 k5 e6 k6 e7 k7 e8 k8 x0 x1 x2 x3 x4 x5 x6 = bt x0 x1 x2 x3 x4 x5 x6 1 := by
  unfold raw1 bt
  congr 1
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · exact squeezed_row k7 x5 1 _ _ _
  · exact squeezed_row k8 x6 1 _ _ _

theorem rawT_eq : rawT i e9 k9 e10 k10 e11 k11 e12 k12 e13 k13 e14 k14 e15 k15 e16 k16 e17 k17 x7 x8 x9 x10 x11 x12 x13 x14 x15 = tb i x7 x8 x9 x10 x11 x12 x13 x14 x15 := by
  unfold rawT tb
  congr 1
  · funext j
    refine (Memref.IsWhole.readAt_unread _ _ _ _).trans (congrArg _ (funext fun a => Fin.ext ?_))
    fin_cases a <;> exact (Nat.zero_add _).trans (Nat.one_mul _)
  · funext j
    refine (Memref.IsWhole.readAt_unread _ _ _ _).trans (congrArg _ (funext fun a => Fin.ext ?_))
    fin_cases a <;> exact (Nat.zero_add _).trans (Nat.one_mul _)
  · funext j
    refine (Memref.IsWhole.readAt_unread _ _ _ _).trans (congrArg _ (funext fun a => Fin.ext ?_))
    fin_cases a <;> exact (Nat.zero_add _).trans (Nat.one_mul _)
  · funext j
    refine (Memref.IsWhole.readAt_unread _ _ _ _).trans (congrArg _ (funext fun a => Fin.ext ?_))
    fin_cases a <;> exact (Nat.zero_add _).trans (Nat.one_mul _)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    have h0 : (j 0).val = 0 := Nat.lt_one_iff.mp (j 0).isLt
    fin_cases a <;> first
      | exact (Nat.zero_add _).trans (Nat.one_mul _)
      | exact (congrArg (fun t => _ + 1 * t) h0)
  · funext j
    refine (Memref.IsWhole.readAt_unread _ _ _ _).trans (congrArg _ (funext fun a => Fin.ext ?_))
    fin_cases a <;> exact (Nat.zero_add _).trans (Nat.one_mul _)
  · funext j
    refine (Memref.IsWhole.readAt_unread _ _ _ _).trans (congrArg _ (funext fun a => Fin.ext ?_))
    fin_cases a <;> exact (Nat.zero_add _).trans (Nat.one_mul _)
  · funext j
    refine (Memref.IsWhole.readAt_unread _ _ _ _).trans (congrArg _ (funext fun a => Fin.ext ?_))
    fin_cases a <;> exact (Nat.zero_add _).trans (Nat.one_mul _)

end

end Cert.KernelIdeal.S5

end
-- ==== Proof.S5.StepA.lean ====
/- What the two cases of a grid step leave, read out of the run: each accumulator takes both batch elements' parts, the
   first step of a head from zero, a later one from what the step before left. -/
module

public import proofs.«01_k».proof.Proof.S5.Step
public import proofs.«01_k».proof.Proof.S5.Frame
public import proofs.«01_k».proof.Proof.S5.Body
public import Idealize.ShloMosaic.Lib.WholeRead
public import Idealize.ShloMosaic.Lib.Pipeline.ReadBack
public import Idealize.ShloMosaic.Lib.Pipeline.ValueKit.Acc
public import Idealize.ShloMosaic.Lib.Pointwise
public import Idealize.ShloMosaic.Lib.ValueLayout

@[expose] public section

set_option maxRecDepth 16384

noncomputable section

namespace Cert.KernelIdeal.S5

open Idealize.ShloMosaic Idealize.ShloMosaic.TcCoe Idealize.SL.Sem
open Cert.KernelIdeal.Gen

variable {F : FTy → Type} [FloatOps F] [Named F]

section

variable (c : Dev nD) (i : grid0.Coords) (e2 : Memref sig .tc .vmem S2x128x128 .f32) (k2 : e2.IsWhole) (e3 : Memref sig .tc .vmem S2x128x128 .f32) (k3 : e3.IsWhole) (e4 : Memref sig .tc .vmem S2x128x128 .f32) (k4 : e4.IsWhole) (e5 : Memref sig .tc .vmem S2x128x512 .f32) (k5 : e5.IsWhole) (e6 : Memref sig .tc .vmem S2x128x512 .f32) (k6 : e6.IsWhole) (e7 : Memref sig .tc .vmem S2x8x512 .f32) (k7 : e7.IsWhole) (e8 : Memref sig .tc .vmem S2x8x512 .f32) (k8 : e8.IsWhole) (e9 : Memref sig .tc .vmem S1x128x512 .bf16) (k9 : e9.IsWhole) (e10 : Memref sig .tc .vmem S1x128x512 .bf16) (k10 : e10.IsWhole) (e11 : Memref sig .tc .vmem S8x512 .f32) (k11 : e11.IsWhole) (e12 : Memref sig .tc .vmem S8x512 .f32) (k12 : e12.IsWhole) (e13 : Memref sig .tc .vmem S8x512 .f32) (k13 : e13.IsWhole) (e14 : Memref sig .tc .vmem S8x512 .f32) (k14 : e14.IsWhole) (e15 : Memref sig .tc .vmem S1x512x128 .bf16) (k15 : e15.IsWhole) (e16 : Memref sig .tc .vmem S1x512x128 .bf16) (k16 : e16.IsWhole) (e17 : Memref sig .tc .vmem S1x128 .f32) (k17 : e17.IsWhole) (e18 : Memref sig .tc .vmem S2x128x128 .bf16) (k18 : e18.IsWhole) (e19 : Memref sig .tc .vmem S1x128 .f32) (k19 : e19.IsWhole) (e20 : Memref sig .tc .vmem S1x512x128 .f32) (k20 : e20.IsWhole) (e21 : Memref sig .tc .vmem S1x512x128 .f32) (k21 : e21.IsWhole) (e22 : Memref sig .tc .vmem S1x128x512 .f32) (k22 : e22.IsWhole) (e23 : Memref sig .tc .vmem S1x128x512 .f32) (k23 : e23.IsWhole) (e24 : Memref sig .tc .vmem S1x512 .f32) (k24 : e24.IsWhole) (e25 : Memref sig .tc .vmem S1x512 .f32) (k25 : e25.IsWhole) (e26 : Memref sig .tc .vmem S2x1x512 .f32) (k26 : e26.IsWhole) (e27 : Memref sig .tc .vmem S2x1x512 .f32) (k27 : e27.IsWhole)
  (x0 : Vec F S2x128x128 .f32) (x1 : Vec F S2x128x128 .f32) (x2 : Vec F S2x128x128 .f32) (x3 : Vec F S2x128x512 .f32) (x4 : Vec F S2x128x512 .f32) (x5 : Vec F S2x8x512 .f32) (x6 : Vec F S2x8x512 .f32) (x7 : Vec F S1x128x512 .bf16) (x8 : Vec F S1x128x512 .bf16) (x9 : Vec F S8x512 .f32) (x10 : Vec F S8x512 .f32) (x11 : Vec F S8x512 .f32) (x12 : Vec F S8x512 .f32) (x13 : Vec F S1x512x128 .bf16) (x14 : Vec F S1x512x128 .bf16) (x15 : Vec F S1x128 .f32)

set_option maxHeartbeats 8000000 in
theorem runA0 : (kernelRun0_A.sl.v433 (F := F) c e2 k2 e3 k3 e11 k11 e12 k12 e13 k13 e14 k14 e15 k15 e16 k16 e26 e27 x0 x1 x9 x10 x11 x12 x13 x14) = lamR (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) ∧
    (kernelRun0_A.sl.v434 (F := F) c e2 k2 e3 k3 e11 k11 e12 k12 e13 k13 e14 k14 e15 k15 e16 k16 e26 e27 x0 x1 x9 x10 x11 x12 x13 x14) = lamI (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) ∧
    (kernelRun0_A.sl.v437 (F := F) c e2 k2 e3 k3 e11 k11 e12 k12 e13 k13 e14 k14 e15 k15 e16 k16 e26 e27 x0 x1 x9 x10 x11 x12 x13 x14) = outR (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) ∧
    (kernelRun0_A.sl.v440 (F := F) c e2 k2 e3 k3 e11 k11 e12 k12 e13 k13 e14 k14 e15 k15 e16 k16 e26 e27 x0 x1 x9 x10 x11 x12 x13 x14) = outI (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) ∧
    (kernelRun0_A.sl.v491 (F := F) c i e5 k5 e7 k7 x3 x5) = xpr (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) ∧ (kernelRun0_A.sl.v497 (F := F) c i e6 k6 e8 k8 x4 x6) = xpi (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := by
  have ar : (kernelRun0_A.sl.v68 (F := F) c e2 k2 e3 k3 e15 k15 x0 x1 x13) = l0r (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := rfl
  have ai : (kernelRun0_A.sl.v73 (F := F) c e2 k2 e3 k3 e16 k16 x0 x1 x14) = l0i (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := rfl
  have s1r : (kernelRun0_A.sl.v110 (F := F) c e2 k2 e3 k3 e13 k13 e14 k14 e15 k15 e16 k16 x0 x1 x11 x12 x13 x14) = _ := (stage1r ar ai :)
  have s1i : (kernelRun0_A.sl.v116 (F := F) c e2 k2 e3 k3 e13 k13 e14 k14 e15 k15 e16 k16 x0 x1 x11 x12 x13 x14) = _ := (stage1i ar ai :)
  have s2r : (kernelRun0_A.sl.v136 (F := F) c e2 k2 e3 k3 e13 k13 e14 k14 e15 k15 e16 k16 x0 x1 x11 x12 x13 x14) = _ := (stage2r s1r s1i :)
  have s2i : (kernelRun0_A.sl.v142 (F := F) c e2 k2 e3 k3 e13 k13 e14 k14 e15 k15 e16 k16 x0 x1 x11 x12 x13 x14) = _ := (stage2i s1r s1i :)
  have s3r : (kernelRun0_A.sl.v162 (F := F) c e2 k2 e3 k3 e13 k13 e14 k14 e15 k15 e16 k16 x0 x1 x11 x12 x13 x14) = _ := (stage3r s2r s2i :)
  have s3i : (kernelRun0_A.sl.v168 (F := F) c e2 k2 e3 k3 e13 k13 e14 k14 e15 k15 e16 k16 x0 x1 x11 x12 x13 x14) = _ := (stage3i s2r s2i :)
  have cr : (kernelRun0_A.sl.v170 (F := F) c e26) = (zero S1x512) := c1_row0 e26.view
  have ci : (kernelRun0_A.sl.v172 (F := F) c e27) = (zero S1x512) := c1_row0 e27.view
  have h0r : (kernelRun0_A.sl.v184 (F := F) c e2 k2 e3 k3 e11 k11 e12 k12 e13 k13 e14 k14 e15 k15 e16 k16 e26 e27 x0 x1 x9 x10 x11 x12 x13 x14) = _ := (firstr s3r cr ci :)
  have h0i : (kernelRun0_A.sl.v190 (F := F) c e2 k2 e3 k3 e11 k11 e12 k12 e13 k13 e14 k14 e15 k15 e16 k16 e26 e27 x0 x1 x9 x10 x11 x12 x13 x14) = _ := (firsti s3i cr ci :)
  have h1r : (kernelRun0_A.sl.v200 (F := F) c e2 k2 e3 k3 e11 k11 e12 k12 e13 k13 e14 k14 e15 k15 e16 k16 e26 e27 x0 x1 x9 x10 x11 x12 x13 x14) = _ := (nextr 0 s3r h0r h0i :)
  have h1i : (kernelRun0_A.sl.v206 (F := F) c e2 k2 e3 k3 e11 k11 e12 k12 e13 k13 e14 k14 e15 k15 e16 k16 e26 e27 x0 x1 x9 x10 x11 x12 x13 x14) = _ := (nexti 0 s3i h0r h0i :)
  have h2r : (kernelRun0_A.sl.v216 (F := F) c e2 k2 e3 k3 e11 k11 e12 k12 e13 k13 e14 k14 e15 k15 e16 k16 e26 e27 x0 x1 x9 x10 x11 x12 x13 x14) = _ := (nextr 1 s3r h1r h1i :)
  have h2i : (kernelRun0_A.sl.v222 (F := F) c e2 k2 e3 k3 e11 k11 e12 k12 e13 k13 e14 k14 e15 k15 e16 k16 e26 e27 x0 x1 x9 x10 x11 x12 x13 x14) = _ := (nexti 1 s3i h1r h1i :)
  have h3r : (kernelRun0_A.sl.v232 (F := F) c e2 k2 e3 k3 e11 k11 e12 k12 e13 k13 e14 k14 e15 k15 e16 k16 e26 e27 x0 x1 x9 x10 x11 x12 x13 x14) = _ := (nextr 2 s3r h2r h2i :)
  have h3i : (kernelRun0_A.sl.v238 (F := F) c e2 k2 e3 k3 e11 k11 e12 k12 e13 k13 e14 k14 e15 k15 e16 k16 e26 e27 x0 x1 x9 x10 x11 x12 x13 x14) = _ := (nexti 2 s3i h2r h2i :)
  have h4r : (kernelRun0_A.sl.v248 (F := F) c e2 k2 e3 k3 e11 k11 e12 k12 e13 k13 e14 k14 e15 k15 e16 k16 e26 e27 x0 x1 x9 x10 x11 x12 x13 x14) = _ := (nextr 3 s3r h3r h3i :)
  have h4i : (kernelRun0_A.sl.v254 (F := F) c e2 k2 e3 k3 e11 k11 e12 k12 e13 k13 e14 k14 e15 k15 e16 k16 e26 e27 x0 x1 x9 x10 x11 x12 x13 x14) = _ := (nexti 3 s3i h3r h3i :)
  have h5r : (kernelRun0_A.sl.v264 (F := F) c e2 k2 e3 k3 e11 k11 e12 k12 e13 k13 e14 k14 e15 k15 e16 k16 e26 e27 x0 x1 x9 x10 x11 x12 x13 x14) = _ := (nextr 4 s3r h4r h4i :)
  have h5i : (kernelRun0_A.sl.v270 (F := F) c e2 k2 e3 k3 e11 k11 e12 k12 e13 k13 e14 k14 e15 k15 e16 k16 e26 e27 x0 x1 x9 x10 x11 x12 x13 x14) = _ := (nexti 4 s3i h4r h4i :)
  have h6r : (kernelRun0_A.sl.v280 (F := F) c e2 k2 e3 k3 e11 k11 e12 k12 e13 k13 e14 k14 e15 k15 e16 k16 e26 e27 x0 x1 x9 x10 x11 x12 x13 x14) = _ := (nextr 5 s3r h5r h5i :)
  have h6i : (kernelRun0_A.sl.v286 (F := F) c e2 k2 e3 k3 e11 k11 e12 k12 e13 k13 e14 k14 e15 k15 e16 k16 e26 e27 x0 x1 x9 x10 x11 x12 x13 x14) = _ := (nexti 5 s3i h5r h5i :)
  have h7r : (kernelRun0_A.sl.v296 (F := F) c e2 k2 e3 k3 e11 k11 e12 k12 e13 k13 e14 k14 e15 k15 e16 k16 e26 e27 x0 x1 x9 x10 x11 x12 x13 x14) = _ := (nextr 6 s3r h6r h6i :)
  have h7i : (kernelRun0_A.sl.v302 (F := F) c e2 k2 e3 k3 e11 k11 e12 k12 e13 k13 e14 k14 e15 k15 e16 k16 e26 e27 x0 x1 x9 x10 x11 x12 x13 x14) = _ := (nexti 6 s3i h6r h6i :)
  have h8r : (kernelRun0_A.sl.v312 (F := F) c e2 k2 e3 k3 e11 k11 e12 k12 e13 k13 e14 k14 e15 k15 e16 k16 e26 e27 x0 x1 x9 x10 x11 x12 x13 x14) = _ := (nextr 7 s3r h7r h7i :)
  have h8i : (kernelRun0_A.sl.v318 (F := F) c e2 k2 e3 k3 e11 k11 e12 k12 e13 k13 e14 k14 e15 k15 e16 k16 e26 e27 x0 x1 x9 x10 x11 x12 x13 x14) = _ := (nexti 7 s3i h7r h7i :)
  have h9r : (kernelRun0_A.sl.v328 (F := F) c e2 k2 e3 k3 e11 k11 e12 k12 e13 k13 e14 k14 e15 k15 e16 k16 e26 e27 x0 x1 x9 x10 x11 x12 x13 x14) = _ := (nextr 8 s3r h8r h8i :)
  have h9i : (kernelRun0_A.sl.v334 (F := F) c e2 k2 e3 k3 e11 k11 e12 k12 e13 k13 e14 k14 e15 k15 e16 k16 e26 e27 x0 x1 x9 x10 x11 x12 x13 x14) = _ := (nexti 8 s3i h8r h8i :)
  have h10r : (kernelRun0_A.sl.v344 (F := F) c e2 k2 e3 k3 e11 k11 e12 k12 e13 k13 e14 k14 e15 k15 e16 k16 e26 e27 x0 x1 x9 x10 x11 x12 x13 x14) = _ := (nextr 9 s3r h9r h9i :)
  have h10i : (kernelRun0_A.sl.v350 (F := F) c e2 k2 e3 k3 e11 k11 e12 k12 e13 k13 e14 k14 e15 k15 e16 k16 e26 e27 x0 x1 x9 x10 x11 x12 x13 x14) = _ := (nexti 9 s3i h9r h9i :)
  have h11r : (kernelRun0_A.sl.v360 (F := F) c e2 k2 e3 k3 e11 k11 e12 k12 e13 k13 e14 k14 e15 k15 e16 k16 e26 e27 x0 x1 x9 x10 x11 x12 x13 x14) = _ := (nextr 10 s3r h10r h10i :)
  have h11i : (kernelRun0_A.sl.v366 (F := F) c e2 k2 e3 k3 e11 k11 e12 k12 e13 k13 e14 k14 e15 k15 e16 k16 e26 e27 x0 x1 x9 x10 x11 x12 x13 x14) = _ := (nexti 10 s3i h10r h10i :)
  have h12r : (kernelRun0_A.sl.v376 (F := F) c e2 k2 e3 k3 e11 k11 e12 k12 e13 k13 e14 k14 e15 k15 e16 k16 e26 e27 x0 x1 x9 x10 x11 x12 x13 x14) = _ := (nextr 11 s3r h11r h11i :)
  have h12i : (kernelRun0_A.sl.v382 (F := F) c e2 k2 e3 k3 e11 k11 e12 k12 e13 k13 e14 k14 e15 k15 e16 k16 e26 e27 x0 x1 x9 x10 x11 x12 x13 x14) = _ := (nexti 11 s3i h11r h11i :)
  have h13r : (kernelRun0_A.sl.v392 (F := F) c e2 k2 e3 k3 e11 k11 e12 k12 e13 k13 e14 k14 e15 k15 e16 k16 e26 e27 x0 x1 x9 x10 x11 x12 x13 x14) = _ := (nextr 12 s3r h12r h12i :)
  have h13i : (kernelRun0_A.sl.v398 (F := F) c e2 k2 e3 k3 e11 k11 e12 k12 e13 k13 e14 k14 e15 k15 e16 k16 e26 e27 x0 x1 x9 x10 x11 x12 x13 x14) = _ := (nexti 12 s3i h12r h12i :)
  have h14r : (kernelRun0_A.sl.v408 (F := F) c e2 k2 e3 k3 e11 k11 e12 k12 e13 k13 e14 k14 e15 k15 e16 k16 e26 e27 x0 x1 x9 x10 x11 x12 x13 x14) = _ := (nextr 13 s3r h13r h13i :)
  have h14i : (kernelRun0_A.sl.v414 (F := F) c e2 k2 e3 k3 e11 k11 e12 k12 e13 k13 e14 k14 e15 k15 e16 k16 e26 e27 x0 x1 x9 x10 x11 x12 x13 x14) = _ := (nexti 13 s3i h13r h13i :)
  have h15r : (kernelRun0_A.sl.v424 (F := F) c e2 k2 e3 k3 e11 k11 e12 k12 e13 k13 e14 k14 e15 k15 e16 k16 e26 e27 x0 x1 x9 x10 x11 x12 x13 x14) = _ := (nextr 14 s3r h14r h14i :)
  have h15i : (kernelRun0_A.sl.v430 (F := F) c e2 k2 e3 k3 e11 k11 e12 k12 e13 k13 e14 k14 e15 k15 e16 k16 e26 e27 x0 x1 x9 x10 x11 x12 x13 x14) = _ := (nexti 14 s3i h14r h14i :)
  refine ⟨(glued (f := fun k => (chain (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) k).1) h0r h1r h2r h3r h4r h5r h6r h7r h8r h9r h10r h11r h12r h13r h14r h15r :), (glued (f := fun k => (chain (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) k).2) h0i h1i h2i h3i h4i h5i h6i h7i h8i h9i h10i h11i h12i h13i h14i h15i :), ?_, ?_, rfl, rfl⟩
  · exact congrArg (fun w => shapeCast S1x1x512 (top w) shapeCasts_S1x512_S1x1x512) h15r
  · exact congrArg (fun w => shapeCast S1x1x512 (top w) shapeCasts_S1x512_S1x1x512) h15i

set_option maxHeartbeats 8000000 in
theorem runA1 : (kernelRun0_A.sl.v946 (F := F) c e2 k2 e3 k3 e11 k11 e12 k12 e13 k13 e14 k14 e15 k15 e16 k16 e26 e27 x0 x1 x9 x10 x11 x12 x13 x14) = lamR (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) ∧
    (kernelRun0_A.sl.v947 (F := F) c e2 k2 e3 k3 e11 k11 e12 k12 e13 k13 e14 k14 e15 k15 e16 k16 e26 e27 x0 x1 x9 x10 x11 x12 x13 x14) = lamI (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) ∧
    (kernelRun0_A.sl.v950 (F := F) c e2 k2 e3 k3 e11 k11 e12 k12 e13 k13 e14 k14 e15 k15 e16 k16 e26 e27 x0 x1 x9 x10 x11 x12 x13 x14) = outR (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) ∧
    (kernelRun0_A.sl.v953 (F := F) c e2 k2 e3 k3 e11 k11 e12 k12 e13 k13 e14 k14 e15 k15 e16 k16 e26 e27 x0 x1 x9 x10 x11 x12 x13 x14) = outI (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) ∧
    (kernelRun0_A.sl.r_15 (F := F) c i e5 k5 e7 k7 x3 x5) = xpr (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) ∧ (kernelRun0_A.sl.r_16 (F := F) c i e6 k6 e8 k8 x4 x6) = xpi (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := by
  have ar : (kernelRun0_A.sl.v581 (F := F) c e2 k2 e3 k3 e15 k15 x0 x1 x13) = l0r (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := rfl
  have ai : (kernelRun0_A.sl.v586 (F := F) c e2 k2 e3 k3 e16 k16 x0 x1 x14) = l0i (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := rfl
  have s1r : (kernelRun0_A.sl.v623 (F := F) c e2 k2 e3 k3 e13 k13 e14 k14 e15 k15 e16 k16 x0 x1 x11 x12 x13 x14) = _ := (stage1r ar ai :)
  have s1i : (kernelRun0_A.sl.v629 (F := F) c e2 k2 e3 k3 e13 k13 e14 k14 e15 k15 e16 k16 x0 x1 x11 x12 x13 x14) = _ := (stage1i ar ai :)
  have s2r : (kernelRun0_A.sl.v649 (F := F) c e2 k2 e3 k3 e13 k13 e14 k14 e15 k15 e16 k16 x0 x1 x11 x12 x13 x14) = _ := (stage2r s1r s1i :)
  have s2i : (kernelRun0_A.sl.v655 (F := F) c e2 k2 e3 k3 e13 k13 e14 k14 e15 k15 e16 k16 x0 x1 x11 x12 x13 x14) = _ := (stage2i s1r s1i :)
  have s3r : (kernelRun0_A.sl.v675 (F := F) c e2 k2 e3 k3 e13 k13 e14 k14 e15 k15 e16 k16 x0 x1 x11 x12 x13 x14) = _ := (stage3r s2r s2i :)
  have s3i : (kernelRun0_A.sl.v681 (F := F) c e2 k2 e3 k3 e13 k13 e14 k14 e15 k15 e16 k16 x0 x1 x11 x12 x13 x14) = _ := (stage3i s2r s2i :)
  have cr : (kernelRun0_A.sl.v683 (F := F) c e2 k2 e3 k3 e11 k11 e12 k12 e13 k13 e14 k14 e15 k15 e16 k16 e26 e27 x0 x1 x9 x10 x11 x12 x13 x14) = (zero S1x512) := c1_row1 e26.view _
  have ci : (kernelRun0_A.sl.v685 (F := F) c e2 k2 e3 k3 e11 k11 e12 k12 e13 k13 e14 k14 e15 k15 e16 k16 e26 e27 x0 x1 x9 x10 x11 x12 x13 x14) = (zero S1x512) := c1_row1 e27.view _
  have h0r : (kernelRun0_A.sl.v697 (F := F) c e2 k2 e3 k3 e11 k11 e12 k12 e13 k13 e14 k14 e15 k15 e16 k16 e26 e27 x0 x1 x9 x10 x11 x12 x13 x14) = _ := (firstr s3r cr ci :)
  have h0i : (kernelRun0_A.sl.v703 (F := F) c e2 k2 e3 k3 e11 k11 e12 k12 e13 k13 e14 k14 e15 k15 e16 k16 e26 e27 x0 x1 x9 x10 x11 x12 x13 x14) = _ := (firsti s3i cr ci :)
  have h1r : (kernelRun0_A.sl.v713 (F := F) c e2 k2 e3 k3 e11 k11 e12 k12 e13 k13 e14 k14 e15 k15 e16 k16 e26 e27 x0 x1 x9 x10 x11 x12 x13 x14) = _ := (nextr 0 s3r h0r h0i :)
  have h1i : (kernelRun0_A.sl.v719 (F := F) c e2 k2 e3 k3 e11 k11 e12 k12 e13 k13 e14 k14 e15 k15 e16 k16 e26 e27 x0 x1 x9 x10 x11 x12 x13 x14) = _ := (nexti 0 s3i h0r h0i :)
  have h2r : (kernelRun0_A.sl.v729 (F := F) c e2 k2 e3 k3 e11 k11 e12 k12 e13 k13 e14 k14 e15 k15 e16 k16 e26 e27 x0 x1 x9 x10 x11 x12 x13 x14) = _ := (nextr 1 s3r h1r h1i :)
  have h2i : (kernelRun0_A.sl.v735 (F := F) c e2 k2 e3 k3 e11 k11 e12 k12 e13 k13 e14 k14 e15 k15 e16 k16 e26 e27 x0 x1 x9 x10 x11 x12 x13 x14) = _ := (nexti 1 s3i h1r h1i :)
  have h3r : (kernelRun0_A.sl.v745 (F := F) c e2 k2 e3 k3 e11 k11 e12 k12 e13 k13 e14 k14 e15 k15 e16 k16 e26 e27 x0 x1 x9 x10 x11 x12 x13 x14) = _ := (nextr 2 s3r h2r h2i :)
  have h3i : (kernelRun0_A.sl.v751 (F := F) c e2 k2 e3 k3 e11 k11 e12 k12 e13 k13 e14 k14 e15 k15 e16 k16 e26 e27 x0 x1 x9 x10 x11 x12 x13 x14) = _ := (nexti 2 s3i h2r h2i :)
  have h4r : (kernelRun0_A.sl.v761 (F := F) c e2 k2 e3 k3 e11 k11 e12 k12 e13 k13 e14 k14 e15 k15 e16 k16 e26 e27 x0 x1 x9 x10 x11 x12 x13 x14) = _ := (nextr 3 s3r h3r h3i :)
  have h4i : (kernelRun0_A.sl.v767 (F := F) c e2 k2 e3 k3 e11 k11 e12 k12 e13 k13 e14 k14 e15 k15 e16 k16 e26 e27 x0 x1 x9 x10 x11 x12 x13 x14) = _ := (nexti 3 s3i h3r h3i :)
  have h5r : (kernelRun0_A.sl.v777 (F := F) c e2 k2 e3 k3 e11 k11 e12 k12 e13 k13 e14 k14 e15 k15 e16 k16 e26 e27 x0 x1 x9 x10 x11 x12 x13 x14) = _ := (nextr 4 s3r h4r h4i :)
  have h5i : (kernelRun0_A.sl.v783 (F := F) c e2 k2 e3 k3 e11 k11 e12 k12 e13 k13 e14 k14 e15 k15 e16 k16 e26 e27 x0 x1 x9 x10 x11 x12 x13 x14) = _ := (nexti 4 s3i h4r h4i :)
  have h6r : (kernelRun0_A.sl.v793 (F := F) c e2 k2 e3 k3 e11 k11 e12 k12 e13 k13 e14 k14 e15 k15 e16 k16 e26 e27 x0 x1 x9 x10 x11 x12 x13 x14) = _ := (nextr 5 s3r h5r h5i :)
  have h6i : (kernelRun0_A.sl.v799 (F := F) c e2 k2 e3 k3 e11 k11 e12 k12 e13 k13 e14 k14 e15 k15 e16 k16 e26 e27 x0 x1 x9 x10 x11 x12 x13 x14) = _ := (nexti 5 s3i h5r h5i :)
  have h7r : (kernelRun0_A.sl.v809 (F := F) c e2 k2 e3 k3 e11 k11 e12 k12 e13 k13 e14 k14 e15 k15 e16 k16 e26 e27 x0 x1 x9 x10 x11 x12 x13 x14) = _ := (nextr 6 s3r h6r h6i :)
  have h7i : (kernelRun0_A.sl.v815 (F := F) c e2 k2 e3 k3 e11 k11 e12 k12 e13 k13 e14 k14 e15 k15 e16 k16 e26 e27 x0 x1 x9 x10 x11 x12 x13 x14) = _ := (nexti 6 s3i h6r h6i :)
  have h8r : (kernelRun0_A.sl.v825 (F := F) c e2 k2 e3 k3 e11 k11 e12 k12 e13 k13 e14 k14 e15 k15 e16 k16 e26 e27 x0 x1 x9 x10 x11 x12 x13 x14) = _ := (nextr 7 s3r h7r h7i :)
  have h8i : (kernelRun0_A.sl.v831 (F := F) c e2 k2 e3 k3 e11 k11 e12 k12 e13 k13 e14 k14 e15 k15 e16 k16 e26 e27 x0 x1 x9 x10 x11 x12 x13 x14) = _ := (nexti 7 s3i h7r h7i :)
  have h9r : (kernelRun0_A.sl.v841 (F := F) c e2 k2 e3 k3 e11 k11 e12 k12 e13 k13 e14 k14 e15 k15 e16 k16 e26 e27 x0 x1 x9 x10 x11 x12 x13 x14) = _ := (nextr 8 s3r h8r h8i :)
  have h9i : (kernelRun0_A.sl.v847 (F := F) c e2 k2 e3 k3 e11 k11 e12 k12 e13 k13 e14 k14 e15 k15 e16 k16 e26 e27 x0 x1 x9 x10 x11 x12 x13 x14) = _ := (nexti 8 s3i h8r h8i :)
  have h10r : (kernelRun0_A.sl.v857 (F := F) c e2 k2 e3 k3 e11 k11 e12 k12 e13 k13 e14 k14 e15 k15 e16 k16 e26 e27 x0 x1 x9 x10 x11 x12 x13 x14) = _ := (nextr 9 s3r h9r h9i :)
  have h10i : (kernelRun0_A.sl.v863 (F := F) c e2 k2 e3 k3 e11 k11 e12 k12 e13 k13 e14 k14 e15 k15 e16 k16 e26 e27 x0 x1 x9 x10 x11 x12 x13 x14) = _ := (nexti 9 s3i h9r h9i :)
  have h11r : (kernelRun0_A.sl.v873 (F := F) c e2 k2 e3 k3 e11 k11 e12 k12 e13 k13 e14 k14 e15 k15 e16 k16 e26 e27 x0 x1 x9 x10 x11 x12 x13 x14) = _ := (nextr 10 s3r h10r h10i :)
  have h11i : (kernelRun0_A.sl.v879 (F := F) c e2 k2 e3 k3 e11 k11 e12 k12 e13 k13 e14 k14 e15 k15 e16 k16 e26 e27 x0 x1 x9 x10 x11 x12 x13 x14) = _ := (nexti 10 s3i h10r h10i :)
  have h12r : (kernelRun0_A.sl.v889 (F := F) c e2 k2 e3 k3 e11 k11 e12 k12 e13 k13 e14 k14 e15 k15 e16 k16 e26 e27 x0 x1 x9 x10 x11 x12 x13 x14) = _ := (nextr 11 s3r h11r h11i :)
  have h12i : (kernelRun0_A.sl.v895 (F := F) c e2 k2 e3 k3 e11 k11 e12 k12 e13 k13 e14 k14 e15 k15 e16 k16 e26 e27 x0 x1 x9 x10 x11 x12 x13 x14) = _ := (nexti 11 s3i h11r h11i :)
  have h13r : (kernelRun0_A.sl.v905 (F := F) c e2 k2 e3 k3 e11 k11 e12 k12 e13 k13 e14 k14 e15 k15 e16 k16 e26 e27 x0 x1 x9 x10 x11 x12 x13 x14) = _ := (nextr 12 s3r h12r h12i :)
  have h13i : (kernelRun0_A.sl.v911 (F := F) c e2 k2 e3 k3 e11 k11 e12 k12 e13 k13 e14 k14 e15 k15 e16 k16 e26 e27 x0 x1 x9 x10 x11 x12 x13 x14) = _ := (nexti 12 s3i h12r h12i :)
  have h14r : (kernelRun0_A.sl.v921 (F := F) c e2 k2 e3 k3 e11 k11 e12 k12 e13 k13 e14 k14 e15 k15 e16 k16 e26 e27 x0 x1 x9 x10 x11 x12 x13 x14) = _ := (nextr 13 s3r h13r h13i :)
  have h14i : (kernelRun0_A.sl.v927 (F := F) c e2 k2 e3 k3 e11 k11 e12 k12 e13 k13 e14 k14 e15 k15 e16 k16 e26 e27 x0 x1 x9 x10 x11 x12 x13 x14) = _ := (nexti 13 s3i h13r h13i :)
  have h15r : (kernelRun0_A.sl.v937 (F := F) c e2 k2 e3 k3 e11 k11 e12 k12 e13 k13 e14 k14 e15 k15 e16 k16 e26 e27 x0 x1 x9 x10 x11 x12 x13 x14) = _ := (nextr 14 s3r h14r h14i :)
  have h15i : (kernelRun0_A.sl.v943 (F := F) c e2 k2 e3 k3 e11 k11 e12 k12 e13 k13 e14 k14 e15 k15 e16 k16 e26 e27 x0 x1 x9 x10 x11 x12 x13 x14) = _ := (nexti 14 s3i h14r h14i :)
  refine ⟨(glued (f := fun k => (chain (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) k).1) h0r h1r h2r h3r h4r h5r h6r h7r h8r h9r h10r h11r h12r h13r h14r h15r :), (glued (f := fun k => (chain (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) k).2) h0i h1i h2i h3i h4i h5i h6i h7i h8i h9i h10i h11i h12i h13i h14i h15i :), ?_, ?_, rfl, rfl⟩
  · exact congrArg (fun w => shapeCast S1x1x512 (top w) shapeCasts_S1x512_S1x1x512) h15r
  · exact congrArg (fun w => shapeCast S1x1x512 (top w) shapeCasts_S1x512_S1x1x512) h15i

end

end Cert.KernelIdeal.S5

end
-- ==== Proof.S5.OutA.lean ====
/- What the two cases of a grid step leave, read out of the run: each accumulator takes both batch elements' parts, the
   first step of a head from zero, a later one from what the step before left. -/
module

public import proofs.«01_k».proof.Proof.S5.StepA
public import proofs.«01_k».proof.Proof.S5.Frame
public import proofs.«01_k».proof.Proof.S5.Body
public import Idealize.ShloMosaic.Lib.WholeRead
public import Idealize.ShloMosaic.Lib.Pipeline.ReadBack
public import Idealize.ShloMosaic.Lib.Pipeline.ValueKit.Acc
public import Idealize.ShloMosaic.Lib.Pointwise
public import Idealize.ShloMosaic.Lib.ValueLayout

@[expose] public section

set_option maxRecDepth 16384

noncomputable section

namespace Cert.KernelIdeal.S5

open Idealize.ShloMosaic Idealize.ShloMosaic.TcCoe Idealize.SL.Sem
open Cert.KernelIdeal.Gen

variable {F : FTy → Type} [FloatOps F] [Named F]

section

variable (c : Dev nD) (i : grid0.Coords) (e2 : Memref sig .tc .vmem S2x128x128 .f32) (k2 : e2.IsWhole) (e3 : Memref sig .tc .vmem S2x128x128 .f32) (k3 : e3.IsWhole) (e4 : Memref sig .tc .vmem S2x128x128 .f32) (k4 : e4.IsWhole) (e5 : Memref sig .tc .vmem S2x128x512 .f32) (k5 : e5.IsWhole) (e6 : Memref sig .tc .vmem S2x128x512 .f32) (k6 : e6.IsWhole) (e7 : Memref sig .tc .vmem S2x8x512 .f32) (k7 : e7.IsWhole) (e8 : Memref sig .tc .vmem S2x8x512 .f32) (k8 : e8.IsWhole) (e9 : Memref sig .tc .vmem S1x128x512 .bf16) (k9 : e9.IsWhole) (e10 : Memref sig .tc .vmem S1x128x512 .bf16) (k10 : e10.IsWhole) (e11 : Memref sig .tc .vmem S8x512 .f32) (k11 : e11.IsWhole) (e12 : Memref sig .tc .vmem S8x512 .f32) (k12 : e12.IsWhole) (e13 : Memref sig .tc .vmem S8x512 .f32) (k13 : e13.IsWhole) (e14 : Memref sig .tc .vmem S8x512 .f32) (k14 : e14.IsWhole) (e15 : Memref sig .tc .vmem S1x512x128 .bf16) (k15 : e15.IsWhole) (e16 : Memref sig .tc .vmem S1x512x128 .bf16) (k16 : e16.IsWhole) (e17 : Memref sig .tc .vmem S1x128 .f32) (k17 : e17.IsWhole) (e18 : Memref sig .tc .vmem S2x128x128 .bf16) (k18 : e18.IsWhole) (e19 : Memref sig .tc .vmem S1x128 .f32) (k19 : e19.IsWhole) (e20 : Memref sig .tc .vmem S1x512x128 .f32) (k20 : e20.IsWhole) (e21 : Memref sig .tc .vmem S1x512x128 .f32) (k21 : e21.IsWhole) (e22 : Memref sig .tc .vmem S1x128x512 .f32) (k22 : e22.IsWhole) (e23 : Memref sig .tc .vmem S1x128x512 .f32) (k23 : e23.IsWhole) (e24 : Memref sig .tc .vmem S1x512 .f32) (k24 : e24.IsWhole) (e25 : Memref sig .tc .vmem S1x512 .f32) (k25 : e25.IsWhole) (e26 : Memref sig .tc .vmem S2x1x512 .f32) (k26 : e26.IsWhole) (e27 : Memref sig .tc .vmem S2x1x512 .f32) (k27 : e27.IsWhole)
  (x0 : Vec F S2x128x128 .f32) (x1 : Vec F S2x128x128 .f32) (x2 : Vec F S2x128x128 .f32) (x3 : Vec F S2x128x512 .f32) (x4 : Vec F S2x128x512 .f32) (x5 : Vec F S2x8x512 .f32) (x6 : Vec F S2x8x512 .f32) (x7 : Vec F S1x128x512 .bf16) (x8 : Vec F S1x128x512 .bf16) (x9 : Vec F S8x512 .f32) (x10 : Vec F S8x512 .f32) (x11 : Vec F S8x512 .f32) (x12 : Vec F S8x512 .f32) (x13 : Vec F S1x512x128 .bf16) (x14 : Vec F S1x512x128 .bf16) (x15 : Vec F S1x128 .f32)

theorem rawA_17 (hc0 : cond0_0 i) :
    out0_A_17 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 =
      ddStep (raw1 e2 k2 e3 k3 e4 k4 e5 k5 e6 k6 e7 k7 e8 k8 x0 x1 x2 x3 x4 x5 x6) (ddStep (raw0 e2 k2 e3 k3 e4 k4 e5 k5 e6 k6 e7 k7 e8 k8 x0 x1 x2 x3 x4 x5 x6) (zero S1x128)) := by
  unfold out0_A_17
  rw [View.read_writes_junk_eq_canon]
  refine (View.canon_cons_unit_lit (S := S1x128) inb_S1x128_S1x128_0_0 _ _ (by decide)).trans ?_
  show ddStep (raw1 e2 k2 e3 k3 e4 k4 e5 k5 e6 k6 e7 k7 e8 k8 x0 x1 x2 x3 x4 x5 x6) (View.readCov e19.view [⟨(Rect.unit ![0, 0] S1x128.size inb_S1x128_S1x128_0_0), ddStep (raw0 e2 k2 e3 k3 e4 k4 e5 k5 e6 k6 e7 k7 e8 k8 x0 x1 x2 x3 x4 x5 x6) (View.readCov e19.view [⟨(Rect.unit ![0, 0] S1x128.size inb_S1x128_S1x128_0_0), zero S1x128⟩] (Rect.unit ![0, 0] S1x128.size inb_S1x128_S1x128_0_0).toLoadRect)⟩, ⟨(Rect.unit ![0, 0] S1x128.size inb_S1x128_S1x128_0_0), zero S1x128⟩] (Rect.unit ![0, 0] S1x128.size inb_S1x128_S1x128_0_0).toLoadRect) = _
  rw [View.readCov_cons_unit_lit' (S := S1x128) e19.view inb_S1x128_S1x128_0_0 inb_S1x128_S1x128_0_0 _ _ (by decide) (by decide), View.readCov_unit_lit' (S := S1x128) e19.view inb_S1x128_S1x128_0_0 _ (by decide)]

theorem rawA_18 (hc0 : cond0_0 i) :
    out0_A_18 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 =
      dwcrStep (raw1 e2 k2 e3 k3 e4 k4 e5 k5 e6 k6 e7 k7 e8 k8 x0 x1 x2 x3 x4 x5 x6) (dwcrStep (raw0 e2 k2 e3 k3 e4 k4 e5 k5 e6 k6 e7 k7 e8 k8 x0 x1 x2 x3 x4 x5 x6) (zero S1x512x128)) := by
  unfold out0_A_18
  rw [View.read_writes_junk_eq_canon]
  refine (View.canon_cons_unit_lit (S := S1x512x128) inb_S1x512x128_S1x512x128_0_0_0 _ _ (by decide)).trans ?_
  show dwcrStep (raw1 e2 k2 e3 k3 e4 k4 e5 k5 e6 k6 e7 k7 e8 k8 x0 x1 x2 x3 x4 x5 x6) (View.readCov e20.view [⟨(Rect.unit ![0, 0, 0] S1x512x128.size inb_S1x512x128_S1x512x128_0_0_0), dwcrStep (raw0 e2 k2 e3 k3 e4 k4 e5 k5 e6 k6 e7 k7 e8 k8 x0 x1 x2 x3 x4 x5 x6) (View.readCov e20.view [⟨(Rect.unit ![0, 0, 0] S1x512x128.size inb_S1x512x128_S1x512x128_0_0_0), zero S1x512x128⟩] (Rect.unit ![0, 0, 0] S1x512x128.size inb_S1x512x128_S1x512x128_0_0_0).toLoadRect)⟩, ⟨(Rect.unit ![0, 0, 0] S1x512x128.size inb_S1x512x128_S1x512x128_0_0_0), zero S1x512x128⟩] (Rect.unit ![0, 0, 0] S1x512x128.size inb_S1x512x128_S1x512x128_0_0_0).toLoadRect) = _
  rw [View.readCov_cons_unit_lit' (S := S1x512x128) e20.view inb_S1x512x128_S1x512x128_0_0_0 inb_S1x512x128_S1x512x128_0_0_0 _ _ (by decide) (by decide), View.readCov_unit_lit' (S := S1x512x128) e20.view inb_S1x512x128_S1x512x128_0_0_0 _ (by decide)]

theorem rawA_19 (hc0 : cond0_0 i) :
    out0_A_19 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 =
      dwciStep (raw1 e2 k2 e3 k3 e4 k4 e5 k5 e6 k6 e7 k7 e8 k8 x0 x1 x2 x3 x4 x5 x6) (dwciStep (raw0 e2 k2 e3 k3 e4 k4 e5 k5 e6 k6 e7 k7 e8 k8 x0 x1 x2 x3 x4 x5 x6) (zero S1x512x128)) := by
  unfold out0_A_19
  rw [View.read_writes_junk_eq_canon]
  refine (View.canon_cons_unit_lit (S := S1x512x128) inb_S1x512x128_S1x512x128_0_0_0 _ _ (by decide)).trans ?_
  show dwciStep (raw1 e2 k2 e3 k3 e4 k4 e5 k5 e6 k6 e7 k7 e8 k8 x0 x1 x2 x3 x4 x5 x6) (View.readCov e21.view [⟨(Rect.unit ![0, 0, 0] S1x512x128.size inb_S1x512x128_S1x512x128_0_0_0), dwciStep (raw0 e2 k2 e3 k3 e4 k4 e5 k5 e6 k6 e7 k7 e8 k8 x0 x1 x2 x3 x4 x5 x6) (View.readCov e21.view [⟨(Rect.unit ![0, 0, 0] S1x512x128.size inb_S1x512x128_S1x512x128_0_0_0), zero S1x512x128⟩] (Rect.unit ![0, 0, 0] S1x512x128.size inb_S1x512x128_S1x512x128_0_0_0).toLoadRect)⟩, ⟨(Rect.unit ![0, 0, 0] S1x512x128.size inb_S1x512x128_S1x512x128_0_0_0), zero S1x512x128⟩] (Rect.unit ![0, 0, 0] S1x512x128.size inb_S1x512x128_S1x512x128_0_0_0).toLoadRect) = _
  rw [View.readCov_cons_unit_lit' (S := S1x512x128) e21.view inb_S1x512x128_S1x512x128_0_0_0 inb_S1x512x128_S1x512x128_0_0_0 _ _ (by decide) (by decide), View.readCov_unit_lit' (S := S1x512x128) e21.view inb_S1x512x128_S1x512x128_0_0_0 _ (by decide)]

theorem rawA_20 (hc0 : cond0_0 i) :
    out0_A_20 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 =
      dwbStep (raw1 e2 k2 e3 k3 e4 k4 e5 k5 e6 k6 e7 k7 e8 k8 x0 x1 x2 x3 x4 x5 x6) (lamR (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512)) (dwbStep (raw0 e2 k2 e3 k3 e4 k4 e5 k5 e6 k6 e7 k7 e8 k8 x0 x1 x2 x3 x4 x5 x6) (lamR (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512)) (zero S1x128x512)) := by
  unfold out0_A_20
  rw [View.read_writes_junk_eq_canon]
  refine (View.canon_cons_unit_lit (S := S1x128x512) inb_S1x128x512_S1x128x512_0_0_0 _ _ (by decide)).trans ?_
  show dwbStep (raw1 e2 k2 e3 k3 e4 k4 e5 k5 e6 k6 e7 k7 e8 k8 x0 x1 x2 x3 x4 x5 x6) (kernelRun0_A.sl.v946 (F := F) c e2 k2 e3 k3 e11 k11 e12 k12 e13 k13 e14 k14 e15 k15 e16 k16 e26 e27 x0 x1 x9 x10 x11 x12 x13 x14) (View.readCov e22.view [⟨(Rect.unit ![0, 0, 0] S1x128x512.size inb_S1x128x512_S1x128x512_0_0_0), dwbStep (raw0 e2 k2 e3 k3 e4 k4 e5 k5 e6 k6 e7 k7 e8 k8 x0 x1 x2 x3 x4 x5 x6) (kernelRun0_A.sl.v433 (F := F) c e2 k2 e3 k3 e11 k11 e12 k12 e13 k13 e14 k14 e15 k15 e16 k16 e26 e27 x0 x1 x9 x10 x11 x12 x13 x14) (View.readCov e22.view [⟨(Rect.unit ![0, 0, 0] S1x128x512.size inb_S1x128x512_S1x128x512_0_0_0), zero S1x128x512⟩] (Rect.unit ![0, 0, 0] S1x128x512.size inb_S1x128x512_S1x128x512_0_0_0).toLoadRect)⟩, ⟨(Rect.unit ![0, 0, 0] S1x128x512.size inb_S1x128x512_S1x128x512_0_0_0), zero S1x128x512⟩] (Rect.unit ![0, 0, 0] S1x128x512.size inb_S1x128x512_S1x128x512_0_0_0).toLoadRect) = _
  rw [View.readCov_cons_unit_lit' (S := S1x128x512) e22.view inb_S1x128x512_S1x128x512_0_0_0 inb_S1x128x512_S1x128x512_0_0_0 _ _ (by decide) (by decide), View.readCov_unit_lit' (S := S1x128x512) e22.view inb_S1x128x512_S1x128x512_0_0_0 _ (by decide)]
  obtain ⟨a1, a2, a3, a4, a5, a6⟩ := @runA0 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  obtain ⟨b1, b2, b3, b4, b5, b6⟩ := @runA1 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  rw [a1, b1] <;> rfl

theorem rawA_21 (hc0 : cond0_0 i) :
    out0_A_21 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 =
      dwbStep (raw1 e2 k2 e3 k3 e4 k4 e5 k5 e6 k6 e7 k7 e8 k8 x0 x1 x2 x3 x4 x5 x6) (lamI (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512)) (dwbStep (raw0 e2 k2 e3 k3 e4 k4 e5 k5 e6 k6 e7 k7 e8 k8 x0 x1 x2 x3 x4 x5 x6) (lamI (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512)) (zero S1x128x512)) := by
  unfold out0_A_21
  rw [View.read_writes_junk_eq_canon]
  refine (View.canon_cons_unit_lit (S := S1x128x512) inb_S1x128x512_S1x128x512_0_0_0 _ _ (by decide)).trans ?_
  show dwbStep (raw1 e2 k2 e3 k3 e4 k4 e5 k5 e6 k6 e7 k7 e8 k8 x0 x1 x2 x3 x4 x5 x6) (kernelRun0_A.sl.v947 (F := F) c e2 k2 e3 k3 e11 k11 e12 k12 e13 k13 e14 k14 e15 k15 e16 k16 e26 e27 x0 x1 x9 x10 x11 x12 x13 x14) (View.readCov e23.view [⟨(Rect.unit ![0, 0, 0] S1x128x512.size inb_S1x128x512_S1x128x512_0_0_0), dwbStep (raw0 e2 k2 e3 k3 e4 k4 e5 k5 e6 k6 e7 k7 e8 k8 x0 x1 x2 x3 x4 x5 x6) (kernelRun0_A.sl.v434 (F := F) c e2 k2 e3 k3 e11 k11 e12 k12 e13 k13 e14 k14 e15 k15 e16 k16 e26 e27 x0 x1 x9 x10 x11 x12 x13 x14) (View.readCov e23.view [⟨(Rect.unit ![0, 0, 0] S1x128x512.size inb_S1x128x512_S1x128x512_0_0_0), zero S1x128x512⟩] (Rect.unit ![0, 0, 0] S1x128x512.size inb_S1x128x512_S1x128x512_0_0_0).toLoadRect)⟩, ⟨(Rect.unit ![0, 0, 0] S1x128x512.size inb_S1x128x512_S1x128x512_0_0_0), zero S1x128x512⟩] (Rect.unit ![0, 0, 0] S1x128x512.size inb_S1x128x512_S1x128x512_0_0_0).toLoadRect) = _
  rw [View.readCov_cons_unit_lit' (S := S1x128x512) e23.view inb_S1x128x512_S1x128x512_0_0_0 inb_S1x128x512_S1x128x512_0_0_0 _ _ (by decide) (by decide), View.readCov_unit_lit' (S := S1x128x512) e23.view inb_S1x128x512_S1x128x512_0_0_0 _ (by decide)]
  obtain ⟨a1, a2, a3, a4, a5, a6⟩ := @runA0 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  obtain ⟨b1, b2, b3, b4, b5, b6⟩ := @runA1 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  rw [a2, b2] <;> rfl

theorem rawA_22 (hc0 : cond0_0 i) :
    out0_A_22 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 =
      darStep (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) (darStep (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) (zero S1x512)) := by
  unfold out0_A_22
  rw [View.read_writes_junk_eq_canon]
  refine (View.canon_cons_unit_lit (S := S1x512) inb_S1x512_S1x512_0_0 _ _ (by decide)).trans ?_
  show k0_pay137 (kernelRun0_A.sl.v946 (F := F) c e2 k2 e3 k3 e11 k11 e12 k12 e13 k13 e14 k14 e15 k15 e16 k16 e26 e27 x0 x1 x9 x10 x11 x12 x13 x14) (kernelRun0_A.sl.v947 (F := F) c e2 k2 e3 k3 e11 k11 e12 k12 e13 k13 e14 k14 e15 k15 e16 k16 e26 e27 x0 x1 x9 x10 x11 x12 x13 x14) (kernelRun0_A.sl.r_15 (F := F) c i e5 k5 e7 k7 x3 x5) (kernelRun0_A.sl.r_16 (F := F) c i e6 k6 e8 k8 x4 x6) (View.readCov e24.view [⟨(Rect.unit ![0, 0] S1x512.size inb_S1x512_S1x512_0_0), k0_pay137 (kernelRun0_A.sl.v433 (F := F) c e2 k2 e3 k3 e11 k11 e12 k12 e13 k13 e14 k14 e15 k15 e16 k16 e26 e27 x0 x1 x9 x10 x11 x12 x13 x14) (kernelRun0_A.sl.v434 (F := F) c e2 k2 e3 k3 e11 k11 e12 k12 e13 k13 e14 k14 e15 k15 e16 k16 e26 e27 x0 x1 x9 x10 x11 x12 x13 x14) (kernelRun0_A.sl.v491 (F := F) c i e5 k5 e7 k7 x3 x5) (kernelRun0_A.sl.v497 (F := F) c i e6 k6 e8 k8 x4 x6) (View.readCov e24.view [⟨(Rect.unit ![0, 0] S1x512.size inb_S1x512_S1x512_0_0), zero S1x512⟩] (Rect.unit ![0, 0] S1x512.size inb_S1x512_S1x512_0_0).toLoadRect)⟩, ⟨(Rect.unit ![0, 0] S1x512.size inb_S1x512_S1x512_0_0), zero S1x512⟩] (Rect.unit ![0, 0] S1x512.size inb_S1x512_S1x512_0_0).toLoadRect) = _
  rw [View.readCov_cons_unit_lit' (S := S1x512) e24.view inb_S1x512_S1x512_0_0 inb_S1x512_S1x512_0_0 _ _ (by decide) (by decide), View.readCov_unit_lit' (S := S1x512) e24.view inb_S1x512_S1x512_0_0 _ (by decide)]
  obtain ⟨a1, a2, a3, a4, a5, a6⟩ := @runA0 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  obtain ⟨b1, b2, b3, b4, b5, b6⟩ := @runA1 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  rw [a1, a2, a5, a6, b1, b2, b5, b6] <;> rfl

theorem rawA_23 (hc0 : cond0_0 i) :
    out0_A_23 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 =
      daiStep (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) (daiStep (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) (zero S1x512)) := by
  unfold out0_A_23
  rw [View.read_writes_junk_eq_canon]
  refine (View.canon_cons_unit_lit (S := S1x512) inb_S1x512_S1x512_0_0 _ _ (by decide)).trans ?_
  show k0_pay138 (kernelRun0_A.sl.v946 (F := F) c e2 k2 e3 k3 e11 k11 e12 k12 e13 k13 e14 k14 e15 k15 e16 k16 e26 e27 x0 x1 x9 x10 x11 x12 x13 x14) (kernelRun0_A.sl.v947 (F := F) c e2 k2 e3 k3 e11 k11 e12 k12 e13 k13 e14 k14 e15 k15 e16 k16 e26 e27 x0 x1 x9 x10 x11 x12 x13 x14) (kernelRun0_A.sl.r_15 (F := F) c i e5 k5 e7 k7 x3 x5) (kernelRun0_A.sl.r_16 (F := F) c i e6 k6 e8 k8 x4 x6) (View.readCov e25.view [⟨(Rect.unit ![0, 0] S1x512.size inb_S1x512_S1x512_0_0), k0_pay138 (kernelRun0_A.sl.v433 (F := F) c e2 k2 e3 k3 e11 k11 e12 k12 e13 k13 e14 k14 e15 k15 e16 k16 e26 e27 x0 x1 x9 x10 x11 x12 x13 x14) (kernelRun0_A.sl.v434 (F := F) c e2 k2 e3 k3 e11 k11 e12 k12 e13 k13 e14 k14 e15 k15 e16 k16 e26 e27 x0 x1 x9 x10 x11 x12 x13 x14) (kernelRun0_A.sl.v491 (F := F) c i e5 k5 e7 k7 x3 x5) (kernelRun0_A.sl.v497 (F := F) c i e6 k6 e8 k8 x4 x6) (View.readCov e25.view [⟨(Rect.unit ![0, 0] S1x512.size inb_S1x512_S1x512_0_0), zero S1x512⟩] (Rect.unit ![0, 0] S1x512.size inb_S1x512_S1x512_0_0).toLoadRect)⟩, ⟨(Rect.unit ![0, 0] S1x512.size inb_S1x512_S1x512_0_0), zero S1x512⟩] (Rect.unit ![0, 0] S1x512.size inb_S1x512_S1x512_0_0).toLoadRect) = _
  rw [View.readCov_cons_unit_lit' (S := S1x512) e25.view inb_S1x512_S1x512_0_0 inb_S1x512_S1x512_0_0 _ _ (by decide) (by decide), View.readCov_unit_lit' (S := S1x512) e25.view inb_S1x512_S1x512_0_0 _ (by decide)]
  obtain ⟨a1, a2, a3, a4, a5, a6⟩ := @runA0 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  obtain ⟨b1, b2, b3, b4, b5, b6⟩ := @runA1 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  rw [a1, a2, a5, a6, b1, b2, b5, b6] <;> rfl

theorem rawA_16_0 (hc0 : cond0_0 i) (x : S1x128x128.Idx) :
    out0_A_16 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 ((Rect.unit (s := S2x128x128) ![0, 0, 0] S1x128x128.size inb_S2x128x128_S1x128x128_0_0_0).emb x) =
      duOut (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) x := by
  unfold out0_A_16
  rw [View.read_writes_junk_eq_canon]
  refine (canon_second (Rect.unit (s := S2x128x128) ![0, 0, 0] S1x128x128.size inb_S2x128x128_S1x128x128_0_0_0) (Rect.unit (s := S2x128x128) ![1, 0, 0] S1x128x128.size inb_S2x128x128_S1x128x128_1_0_0) (by decide) _ _ _ x).trans ?_
  obtain ⟨a1, a2, a3, a4, a5, a6⟩ := @runA0 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  show duOf (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (kernelRun0_A.sl.v433 (F := F) c e2 k2 e3 k3 e11 k11 e12 k12 e13 k13 e14 k14 e15 k15 e16 k16 e26 e27 x0 x1 x9 x10 x11 x12 x13 x14) (kernelRun0_A.sl.v434 (F := F) c e2 k2 e3 k3 e11 k11 e12 k12 e13 k13 e14 k14 e15 k15 e16 k16 e26 e27 x0 x1 x9 x10 x11 x12 x13 x14) x = _
  rw [a1, a2] <;> rfl

theorem rawA_16_1 (hc0 : cond0_0 i) (x : S1x128x128.Idx) :
    out0_A_16 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 ((Rect.unit (s := S2x128x128) ![1, 0, 0] S1x128x128.size inb_S2x128x128_S1x128x128_1_0_0).emb x) =
      duOut (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) x := by
  unfold out0_A_16
  rw [View.read_writes_junk_eq_canon]
  refine (View.canon_cons_emb (Rect.unit (s := S2x128x128) ![1, 0, 0] S1x128x128.size inb_S2x128x128_S1x128x128_1_0_0) _ _ x).trans ?_
  obtain ⟨a1, a2, a3, a4, a5, a6⟩ := @runA1 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  show duOf (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (kernelRun0_A.sl.v946 (F := F) c e2 k2 e3 k3 e11 k11 e12 k12 e13 k13 e14 k14 e15 k15 e16 k16 e26 e27 x0 x1 x9 x10 x11 x12 x13 x14) (kernelRun0_A.sl.v947 (F := F) c e2 k2 e3 k3 e11 k11 e12 k12 e13 k13 e14 k14 e15 k15 e16 k16 e26 e27 x0 x1 x9 x10 x11 x12 x13 x14) x = _
  rw [a1, a2] <;> rfl

theorem rawA_0_0 (hc0 : cond0_0 i) (x : S1x1x512.Idx) :
    sout0_A_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 ((Rect.unit (s := S2x1x512) ![0, 0, 0] S1x1x512.size inb_S2x1x512_S1x1x512_0_0_0).emb x) =
      outR (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) x := by
  unfold sout0_A_0
  rw [View.read_writes_junk_eq_canon]
  refine (canon_second (Rect.unit (s := S2x1x512) ![0, 0, 0] S1x1x512.size inb_S2x1x512_S1x1x512_0_0_0) (Rect.unit (s := S2x1x512) ![1, 0, 0] S1x1x512.size inb_S2x1x512_S1x1x512_1_0_0) (by decide) _ _ _ x).trans ?_
  obtain ⟨a1, a2, a3, a4, a5, a6⟩ := @runA0 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  exact congrFun a3 x

theorem rawA_0_1 (hc0 : cond0_0 i) (x : S1x1x512.Idx) :
    sout0_A_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 ((Rect.unit (s := S2x1x512) ![1, 0, 0] S1x1x512.size inb_S2x1x512_S1x1x512_1_0_0).emb x) =
      outR (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) x := by
  unfold sout0_A_0
  rw [View.read_writes_junk_eq_canon]
  refine (View.canon_cons_emb (Rect.unit (s := S2x1x512) ![1, 0, 0] S1x1x512.size inb_S2x1x512_S1x1x512_1_0_0) _ _ x).trans ?_
  obtain ⟨a1, a2, a3, a4, a5, a6⟩ := @runA1 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  exact congrFun a3 x

theorem rawA_1_0 (hc0 : cond0_0 i) (x : S1x1x512.Idx) :
    sout0_A_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 ((Rect.unit (s := S2x1x512) ![0, 0, 0] S1x1x512.size inb_S2x1x512_S1x1x512_0_0_0).emb x) =
      outI (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) x := by
  unfold sout0_A_1
  rw [View.read_writes_junk_eq_canon]
  refine (canon_second (Rect.unit (s := S2x1x512) ![0, 0, 0] S1x1x512.size inb_S2x1x512_S1x1x512_0_0_0) (Rect.unit (s := S2x1x512) ![1, 0, 0] S1x1x512.size inb_S2x1x512_S1x1x512_1_0_0) (by decide) _ _ _ x).trans ?_
  obtain ⟨a1, a2, a3, a4, a5, a6⟩ := @runA0 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  exact congrFun a4 x

theorem rawA_1_1 (hc0 : cond0_0 i) (x : S1x1x512.Idx) :
    sout0_A_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 ((Rect.unit (s := S2x1x512) ![1, 0, 0] S1x1x512.size inb_S2x1x512_S1x1x512_1_0_0).emb x) =
      outI (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (zero S1x512) (zero S1x512) x := by
  unfold sout0_A_1
  rw [View.read_writes_junk_eq_canon]
  refine (View.canon_cons_emb (Rect.unit (s := S2x1x512) ![1, 0, 0] S1x1x512.size inb_S2x1x512_S1x1x512_1_0_0) _ _ x).trans ?_
  obtain ⟨a1, a2, a3, a4, a5, a6⟩ := @runA1 F _ _ c i e2 k2 e3 k3 e4 k4 e5 k5 e6 k6 e7 k7 e8 k8 e9 k9 e10 k10 e11 k11 e12 k12 e13 k13 e14 k14 e15 k15 e16 k16 e17 k17 e26 e27  x0 x1 x2 x3 x4 x5 x6 x7 x8 x9 x10 x11 x12 x13 x14 x15
  exact congrFun a4 x

end

end Cert.KernelIdeal.S5

end
-- ==== Proof.S5.StepB.lean ====
/- What the two cases of a grid step leave, read out of the run: each accumulator takes both batch elements' parts, the
   first step of a head from zero, a later one from what the step before left. -/
module

public import proofs.«01_k».proof.Proof.S5.Step
public import proofs.«01_k».proof.Proof.S5.Frame
public import proofs.«01_k».proof.Proof.S5.Body
public import Idealize.ShloMosaic.Lib.WholeRead
public import Idealize.ShloMosaic.Lib.Pipeline.ReadBack
public import Idealize.ShloMosaic.Lib.Pipeline.ValueKit.Acc
public import Idealize.ShloMosaic.Lib.Pointwise
public import Idealize.ShloMosaic.Lib.ValueLayout

@[expose] public section

set_option maxRecDepth 16384

noncomputable section

namespace Cert.KernelIdeal.S5

open Idealize.ShloMosaic Idealize.ShloMosaic.TcCoe Idealize.SL.Sem
open Cert.KernelIdeal.Gen

variable {F : FTy → Type} [FloatOps F] [Named F]

section

variable (c : Dev nD) (i : grid0.Coords) (e2 : Memref sig .tc .vmem S2x128x128 .f32) (k2 : e2.IsWhole) (e3 : Memref sig .tc .vmem S2x128x128 .f32) (k3 : e3.IsWhole) (e4 : Memref sig .tc .vmem S2x128x128 .f32) (k4 : e4.IsWhole) (e5 : Memref sig .tc .vmem S2x128x512 .f32) (k5 : e5.IsWhole) (e6 : Memref sig .tc .vmem S2x128x512 .f32) (k6 : e6.IsWhole) (e7 : Memref sig .tc .vmem S2x8x512 .f32) (k7 : e7.IsWhole) (e8 : Memref sig .tc .vmem S2x8x512 .f32) (k8 : e8.IsWhole) (e9 : Memref sig .tc .vmem S1x128x512 .bf16) (k9 : e9.IsWhole) (e10 : Memref sig .tc .vmem S1x128x512 .bf16) (k10 : e10.IsWhole) (e11 : Memref sig .tc .vmem S8x512 .f32) (k11 : e11.IsWhole) (e12 : Memref sig .tc .vmem S8x512 .f32) (k12 : e12.IsWhole) (e13 : Memref sig .tc .vmem S8x512 .f32) (k13 : e13.IsWhole) (e14 : Memref sig .tc .vmem S8x512 .f32) (k14 : e14.IsWhole) (e15 : Memref sig .tc .vmem S1x512x128 .bf16) (k15 : e15.IsWhole) (e16 : Memref sig .tc .vmem S1x512x128 .bf16) (k16 : e16.IsWhole) (e17 : Memref sig .tc .vmem S1x128 .f32) (k17 : e17.IsWhole) (e18 : Memref sig .tc .vmem S2x128x128 .bf16) (k18 : e18.IsWhole) (e19 : Memref sig .tc .vmem S1x128 .f32) (k19 : e19.IsWhole) (e20 : Memref sig .tc .vmem S1x512x128 .f32) (k20 : e20.IsWhole) (e21 : Memref sig .tc .vmem S1x512x128 .f32) (k21 : e21.IsWhole) (e22 : Memref sig .tc .vmem S1x128x512 .f32) (k22 : e22.IsWhole) (e23 : Memref sig .tc .vmem S1x128x512 .f32) (k23 : e23.IsWhole) (e24 : Memref sig .tc .vmem S1x512 .f32) (k24 : e24.IsWhole) (e25 : Memref sig .tc .vmem S1x512 .f32) (k25 : e25.IsWhole) (e26 : Memref sig .tc .vmem S2x1x512 .f32) (k26 : e26.IsWhole) (e27 : Memref sig .tc .vmem S2x1x512 .f32) (k27 : e27.IsWhole)
  (x0 : Vec F S2x128x128 .f32) (x1 : Vec F S2x128x128 .f32) (x2 : Vec F S2x128x128 .f32) (x3 : Vec F S2x128x512 .f32) (x4 : Vec F S2x128x512 .f32) (x5 : Vec F S2x8x512 .f32) (x6 : Vec F S2x8x512 .f32) (x7 : Vec F S1x128x512 .bf16) (x8 : Vec F S1x128x512 .bf16) (x9 : Vec F S8x512 .f32) (x10 : Vec F S8x512 .f32) (x11 : Vec F S8x512 .f32) (x12 : Vec F S8x512 .f32) (x13 : Vec F S1x512x128 .bf16) (x14 : Vec F S1x512x128 .bf16) (x15 : Vec F S1x128 .f32) {xs0 xs1 : Vec F S2x1x512 .f32}

set_option maxHeartbeats 8000000 in
theorem runB0 : (kernelRun0_B.sl.v433 (F := F) c e2 k2 e3 k3 e11 k11 e12 k12 e13 k13 e14 k14 e15 k15 e16 k16 e26 k26 e27 k27 x0 x1 x9 x10 x11 x12 x13 x14 xs0 xs1) = lamR (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0) ∧
    (kernelRun0_B.sl.v434 (F := F) c e2 k2 e3 k3 e11 k11 e12 k12 e13 k13 e14 k14 e15 k15 e16 k16 e26 k26 e27 k27 x0 x1 x9 x10 x11 x12 x13 x14 xs0 xs1) = lamI (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0) ∧
    (kernelRun0_B.sl.v437 (F := F) c e2 k2 e3 k3 e11 k11 e12 k12 e13 k13 e14 k14 e15 k15 e16 k16 e26 k26 e27 k27 x0 x1 x9 x10 x11 x12 x13 x14 xs0 xs1) = outR (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0) ∧
    (kernelRun0_B.sl.v440 (F := F) c e2 k2 e3 k3 e11 k11 e12 k12 e13 k13 e14 k14 e15 k15 e16 k16 e26 k26 e27 k27 x0 x1 x9 x10 x11 x12 x13 x14 xs0 xs1) = outI (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0) ∧
    (kernelRun0_B.sl.v491 (F := F) c i e5 k5 e7 k7 x3 x5) = xpr (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) ∧ (kernelRun0_B.sl.v497 (F := F) c i e6 k6 e8 k8 x4 x6) = xpi (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := by
  have ar : (kernelRun0_B.sl.v68 (F := F) c e2 k2 e3 k3 e15 k15 x0 x1 x13) = l0r (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := rfl
  have ai : (kernelRun0_B.sl.v73 (F := F) c e2 k2 e3 k3 e16 k16 x0 x1 x14) = l0i (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := rfl
  have s1r : (kernelRun0_B.sl.v110 (F := F) c e2 k2 e3 k3 e13 k13 e14 k14 e15 k15 e16 k16 x0 x1 x11 x12 x13 x14) = _ := (stage1r ar ai :)
  have s1i : (kernelRun0_B.sl.v116 (F := F) c e2 k2 e3 k3 e13 k13 e14 k14 e15 k15 e16 k16 x0 x1 x11 x12 x13 x14) = _ := (stage1i ar ai :)
  have s2r : (kernelRun0_B.sl.v136 (F := F) c e2 k2 e3 k3 e13 k13 e14 k14 e15 k15 e16 k16 x0 x1 x11 x12 x13 x14) = _ := (stage2r s1r s1i :)
  have s2i : (kernelRun0_B.sl.v142 (F := F) c e2 k2 e3 k3 e13 k13 e14 k14 e15 k15 e16 k16 x0 x1 x11 x12 x13 x14) = _ := (stage2i s1r s1i :)
  have s3r : (kernelRun0_B.sl.v162 (F := F) c e2 k2 e3 k3 e13 k13 e14 k14 e15 k15 e16 k16 x0 x1 x11 x12 x13 x14) = _ := (stage3r s2r s2i :)
  have s3i : (kernelRun0_B.sl.v168 (F := F) c e2 k2 e3 k3 e13 k13 e14 k14 e15 k15 e16 k16 x0 x1 x11 x12 x13 x14) = _ := (stage3i s2r s2i :)
  have cr : (kernelRun0_B.sl.v170 (F := F) c e26 k26 xs0) = (carry xs0 0) := carry_row0 k26 xs0
  have ci : (kernelRun0_B.sl.v172 (F := F) c e27 k27 xs1) = (carry xs1 0) := carry_row0 k27 xs1
  have h0r : (kernelRun0_B.sl.v184 (F := F) c e2 k2 e3 k3 e11 k11 e12 k12 e13 k13 e14 k14 e15 k15 e16 k16 e26 k26 e27 k27 x0 x1 x9 x10 x11 x12 x13 x14 xs0 xs1) = _ := (firstr s3r cr ci :)
  have h0i : (kernelRun0_B.sl.v190 (F := F) c e2 k2 e3 k3 e11 k11 e12 k12 e13 k13 e14 k14 e15 k15 e16 k16 e26 k26 e27 k27 x0 x1 x9 x10 x11 x12 x13 x14 xs0 xs1) = _ := (firsti s3i cr ci :)
  have h1r : (kernelRun0_B.sl.v200 (F := F) c e2 k2 e3 k3 e11 k11 e12 k12 e13 k13 e14 k14 e15 k15 e16 k16 e26 k26 e27 k27 x0 x1 x9 x10 x11 x12 x13 x14 xs0 xs1) = _ := (nextr 0 s3r h0r h0i :)
  have h1i : (kernelRun0_B.sl.v206 (F := F) c e2 k2 e3 k3 e11 k11 e12 k12 e13 k13 e14 k14 e15 k15 e16 k16 e26 k26 e27 k27 x0 x1 x9 x10 x11 x12 x13 x14 xs0 xs1) = _ := (nexti 0 s3i h0r h0i :)
  have h2r : (kernelRun0_B.sl.v216 (F := F) c e2 k2 e3 k3 e11 k11 e12 k12 e13 k13 e14 k14 e15 k15 e16 k16 e26 k26 e27 k27 x0 x1 x9 x10 x11 x12 x13 x14 xs0 xs1) = _ := (nextr 1 s3r h1r h1i :)
  have h2i : (kernelRun0_B.sl.v222 (F := F) c e2 k2 e3 k3 e11 k11 e12 k12 e13 k13 e14 k14 e15 k15 e16 k16 e26 k26 e27 k27 x0 x1 x9 x10 x11 x12 x13 x14 xs0 xs1) = _ := (nexti 1 s3i h1r h1i :)
  have h3r : (kernelRun0_B.sl.v232 (F := F) c e2 k2 e3 k3 e11 k11 e12 k12 e13 k13 e14 k14 e15 k15 e16 k16 e26 k26 e27 k27 x0 x1 x9 x10 x11 x12 x13 x14 xs0 xs1) = _ := (nextr 2 s3r h2r h2i :)
  have h3i : (kernelRun0_B.sl.v238 (F := F) c e2 k2 e3 k3 e11 k11 e12 k12 e13 k13 e14 k14 e15 k15 e16 k16 e26 k26 e27 k27 x0 x1 x9 x10 x11 x12 x13 x14 xs0 xs1) = _ := (nexti 2 s3i h2r h2i :)
  have h4r : (kernelRun0_B.sl.v248 (F := F) c e2 k2 e3 k3 e11 k11 e12 k12 e13 k13 e14 k14 e15 k15 e16 k16 e26 k26 e27 k27 x0 x1 x9 x10 x11 x12 x13 x14 xs0 xs1) = _ := (nextr 3 s3r h3r h3i :)
  have h4i : (kernelRun0_B.sl.v254 (F := F) c e2 k2 e3 k3 e11 k11 e12 k12 e13 k13 e14 k14 e15 k15 e16 k16 e26 k26 e27 k27 x0 x1 x9 x10 x11 x12 x13 x14 xs0 xs1) = _ := (nexti 3 s3i h3r h3i :)
  have h5r : (kernelRun0_B.sl.v264 (F := F) c e2 k2 e3 k3 e11 k11 e12 k12 e13 k13 e14 k14 e15 k15 e16 k16 e26 k26 e27 k27 x0 x1 x9 x10 x11 x12 x13 x14 xs0 xs1) = _ := (nextr 4 s3r h4r h4i :)
  have h5i : (kernelRun0_B.sl.v270 (F := F) c e2 k2 e3 k3 e11 k11 e12 k12 e13 k13 e14 k14 e15 k15 e16 k16 e26 k26 e27 k27 x0 x1 x9 x10 x11 x12 x13 x14 xs0 xs1) = _ := (nexti 4 s3i h4r h4i :)
  have h6r : (kernelRun0_B.sl.v280 (F := F) c e2 k2 e3 k3 e11 k11 e12 k12 e13 k13 e14 k14 e15 k15 e16 k16 e26 k26 e27 k27 x0 x1 x9 x10 x11 x12 x13 x14 xs0 xs1) = _ := (nextr 5 s3r h5r h5i :)
  have h6i : (kernelRun0_B.sl.v286 (F := F) c e2 k2 e3 k3 e11 k11 e12 k12 e13 k13 e14 k14 e15 k15 e16 k16 e26 k26 e27 k27 x0 x1 x9 x10 x11 x12 x13 x14 xs0 xs1) = _ := (nexti 5 s3i h5r h5i :)
  have h7r : (kernelRun0_B.sl.v296 (F := F) c e2 k2 e3 k3 e11 k11 e12 k12 e13 k13 e14 k14 e15 k15 e16 k16 e26 k26 e27 k27 x0 x1 x9 x10 x11 x12 x13 x14 xs0 xs1) = _ := (nextr 6 s3r h6r h6i :)
  have h7i : (kernelRun0_B.sl.v302 (F := F) c e2 k2 e3 k3 e11 k11 e12 k12 e13 k13 e14 k14 e15 k15 e16 k16 e26 k26 e27 k27 x0 x1 x9 x10 x11 x12 x13 x14 xs0 xs1) = _ := (nexti 6 s3i h6r h6i :)
  have h8r : (kernelRun0_B.sl.v312 (F := F) c e2 k2 e3 k3 e11 k11 e12 k12 e13 k13 e14 k14 e15 k15 e16 k16 e26 k26 e27 k27 x0 x1 x9 x10 x11 x12 x13 x14 xs0 xs1) = _ := (nextr 7 s3r h7r h7i :)
  have h8i : (kernelRun0_B.sl.v318 (F := F) c e2 k2 e3 k3 e11 k11 e12 k12 e13 k13 e14 k14 e15 k15 e16 k16 e26 k26 e27 k27 x0 x1 x9 x10 x11 x12 x13 x14 xs0 xs1) = _ := (nexti 7 s3i h7r h7i :)
  have h9r : (kernelRun0_B.sl.v328 (F := F) c e2 k2 e3 k3 e11 k11 e12 k12 e13 k13 e14 k14 e15 k15 e16 k16 e26 k26 e27 k27 x0 x1 x9 x10 x11 x12 x13 x14 xs0 xs1) = _ := (nextr 8 s3r h8r h8i :)
  have h9i : (kernelRun0_B.sl.v334 (F := F) c e2 k2 e3 k3 e11 k11 e12 k12 e13 k13 e14 k14 e15 k15 e16 k16 e26 k26 e27 k27 x0 x1 x9 x10 x11 x12 x13 x14 xs0 xs1) = _ := (nexti 8 s3i h8r h8i :)
  have h10r : (kernelRun0_B.sl.v344 (F := F) c e2 k2 e3 k3 e11 k11 e12 k12 e13 k13 e14 k14 e15 k15 e16 k16 e26 k26 e27 k27 x0 x1 x9 x10 x11 x12 x13 x14 xs0 xs1) = _ := (nextr 9 s3r h9r h9i :)
  have h10i : (kernelRun0_B.sl.v350 (F := F) c e2 k2 e3 k3 e11 k11 e12 k12 e13 k13 e14 k14 e15 k15 e16 k16 e26 k26 e27 k27 x0 x1 x9 x10 x11 x12 x13 x14 xs0 xs1) = _ := (nexti 9 s3i h9r h9i :)
  have h11r : (kernelRun0_B.sl.v360 (F := F) c e2 k2 e3 k3 e11 k11 e12 k12 e13 k13 e14 k14 e15 k15 e16 k16 e26 k26 e27 k27 x0 x1 x9 x10 x11 x12 x13 x14 xs0 xs1) = _ := (nextr 10 s3r h10r h10i :)
  have h11i : (kernelRun0_B.sl.v366 (F := F) c e2 k2 e3 k3 e11 k11 e12 k12 e13 k13 e14 k14 e15 k15 e16 k16 e26 k26 e27 k27 x0 x1 x9 x10 x11 x12 x13 x14 xs0 xs1) = _ := (nexti 10 s3i h10r h10i :)
  have h12r : (kernelRun0_B.sl.v376 (F := F) c e2 k2 e3 k3 e11 k11 e12 k12 e13 k13 e14 k14 e15 k15 e16 k16 e26 k26 e27 k27 x0 x1 x9 x10 x11 x12 x13 x14 xs0 xs1) = _ := (nextr 11 s3r h11r h11i :)
  have h12i : (kernelRun0_B.sl.v382 (F := F) c e2 k2 e3 k3 e11 k11 e12 k12 e13 k13 e14 k14 e15 k15 e16 k16 e26 k26 e27 k27 x0 x1 x9 x10 x11 x12 x13 x14 xs0 xs1) = _ := (nexti 11 s3i h11r h11i :)
  have h13r : (kernelRun0_B.sl.v392 (F := F) c e2 k2 e3 k3 e11 k11 e12 k12 e13 k13 e14 k14 e15 k15 e16 k16 e26 k26 e27 k27 x0 x1 x9 x10 x11 x12 x13 x14 xs0 xs1) = _ := (nextr 12 s3r h12r h12i :)
  have h13i : (kernelRun0_B.sl.v398 (F := F) c e2 k2 e3 k3 e11 k11 e12 k12 e13 k13 e14 k14 e15 k15 e16 k16 e26 k26 e27 k27 x0 x1 x9 x10 x11 x12 x13 x14 xs0 xs1) = _ := (nexti 12 s3i h12r h12i :)
  have h14r : (kernelRun0_B.sl.v408 (F := F) c e2 k2 e3 k3 e11 k11 e12 k12 e13 k13 e14 k14 e15 k15 e16 k16 e26 k26 e27 k27 x0 x1 x9 x10 x11 x12 x13 x14 xs0 xs1) = _ := (nextr 13 s3r h13r h13i :)
  have h14i : (kernelRun0_B.sl.v414 (F := F) c e2 k2 e3 k3 e11 k11 e12 k12 e13 k13 e14 k14 e15 k15 e16 k16 e26 k26 e27 k27 x0 x1 x9 x10 x11 x12 x13 x14 xs0 xs1) = _ := (nexti 13 s3i h13r h13i :)
  have h15r : (kernelRun0_B.sl.v424 (F := F) c e2 k2 e3 k3 e11 k11 e12 k12 e13 k13 e14 k14 e15 k15 e16 k16 e26 k26 e27 k27 x0 x1 x9 x10 x11 x12 x13 x14 xs0 xs1) = _ := (nextr 14 s3r h14r h14i :)
  have h15i : (kernelRun0_B.sl.v430 (F := F) c e2 k2 e3 k3 e11 k11 e12 k12 e13 k13 e14 k14 e15 k15 e16 k16 e26 k26 e27 k27 x0 x1 x9 x10 x11 x12 x13 x14 xs0 xs1) = _ := (nexti 14 s3i h14r h14i :)
  refine ⟨(glued (f := fun k => (chain (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0) k).1) h0r h1r h2r h3r h4r h5r h6r h7r h8r h9r h10r h11r h12r h13r h14r h15r :), (glued (f := fun k => (chain (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0) k).2) h0i h1i h2i h3i h4i h5i h6i h7i h8i h9i h10i h11i h12i h13i h14i h15i :), ?_, ?_, rfl, rfl⟩
  · exact congrArg (fun w => shapeCast S1x1x512 (top w) shapeCasts_S1x512_S1x1x512) h15r
  · exact congrArg (fun w => shapeCast S1x1x512 (top w) shapeCasts_S1x512_S1x1x512) h15i

set_option maxHeartbeats 8000000 in
theorem runB1 : (kernelRun0_B.sl.v946 (F := F) c e2 k2 e3 k3 e11 k11 e12 k12 e13 k13 e14 k14 e15 k15 e16 k16 e26 k26 e27 k27 x0 x1 x9 x10 x11 x12 x13 x14 xs0 xs1) = lamR (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1) ∧
    (kernelRun0_B.sl.v947 (F := F) c e2 k2 e3 k3 e11 k11 e12 k12 e13 k13 e14 k14 e15 k15 e16 k16 e26 k26 e27 k27 x0 x1 x9 x10 x11 x12 x13 x14 xs0 xs1) = lamI (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1) ∧
    (kernelRun0_B.sl.v950 (F := F) c e2 k2 e3 k3 e11 k11 e12 k12 e13 k13 e14 k14 e15 k15 e16 k16 e26 k26 e27 k27 x0 x1 x9 x10 x11 x12 x13 x14 xs0 xs1) = outR (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1) ∧
    (kernelRun0_B.sl.v953 (F := F) c e2 k2 e3 k3 e11 k11 e12 k12 e13 k13 e14 k14 e15 k15 e16 k16 e26 k26 e27 k27 x0 x1 x9 x10 x11 x12 x13 x14 xs0 xs1) = outI (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1) ∧
    (kernelRun0_B.sl.r_15 (F := F) c i e5 k5 e7 k7 x3 x5) = xpr (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) ∧ (kernelRun0_B.sl.r_16 (F := F) c i e6 k6 e8 k8 x4 x6) = xpi (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := by
  have ar : (kernelRun0_B.sl.v581 (F := F) c e2 k2 e3 k3 e15 k15 x0 x1 x13) = l0r (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := rfl
  have ai : (kernelRun0_B.sl.v586 (F := F) c e2 k2 e3 k3 e16 k16 x0 x1 x14) = l0i (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) := rfl
  have s1r : (kernelRun0_B.sl.v623 (F := F) c e2 k2 e3 k3 e13 k13 e14 k14 e15 k15 e16 k16 x0 x1 x11 x12 x13 x14) = _ := (stage1r ar ai :)
  have s1i : (kernelRun0_B.sl.v629 (F := F) c e2 k2 e3 k3 e13 k13 e14 k14 e15 k15 e16 k16 x0 x1 x11 x12 x13 x14) = _ := (stage1i ar ai :)
  have s2r : (kernelRun0_B.sl.v649 (F := F) c e2 k2 e3 k3 e13 k13 e14 k14 e15 k15 e16 k16 x0 x1 x11 x12 x13 x14) = _ := (stage2r s1r s1i :)
  have s2i : (kernelRun0_B.sl.v655 (F := F) c e2 k2 e3 k3 e13 k13 e14 k14 e15 k15 e16 k16 x0 x1 x11 x12 x13 x14) = _ := (stage2i s1r s1i :)
  have s3r : (kernelRun0_B.sl.v675 (F := F) c e2 k2 e3 k3 e13 k13 e14 k14 e15 k15 e16 k16 x0 x1 x11 x12 x13 x14) = _ := (stage3r s2r s2i :)
  have s3i : (kernelRun0_B.sl.v681 (F := F) c e2 k2 e3 k3 e13 k13 e14 k14 e15 k15 e16 k16 x0 x1 x11 x12 x13 x14) = _ := (stage3i s2r s2i :)
  have cr : (kernelRun0_B.sl.v683 (F := F) c e26 k26 xs0) = (carry xs0 1) := carry_row1 k26 xs0
  have ci : (kernelRun0_B.sl.v685 (F := F) c e27 k27 xs1) = (carry xs1 1) := carry_row1 k27 xs1
  have h0r : (kernelRun0_B.sl.v697 (F := F) c e2 k2 e3 k3 e11 k11 e12 k12 e13 k13 e14 k14 e15 k15 e16 k16 e26 k26 e27 k27 x0 x1 x9 x10 x11 x12 x13 x14 xs0 xs1) = _ := (firstr s3r cr ci :)
  have h0i : (kernelRun0_B.sl.v703 (F := F) c e2 k2 e3 k3 e11 k11 e12 k12 e13 k13 e14 k14 e15 k15 e16 k16 e26 k26 e27 k27 x0 x1 x9 x10 x11 x12 x13 x14 xs0 xs1) = _ := (firsti s3i cr ci :)
  have h1r : (kernelRun0_B.sl.v713 (F := F) c e2 k2 e3 k3 e11 k11 e12 k12 e13 k13 e14 k14 e15 k15 e16 k16 e26 k26 e27 k27 x0 x1 x9 x10 x11 x12 x13 x14 xs0 xs1) = _ := (nextr 0 s3r h0r h0i :)
  have h1i : (kernelRun0_B.sl.v719 (F := F) c e2 k2 e3 k3 e11 k11 e12 k12 e13 k13 e14 k14 e15 k15 e16 k16 e26 k26 e27 k27 x0 x1 x9 x10 x11 x12 x13 x14 xs0 xs1) = _ := (nexti 0 s3i h0r h0i :)
  have h2r : (kernelRun0_B.sl.v729 (F := F) c e2 k2 e3 k3 e11 k11 e12 k12 e13 k13 e14 k14 e15 k15 e16 k16 e26 k26 e27 k27 x0 x1 x9 x10 x11 x12 x13 x14 xs0 xs1) = _ := (nextr 1 s3r h1r h1i :)
  have h2i : (kernelRun0_B.sl.v735 (F := F) c e2 k2 e3 k3 e11 k11 e12 k12 e13 k13 e14 k14 e15 k15 e16 k16 e26 k26 e27 k27 x0 x1 x9 x10 x11 x12 x13 x14 xs0 xs1) = _ := (nexti 1 s3i h1r h1i :)
  have h3r : (kernelRun0_B.sl.v745 (F := F) c e2 k2 e3 k3 e11 k11 e12 k12 e13 k13 e14 k14 e15 k15 e16 k16 e26 k26 e27 k27 x0 x1 x9 x10 x11 x12 x13 x14 xs0 xs1) = _ := (nextr 2 s3r h2r h2i :)
  have h3i : (kernelRun0_B.sl.v751 (F := F) c e2 k2 e3 k3 e11 k11 e12 k12 e13 k13 e14 k14 e15 k15 e16 k16 e26 k26 e27 k27 x0 x1 x9 x10 x11 x12 x13 x14 xs0 xs1) = _ := (nexti 2 s3i h2r h2i :)
  have h4r : (kernelRun0_B.sl.v761 (F := F) c e2 k2 e3 k3 e11 k11 e12 k12 e13 k13 e14 k14 e15 k15 e16 k16 e26 k26 e27 k27 x0 x1 x9 x10 x11 x12 x13 x14 xs0 xs1) = _ := (nextr 3 s3r h3r h3i :)
  have h4i : (kernelRun0_B.sl.v767 (F := F) c e2 k2 e3 k3 e11 k11 e12 k12 e13 k13 e14 k14 e15 k15 e16 k16 e26 k26 e27 k27 x0 x1 x9 x10 x11 x12 x13 x14 xs0 xs1) = _ := (nexti 3 s3i h3r h3i :)
  have h5r : (kernelRun0_B.sl.v777 (F := F) c e2 k2 e3 k3 e11 k11 e12 k12 e13 k13 e14 k14 e15 k15 e16 k16 e26 k26 e27 k27 x0 x1 x9 x10 x11 x12 x13 x14 xs0 xs1) = _ := (nextr 4 s3r h4r h4i :)
  have h5i : (kernelRun0_B.sl.v783 (F := F) c e2 k2 e3 k3 e11 k11 e12 k12 e13 k13 e14 k14 e15 k15 e16 k16 e26 k26 e27 k27 x0 x1 x9 x10 x11 x12 x13 x14 xs0 xs1) = _ := (nexti 4 s3i h4r h4i :)
  have h6r : (kernelRun0_B.sl.v793 (F := F) c e2 k2 e3 k3 e11 k11 e12 k12 e13 k13 e14 k14 e15 k15 e16 k16 e26 k26 e27 k27 x0 x1 x9 x10 x11 x12 x13 x14 xs0 xs1) = _ := (nextr 5 s3r h5r h5i :)
  have h6i : (kernelRun0_B.sl.v799 (F := F) c e2 k2 e3 k3 e11 k11 e12 k12 e13 k13 e14 k14 e15 k15 e16 k16 e26 k26 e27 k27 x0 x1 x9 x10 x11 x12 x13 x14 xs0 xs1) = _ := (nexti 5 s3i h5r h5i :)
  have h7r : (kernelRun0_B.sl.v809 (F := F) c e2 k2 e3 k3 e11 k11 e12 k12 e13 k13 e14 k14 e15 k15 e16 k16 e26 k26 e27 k27 x0 x1 x9 x10 x11 x12 x13 x14 xs0 xs1) = _ := (nextr 6 s3r h6r h6i :)
  have h7i : (kernelRun0_B.sl.v815 (F := F) c e2 k2 e3 k3 e11 k11 e12 k12 e13 k13 e14 k14 e15 k15 e16 k16 e26 k26 e27 k27 x0 x1 x9 x10 x11 x12 x13 x14 xs0 xs1) = _ := (nexti 6 s3i h6r h6i :)
  have h8r : (kernelRun0_B.sl.v825 (F := F) c e2 k2 e3 k3 e11 k11 e12 k12 e13 k13 e14 k14 e15 k15 e16 k16 e26 k26 e27 k27 x0 x1 x9 x10 x11 x12 x13 x14 xs0 xs1) = _ := (nextr 7 s3r h7r h7i :)
  have h8i : (kernelRun0_B.sl.v831 (F := F) c e2 k2 e3 k3 e11 k11 e12 k12 e13 k13 e14 k14 e15 k15 e16 k16 e26 k26 e27 k27 x0 x1 x9 x10 x11 x12 x13 x14 xs0 xs1) = _ := (nexti 7 s3i h7r h7i :)
  have h9r : (kernelRun0_B.sl.v841 (F := F) c e2 k2 e3 k3 e11 k11 e12 k12 e13 k13 e14 k14 e15 k15 e16 k16 e26 k26 e27 k27 x0 x1 x9 x10 x11 x12 x13 x14 xs0 xs1) = _ := (nextr 8 s3r h8r h8i :)
  have h9i : (kernelRun0_B.sl.v847 (F := F) c e2 k2 e3 k3 e11 k11 e12 k12 e13 k13 e14 k14 e15 k15 e16 k16 e26 k26 e27 k27 x0 x1 x9 x10 x11 x12 x13 x14 xs0 xs1) = _ := (nexti 8 s3i h8r h8i :)
  have h10r : (kernelRun0_B.sl.v857 (F := F) c e2 k2 e3 k3 e11 k11 e12 k12 e13 k13 e14 k14 e15 k15 e16 k16 e26 k26 e27 k27 x0 x1 x9 x10 x11 x12 x13 x14 xs0 xs1) = _ := (nextr 9 s3r h9r h9i :)
  have h10i : (kernelRun0_B.sl.v863 (F := F) c e2 k2 e3 k3 e11 k11 e12 k12 e13 k13 e14 k14 e15 k15 e16 k16 e26 k26 e27 k27 x0 x1 x9 x10 x11 x12 x13 x14 xs0 xs1) = _ := (nexti 9 s3i h9r h9i :)
  have h11r : (kernelRun0_B.sl.v873 (F := F) c e2 k2 e3 k3 e11 k11 e12 k12 e13 k13 e14 k14 e15 k15 e16 k16 e26 k26 e27 k27 x0 x1 x9 x10 x11 x12 x13 x14 xs0 xs1) = _ := (nextr 10 s3r h10r h10i :)
  have h11i : (kernelRun0_B.sl.v879 (F := F) c e2 k2 e3 k3 e11 k11 e12 k12 e13 k13 e14 k14 e15 k15 e16 k16 e26 k26 e27 k27 x0 x1 x9 x10 x11 x12 x13 x14 xs0 xs1) = _ := (nexti 10 s3i h10r h10i :)
  have h12r : (kernelRun0_B.sl.v889 (F := F) c e2 k2 e3 k3 e11 k11 e12 k12 e13 k13 e14 k14 e15 k15 e16 k16 e26 k26 e27 k27 x0 x1 x9 x10 x11 x12 x13 x14 xs0 xs1) = _ := (nextr 11 s3r h11r h11i :)
  have h12i : (kernelRun0_B.sl.v895 (F := F) c e2 k2 e3 k3 e11 k11 e12 k12 e13 k13 e14 k14 e15 k15 e16 k16 e26 k26 e27 k27 x0 x1 x9 x10 x11 x12 x13 x14 xs0 xs1) = _ := (nexti 11 s3i h11r h11i :)
  have h13r : (kernelRun0_B.sl.v905 (F := F) c e2 k2 e3 k3 e11 k11 e12 k12 e13 k13 e14 k14 e15 k15 e16 k16 e26 k26 e27 k27 x0 x1 x9 x10 x11 x12 x13 x14 xs0 xs1) = _ := (nextr 12 s3r h12r h12i :)
  have h13i : (kernelRun0_B.sl.v911 (F := F) c e2 k2 e3 k3 e11 k11 e12 k12 e13 k13 e14 k14 e15 k15 e16 k16 e26 k26 e27 k27 x0 x1 x9 x10 x11 x12 x13 x14 xs0 xs1) = _ := (nexti 12 s3i h12r h12i :)
  have h14r : (kernelRun0_B.sl.v921 (F := F) c e2 k2 e3 k3 e11 k11 e12 k12 e13 k13 e14 k14 e15 k15 e16 k16 e26 k26 e27 k27 x0 x1 x9 x10 x11 x12 x13 x14 xs0 xs1) = _ := (nextr 13 s3r h13r h13i :)
  have h14i : (kernelRun0_B.sl.v927 (F := F) c e2 k2 e3 k3 e11 k11 e12 k12 e13 k13 e14 k14 e15 k15 e16 k16 e26 k26 e27 k27 x0 x1 x9 x10 x11 x12 x13 x14 xs0 xs1) = _ := (nexti 13 s3i h13r h13i :)
  have h15r : (kernelRun0_B.sl.v937 (F := F) c e2 k2 e3 k3 e11 k11 e12 k12 e13 k13 e14 k14 e15 k15 e16 k16 e26 k26 e27 k27 x0 x1 x9 x10 x11 x12 x13 x14 xs0 xs1) = _ := (nextr 14 s3r h14r h14i :)
  have h15i : (kernelRun0_B.sl.v943 (F := F) c e2 k2 e3 k3 e11 k11 e12 k12 e13 k13 e14 k14 e15 k15 e16 k16 e26 k26 e27 k27 x0 x1 x9 x10 x11 x12 x13 x14 xs0 xs1) = _ := (nexti 14 s3i h14r h14i :)
  refine ⟨(glued (f := fun k => (chain (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1) k).1) h0r h1r h2r h3r h4r h5r h6r h7r h8r h9r h10r h11r h12r h13r h14r h15r :), (glued (f := fun k => (chain (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1) k).2) h0i h1i h2i h3i h4i h5i h6i h7i h8i h9i h10i h11i h12i h13i h14i h15i :), ?_, ?_, rfl, rfl⟩
  · exact congrArg (fun w => shapeCast S1x1x512 (top w) shapeCasts_S1x512_S1x1x512) h15r
  · exact congrArg (fun w => shapeCast S1x1x512 (top w) shapeCasts_S1x512_S1x1x512) h15i

end

end Cert.KernelIdeal.S5

end
-- ==== Proof.S5.OutB.lean ====
/- What the two cases of a grid step leave, read out of the run: each accumulator takes both batch elements' parts, the
   first step of a head from zero, a later one from what the step before left. -/
module

public import proofs.«01_k».proof.Proof.S5.StepB
public import proofs.«01_k».proof.Proof.S5.Frame
public import proofs.«01_k».proof.Proof.S5.Body
public import Idealize.ShloMosaic.Lib.WholeRead
public import Idealize.ShloMosaic.Lib.Pipeline.ReadBack
public import Idealize.ShloMosaic.Lib.Pipeline.ValueKit.Acc
public import Idealize.ShloMosaic.Lib.Pointwise
public import Idealize.ShloMosaic.Lib.ValueLayout

@[expose] public section

set_option maxRecDepth 16384

noncomputable section

namespace Cert.KernelIdeal.S5

open Idealize.ShloMosaic Idealize.ShloMosaic.TcCoe Idealize.SL.Sem
open Cert.KernelIdeal.Gen

variable {F : FTy → Type} [FloatOps F] [Named F]

section

variable (c : Dev nD) (i : grid0.Coords) (e2 : Memref sig .tc .vmem S2x128x128 .f32) (k2 : e2.IsWhole) (e3 : Memref sig .tc .vmem S2x128x128 .f32) (k3 : e3.IsWhole) (e4 : Memref sig .tc .vmem S2x128x128 .f32) (k4 : e4.IsWhole) (e5 : Memref sig .tc .vmem S2x128x512 .f32) (k5 : e5.IsWhole) (e6 : Memref sig .tc .vmem S2x128x512 .f32) (k6 : e6.IsWhole) (e7 : Memref sig .tc .vmem S2x8x512 .f32) (k7 : e7.IsWhole) (e8 : Memref sig .tc .vmem S2x8x512 .f32) (k8 : e8.IsWhole) (e9 : Memref sig .tc .vmem S1x128x512 .bf16) (k9 : e9.IsWhole) (e10 : Memref sig .tc .vmem S1x128x512 .bf16) (k10 : e10.IsWhole) (e11 : Memref sig .tc .vmem S8x512 .f32) (k11 : e11.IsWhole) (e12 : Memref sig .tc .vmem S8x512 .f32) (k12 : e12.IsWhole) (e13 : Memref sig .tc .vmem S8x512 .f32) (k13 : e13.IsWhole) (e14 : Memref sig .tc .vmem S8x512 .f32) (k14 : e14.IsWhole) (e15 : Memref sig .tc .vmem S1x512x128 .bf16) (k15 : e15.IsWhole) (e16 : Memref sig .tc .vmem S1x512x128 .bf16) (k16 : e16.IsWhole) (e17 : Memref sig .tc .vmem S1x128 .f32) (k17 : e17.IsWhole) (e18 : Memref sig .tc .vmem S2x128x128 .bf16) (k18 : e18.IsWhole) (e19 : Memref sig .tc .vmem S1x128 .f32) (k19 : e19.IsWhole) (e20 : Memref sig .tc .vmem S1x512x128 .f32) (k20 : e20.IsWhole) (e21 : Memref sig .tc .vmem S1x512x128 .f32) (k21 : e21.IsWhole) (e22 : Memref sig .tc .vmem S1x128x512 .f32) (k22 : e22.IsWhole) (e23 : Memref sig .tc .vmem S1x128x512 .f32) (k23 : e23.IsWhole) (e24 : Memref sig .tc .vmem S1x512 .f32) (k24 : e24.IsWhole) (e25 : Memref sig .tc .vmem S1x512 .f32) (k25 : e25.IsWhole) (e26 : Memref sig .tc .vmem S2x1x512 .f32) (k26 : e26.IsWhole) (e27 : Memref sig .tc .vmem S2x1x512 .f32) (k27 : e27.IsWhole)
  (x0 : Vec F S2x128x128 .f32) (x1 : Vec F S2x128x128 .f32) (x2 : Vec F S2x128x128 .f32) (x3 : Vec F S2x128x512 .f32) (x4 : Vec F S2x128x512 .f32) (x5 : Vec F S2x8x512 .f32) (x6 : Vec F S2x8x512 .f32) (x7 : Vec F S1x128x512 .bf16) (x8 : Vec F S1x128x512 .bf16) (x9 : Vec F S8x512 .f32) (x10 : Vec F S8x512 .f32) (x11 : Vec F S8x512 .f32) (x12 : Vec F S8x512 .f32) (x13 : Vec F S1x512x128 .bf16) (x14 : Vec F S1x512x128 .bf16) (x15 : Vec F S1x128 .f32)

theorem rawB_17 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) :
    out0_B_17 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 =
      ddStep (raw1 e2 k2 e3 k3 e4 k4 e5 k5 e6 k6 e7 k7 e8 k8 x0 x1 x2 x3 x4 x5 x6) (ddStep (raw0 e2 k2 e3 k3 e4 k4 e5 k5 e6 k6 e7 k7 e8 k8 x0 x1 x2 x3 x4 x5 x6) xo17) := by
  unfold out0_B_17
  rw [View.read_writes_junk_eq_canon]
  refine (View.canon_cons_unit_lit (S := S1x128) inb_S1x128_S1x128_0_0 _ _ (by decide)).trans ?_
  show ddStep (raw1 e2 k2 e3 k3 e4 k4 e5 k5 e6 k6 e7 k7 e8 k8 x0 x1 x2 x3 x4 x5 x6) (View.readCov e19.view [⟨(Rect.unit ![0, 0] S1x128.size inb_S1x128_S1x128_0_0), ddStep (raw0 e2 k2 e3 k3 e4 k4 e5 k5 e6 k6 e7 k7 e8 k8 x0 x1 x2 x3 x4 x5 x6) (View.readAt (Elt F) e19.view (Rect.unit ![0, 0] S1x128.size inb_S1x128_S1x128_0_0).toLoadRect (k19.unread xo17))⟩] (Rect.unit ![0, 0] S1x128.size inb_S1x128_S1x128_0_0).toLoadRect) = _
  rw [View.readCov_unit_lit' (S := S1x128) e19.view inb_S1x128_S1x128_0_0 _ (by decide), View.readAt_eq_ld, k19.read_unread, View.ld_unit_lit (S := S1x128) inb_S1x128_S1x128_0_0 _ (by decide)]

theorem rawB_18 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) :
    out0_B_18 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 =
      dwcrStep (raw1 e2 k2 e3 k3 e4 k4 e5 k5 e6 k6 e7 k7 e8 k8 x0 x1 x2 x3 x4 x5 x6) (dwcrStep (raw0 e2 k2 e3 k3 e4 k4 e5 k5 e6 k6 e7 k7 e8 k8 x0 x1 x2 x3 x4 x5 x6) xo18) := by
  unfold out0_B_18
  rw [View.read_writes_junk_eq_canon]
  refine (View.canon_cons_unit_lit (S := S1x512x128) inb_S1x512x128_S1x512x128_0_0_0 _ _ (by decide)).trans ?_
  show dwcrStep (raw1 e2 k2 e3 k3 e4 k4 e5 k5 e6 k6 e7 k7 e8 k8 x0 x1 x2 x3 x4 x5 x6) (View.readCov e20.view [⟨(Rect.unit ![0, 0, 0] S1x512x128.size inb_S1x512x128_S1x512x128_0_0_0), dwcrStep (raw0 e2 k2 e3 k3 e4 k4 e5 k5 e6 k6 e7 k7 e8 k8 x0 x1 x2 x3 x4 x5 x6) (View.readAt (Elt F) e20.view (Rect.unit ![0, 0, 0] S1x512x128.size inb_S1x512x128_S1x512x128_0_0_0).toLoadRect (k20.unread xo18))⟩] (Rect.unit ![0, 0, 0] S1x512x128.size inb_S1x512x128_S1x512x128_0_0_0).toLoadRect) = _
  rw [View.readCov_unit_lit' (S := S1x512x128) e20.view inb_S1x512x128_S1x512x128_0_0_0 _ (by decide), View.readAt_eq_ld, k20.read_unread, View.ld_unit_lit (S := S1x512x128) inb_S1x512x128_S1x512x128_0_0_0 _ (by decide)]

theorem rawB_19 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) :
    out0_B_19 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 =
      dwciStep (raw1 e2 k2 e3 k3 e4 k4 e5 k5 e6 k6 e7 k7 e8 k8 x0 x1 x2 x3 x4 x5 x6) (dwciStep (raw0 e2 k2 e3 k3 e4 k4 e5 k5 e6 k6 e7 k7 e8 k8 x0 x1 x2 x3 x4 x5 x6) xo19) := by
  unfold out0_B_19
  rw [View.read_writes_junk_eq_canon]
  refine (View.canon_cons_unit_lit (S := S1x512x128) inb_S1x512x128_S1x512x128_0_0_0 _ _ (by decide)).trans ?_
  show dwciStep (raw1 e2 k2 e3 k3 e4 k4 e5 k5 e6 k6 e7 k7 e8 k8 x0 x1 x2 x3 x4 x5 x6) (View.readCov e21.view [⟨(Rect.unit ![0, 0, 0] S1x512x128.size inb_S1x512x128_S1x512x128_0_0_0), dwciStep (raw0 e2 k2 e3 k3 e4 k4 e5 k5 e6 k6 e7 k7 e8 k8 x0 x1 x2 x3 x4 x5 x6) (View.readAt (Elt F) e21.view (Rect.unit ![0, 0, 0] S1x512x128.size inb_S1x512x128_S1x512x128_0_0_0).toLoadRect (k21.unread xo19))⟩] (Rect.unit ![0, 0, 0] S1x512x128.size inb_S1x512x128_S1x512x128_0_0_0).toLoadRect) = _
  rw [View.readCov_unit_lit' (S := S1x512x128) e21.view inb_S1x512x128_S1x512x128_0_0_0 _ (by decide), View.readAt_eq_ld, k21.read_unread, View.ld_unit_lit (S := S1x512x128) inb_S1x512x128_S1x512x128_0_0_0 _ (by decide)]

theorem rawB_20 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) :
    out0_B_20 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 =
      dwbStep (raw1 e2 k2 e3 k3 e4 k4 e5 k5 e6 k6 e7 k7 e8 k8 x0 x1 x2 x3 x4 x5 x6) (lamR (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1)) (dwbStep (raw0 e2 k2 e3 k3 e4 k4 e5 k5 e6 k6 e7 k7 e8 k8 x0 x1 x2 x3 x4 x5 x6) (lamR (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0)) xo20) := by
  unfold out0_B_20
  rw [View.read_writes_junk_eq_canon]
  refine (View.canon_cons_unit_lit (S := S1x128x512) inb_S1x128x512_S1x128x512_0_0_0 _ _ (by decide)).trans ?_
  show dwbStep (raw1 e2 k2 e3 k3 e4 k4 e5 k5 e6 k6 e7 k7 e8 k8 x0 x1 x2 x3 x4 x5 x6) (kernelRun0_B.sl.v946 (F := F) c e2 k2 e3 k3 e11 k11 e12 k12 e13 k13 e14 k14 e15 k15 e16 k16 e26 k26 e27 k27 x0 x1 x9 x10 x11 x12 x13 x14 xs0 xs1) (View.readCov e22.view [⟨(Rect.unit ![0, 0, 0] S1x128x512.size inb_S1x128x512_S1x128x512_0_0_0), dwbStep (raw0 e2 k2 e3 k3 e4 k4 e5 k5 e6 k6 e7 k7 e8 k8 x0 x1 x2 x3 x4 x5 x6) (kernelRun0_B.sl.v433 (F := F) c e2 k2 e3 k3 e11 k11 e12 k12 e13 k13 e14 k14 e15 k15 e16 k16 e26 k26 e27 k27 x0 x1 x9 x10 x11 x12 x13 x14 xs0 xs1) (View.readAt (Elt F) e22.view (Rect.unit ![0, 0, 0] S1x128x512.size inb_S1x128x512_S1x128x512_0_0_0).toLoadRect (k22.unread xo20))⟩] (Rect.unit ![0, 0, 0] S1x128x512.size inb_S1x128x512_S1x128x512_0_0_0).toLoadRect) = _
  rw [View.readCov_unit_lit' (S := S1x128x512) e22.view inb_S1x128x512_S1x128x512_0_0_0 _ (by decide), View.readAt_eq_ld, k22.read_unread, View.ld_unit_lit (S := S1x128x512) inb_S1x128x512_S1x128x512_0_0_0 _ (by decide)]
  obtain ⟨a1, a2, a3, a4, a5, a6⟩ := @runB0 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  obtain ⟨b1, b2, b3, b4, b5, b6⟩ := @runB1 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  rw [a1, b1] <;> rfl

theorem rawB_21 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) :
    out0_B_21 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 =
      dwbStep (raw1 e2 k2 e3 k3 e4 k4 e5 k5 e6 k6 e7 k7 e8 k8 x0 x1 x2 x3 x4 x5 x6) (lamI (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1)) (dwbStep (raw0 e2 k2 e3 k3 e4 k4 e5 k5 e6 k6 e7 k7 e8 k8 x0 x1 x2 x3 x4 x5 x6) (lamI (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0)) xo21) := by
  unfold out0_B_21
  rw [View.read_writes_junk_eq_canon]
  refine (View.canon_cons_unit_lit (S := S1x128x512) inb_S1x128x512_S1x128x512_0_0_0 _ _ (by decide)).trans ?_
  show dwbStep (raw1 e2 k2 e3 k3 e4 k4 e5 k5 e6 k6 e7 k7 e8 k8 x0 x1 x2 x3 x4 x5 x6) (kernelRun0_B.sl.v947 (F := F) c e2 k2 e3 k3 e11 k11 e12 k12 e13 k13 e14 k14 e15 k15 e16 k16 e26 k26 e27 k27 x0 x1 x9 x10 x11 x12 x13 x14 xs0 xs1) (View.readCov e23.view [⟨(Rect.unit ![0, 0, 0] S1x128x512.size inb_S1x128x512_S1x128x512_0_0_0), dwbStep (raw0 e2 k2 e3 k3 e4 k4 e5 k5 e6 k6 e7 k7 e8 k8 x0 x1 x2 x3 x4 x5 x6) (kernelRun0_B.sl.v434 (F := F) c e2 k2 e3 k3 e11 k11 e12 k12 e13 k13 e14 k14 e15 k15 e16 k16 e26 k26 e27 k27 x0 x1 x9 x10 x11 x12 x13 x14 xs0 xs1) (View.readAt (Elt F) e23.view (Rect.unit ![0, 0, 0] S1x128x512.size inb_S1x128x512_S1x128x512_0_0_0).toLoadRect (k23.unread xo21))⟩] (Rect.unit ![0, 0, 0] S1x128x512.size inb_S1x128x512_S1x128x512_0_0_0).toLoadRect) = _
  rw [View.readCov_unit_lit' (S := S1x128x512) e23.view inb_S1x128x512_S1x128x512_0_0_0 _ (by decide), View.readAt_eq_ld, k23.read_unread, View.ld_unit_lit (S := S1x128x512) inb_S1x128x512_S1x128x512_0_0_0 _ (by decide)]
  obtain ⟨a1, a2, a3, a4, a5, a6⟩ := @runB0 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  obtain ⟨b1, b2, b3, b4, b5, b6⟩ := @runB1 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  rw [a2, b2] <;> rfl

theorem rawB_22 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) :
    out0_B_22 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 =
      darStep (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1) (darStep (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0) xo22) := by
  unfold out0_B_22
  rw [View.read_writes_junk_eq_canon]
  refine (View.canon_cons_unit_lit (S := S1x512) inb_S1x512_S1x512_0_0 _ _ (by decide)).trans ?_
  show k0_pay137 (kernelRun0_B.sl.v946 (F := F) c e2 k2 e3 k3 e11 k11 e12 k12 e13 k13 e14 k14 e15 k15 e16 k16 e26 k26 e27 k27 x0 x1 x9 x10 x11 x12 x13 x14 xs0 xs1) (kernelRun0_B.sl.v947 (F := F) c e2 k2 e3 k3 e11 k11 e12 k12 e13 k13 e14 k14 e15 k15 e16 k16 e26 k26 e27 k27 x0 x1 x9 x10 x11 x12 x13 x14 xs0 xs1) (kernelRun0_B.sl.r_15 (F := F) c i e5 k5 e7 k7 x3 x5) (kernelRun0_B.sl.r_16 (F := F) c i e6 k6 e8 k8 x4 x6) (View.readCov e24.view [⟨(Rect.unit ![0, 0] S1x512.size inb_S1x512_S1x512_0_0), k0_pay137 (kernelRun0_B.sl.v433 (F := F) c e2 k2 e3 k3 e11 k11 e12 k12 e13 k13 e14 k14 e15 k15 e16 k16 e26 k26 e27 k27 x0 x1 x9 x10 x11 x12 x13 x14 xs0 xs1) (kernelRun0_B.sl.v434 (F := F) c e2 k2 e3 k3 e11 k11 e12 k12 e13 k13 e14 k14 e15 k15 e16 k16 e26 k26 e27 k27 x0 x1 x9 x10 x11 x12 x13 x14 xs0 xs1) (kernelRun0_B.sl.v491 (F := F) c i e5 k5 e7 k7 x3 x5) (kernelRun0_B.sl.v497 (F := F) c i e6 k6 e8 k8 x4 x6) (View.readAt (Elt F) e24.view (Rect.unit ![0, 0] S1x512.size inb_S1x512_S1x512_0_0).toLoadRect (k24.unread xo22))⟩] (Rect.unit ![0, 0] S1x512.size inb_S1x512_S1x512_0_0).toLoadRect) = _
  rw [View.readCov_unit_lit' (S := S1x512) e24.view inb_S1x512_S1x512_0_0 _ (by decide), View.readAt_eq_ld, k24.read_unread, View.ld_unit_lit (S := S1x512) inb_S1x512_S1x512_0_0 _ (by decide)]
  obtain ⟨a1, a2, a3, a4, a5, a6⟩ := @runB0 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  obtain ⟨b1, b2, b3, b4, b5, b6⟩ := @runB1 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  rw [a1, a2, a5, a6, b1, b2, b5, b6] <;> rfl

theorem rawB_23 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) :
    out0_B_23 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 =
      daiStep (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1) (daiStep (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0) xo23) := by
  unfold out0_B_23
  rw [View.read_writes_junk_eq_canon]
  refine (View.canon_cons_unit_lit (S := S1x512) inb_S1x512_S1x512_0_0 _ _ (by decide)).trans ?_
  show k0_pay138 (kernelRun0_B.sl.v946 (F := F) c e2 k2 e3 k3 e11 k11 e12 k12 e13 k13 e14 k14 e15 k15 e16 k16 e26 k26 e27 k27 x0 x1 x9 x10 x11 x12 x13 x14 xs0 xs1) (kernelRun0_B.sl.v947 (F := F) c e2 k2 e3 k3 e11 k11 e12 k12 e13 k13 e14 k14 e15 k15 e16 k16 e26 k26 e27 k27 x0 x1 x9 x10 x11 x12 x13 x14 xs0 xs1) (kernelRun0_B.sl.r_15 (F := F) c i e5 k5 e7 k7 x3 x5) (kernelRun0_B.sl.r_16 (F := F) c i e6 k6 e8 k8 x4 x6) (View.readCov e25.view [⟨(Rect.unit ![0, 0] S1x512.size inb_S1x512_S1x512_0_0), k0_pay138 (kernelRun0_B.sl.v433 (F := F) c e2 k2 e3 k3 e11 k11 e12 k12 e13 k13 e14 k14 e15 k15 e16 k16 e26 k26 e27 k27 x0 x1 x9 x10 x11 x12 x13 x14 xs0 xs1) (kernelRun0_B.sl.v434 (F := F) c e2 k2 e3 k3 e11 k11 e12 k12 e13 k13 e14 k14 e15 k15 e16 k16 e26 k26 e27 k27 x0 x1 x9 x10 x11 x12 x13 x14 xs0 xs1) (kernelRun0_B.sl.v491 (F := F) c i e5 k5 e7 k7 x3 x5) (kernelRun0_B.sl.v497 (F := F) c i e6 k6 e8 k8 x4 x6) (View.readAt (Elt F) e25.view (Rect.unit ![0, 0] S1x512.size inb_S1x512_S1x512_0_0).toLoadRect (k25.unread xo23))⟩] (Rect.unit ![0, 0] S1x512.size inb_S1x512_S1x512_0_0).toLoadRect) = _
  rw [View.readCov_unit_lit' (S := S1x512) e25.view inb_S1x512_S1x512_0_0 _ (by decide), View.readAt_eq_ld, k25.read_unread, View.ld_unit_lit (S := S1x512) inb_S1x512_S1x512_0_0 _ (by decide)]
  obtain ⟨a1, a2, a3, a4, a5, a6⟩ := @runB0 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  obtain ⟨b1, b2, b3, b4, b5, b6⟩ := @runB1 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  rw [a1, a2, a5, a6, b1, b2, b5, b6] <;> rfl

theorem rawB_16_0 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) (x : S1x128x128.Idx) :
    out0_B_16 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 ((Rect.unit (s := S2x128x128) ![0, 0, 0] S1x128x128.size inb_S2x128x128_S1x128x128_0_0_0).emb x) =
      duOut (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0) x := by
  unfold out0_B_16
  rw [View.read_writes_junk_eq_canon]
  refine (canon_second (Rect.unit (s := S2x128x128) ![0, 0, 0] S1x128x128.size inb_S2x128x128_S1x128x128_0_0_0) (Rect.unit (s := S2x128x128) ![1, 0, 0] S1x128x128.size inb_S2x128x128_S1x128x128_1_0_0) (by decide) _ _ _ x).trans ?_
  obtain ⟨a1, a2, a3, a4, a5, a6⟩ := @runB0 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  show duOf (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (kernelRun0_B.sl.v433 (F := F) c e2 k2 e3 k3 e11 k11 e12 k12 e13 k13 e14 k14 e15 k15 e16 k16 e26 k26 e27 k27 x0 x1 x9 x10 x11 x12 x13 x14 xs0 xs1) (kernelRun0_B.sl.v434 (F := F) c e2 k2 e3 k3 e11 k11 e12 k12 e13 k13 e14 k14 e15 k15 e16 k16 e26 k26 e27 k27 x0 x1 x9 x10 x11 x12 x13 x14 xs0 xs1) x = _
  rw [a1, a2] <;> rfl

theorem rawB_16_1 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) (x : S1x128x128.Idx) :
    out0_B_16 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 ((Rect.unit (s := S2x128x128) ![1, 0, 0] S1x128x128.size inb_S2x128x128_S1x128x128_1_0_0).emb x) =
      duOut (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1) x := by
  unfold out0_B_16
  rw [View.read_writes_junk_eq_canon]
  refine (View.canon_cons_emb (Rect.unit (s := S2x128x128) ![1, 0, 0] S1x128x128.size inb_S2x128x128_S1x128x128_1_0_0) _ _ x).trans ?_
  obtain ⟨a1, a2, a3, a4, a5, a6⟩ := @runB1 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  show duOf (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (kernelRun0_B.sl.v946 (F := F) c e2 k2 e3 k3 e11 k11 e12 k12 e13 k13 e14 k14 e15 k15 e16 k16 e26 k26 e27 k27 x0 x1 x9 x10 x11 x12 x13 x14 xs0 xs1) (kernelRun0_B.sl.v947 (F := F) c e2 k2 e3 k3 e11 k11 e12 k12 e13 k13 e14 k14 e15 k15 e16 k16 e26 k26 e27 k27 x0 x1 x9 x10 x11 x12 x13 x14 xs0 xs1) x = _
  rw [a1, a2] <;> rfl

theorem rawB_0_0 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) (x : S1x1x512.Idx) :
    sout0_B_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 ((Rect.unit (s := S2x1x512) ![0, 0, 0] S1x1x512.size inb_S2x1x512_S1x1x512_0_0_0).emb x) =
      outR (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0) x := by
  unfold sout0_B_0
  rw [View.read_writes_junk_eq_canon]
  refine (canon_second (Rect.unit (s := S2x1x512) ![0, 0, 0] S1x1x512.size inb_S2x1x512_S1x1x512_0_0_0) (Rect.unit (s := S2x1x512) ![1, 0, 0] S1x1x512.size inb_S2x1x512_S1x1x512_1_0_0) (by decide) _ _ _ x).trans ?_
  obtain ⟨a1, a2, a3, a4, a5, a6⟩ := @runB0 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  exact congrFun a3 x

theorem rawB_0_1 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) (x : S1x1x512.Idx) :
    sout0_B_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 ((Rect.unit (s := S2x1x512) ![1, 0, 0] S1x1x512.size inb_S2x1x512_S1x1x512_1_0_0).emb x) =
      outR (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1) x := by
  unfold sout0_B_0
  rw [View.read_writes_junk_eq_canon]
  refine (View.canon_cons_emb (Rect.unit (s := S2x1x512) ![1, 0, 0] S1x1x512.size inb_S2x1x512_S1x1x512_1_0_0) _ _ x).trans ?_
  obtain ⟨a1, a2, a3, a4, a5, a6⟩ := @runB1 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  exact congrFun a3 x

theorem rawB_1_0 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) (x : S1x1x512.Idx) :
    sout0_B_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 ((Rect.unit (s := S2x1x512) ![0, 0, 0] S1x1x512.size inb_S2x1x512_S1x1x512_0_0_0).emb x) =
      outI (raw0 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 0) (carry xs1 0) x := by
  unfold sout0_B_1
  rw [View.read_writes_junk_eq_canon]
  refine (canon_second (Rect.unit (s := S2x1x512) ![0, 0, 0] S1x1x512.size inb_S2x1x512_S1x1x512_0_0_0) (Rect.unit (s := S2x1x512) ![1, 0, 0] S1x1x512.size inb_S2x1x512_S1x1x512_1_0_0) (by decide) _ _ _ x).trans ?_
  obtain ⟨a1, a2, a3, a4, a5, a6⟩ := @runB0 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  exact congrFun a4 x

theorem rawB_1_1 (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) (x : S1x1x512.Idx) :
    sout0_B_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1 ((Rect.unit (s := S2x1x512) ![1, 0, 0] S1x1x512.size inb_S2x1x512_S1x1x512_1_0_0).emb x) =
      outI (raw1 e2 k2 e3 k3 e4 k4 e5 k5 e6 k6 e7 k7 e8 k8 x0 x1 x2 x3 x4 x5 x6) (rawT i e9 k9 e10 k10 e11 k11 e12 k12 e13 k13 e14 k14 e15 k15 e16 k16 e17 k17 x7 x8 x9 x10 x11 x12 x13 x14 x15) (carry xs0 1) (carry xs1 1) x := by
  unfold sout0_B_1
  rw [View.read_writes_junk_eq_canon]
  refine (View.canon_cons_emb (Rect.unit (s := S2x1x512) ![1, 0, 0] S1x1x512.size inb_S2x1x512_S1x1x512_1_0_0) _ _ x).trans ?_
  obtain ⟨a1, a2, a3, a4, a5, a6⟩ := @runB1 F _ _ c i e2 k2 e3 k3 e4 k4 e5 k5 e6 k6 e7 k7 e8 k8 e9 k9 e10 k10 e11 k11 e12 k12 e13 k13 e14 k14 e15 k15 e16 k16 e17 k17 e26 k26 e27 k27 x0 x1 x2 x3 x4 x5 x6 x7 x8 x9 x10 x11 x12 x13 x14 x15 xs0 xs1
  exact congrFun a4 x

end

end Cert.KernelIdeal.S5

end
-- ==== Proof.S5.Outs.lean ====
/- What a grid step leaves, over the blocks it loads: the run's contents after each grid point as one step of the
   arithmetic in `Body`, from zero at a head's first point, from the point before otherwise. -/
module

public import proofs.«01_k».proof.Proof.S5.OutA
public import proofs.«01_k».proof.Proof.S5.OutB

@[expose] public section

set_option maxRecDepth 16384

noncomputable section

namespace Cert.KernelIdeal.S5

open Idealize.ShloMosaic Idealize.ShloMosaic.TcCoe Idealize.SL.Sem
open Cert.KernelIdeal Cert.KernelIdeal.Gen

variable {F : FTy → Type} [FloatOps F] [Named F]

/-- The contents `o` are one step from the accumulators `p` and the carry `cr`, `ci`. -/
structure Stepped (B : Fin 2 → Bt F) (T : Tb F) (cr ci : Fin 2 → FVec F S1x512 .f32) (p17 : Vec F S1x128 .f32)
    (p18 p19 : Vec F S1x512x128 .f32) (p20 p21 : Vec F S1x128x512 .f32) (p22 p23 : Vec F S1x512 .f32)
    (o16 : Vec F S2x128x128 .bf16) (o17 : Vec F S1x128 .f32) (o18 o19 : Vec F S1x512x128 .f32) (o20 o21 : Vec F S1x128x512 .f32)
    (o22 o23 : Vec F S1x512 .f32) (or oi : Vec F S2x1x512 .f32) : Prop where
  h16 : ∀ (b : Fin 2) (r h : Fin 128), o16 (ix3 b r h) = duOut (B b) T (cr b) (ci b) (ix3 0 r h)
  h17 : o17 = ddStep (B 1) (ddStep (B 0) p17)
  h18 : o18 = dwcrStep (B 1) (dwcrStep (B 0) p18)
  h19 : o19 = dwciStep (B 1) (dwciStep (B 0) p19)
  h20 : o20 = dwbStep (B 1) (lamR (B 1) T (cr 1) (ci 1)) (dwbStep (B 0) (lamR (B 0) T (cr 0) (ci 0)) p20)
  h21 : o21 = dwbStep (B 1) (lamI (B 1) T (cr 1) (ci 1)) (dwbStep (B 0) (lamI (B 0) T (cr 0) (ci 0)) p21)
  h22 : o22 = darStep (B 1) T (cr 1) (ci 1) (darStep (B 0) T (cr 0) (ci 0) p22)
  h23 : o23 = daiStep (B 1) T (cr 1) (ci 1) (daiStep (B 0) T (cr 0) (ci 0) p23)
  hr : ∀ (b : Fin 2) (n : Fin 512), or (ix3 b 0 n) = outR (B b) T (cr b) (ci b) (ix3 0 0 n)
  hi : ∀ (b : Fin 2) (n : Fin 512), oi (ix3 b 0 n) = outI (B b) T (cr b) (ci b) (ix3 0 0 n)

theorem emb_rows (b : Fin 2) (inb : ∀ a, (![b.val, 0, 0] : Fin 3 → ℕ) a + S1x128x128.size a ≤ S2x128x128.size a) (r h : Fin 128) :
    (Rect.unit (s := S2x128x128) ![b.val, 0, 0] S1x128x128.size inb).emb (ix3 0 r h : S1x128x128.Idx) = ix3 b r h := by
  funext a; apply Fin.ext
  fin_cases a
  · exact Nat.add_zero _
  · exact (Nat.zero_add _).trans (Nat.one_mul _)
  · exact (Nat.zero_add _).trans (Nat.one_mul _)

theorem emb_carry (b : Fin 2) (inb : ∀ a, (![b.val, 0, 0] : Fin 3 → ℕ) a + S1x1x512.size a ≤ S2x1x512.size a) (n : Fin 512) :
    (Rect.unit (s := S2x1x512) ![b.val, 0, 0] S1x1x512.size inb).emb (ix3 0 0 n : S1x1x512.Idx) = ix3 b 0 n := by
  funext a; apply Fin.ext
  fin_cases a
  · exact Nat.add_zero _
  · rfl
  · exact (Nat.zero_add _).trans (Nat.one_mul _)

theorem stepped_of {B : Fin 2 → Bt F} {T : Tb F} {cr ci : Fin 2 → FVec F S1x512 .f32} {p17 : Vec F S1x128 .f32}
    {p18 p19 : Vec F S1x512x128 .f32} {p20 p21 : Vec F S1x128x512 .f32} {p22 p23 : Vec F S1x512 .f32}
    {o16 : Vec F S2x128x128 .bf16} {o17 : Vec F S1x128 .f32} {o18 o19 : Vec F S1x512x128 .f32} {o20 o21 : Vec F S1x128x512 .f32}
    {o22 o23 : Vec F S1x512 .f32} {or oi : Vec F S2x1x512 .f32}
    {o : Vec F S2x128x128 .bf16 × Vec F S1x128 .f32 × Vec F S1x512x128 .f32 × Vec F S1x512x128 .f32 × Vec F S1x128x512 .f32 ×
      Vec F S1x128x512 .f32 × Vec F S1x512 .f32 × Vec F S1x512 .f32 × Vec F S2x1x512 .f32 × Vec F S2x1x512 .f32}
    (h : Stepped B T cr ci p17 p18 p19 p20 p21 p22 p23 o16 o17 o18 o19 o20 o21 o22 o23 or oi)
    (e : o = (o16, o17, o18, o19, o20, o21, o22, o23, or, oi)) :
    Stepped B T cr ci p17 p18 p19 p20 p21 p22 p23 o.1 o.2.1 o.2.2.1 o.2.2.2.1 o.2.2.2.2.1 o.2.2.2.2.2.1 o.2.2.2.2.2.2.1
      o.2.2.2.2.2.2.2.1 o.2.2.2.2.2.2.2.2.1 o.2.2.2.2.2.2.2.2.2 := by
  subst e; exact h

theorem at_row {α : Type} (f : S2x128x128.Idx → α) (b : Fin 2)
    (inb : ∀ a, (![b.val, 0, 0] : Fin 3 → ℕ) a + S1x128x128.size a ≤ S2x128x128.size a) (r h : Fin 128) {v : α}
    (e : f ((Rect.unit (s := S2x128x128) ![b.val, 0, 0] S1x128x128.size inb).emb (ix3 0 r h : S1x128x128.Idx)) = v) :
    f (ix3 b r h) = v := by rw [← emb_rows b inb r h]; exact e

theorem at_carry {α : Type} (f : S2x1x512.Idx → α) (b : Fin 2)
    (inb : ∀ a, (![b.val, 0, 0] : Fin 3 → ℕ) a + S1x1x512.size a ≤ S2x1x512.size a) (n : Fin 512) {v : α}
    (e : f ((Rect.unit (s := S2x1x512) ![b.val, 0, 0] S1x1x512.size inb).emb (ix3 0 0 n : S1x1x512.Idx)) = v) :
    f (ix3 b 0 n) = v := by rw [← emb_carry b inb n]; exact e

section

variable (c : Dev nD) (i : grid0.Coords) (e2 : Memref sig .tc .vmem S2x128x128 .f32) (k2 : e2.IsWhole) (e3 : Memref sig .tc .vmem S2x128x128 .f32) (k3 : e3.IsWhole) (e4 : Memref sig .tc .vmem S2x128x128 .f32) (k4 : e4.IsWhole) (e5 : Memref sig .tc .vmem S2x128x512 .f32) (k5 : e5.IsWhole) (e6 : Memref sig .tc .vmem S2x128x512 .f32) (k6 : e6.IsWhole) (e7 : Memref sig .tc .vmem S2x8x512 .f32) (k7 : e7.IsWhole) (e8 : Memref sig .tc .vmem S2x8x512 .f32) (k8 : e8.IsWhole) (e9 : Memref sig .tc .vmem S1x128x512 .bf16) (k9 : e9.IsWhole) (e10 : Memref sig .tc .vmem S1x128x512 .bf16) (k10 : e10.IsWhole) (e11 : Memref sig .tc .vmem S8x512 .f32) (k11 : e11.IsWhole) (e12 : Memref sig .tc .vmem S8x512 .f32) (k12 : e12.IsWhole) (e13 : Memref sig .tc .vmem S8x512 .f32) (k13 : e13.IsWhole) (e14 : Memref sig .tc .vmem S8x512 .f32) (k14 : e14.IsWhole) (e15 : Memref sig .tc .vmem S1x512x128 .bf16) (k15 : e15.IsWhole) (e16 : Memref sig .tc .vmem S1x512x128 .bf16) (k16 : e16.IsWhole) (e17 : Memref sig .tc .vmem S1x128 .f32) (k17 : e17.IsWhole) (e18 : Memref sig .tc .vmem S2x128x128 .bf16) (k18 : e18.IsWhole) (e19 : Memref sig .tc .vmem S1x128 .f32) (k19 : e19.IsWhole) (e20 : Memref sig .tc .vmem S1x512x128 .f32) (k20 : e20.IsWhole) (e21 : Memref sig .tc .vmem S1x512x128 .f32) (k21 : e21.IsWhole) (e22 : Memref sig .tc .vmem S1x128x512 .f32) (k22 : e22.IsWhole) (e23 : Memref sig .tc .vmem S1x128x512 .f32) (k23 : e23.IsWhole) (e24 : Memref sig .tc .vmem S1x512 .f32) (k24 : e24.IsWhole) (e25 : Memref sig .tc .vmem S1x512 .f32) (k25 : e25.IsWhole) (e26 : Memref sig .tc .vmem S2x1x512 .f32) (k26 : e26.IsWhole) (e27 : Memref sig .tc .vmem S2x1x512 .f32) (k27 : e27.IsWhole)
  (x0 : Vec F S2x128x128 .f32) (x1 : Vec F S2x128x128 .f32) (x2 : Vec F S2x128x128 .f32) (x3 : Vec F S2x128x512 .f32) (x4 : Vec F S2x128x512 .f32) (x5 : Vec F S2x8x512 .f32) (x6 : Vec F S2x8x512 .f32) (x7 : Vec F S1x128x512 .bf16) (x8 : Vec F S1x128x512 .bf16) (x9 : Vec F S8x512 .f32) (x10 : Vec F S8x512 .f32) (x11 : Vec F S8x512 .f32) (x12 : Vec F S8x512 .f32) (x13 : Vec F S1x512x128 .bf16) (x14 : Vec F S1x512x128 .bf16) (x15 : Vec F S1x128 .f32)

theorem stepA (hc0 : cond0_0 i) : Stepped (bt x0 x1 x2 x3 x4 x5 x6) (tb i x7 x8 x9 x10 x11 x12 x13 x14 x15) (fun _ => zero S1x512) (fun _ => zero S1x512) (zero S1x128) (zero S1x512x128) (zero S1x512x128) (zero S1x128x512) (zero S1x128x512) (zero S1x512) (zero S1x512)
    (out0_A_16 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15)
    (out0_A_17 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15)
    (out0_A_18 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15)
    (out0_A_19 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15)
    (out0_A_20 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15)
    (out0_A_21 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15)
    (out0_A_22 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15)
    (out0_A_23 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15)
    (sout0_A_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15)
    (sout0_A_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15) where
  h16 := Fin.forall_fin_two.mpr ⟨fun r h => at_row (out0_A_16 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15) 0 inb_S2x128x128_S1x128x128_0_0_0 r h ((rawA_16_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 (ix3 0 r h)).trans (by rw [raw0_eq, rawT_eq])),
    fun r h => at_row (out0_A_16 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15) 1 inb_S2x128x128_S1x128x128_1_0_0 r h ((rawA_16_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 (ix3 0 r h)).trans (by rw [raw1_eq, rawT_eq]))⟩
  h17 := (rawA_17 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0).trans (by rw [raw0_eq, raw1_eq])
  h18 := (rawA_18 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0).trans (by rw [raw0_eq, raw1_eq])
  h19 := (rawA_19 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0).trans (by rw [raw0_eq, raw1_eq])
  h20 := (rawA_20 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0).trans (by rw [raw0_eq, raw1_eq, rawT_eq])
  h21 := (rawA_21 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0).trans (by rw [raw0_eq, raw1_eq, rawT_eq])
  h22 := (rawA_22 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0).trans (by rw [raw0_eq, raw1_eq, rawT_eq])
  h23 := (rawA_23 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0).trans (by rw [raw0_eq, raw1_eq, rawT_eq])
  hr := Fin.forall_fin_two.mpr ⟨fun n => at_carry (sout0_A_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15) 0 inb_S2x1x512_S1x1x512_0_0_0 n ((rawA_0_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 (ix3 0 0 n)).trans (by rw [raw0_eq, rawT_eq])),
    fun n => at_carry (sout0_A_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15) 1 inb_S2x1x512_S1x1x512_1_0_0 n ((rawA_0_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 (ix3 0 0 n)).trans (by rw [raw1_eq, rawT_eq]))⟩
  hi := Fin.forall_fin_two.mpr ⟨fun n => at_carry (sout0_A_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15) 0 inb_S2x1x512_S1x1x512_0_0_0 n ((rawA_1_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 (ix3 0 0 n)).trans (by rw [raw0_eq, rawT_eq])),
    fun n => at_carry (sout0_A_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15) 1 inb_S2x1x512_S1x1x512_1_0_0 n ((rawA_1_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 (ix3 0 0 n)).trans (by rw [raw1_eq, rawT_eq]))⟩

theorem stepB (hc0 : ¬cond0_0 i) (xo17 : Vec F S1x128 .f32) (xo18 : Vec F S1x512x128 .f32) (xo19 : Vec F S1x512x128 .f32) (xo20 : Vec F S1x128x512 .f32) (xo21 : Vec F S1x128x512 .f32) (xo22 : Vec F S1x512 .f32) (xo23 : Vec F S1x512 .f32) (xs0 : Vec F S2x1x512 .f32) (xs1 : Vec F S2x1x512 .f32) : Stepped (bt x0 x1 x2 x3 x4 x5 x6) (tb i x7 x8 x9 x10 x11 x12 x13 x14 x15) (fun b => carry xs0 b) (fun b => carry xs1 b) xo17 xo18 xo19 xo20 xo21 xo22 xo23
    (out0_B_16 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1)
    (out0_B_17 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1)
    (out0_B_18 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1)
    (out0_B_19 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1)
    (out0_B_20 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1)
    (out0_B_21 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1)
    (out0_B_22 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1)
    (out0_B_23 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1)
    (sout0_B_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1)
    (sout0_B_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1) where
  h16 := Fin.forall_fin_two.mpr ⟨fun r h => at_row (out0_B_16 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1) 0 inb_S2x128x128_S1x128x128_0_0_0 r h ((rawB_16_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1 (ix3 0 r h)).trans (by rw [raw0_eq, rawT_eq])),
    fun r h => at_row (out0_B_16 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1) 1 inb_S2x128x128_S1x128x128_1_0_0 r h ((rawB_16_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1 (ix3 0 r h)).trans (by rw [raw1_eq, rawT_eq]))⟩
  h17 := (rawB_17 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1).trans (by rw [raw0_eq, raw1_eq])
  h18 := (rawB_18 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1).trans (by rw [raw0_eq, raw1_eq])
  h19 := (rawB_19 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1).trans (by rw [raw0_eq, raw1_eq])
  h20 := (rawB_20 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1).trans (by rw [raw0_eq, raw1_eq, rawT_eq])
  h21 := (rawB_21 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1).trans (by rw [raw0_eq, raw1_eq, rawT_eq])
  h22 := (rawB_22 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1).trans (by rw [raw0_eq, raw1_eq, rawT_eq])
  h23 := (rawB_23 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1).trans (by rw [raw0_eq, raw1_eq, rawT_eq])
  hr := Fin.forall_fin_two.mpr ⟨fun n => at_carry (sout0_B_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1) 0 inb_S2x1x512_S1x1x512_0_0_0 n ((rawB_0_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1 (ix3 0 0 n)).trans (by rw [raw0_eq, rawT_eq])),
    fun n => at_carry (sout0_B_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1) 1 inb_S2x1x512_S1x1x512_1_0_0 n ((rawB_0_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1 (ix3 0 0 n)).trans (by rw [raw1_eq, rawT_eq]))⟩
  hi := Fin.forall_fin_two.mpr ⟨fun n => at_carry (sout0_B_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1) 0 inb_S2x1x512_S1x1x512_0_0_0 n ((rawB_1_0 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1 (ix3 0 0 n)).trans (by rw [raw0_eq, rawT_eq])),
    fun n => at_carry (sout0_B_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 hc0 x0 x1 x2 x3 x4 x5 x6 x7 x8 x9 x10 x11 x12 x13 x14 x15 xo17 xo18 xo19 xo20 xo21 xo22 xo23 xs0 xs1) 1 inb_S2x1x512_S1x1x512_1_0_0 n ((rawB_1_1 c i e2 k2 e3 k3 e4 k4 e5 k5 e6 k6 e7 k7 e8 k8 e9 k9 e10 k10 e11 k11 e12 k12 e13 k13 e14 k14 e15 k15 e16 k16 e17 k17 e18 k18 e19 k19 e20 k20 e21 k21 e22 k22 e23 k23 e24 k24 e25 k25 e26 k26 e27 k27 x0 x1 x2 x3 x4 x5 x6 x7 x8 x9 x10 x11 x12 x13 x14 x15 hc0 xo17 xo18 xo19 xo20 xo21 xo22 xo23 xs0 xs1 (ix3 0 0 n)).trans (by rw [raw1_eq, rawT_eq]))⟩

end

variable (m : (ℓ : Loc nD τ sig) → Buf (Elt F) ℓ) (c : Dev nD) (t : Fin cfg0.N)

/-- What the point loads of each batch element. -/
def blkB : Fin 2 → Bt F :=
  bt (iblk m c 0 t) (iblk m c 1 t) (iblk m c 2 t) (iblk m c 3 t) (iblk m c 4 t) (iblk m c 5 t) (iblk m c 6 t)

/-- What the point loads once. -/
def blkT : Tb F :=
  tb (grid0.coords t) (iblk m c 7 t) (iblk m c 8 t) (iblk m c 9 t) (iblk m c 10 t) (iblk m c 11 t) (iblk m c 12 t)
    (iblk m c 13 t) (iblk m c 14 t) (iblk m c 15 t)

theorem stepped_A (h0 : t.val % 17 = 0) : let o := outsAt0 m c t.val t.isLt;
    Stepped (blkB m c t) (blkT m c t) (fun _ => zero S1x512) (fun _ => zero S1x512) (zero S1x128) (zero S1x512x128) (zero S1x512x128) (zero S1x128x512) (zero S1x128x512) (zero S1x512) (zero S1x512)
      o.1 o.2.1 o.2.2.1 o.2.2.2.1 o.2.2.2.2.1 o.2.2.2.2.2.1 o.2.2.2.2.2.2.1 o.2.2.2.2.2.2.2.1 o.2.2.2.2.2.2.2.2.1 o.2.2.2.2.2.2.2.2.2 := by
  unfold blkB blkT
  exact stepped_of (stepA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((hcond0_0 t).mpr h0)) (outsAt0_A m c t h0)

theorem stepped_B (h0 : ¬t.val % 17 = 0) : let p := (outsAt0 m c (t.val - 1) (Nat.lt_of_le_of_lt (Nat.sub_le _ _) t.isLt));  let o := outsAt0 m c t.val t.isLt;
    Stepped (blkB m c t) (blkT m c t) (fun b => carry p.2.2.2.2.2.2.2.2.1 b) (fun b => carry p.2.2.2.2.2.2.2.2.2 b) p.2.1 p.2.2.1 p.2.2.2.1 p.2.2.2.2.1 p.2.2.2.2.2.1 p.2.2.2.2.2.2.1 p.2.2.2.2.2.2.2.1
      o.1 o.2.1 o.2.2.1 o.2.2.2.1 o.2.2.2.2.1 o.2.2.2.2.2.1 o.2.2.2.2.2.2.1 o.2.2.2.2.2.2.2.1 o.2.2.2.2.2.2.2.2.1 o.2.2.2.2.2.2.2.2.2 := by
  unfold blkB blkT
  exact stepped_of (stepB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) (outsAt0_B m c t h0)

end Cert.KernelIdeal.S5

end
-- ==== Proof.S5.Rec.lean ====
/- Back-propagation through the recurrence x_t = a x_{t-1} + …, over the complex numbers: the adjoint runs from the last
   row to the first, `back a l (k+1) = l k + conj a · back a l k`, `l k` the gradient that row `N-1-k` receives directly.
   One chunk of 128 rows is worked in eight-row groups: three doubling stages leave each row's sum over the rest of its
   group (`stage3`), and the group's row `r` then adds `conj (a ^ (8 - r))` times the adjoint of the row after the group. -/
module

public import Mathlib.Data.Complex.BigOperators
public import Mathlib.Algebra.BigOperators.Intervals
public import Mathlib.Tactic.Ring
public import Mathlib.Tactic.IntervalCases
public import Mathlib.Data.EReal.Operations

@[expose] public section

noncomputable section

namespace Cert.S5

open scoped ComplexConjugate

/-- The adjoint state after the last `k` rows. -/
def back (a : ℂ) (l : ℕ → ℂ) : ℕ → ℂ
  | 0 => 0
  | k + 1 => l k + conj a * back a l k

/-- One doubling stage over eight-row groups: row `i` adds `q` times row `i + s`, when that row is in the same group. -/
def stage (q : ℂ) (s : ℕ) (w : ℕ → ℂ) (i : ℕ) : ℂ := w i + q * (if i % 8 < 8 - s then w (i + s) else 0)

/-- The three stages, by 1, 2 and 4 rows. -/
def stage3 (a : ℂ) (w : ℕ → ℂ) : ℕ → ℂ :=
  stage (conj (a ^ 4)) 4 (stage (conj (a ^ 2)) 2 (stage (conj (a ^ 1)) 1 w))

/-- A row of a group: its three-stage sum and the adjoint of the row after the group give its own adjoint. -/
theorem stage3_add (a : ℂ) (w y : ℕ → ℂ) (j r : ℕ) (hr : r < 8)
    (h : ∀ s, s < 8 → y (8 * j + s) = w (8 * j + s) + conj a * y (8 * j + s + 1)) :
    stage3 a w (8 * j + r) + conj (a ^ (8 - r)) * y (8 * j + 8) = y (8 * j + r) := by
  have h0 := h 0 (by omega)
  have h1 := h 1 (by omega)
  have h2 := h 2 (by omega)
  have h3 := h 3 (by omega)
  have h4 := h 4 (by omega)
  have h5 := h 5 (by omega)
  have h6 := h 6 (by omega)
  have h7 := h 7 (by omega)
  simp only [add_assoc, Nat.reduceAdd, add_zero] at h0 h1 h2 h3 h4 h5 h6 h7
  unfold stage3
  interval_cases r <;>
    simp [stage, Nat.mul_add_mod, add_assoc, h0, h1, h2, h3, h4, h5, h6, h7] <;> ring

/-- The chunk that starts after `K` rows from the end: its row `i` is the `K + (128 - i)`-th from the end. -/
theorem chunk_row (a : ℂ) (l : ℕ → ℂ) (K j r : ℕ) (hj : j < 16) (hr : r < 8) :
    stage3 a (fun i => l (K + (127 - i))) (8 * j + r) + conj (a ^ (8 - r)) * back a l (K + (128 - (8 * j + 8)))
      = back a l (K + (128 - (8 * j + r))) := by
  refine stage3_add a _ (fun i => back a l (K + (128 - i))) j r hr fun s hs => ?_
  have e : K + (128 - (8 * j + s)) = K + (127 - (8 * j + s)) + 1 := by omega
  have e' : K + (128 - (8 * j + s + 1)) = K + (127 - (8 * j + s)) := by omega
  simp only [e, e', back]

end Cert.S5

end
-- ==== Proof.S5.Point.lean ====
/- The step's operations over the extended reals, read at an index: for inputs that are real numbers, the values are the
   reals that the recurrence over the complex numbers names. -/
module

public import proofs.«01_k».proof.Proof.S5.Body
public import proofs.«01_k».proof.Proof.S5.Rec
public import Idealize.ShloMosaic.Lib.Pointwise
public import Idealize.ShloMosaic.Lib.Pipeline.ValueKit

@[expose] public section

set_option maxRecDepth 16384

noncomputable section

namespace Cert.KernelIdeal.S5

open Idealize.ShloMosaic Idealize.ShloMosaic.TcCoe Idealize.SL.Sem
open Cert.KernelIdeal Cert.KernelIdeal.Gen
open scoped ComplexConjugate

/-! ### Constants -/

theorem half_eq : Ideal.ofBits .f32 1056964608#32 = ((1 / 2 : ℝ) : EReal) := by
  simp [Ideal.ofBits, Ideal.ieee]
  rw [← EReal.coe_mul]; norm_num

/-- The constant √(2/π) of gelu, as the program's word has it. -/
def c0 : ℝ := (Ideal.ofBits .f32 1061962282#32).toReal

theorem c0_eq : Ideal.ofBits .f32 1061962282#32 = (c0 : EReal) := by
  unfold c0
  rw [EReal.coe_toReal] <;> simp [Ideal.ofBits, Ideal.ieee] <;>
    first | exact EReal.coe_ne_top _ | exact EReal.coe_ne_bot _

theorem c_eq : (Named.named κ "c" 1027024659#32 : Ideal .f32) = ((44715 / 1000000 : ℝ) : EReal) := by
  rw [show (Named.named κ "c" 1027024659#32 : Ideal .f32) = ((8943 / 200000 : ℝ) : EReal) from rfl]; norm_num

theorem three_c_eq : (Named.named κ "three_c" 1040801103#32 : Ideal .f32) = ((3 * (44715 / 1000000) : ℝ) : EReal) := by
  rw [show (Named.named κ "three_c" 1040801103#32 : Ideal .f32) = ((26829 / 200000 : ℝ) : EReal) from rfl]; norm_num

/-- The derivative of gelu. -/
def gd (y : ℝ) : ℝ :=
  1 / 2 * (1 + Real.tanh (c0 * (y + 44715 / 1000000 * y * y * y))) +
    1 / 2 * y * (1 - Real.tanh (c0 * (y + 44715 / 1000000 * y * y * y)) * Real.tanh (c0 * (y + 44715 / 1000000 * y * y * y)))
      * c0 * (1 + 3 * (44715 / 1000000) * y * y)

theorem coe_sum {ι : Type} (s : Finset ι) (f : ι → ℝ) : ∑ i ∈ s, ((f i : ℝ) : EReal) = ((∑ i ∈ s, f i : ℝ) : EReal) := by
  induction s using Finset.cons_induction with
  | empty => simp
  | cons a s h ih => rw [Finset.sum_cons, Finset.sum_cons, ih, EReal.coe_add]

theorem dy_pt (b : Bt Ideal) (r h : Fin 128) (G Y : ℝ) (hG : b.g (ix3 0 r h) = (G : EReal)) (hY : b.y (ix3 0 r h) = (Y : EReal)) :
    dy b (ix2 r h) = ((G * gd Y : ℝ) : EReal) := by
  pointwise [dy, k0_pay14, k0_pay15]
  rw [hG, hY, c_eq, three_c_eq, half_eq, c0_eq]
  simp only [gd, ← EReal.coe_one, ← EReal.coe_add, ← EReal.coe_mul, ← EReal.coe_sub, Ideal.tanh_coe]

/-! ### The readout's cotangent -/

theorem l0r_pt (b : Bt Ideal) (T : Tb Ideal) (r : Fin 128) (n : Fin 512) (D W : Fin 128 → ℝ)
    (hD : ∀ h : Fin 128, dy b (ix2 r h) = (D h : EReal)) (hW : ∀ h : Fin 128, T.wcr (ix3 0 n h) = (W h : EReal)) :
    l0r b T (ix2 r n) = ((∑ h, D h * W h : ℝ) : EReal) := by
  pointwise [l0r, out2, dyb, zero]
  simp only [hD, hW, ← EReal.coe_mul, coe_sum, zero_add]

theorem l0i_pt (b : Bt Ideal) (T : Tb Ideal) (r : Fin 128) (n : Fin 512) (D W : Fin 128 → ℝ)
    (hD : ∀ h : Fin 128, dy b (ix2 r h) = (D h : EReal)) (hW : ∀ h : Fin 128, T.wci (ix3 0 n h) = (W h : EReal)) :
    l0i b T (ix2 r n) = ((-∑ h, D h * W h : ℝ) : EReal) := by
  pointwise [l0i, out2, dyb, zero]
  simp only [hD, hW, ← EReal.coe_mul, coe_sum, zero_add]
  rw [← EReal.coe_zero, ← EReal.coe_sub, zero_sub]

/-! ### The stages -/

theorem row8 (r : Fin 128) (n : Fin 512) : k0_pay25 (ix2 r n) = BitVec.ofNat 32 (r.val % 8) := by
  pointwise [k0_pay25]
  clear n; revert r; decide +kernel

theorem lt7 (r : Fin 128) : IntOp.cmpi .slt (BitVec.ofNat 32 (r.val % 8)) 7#32 = if r.val % 8 < 8 - 1 then 1#1 else 0#1 := by
  revert r; decide +kernel
theorem lt6 (r : Fin 128) : IntOp.cmpi .slt (BitVec.ofNat 32 (r.val % 8)) 6#32 = if r.val % 8 < 8 - 2 then 1#1 else 0#1 := by
  revert r; decide +kernel
theorem lt4 (r : Fin 128) : IntOp.cmpi .slt (BitVec.ofNat 32 (r.val % 8)) 4#32 = if r.val % 8 < 8 - 4 then 1#1 else 0#1 := by
  revert r; decide +kernel

/-- A shift by `s` rows inside the groups, at a column whose entries are `f`. -/
def Shifts (lim rot : BitVec 32) (s : ℕ) : Prop :=
  ∀ (x : FVec Ideal S128x512 .f32) (n : Fin 512) (f : ℕ → ℝ), (∀ r : Fin 128, x (ix2 r n) = (f r.val : EReal)) →
    ∀ r : Fin 128, shl lim rot x (ix2 r n) = ((if r.val % 8 < 8 - s then f (r.val + s) else 0 : ℝ) : EReal)

theorem shifts1 : Shifts 7#32 127#32 1 := by
  intro x n f hf r
  pointwise [shl, zero]
  rw [row8, lt7, hf]
  split
  · have : (r.val + 1) % 128 = r.val + 1 := by omega
    simp [Scalar.select, this]
  · simp [Scalar.select]

theorem shifts2 : Shifts 6#32 126#32 2 := by
  intro x n f hf r
  pointwise [shl, zero]
  rw [row8, lt6, hf]
  split
  · have : (r.val + 2) % 128 = r.val + 2 := by omega
    simp [Scalar.select, this]
  · simp [Scalar.select]

theorem shifts4 : Shifts 4#32 124#32 4 := by
  intro x n f hf r
  pointwise [shl, zero]
  rw [row8, lt4, hf]
  split
  · have : (r.val + 4) % 128 = r.val + 4 := by omega
    simp [Scalar.select, this]
  · simp [Scalar.select]

theorem stR_pt {lim rot : BitVec 32} {s : ℕ} (hs : Shifts lim rot s) (ar ai : Vec Ideal S1x512 .f32)
    (R I : FVec Ideal S128x512 .f32) (n : Fin 512) (q : ℂ) (z : ℕ → ℂ)
    (har : ar (ix2 0 n) = (q.re : EReal)) (hai : ai (ix2 0 n) = (q.im : EReal))
    (hR : ∀ r : Fin 128, R (ix2 r n) = ((z r.val).re : EReal)) (hI : ∀ r : Fin 128, I (ix2 r n) = ((z r.val).im : EReal))
    (r : Fin 128) : stR lim rot ar ai R I (ix2 r n) = ((Cert.S5.stage (conj q) s z r.val).re : EReal) := by
  have h1 := hs R n (fun i => (z i).re) hR r
  have h2 := hs I n (fun i => (z i).im) hI r
  pointwise [stR, bc]
  rw [h1, h2, hR, har, hai]
  simp only [← EReal.coe_mul, ← EReal.coe_add]
  congr 1
  unfold Cert.S5.stage
  split <;> simp [Complex.add_re, Complex.mul_re]

theorem stI_pt {lim rot : BitVec 32} {s : ℕ} (hs : Shifts lim rot s) (ar ai : Vec Ideal S1x512 .f32)
    (R I : FVec Ideal S128x512 .f32) (n : Fin 512) (q : ℂ) (z : ℕ → ℂ)
    (har : ar (ix2 0 n) = (q.re : EReal)) (hai : ai (ix2 0 n) = (q.im : EReal))
    (hR : ∀ r : Fin 128, R (ix2 r n) = ((z r.val).re : EReal)) (hI : ∀ r : Fin 128, I (ix2 r n) = ((z r.val).im : EReal))
    (r : Fin 128) : stI lim rot ar ai R I (ix2 r n) = ((Cert.S5.stage (conj q) s z r.val).im : EReal) := by
  have h1 := hs R n (fun i => (z i).re) hR r
  have h2 := hs I n (fun i => (z i).im) hI r
  pointwise [stI, bc]
  rw [h1, h2, hI, har, hai]
  simp only [← EReal.coe_mul, ← EReal.coe_add, ← EReal.coe_sub]
  congr 1
  unfold Cert.S5.stage
  split <;> simp [Complex.add_im, Complex.mul_im, sub_eq_add_neg]

/-- The tables of a step at one state: the powers of `a`. -/
structure TabIs (T : Tb Ideal) (n : Fin 512) (a : ℂ) : Prop where
  s0r : T.s0r (ix2 0 n) = ((a ^ 1).re : EReal)
  s0i : T.s0i (ix2 0 n) = ((a ^ 1).im : EReal)
  s1r : T.s1r (ix2 0 n) = ((a ^ 2).re : EReal)
  s1i : T.s1i (ix2 0 n) = ((a ^ 2).im : EReal)
  s2r : T.s2r (ix2 0 n) = ((a ^ 4).re : EReal)
  s2i : T.s2i (ix2 0 n) = ((a ^ 4).im : EReal)
  qr : ∀ r : Fin 8, T.qr (ix2 r n) = ((a ^ (8 - r.val)).re : EReal)
  qi : ∀ r : Fin 8, T.qi (ix2 r n) = ((a ^ (8 - r.val)).im : EReal)

theorem l3_pt (b : Bt Ideal) (T : Tb Ideal) (n : Fin 512) (a : ℂ) (hT : TabIs T n a) (z : ℕ → ℂ)
    (hR : ∀ r : Fin 128, l0r b T (ix2 r n) = ((z r.val).re : EReal))
    (hI : ∀ r : Fin 128, l0i b T (ix2 r n) = ((z r.val).im : EReal)) (r : Fin 128) :
    l3r b T (ix2 r n) = ((Cert.S5.stage3 a z r.val).re : EReal) ∧ l3i b T (ix2 r n) = ((Cert.S5.stage3 a z r.val).im : EReal) := by
  have h1r := stR_pt shifts1 T.s0r T.s0i (l0r b T) (l0i b T) n (a ^ 1) z hT.s0r hT.s0i hR hI
  have h1i := stI_pt shifts1 T.s0r T.s0i (l0r b T) (l0i b T) n (a ^ 1) z hT.s0r hT.s0i hR hI
  have h2r := stR_pt shifts2 T.s1r T.s1i (l1r b T) (l1i b T) n (a ^ 2) _ hT.s1r hT.s1i h1r h1i
  have h2i := stI_pt shifts2 T.s1r T.s1i (l1r b T) (l1i b T) n (a ^ 2) _ hT.s1r hT.s1i h1r h1i
  exact ⟨stR_pt shifts4 T.s2r T.s2i (l2r b T) (l2i b T) n (a ^ 4) _ hT.s2r hT.s2i h2r h2i r,
    stI_pt shifts4 T.s2r T.s2i (l2r b T) (l2i b T) n (a ^ 4) _ hT.s2r hT.s2i h2r h2i r⟩

/-! ### The carry -/

theorem bkR_pt (T : Tb Ideal) (x : FVec Ideal S8x512 .f32) (cr ci : FVec Ideal S1x512 .f32) (n : Fin 512) (a : ℂ)
    (hT : TabIs T n a) (r : Fin 8) (xr : ℝ) (c : ℂ) (hx : x (ix2 r n) = (xr : EReal))
    (hr : cr (ix2 0 n) = (c.re : EReal)) (hi : ci (ix2 0 n) = (c.im : EReal)) :
    bkR T x cr ci (ix2 r n) = ((xr + (conj (a ^ (8 - r.val)) * c).re : ℝ) : EReal) := by
  pointwise [bkR, tab, bc8]
  rw [hx, hT.qr, hT.qi, hr, hi]
  simp only [← EReal.coe_mul, ← EReal.coe_add]
  congr 1
  rw [Complex.mul_re, Complex.conj_re, Complex.conj_im]; ring

theorem bkI_pt (T : Tb Ideal) (x : FVec Ideal S8x512 .f32) (cr ci : FVec Ideal S1x512 .f32) (n : Fin 512) (a : ℂ)
    (hT : TabIs T n a) (r : Fin 8) (xi : ℝ) (c : ℂ) (hx : x (ix2 r n) = (xi : EReal))
    (hr : cr (ix2 0 n) = (c.re : EReal)) (hi : ci (ix2 0 n) = (c.im : EReal)) :
    bkI T x cr ci (ix2 r n) = ((xi + (conj (a ^ (8 - r.val)) * c).im : ℝ) : EReal) := by
  pointwise [bkI, tab, bc8]
  rw [hx, hT.qr, hT.qi, hr, hi]
  simp only [← EReal.coe_mul, ← EReal.coe_add, ← EReal.coe_sub]
  congr 1
  rw [Complex.mul_im, Complex.conj_re, Complex.conj_im]; ring

theorem top_pt (x : FVec Ideal S8x512 .f32) (n : Fin 512) : top x (ix2 0 n) = x (ix2 0 n) := by
  pointwise [top]

/-- Block `15 - k` after the carry: its rows hold the adjoint, `K` rows of the later chunks before this one. -/
theorem chain_pt (b : Bt Ideal) (T : Tb Ideal) (cr ci : FVec Ideal S1x512 .f32) (n : Fin 512) (a : ℂ) (hT : TabIs T n a)
    (l : ℕ → ℂ) (K : ℕ)
    (hR : ∀ r : Fin 128, l0r b T (ix2 r n) = ((l (K + (127 - r.val))).re : EReal))
    (hI : ∀ r : Fin 128, l0i b T (ix2 r n) = ((l (K + (127 - r.val))).im : EReal))
    (hcr : cr (ix2 0 n) = ((Cert.S5.back a l K).re : EReal)) (hci : ci (ix2 0 n) = ((Cert.S5.back a l K).im : EReal)) :
    ∀ k : ℕ, k < 16 → ∀ r : Fin 8,
      (chain b T cr ci k).1 (ix2 r n) = ((Cert.S5.back a l (K + (128 - (8 * (15 - k) + r.val)))).re : EReal) ∧
      (chain b T cr ci k).2 (ix2 r n) = ((Cert.S5.back a l (K + (128 - (8 * (15 - k) + r.val)))).im : EReal) := by
  have h3 := l3_pt b T n a hT (fun i => l (K + (127 - i))) hR hI
  have hs : ∀ (k : ℕ) (hk : k < 16) (x : FVec Ideal S128x512 .f32) (r : Fin 8),
      extractStridedSlice S8x512 ![120 - 8 * k, 0] x (slices8 k) (ix2 r n)
        = x (ix2 ⟨8 * (15 - k) + r.val, by omega⟩ n) := by
    intro k hk x r
    have e : 8 * (15 - k) = 120 - 8 * k := by omega
    pointwise
    simp only [e]
  intro k
  induction k with
  | zero =>
    intro _ r
    have h := h3 ⟨8 * (15 - 0) + r.val, by omega⟩
    have hc := Cert.S5.chunk_row a l K 15 r.val (by omega) r.isLt
    constructor
    · show bkR T _ cr ci (ix2 r n) = _
      rw [bkR_pt T _ cr ci n a hT r _ _ ((hs 0 (by omega) _ r).trans h.1) hcr hci, ← Complex.add_re]
      exact congrArg (fun w : ℂ => (w.re : EReal)) hc
    · show bkI T _ cr ci (ix2 r n) = _
      rw [bkI_pt T _ cr ci n a hT r _ _ ((hs 0 (by omega) _ r).trans h.2) hcr hci, ← Complex.add_im]
      exact congrArg (fun w : ℂ => (w.im : EReal)) hc
  | succ k ih =>
    intro hk r
    have h := h3 ⟨8 * (15 - (k + 1)) + r.val, by omega⟩
    have hc := Cert.S5.chunk_row a l K (15 - (k + 1)) r.val (by omega) r.isLt
    have i0 := ih (by omega) 0
    have e : 8 * (15 - k) + (0 : Fin 8).val = 8 * (15 - (k + 1)) + 8 := by
      show 8 * (15 - k) + 0 = _
      omega
    rw [e] at i0
    constructor
    · show bkR T _ _ _ (ix2 r n) = _
      rw [bkR_pt T _ _ _ n a hT r _ _ ((hs (k + 1) hk _ r).trans h.1) ((top_pt _ n).trans i0.1) ((top_pt _ n).trans i0.2),
        ← Complex.add_re]
      exact congrArg (fun w : ℂ => (w.re : EReal)) hc
    · show bkI T _ _ _ (ix2 r n) = _
      rw [bkI_pt T _ _ _ n a hT r _ _ ((hs (k + 1) hk _ r).trans h.2) ((top_pt _ n).trans i0.1) ((top_pt _ n).trans i0.2),
        ← Complex.add_im]
      exact congrArg (fun w : ℂ => (w.im : EReal)) hc

theorem glue_pt (f : ℕ → FVec Ideal S8x512 .f32) (r : Fin 128) (n : Fin 512) :
    glue f (ix2 r n) = f (15 - r.val / 8) (ix2 ⟨r.val % 8, Nat.mod_lt _ (by omega)⟩ n) := by
  refine concatenate_ofFn_apply (t := S128x512) (s₁ := S8x512) 0 (fun i : Fin 16 => f (15 - i.val))
    concatenates_S8x512_S8x512_S8x512_S8x512_S8x512_S8x512_S8x512_S8x512_S8x512_S8x512_S8x512_S8x512_S8x512_S8x512_S8x512_S8x512_S128x512_d0
    rfl 8 rfl (ix2 r n) ⟨r.val / 8, by omega⟩ rfl (ix2 ⟨r.val % 8, Nat.mod_lt _ (by omega)⟩ n) rfl fun b hb => ?_
  fin_cases b
  · exact absurd rfl hb
  · rfl

section

variable (b : Bt Ideal) (T : Tb Ideal) (cr ci : FVec Ideal S1x512 .f32) (n : Fin 512) (a : ℂ) (hT : TabIs T n a)
    (l : ℕ → ℂ) (K : ℕ)
    (hR : ∀ r : Fin 128, l0r b T (ix2 r n) = ((l (K + (127 - r.val))).re : EReal))
    (hI : ∀ r : Fin 128, l0i b T (ix2 r n) = ((l (K + (127 - r.val))).im : EReal))
    (hcr : cr (ix2 0 n) = ((Cert.S5.back a l K).re : EReal)) (hci : ci (ix2 0 n) = ((Cert.S5.back a l K).im : EReal))

include hT hR hI hcr hci

/-- The chunk's adjoint, real part. -/
theorem lamR_pt (r : Fin 128) :
    lamR b T cr ci (ix2 r n) = ((Cert.S5.back a l (K + (128 - r.val))).re : EReal) := by
  have h := (chain_pt b T cr ci n a hT l K hR hI hcr hci (15 - r.val / 8) (by omega) ⟨r.val % 8, Nat.mod_lt _ (by omega)⟩).1
  have e : 8 * (15 - (15 - r.val / 8)) + r.val % 8 = r.val := by omega
  rw [lamR, glue_pt, h, e]

/-- The chunk's adjoint, imaginary part. -/
theorem lamI_pt (r : Fin 128) :
    lamI b T cr ci (ix2 r n) = ((Cert.S5.back a l (K + (128 - r.val))).im : EReal) := by
  have h := (chain_pt b T cr ci n a hT l K hR hI hcr hci (15 - r.val / 8) (by omega) ⟨r.val % 8, Nat.mod_lt _ (by omega)⟩).2
  have e : 8 * (15 - (15 - r.val / 8)) + r.val % 8 = r.val := by omega
  rw [lamI, glue_pt, h, e]

/-- The carry that the step leaves, real part. -/
theorem outR_pt : outR b T cr ci (ix3 0 0 n) = ((Cert.S5.back a l (K + 128)).re : EReal) := by
  have h := (chain_pt b T cr ci n a hT l K hR hI hcr hci 15 (by omega) 0).1
  pointwise [outR]
  rw [top_pt, h]; rfl

/-- The carry that the step leaves, imaginary part. -/
theorem outI_pt : outI b T cr ci (ix3 0 0 n) = ((Cert.S5.back a l (K + 128)).im : EReal) := by
  have h := (chain_pt b T cr ci n a hT l K hR hI hcr hci 15 (by omega) 0).2
  pointwise [outI]
  rw [top_pt, h]; rfl

end

/-! ### What a step adds to each accumulator -/

theorem ddStep_pt (b : Bt Ideal) (acc : Vec Ideal S1x128 .f32) (h : Fin 128) (A : ℝ) (D U : Fin 128 → ℝ)
    (hA : acc (ix2 0 h) = (A : EReal)) (hD : ∀ r : Fin 128, dy b (ix2 r h) = (D r : EReal))
    (hU : ∀ r : Fin 128, b.u (ix3 0 r h) = (U r : EReal)) :
    ddStep b acc (ix2 0 h) = ((A + ∑ r, D r * U r : ℝ) : EReal) := by
  pointwise [ddStep, k0_pay12]
  simp only [hA, hD, hU, ← EReal.coe_mul, coe_sum, ← EReal.coe_add]

theorem dwcrStep_pt (b : Bt Ideal) (acc : Vec Ideal S1x512x128 .f32) (n : Fin 512) (h : Fin 128) (A : ℝ) (D X : Fin 128 → ℝ)
    (hA : acc (ix3 0 n h) = (A : EReal)) (hD : ∀ r : Fin 128, dy b (ix2 r h) = (D r : EReal))
    (hX : ∀ r : Fin 128, b.xr (ix3 0 r n) = (X r : EReal)) :
    dwcrStep b acc (ix3 0 n h) = ((A + ∑ r, X r * D r : ℝ) : EReal) := by
  pointwise [dwcrStep, wcPart, xr2, dyb]
  simp only [hA, hD, hX, ← EReal.coe_mul, coe_sum, ← EReal.coe_add, zero_add]

theorem dwciStep_pt (b : Bt Ideal) (acc : Vec Ideal S1x512x128 .f32) (n : Fin 512) (h : Fin 128) (A : ℝ) (D X : Fin 128 → ℝ)
    (hA : acc (ix3 0 n h) = (A : EReal)) (hD : ∀ r : Fin 128, dy b (ix2 r h) = (D r : EReal))
    (hX : ∀ r : Fin 128, b.xi (ix3 0 r n) = (X r : EReal)) :
    dwciStep b acc (ix3 0 n h) = ((A - ∑ r, X r * D r : ℝ) : EReal) := by
  pointwise [dwciStep, wcPart, xi2, dyb]
  simp only [hA, hD, hX, ← EReal.coe_mul, coe_sum, ← EReal.coe_sub, zero_add]

theorem dwbStep_pt (b : Bt Ideal) (l : FVec Ideal S128x512 .f32) (acc : Vec Ideal S1x128x512 .f32) (h : Fin 128) (n : Fin 512)
    (A : ℝ) (U L : Fin 128 → ℝ) (hA : acc (ix3 0 h n) = (A : EReal)) (hU : ∀ r : Fin 128, b.u (ix3 0 r h) = (U r : EReal))
    (hL : ∀ r : Fin 128, l (ix2 r n) = (L r : EReal)) :
    dwbStep b l acc (ix3 0 h n) = ((A + ∑ r, U r * L r : ℝ) : EReal) := by
  pointwise [dwbStep, ub, k0_pay12]
  simp only [hA, hU, hL, ← EReal.coe_mul, coe_sum, ← EReal.coe_add, zero_add]

theorem duOut_pt (b : Bt Ideal) (T : Tb Ideal) (cr ci : FVec Ideal S1x512 .f32) (r h : Fin 128) (D d : ℝ)
    (LR LI WR WI : Fin 512 → ℝ) (hD : dy b (ix2 r h) = (D : EReal)) (hd : T.d (ix2 0 h) = (d : EReal))
    (hLR : ∀ n : Fin 512, lamR b T cr ci (ix2 r n) = (LR n : EReal))
    (hLI : ∀ n : Fin 512, lamI b T cr ci (ix2 r n) = (LI n : EReal))
    (hWR : ∀ n : Fin 512, T.wbr (ix3 0 h n) = (WR n : EReal)) (hWI : ∀ n : Fin 512, T.wbi (ix3 0 h n) = (WI n : EReal)) :
    duOut b T cr ci (ix3 0 r h) = ((∑ n, LR n * WR n + ∑ n, LI n * WI n + D * d : ℝ) : EReal) := by
  pointwise [duOut, duOf, wbMul]
  simp only [hD, hd, hLR, hLI, hWR, hWI, ← EReal.coe_mul, coe_sum, ← EReal.coe_add, zero_add]

theorem row0 (r : Fin 128) : IntOp.cmpi .eq (BitVec.ofNat 32 r.val) 0#32 = if r.val = 0 then 1#1 else 0#1 := by
  revert r; decide +kernel

theorem before_pt (T : Tb Ideal) (x : FVec Ideal S128x512 .f32) (p : Vec Ideal S1x512 .f32) (n : Fin 512) (P : ℝ) (X : ℕ → ℝ)
    (hP : Scalar.select T.last (0 : EReal) (p (ix2 0 n)) = (P : EReal)) (hX : ∀ r : Fin 128, x (ix2 r n) = (X r.val : EReal))
    (r : Fin 128) : before T x p (ix2 r n) = ((if r.val = 0 then P else X (r.val - 1) : ℝ) : EReal) := by
  pointwise [before, bc, zero]
  rw [row0, hX]
  split
  · rw [hP]; rfl
  · have : (r.val + 128 - 1) % 128 = r.val - 1 := by omega
    have e : ∀ x y : EReal, Scalar.select 0#1 x y = y := fun _ _ => rfl
    rw [e]; simp only [this]

theorem darStep_pt (b : Bt Ideal) (T : Tb Ideal) (cr ci : FVec Ideal S1x512 .f32) (acc : Vec Ideal S1x512 .f32) (n : Fin 512)
    (A : ℝ) (LR LI XR XI : Fin 128 → ℝ) (hA : acc (ix2 0 n) = (A : EReal))
    (hLR : ∀ r : Fin 128, lamR b T cr ci (ix2 r n) = (LR r : EReal))
    (hLI : ∀ r : Fin 128, lamI b T cr ci (ix2 r n) = (LI r : EReal))
    (hXR : ∀ r : Fin 128, xpr b T (ix2 r n) = (XR r : EReal)) (hXI : ∀ r : Fin 128, xpi b T (ix2 r n) = (XI r : EReal)) :
    darStep b T cr ci acc (ix2 0 n) = ((A + ∑ r, (LR r * XR r + LI r * XI r) : ℝ) : EReal) := by
  pointwise [darStep, k0_pay137]
  simp only [hA, hLR, hLI, hXR, hXI, ← EReal.coe_mul, ← EReal.coe_add, coe_sum]

theorem daiStep_pt (b : Bt Ideal) (T : Tb Ideal) (cr ci : FVec Ideal S1x512 .f32) (acc : Vec Ideal S1x512 .f32) (n : Fin 512)
    (A : ℝ) (LR LI XR XI : Fin 128 → ℝ) (hA : acc (ix2 0 n) = (A : EReal))
    (hLR : ∀ r : Fin 128, lamR b T cr ci (ix2 r n) = (LR r : EReal))
    (hLI : ∀ r : Fin 128, lamI b T cr ci (ix2 r n) = (LI r : EReal))
    (hXR : ∀ r : Fin 128, xpr b T (ix2 r n) = (XR r : EReal)) (hXI : ∀ r : Fin 128, xpi b T (ix2 r n) = (XI r : EReal)) :
    daiStep b T cr ci acc (ix2 0 n) = ((A + ∑ r, (LI r * XR r - LR r * XI r) : ℝ) : EReal) := by
  pointwise [daiStep, k0_pay138]
  simp only [hA, hLR, hLI, hXR, hXI, ← EReal.coe_mul, ← EReal.coe_add, ← EReal.coe_sub, coe_sum]

theorem zero_pt (s : Shape) (i : s.Idx) : zero (F := Ideal) s i = ((0 : ℝ) : EReal) := by
  show Ideal.ofBits .f32 0#32 = _
  rw [Ideal.ofBits_zero]; rfl

end Cert.KernelIdeal.S5

end
-- ==== Proof.S5.Spec.lean ====
/- What the backward pass of the S5 layer computes, over the real numbers: the gradients as sums over the two batch elements
   and the 2176 rows, the adjoint state `lam` from the recurrence over the complex numbers.  Row `t` of batch element `b` is
   row `b * 2176 + t` of the arrays; state `n` of head `g` is state `g * 512 + n`, channel `h` of head `g` is
   channel `g * 128 + h`. -/
module

public import proofs.«01_k».proof.Proof.S5.Rec
public import proofs.«01_k».proof.Proof.S5.Point

@[expose] public section

noncomputable section

namespace Cert.S5

open Idealize.ShloMosaic Idealize.ShloMosaic.TcCoe Idealize.SL.Sem
open Cert.KernelIdeal.S5 (gd)

/-- The arrays the backward pass takes, as functions of the indices. -/
structure In where
  dg : ℕ → ℕ → ℝ
  y : ℕ → ℕ → ℝ
  u : ℕ → ℕ → ℝ
  xr : ℕ → ℕ → ℝ
  xi : ℕ → ℕ → ℝ
  ar : ℕ → ℝ
  ai : ℕ → ℝ
  wbr : ℕ → ℕ → ℕ → ℝ
  wbi : ℕ → ℕ → ℕ → ℝ
  wcr : ℕ → ℕ → ℕ → ℝ
  wci : ℕ → ℕ → ℕ → ℝ
  d : ℕ → ℝ

/-- The programs' arrays hold these numbers. -/
structure Holds (I : In) (x0 x1 x2 : FVec Ideal ⟨2, ![4352, 1024]⟩ .f32) (x3 x4 : FVec Ideal ⟨2, ![4352, 4096]⟩ .f32)
    (x5 x6 : FVec Ideal ⟨2, ![64, 64]⟩ .f32) (x7 x8 : FVec Ideal ⟨3, ![8, 128, 512]⟩ .f32)
    (x9 x10 : FVec Ideal ⟨3, ![8, 512, 128]⟩ .f32) (x11 : FVec Ideal ⟨1, ![1024]⟩ .f32) : Prop where
  dg : ∀ (i : Fin 4352) (j : Fin 1024), x0 (ix2 i j) = (I.dg i j : EReal)
  y : ∀ (i : Fin 4352) (j : Fin 1024), x1 (ix2 i j) = (I.y i j : EReal)
  u : ∀ (i : Fin 4352) (j : Fin 1024), x2 (ix2 i j) = (I.u i j : EReal)
  xr : ∀ (i : Fin 4352) (j : Fin 4096), x3 (ix2 i j) = (I.xr i j : EReal)
  xi : ∀ (i : Fin 4352) (j : Fin 4096), x4 (ix2 i j) = (I.xi i j : EReal)
  ar : ∀ i j : Fin 64, x5 (ix2 i j) = (I.ar (i * 64 + j) : EReal)
  ai : ∀ i j : Fin 64, x6 (ix2 i j) = (I.ai (i * 64 + j) : EReal)
  wbr : ∀ (g : Fin 8) (h : Fin 128) (n : Fin 512), x7 (ix3 g h n) = (I.wbr g h n : EReal)
  wbi : ∀ (g : Fin 8) (h : Fin 128) (n : Fin 512), x8 (ix3 g h n) = (I.wbi g h n : EReal)
  wcr : ∀ (g : Fin 8) (n : Fin 512) (h : Fin 128), x9 (ix3 g n h) = (I.wcr g n h : EReal)
  wci : ∀ (g : Fin 8) (n : Fin 512) (h : Fin 128), x10 (ix3 g n h) = (I.wci g n h : EReal)
  d : ∀ j : Fin 1024, x11 (ix1 j) = (I.d j : EReal)

variable (I : In)

/-- The gradient of the pre-activation. -/
def In.dy (b t ch : ℕ) : ℝ := I.dg (b * 2176 + t) ch * gd (I.y (b * 2176 + t) ch)

/-- What row `2175 - k` of the states receives from the readout. -/
def In.lin (b g n k : ℕ) : ℂ :=
  ⟨∑ h : Fin 128, I.dy b (2175 - k) (g * 128 + h) * I.wcr g n h,
    -∑ h : Fin 128, I.dy b (2175 - k) (g * 128 + h) * I.wci g n h⟩

/-- The recurrence's multiplier. -/
def In.a (g n : ℕ) : ℂ := ⟨I.ar (g * 512 + n), I.ai (g * 512 + n)⟩

/-- The adjoint of the state at row `t`. -/
def In.lam (b t g n : ℕ) : ℂ := back (I.a g n) (I.lin b g n) (2176 - t)

/-- The state one row earlier, zero before the first row. -/
def prev (x : ℕ → ℕ → ℝ) (b t s : ℕ) : ℝ := if t = 0 then 0 else x (b * 2176 + (t - 1)) s

/-- The sum over the batch and the rows. -/
def tot (f : ℕ → ℕ → ℝ) : ℝ := ∑ b ∈ Finset.range 2, ∑ t ∈ Finset.range 2176, f b t

/-- The sum over the last `c` chunks of 128 rows. -/
def part (f : ℕ → ℕ → ℝ) (c : ℕ) : ℝ :=
  ∑ k ∈ Finset.range c, (∑ r : Fin 128, f 0 ((16 - k) * 128 + r) + ∑ r : Fin 128, f 1 ((16 - k) * 128 + r))

theorem part_zero (f : ℕ → ℕ → ℝ) : part f 0 = 0 := rfl

theorem part_succ (f : ℕ → ℕ → ℝ) (c : ℕ) :
    part f (c + 1) = part f c + ∑ r : Fin 128, f 0 ((16 - c) * 128 + r) + ∑ r : Fin 128, f 1 ((16 - c) * 128 + r) := by
  rw [part, part, Finset.sum_range_succ, add_assoc]

theorem sum_chunks (f : ℕ → ℝ) (N : ℕ) :
    ∑ t ∈ Finset.range (N * 128), f t = ∑ k ∈ Finset.range N, ∑ r : Fin 128, f (k * 128 + r) := by
  induction N with
  | zero => simp
  | succ N ih =>
    rw [Finset.sum_range_succ, ← ih, Nat.succ_mul, Finset.sum_range_add, Fin.sum_univ_eq_sum_range (fun r => f (N * 128 + r))]

/-- All seventeen chunks are all the rows. -/
theorem part_all (f : ℕ → ℕ → ℝ) : part f 17 = tot f := by
  have h : ∀ F : ℕ → ℝ, ∑ k ∈ Finset.range 17, F (16 - k) = ∑ k ∈ Finset.range 17, F k := fun F => by
    rw [← Finset.sum_range_reflect F 17]
  rw [part, tot, Finset.sum_add_distrib, Finset.sum_range_succ (n := 1), Finset.sum_range_one,
    h (fun k => ∑ r : Fin 128, f 0 (k * 128 + r)), h (fun k => ∑ r : Fin 128, f 1 (k * 128 + r)),
    ← sum_chunks, ← sum_chunks]

/-! ### The gradients -/

def In.du (b t g h : ℕ) : ℝ :=
  ∑ n : Fin 512, (I.lam b t g n).re * I.wbr g h n + ∑ n : Fin 512, (I.lam b t g n).im * I.wbi g h n +
    I.dy b t (g * 128 + h) * I.d (g * 128 + h)

def In.ddT (g h b t : ℕ) : ℝ := I.dy b t (g * 128 + h) * I.u (b * 2176 + t) (g * 128 + h)
def In.dwcrT (g n h b t : ℕ) : ℝ := I.xr (b * 2176 + t) (g * 512 + n) * I.dy b t (g * 128 + h)
def In.dwciT (g n h b t : ℕ) : ℝ := -(I.xi (b * 2176 + t) (g * 512 + n) * I.dy b t (g * 128 + h))
def In.dwbrT (g h n b t : ℕ) : ℝ := I.u (b * 2176 + t) (g * 128 + h) * (I.lam b t g n).re
def In.dwbiT (g h n b t : ℕ) : ℝ := I.u (b * 2176 + t) (g * 128 + h) * (I.lam b t g n).im
def In.darT (g n b t : ℕ) : ℝ :=
  (I.lam b t g n).re * prev I.xr b t (g * 512 + n) + (I.lam b t g n).im * prev I.xi b t (g * 512 + n)
def In.daiT (g n b t : ℕ) : ℝ :=
  (I.lam b t g n).im * prev I.xr b t (g * 512 + n) - (I.lam b t g n).re * prev I.xi b t (g * 512 + n)

end Cert.S5

end
-- ==== Proof.S5.Acc.lean ====
/- One grid step over the real numbers: with the accumulators at the sums over the later chunks and the carry at the adjoint
   of the row after the chunk, the step leaves the sums and the carry with this chunk added, and the chunk's rows of `du`. -/
module

public import proofs.«01_k».proof.Proof.S5.Spec

@[expose] public section

set_option maxRecDepth 16384

noncomputable section

namespace Cert.KernelIdeal.S5

open Idealize.ShloMosaic Idealize.ShloMosaic.TcCoe Idealize.SL.Sem
open Cert.KernelIdeal Cert.KernelIdeal.Gen
open Cert.S5 (In back part prev)

/-- The blocks of the step at head `g` and chunk `16 - c`. -/
structure Load (I : In) (g c : ℕ) (B : Fin 2 → Bt Ideal) (T : Tb Ideal) : Prop where
  dg : ∀ (b : Fin 2) (r h : Fin 128), (B b).g (ix3 0 r h) = (I.dg (b * 2176 + ((16 - c) * 128 + r)) (g * 128 + h) : EReal)
  y : ∀ (b : Fin 2) (r h : Fin 128), (B b).y (ix3 0 r h) = (I.y (b * 2176 + ((16 - c) * 128 + r)) (g * 128 + h) : EReal)
  u : ∀ (b : Fin 2) (r h : Fin 128), (B b).u (ix3 0 r h) = (I.u (b * 2176 + ((16 - c) * 128 + r)) (g * 128 + h) : EReal)
  xr : ∀ (b : Fin 2) (r : Fin 128) (n : Fin 512),
    (B b).xr (ix3 0 r n) = (I.xr (b * 2176 + ((16 - c) * 128 + r)) (g * 512 + n) : EReal)
  xi : ∀ (b : Fin 2) (r : Fin 128) (n : Fin 512),
    (B b).xi (ix3 0 r n) = (I.xi (b * 2176 + ((16 - c) * 128 + r)) (g * 512 + n) : EReal)
  pr : ∀ (b : Fin 2) (n : Fin 512), Scalar.select T.last (0 : EReal) ((B b).pr (ix2 0 n)) =
    (prev I.xr b ((16 - c) * 128) (g * 512 + n) : EReal)
  pi : ∀ (b : Fin 2) (n : Fin 512), Scalar.select T.last (0 : EReal) ((B b).pi (ix2 0 n)) =
    (prev I.xi b ((16 - c) * 128) (g * 512 + n) : EReal)
  wbr : ∀ (h : Fin 128) (n : Fin 512), T.wbr (ix3 0 h n) = (I.wbr g h n : EReal)
  wbi : ∀ (h : Fin 128) (n : Fin 512), T.wbi (ix3 0 h n) = (I.wbi g h n : EReal)
  wcr : ∀ (n : Fin 512) (h : Fin 128), T.wcr (ix3 0 n h) = (I.wcr g n h : EReal)
  wci : ∀ (n : Fin 512) (h : Fin 128), T.wci (ix3 0 n h) = (I.wci g n h : EReal)
  d : ∀ h : Fin 128, T.d (ix2 0 h) = (I.d (g * 128 + h) : EReal)
  tab : ∀ n : Fin 512, TabIs T n (I.a g n)

/-- The accumulators hold the sums over the last `c` chunks. -/
structure Sums (I : In) (g c : ℕ) (a17 : Vec Ideal S1x128 .f32) (a18 a19 : Vec Ideal S1x512x128 .f32)
    (a20 a21 : Vec Ideal S1x128x512 .f32) (a22 a23 : Vec Ideal S1x512 .f32) : Prop where
  dd : ∀ h : Fin 128, a17 (ix2 0 h) = (part (I.ddT g h) c : EReal)
  dwcr : ∀ (n : Fin 512) (h : Fin 128), a18 (ix3 0 n h) = (part (I.dwcrT g n h) c : EReal)
  dwci : ∀ (n : Fin 512) (h : Fin 128), a19 (ix3 0 n h) = (part (I.dwciT g n h) c : EReal)
  dwbr : ∀ (h : Fin 128) (n : Fin 512), a20 (ix3 0 h n) = (part (I.dwbrT g h n) c : EReal)
  dwbi : ∀ (h : Fin 128) (n : Fin 512), a21 (ix3 0 h n) = (part (I.dwbiT g h n) c : EReal)
  dar : ∀ n : Fin 512, a22 (ix2 0 n) = (part (I.darT g n) c : EReal)
  dai : ∀ n : Fin 512, a23 (ix2 0 n) = (part (I.daiT g n) c : EReal)

/-- The carry holds the adjoint after the last `c` chunks. -/
structure Carry (I : In) (g c : ℕ) (cr ci : Fin 2 → FVec Ideal S1x512 .f32) : Prop where
  r : ∀ (b : Fin 2) (n : Fin 512), cr b (ix2 0 n) = ((back (I.a g n) (I.lin b g n) (128 * c)).re : EReal)
  i : ∀ (b : Fin 2) (n : Fin 512), ci b (ix2 0 n) = ((back (I.a g n) (I.lin b g n) (128 * c)).im : EReal)

theorem sums_zero (I : In) (g : ℕ) : Sums I g 0 (zero (F := Ideal) S1x128) (zero (F := Ideal) S1x512x128) (zero (F := Ideal) S1x512x128) (zero (F := Ideal) S1x128x512)
    (zero (F := Ideal) S1x128x512) (zero (F := Ideal) S1x512) (zero (F := Ideal) S1x512) := by
  constructor <;> intros <;> rw [zero_pt, Cert.S5.part_zero]

theorem carry_zero (I : In) (g : ℕ) : Carry I g 0 (fun _ => zero S1x512) (fun _ => zero S1x512) := by
  constructor <;> intros <;> rw [zero_pt] <;> rfl

section

variable {I : In} {g c : ℕ} (hc : c < 17) {B : Fin 2 → Bt Ideal} {T : Tb Ideal} (hL : Load I g c B T)

include hL

theorem dy_row (b : Fin 2) (r h : Fin 128) : dy (B b) (ix2 r h) = (I.dy b ((16 - c) * 128 + r) (g * 128 + h) : EReal) :=
  dy_pt (B b) r h _ _ (hL.dg b r h) (hL.y b r h)

include hc

theorem row_eq (r : Fin 128) : 2175 - (128 * c + (127 - r.val)) = (16 - c) * 128 + r := by omega

theorem l0r_row (b : Fin 2) (n : Fin 512) (r : Fin 128) :
    l0r (B b) T (ix2 r n) = ((I.lin b g n (128 * c + (127 - r.val))).re : EReal) := by
  rw [l0r_pt (B b) T r n _ _ (fun h => dy_row hL b r h) (fun h => hL.wcr n h)]
  simp only [In.lin, row_eq hc hL]

theorem l0i_row (b : Fin 2) (n : Fin 512) (r : Fin 128) :
    l0i (B b) T (ix2 r n) = ((I.lin b g n (128 * c + (127 - r.val))).im : EReal) := by
  rw [l0i_pt (B b) T r n _ _ (fun h => dy_row hL b r h) (fun h => hL.wci n h)]
  simp only [In.lin, row_eq hc hL]

variable {cr ci : Fin 2 → FVec Ideal S1x512 .f32} (hC : Carry I g c cr ci)

theorem xpr_row (b : Fin 2) (n : Fin 512) (r : Fin 128) :
    xpr (B b) T (ix2 r n) = (prev I.xr b ((16 - c) * 128 + r) (g * 512 + n) : EReal) := by
  have hX : ∀ r : Fin 128, xr2 (B b) (ix2 r n) = ((fun k => I.xr (b * 2176 + ((16 - c) * 128 + k)) (g * 512 + n)) r.val : EReal) := by
    intro r
    rw [← hL.xr b r n]
    pointwise [xr2]
  rw [xpr, before_pt T _ _ n _ (fun k => I.xr (b * 2176 + ((16 - c) * 128 + k)) (g * 512 + n)) (hL.pr b n) hX r]
  congr 1
  rcases Nat.eq_zero_or_pos r.val with h | h
  · rw [if_pos h, h]; rfl
  · rw [if_neg (by omega), prev, if_neg (by omega)]
    have : (16 - c) * 128 + (r.val - 1) = (16 - c) * 128 + r.val - 1 := by omega
    rw [this]

theorem xpi_row (b : Fin 2) (n : Fin 512) (r : Fin 128) :
    xpi (B b) T (ix2 r n) = (prev I.xi b ((16 - c) * 128 + r) (g * 512 + n) : EReal) := by
  have hX : ∀ r : Fin 128, xi2 (B b) (ix2 r n) = ((fun k => I.xi (b * 2176 + ((16 - c) * 128 + k)) (g * 512 + n)) r.val : EReal) := by
    intro r
    rw [← hL.xi b r n]
    pointwise [xi2]
  rw [xpi, before_pt T _ _ n _ (fun k => I.xi (b * 2176 + ((16 - c) * 128 + k)) (g * 512 + n)) (hL.pi b n) hX r]
  congr 1
  rcases Nat.eq_zero_or_pos r.val with h | h
  · rw [if_pos h, h]; rfl
  · rw [if_neg (by omega), prev, if_neg (by omega)]
    have : (16 - c) * 128 + (r.val - 1) = (16 - c) * 128 + r.val - 1 := by omega
    rw [this]

include hC

theorem lamR_row (b : Fin 2) (n : Fin 512) (r : Fin 128) :
    lamR (B b) T (cr b) (ci b) (ix2 r n) = ((I.lam b ((16 - c) * 128 + r) g n).re : EReal) := by
  rw [lamR_pt (B b) T (cr b) (ci b) n _ (hL.tab n) (I.lin b g n) (128 * c) (l0r_row hc hL b n) (l0i_row hc hL b n) (hC.r b n)
    (hC.i b n) r, In.lam]
  have : 128 * c + (128 - r.val) = 2176 - ((16 - c) * 128 + r.val) := by omega
  rw [this]

theorem lamI_row (b : Fin 2) (n : Fin 512) (r : Fin 128) :
    lamI (B b) T (cr b) (ci b) (ix2 r n) = ((I.lam b ((16 - c) * 128 + r) g n).im : EReal) := by
  rw [lamI_pt (B b) T (cr b) (ci b) n _ (hL.tab n) (I.lin b g n) (128 * c) (l0r_row hc hL b n) (l0i_row hc hL b n) (hC.r b n)
    (hC.i b n) r, In.lam]
  have : 128 * c + (128 - r.val) = 2176 - ((16 - c) * 128 + r.val) := by omega
  rw [this]

theorem outR_row (b : Fin 2) (n : Fin 512) :
    outR (B b) T (cr b) (ci b) (ix3 0 0 n) = ((back (I.a g n) (I.lin b g n) (128 * (c + 1))).re : EReal) :=
  outR_pt (B b) T (cr b) (ci b) n _ (hL.tab n) (I.lin b g n) (128 * c) (l0r_row hc hL b n) (l0i_row hc hL b n) (hC.r b n)
    (hC.i b n)

theorem outI_row (b : Fin 2) (n : Fin 512) :
    outI (B b) T (cr b) (ci b) (ix3 0 0 n) = ((back (I.a g n) (I.lin b g n) (128 * (c + 1))).im : EReal) :=
  outI_pt (B b) T (cr b) (ci b) n _ (hL.tab n) (I.lin b g n) (128 * c) (l0r_row hc hL b n) (l0i_row hc hL b n) (hC.r b n)
    (hC.i b n)

theorem du_row (b : Fin 2) (r h : Fin 128) :
    duOut (B b) T (cr b) (ci b) (ix3 0 r h) = (I.du b ((16 - c) * 128 + r) g h : EReal) :=
  duOut_pt (B b) T (cr b) (ci b) r h _ _ _ _ _ _ (dy_row hL b r h) (hL.d h) (fun n => lamR_row hc hL hC b n r)
    (fun n => lamI_row hc hL hC b n r) (hL.wbr h) (hL.wbi h)

/-- The accumulators after the step. -/
theorem sums_step {a17 : Vec Ideal S1x128 .f32} {a18 a19 : Vec Ideal S1x512x128 .f32}
    {a20 a21 : Vec Ideal S1x128x512 .f32} {a22 a23 : Vec Ideal S1x512 .f32} (hS : Sums I g c a17 a18 a19 a20 a21 a22 a23) :
    Sums I g (c + 1) (ddStep (B 1) (ddStep (B 0) a17)) (dwcrStep (B 1) (dwcrStep (B 0) a18))
      (dwciStep (B 1) (dwciStep (B 0) a19))
      (dwbStep (B 1) (lamR (B 1) T (cr 1) (ci 1)) (dwbStep (B 0) (lamR (B 0) T (cr 0) (ci 0)) a20))
      (dwbStep (B 1) (lamI (B 1) T (cr 1) (ci 1)) (dwbStep (B 0) (lamI (B 0) T (cr 0) (ci 0)) a21))
      (darStep (B 1) T (cr 1) (ci 1) (darStep (B 0) T (cr 0) (ci 0) a22))
      (daiStep (B 1) T (cr 1) (ci 1) (daiStep (B 0) T (cr 0) (ci 0) a23)) where
  dd h := by
    rw [ddStep_pt (B 1) _ h _ _ _ (ddStep_pt (B 0) _ h _ _ _ (hS.dd h) (fun r => dy_row hL 0 r h) (fun r => hL.u 0 r h))
      (fun r => dy_row hL 1 r h) (fun r => hL.u 1 r h), Cert.S5.part_succ]
    rfl
  dwcr n h := by
    rw [dwcrStep_pt (B 1) _ n h _ _ _ (dwcrStep_pt (B 0) _ n h _ _ _ (hS.dwcr n h) (fun r => dy_row hL 0 r h)
      (fun r => hL.xr 0 r n)) (fun r => dy_row hL 1 r h) (fun r => hL.xr 1 r n), Cert.S5.part_succ]
    rfl
  dwci n h := by
    rw [dwciStep_pt (B 1) _ n h _ _ _ (dwciStep_pt (B 0) _ n h _ _ _ (hS.dwci n h) (fun r => dy_row hL 0 r h)
      (fun r => hL.xi 0 r n)) (fun r => dy_row hL 1 r h) (fun r => hL.xi 1 r n), Cert.S5.part_succ]
    simp only [In.dwciT, Finset.sum_neg_distrib, ← sub_eq_add_neg]
    rfl
  dwbr h n := by
    rw [dwbStep_pt (B 1) _ _ h n _ _ _ (dwbStep_pt (B 0) _ _ h n _ _ _ (hS.dwbr h n) (fun r => hL.u 0 r h)
      (fun r => lamR_row hc hL hC 0 n r)) (fun r => hL.u 1 r h) (fun r => lamR_row hc hL hC 1 n r), Cert.S5.part_succ]
    rfl
  dwbi h n := by
    rw [dwbStep_pt (B 1) _ _ h n _ _ _ (dwbStep_pt (B 0) _ _ h n _ _ _ (hS.dwbi h n) (fun r => hL.u 0 r h)
      (fun r => lamI_row hc hL hC 0 n r)) (fun r => hL.u 1 r h) (fun r => lamI_row hc hL hC 1 n r), Cert.S5.part_succ]
    rfl
  dar n := by
    rw [darStep_pt (B 1) T _ _ _ n _ _ _ _ _ (darStep_pt (B 0) T _ _ _ n _ _ _ _ _ (hS.dar n)
      (lamR_row hc hL hC 0 n) (lamI_row hc hL hC 0 n) (xpr_row hc hL 0 n) (xpi_row hc hL 0 n))
      (lamR_row hc hL hC 1 n) (lamI_row hc hL hC 1 n) (xpr_row hc hL 1 n) (xpi_row hc hL 1 n), Cert.S5.part_succ]
    rfl
  dai n := by
    rw [daiStep_pt (B 1) T _ _ _ n _ _ _ _ _ (daiStep_pt (B 0) T _ _ _ n _ _ _ _ _ (hS.dai n)
      (lamR_row hc hL hC 0 n) (lamI_row hc hL hC 0 n) (xpr_row hc hL 0 n) (xpi_row hc hL 0 n))
      (lamR_row hc hL hC 1 n) (lamI_row hc hL hC 1 n) (xpr_row hc hL 1 n) (xpi_row hc hL 1 n), Cert.S5.part_succ]
    rfl

end

end Cert.KernelIdeal.S5

end
-- ==== Proof.S5.Tab.lean ====
/- The tables of powers that the host computes for the kernel: row `r` of the first holds the real and the imaginary part of
   `a ^ (r + 1)`, by doubling; the second holds them in reverse order, the third the powers 1, 2, 4 and 8. -/
module

public import proofs.«01_k».proof.Proof.S5.Spec

@[expose] public section

set_option maxRecDepth 16384

noncomputable section

namespace Cert.KernelIdeal.S5

open Idealize.ShloMosaic Idealize.ShloMosaic.TcCoe Idealize.SL.Sem
open Cert.KernelIdeal Cert.KernelIdeal.Gen

section

variable {F : FTy → Type} [FloatOps F] [Named F]

def two (p q : FVec F S1x4096 .f32) : FVec F S2x4096 .f32 :=
  concatenate S2x4096 0 [⟨S1x4096, p⟩, ⟨S1x4096, q⟩] concatenates_S1x4096_S1x4096_S2x4096_d0
def p2r (x y : FVec F S1x4096 .f32) : FVec F S2x4096 .f32 := two x (subf (mulf x x) (mulf y y))
def p2i (x y : FVec F S1x4096 .f32) : FVec F S2x4096 .f32 := two y (addf (mulf x y) (mulf y x))

def four (p q : FVec F S2x4096 .f32) : FVec F S4x4096 .f32 :=
  concatenate S4x4096 0 [⟨S2x4096, p⟩, ⟨S2x4096, q⟩] concatenates_S2x4096_S2x4096_S4x4096_d0
def last2 (p : FVec F S2x4096 .f32) : FVec F S2x4096 .f32 :=
  broadcastInDim S2x4096 ![0, 1] bcast_S1x4096_S2x4096_0_1 (extractStridedSlice S1x4096 ![1, 0] p slices_S2x4096_S1x4096_1_0)
def p4r (p q : FVec F S2x4096 .f32) : FVec F S4x4096 .f32 := four p (subf (mulf p (last2 p)) (mulf q (last2 q)))
def p4i (p q : FVec F S2x4096 .f32) : FVec F S4x4096 .f32 := four q (addf (mulf p (last2 q)) (mulf q (last2 p)))

def eight (p q : FVec F S4x4096 .f32) : FVec F S8x4096 .f32 :=
  concatenate S8x4096 0 [⟨S4x4096, p⟩, ⟨S4x4096, q⟩] concatenates_S4x4096_S4x4096_S8x4096_d0
def last4 (p : FVec F S4x4096 .f32) : FVec F S4x4096 .f32 :=
  broadcastInDim S4x4096 ![0, 1] bcast_S1x4096_S4x4096_0_1 (extractStridedSlice S1x4096 ![3, 0] p slices_S4x4096_S1x4096_3_0)
def p8r (p q : FVec F S4x4096 .f32) : FVec F S8x4096 .f32 := eight p (subf (mulf p (last4 p)) (mulf q (last4 q)))
def p8i (p q : FVec F S4x4096 .f32) : FVec F S8x4096 .f32 := eight q (addf (mulf p (last4 q)) (mulf q (last4 p)))

/-- The first eight powers, real part. -/
def powR (x y : FVec F S1x4096 .f32) : FVec F S8x4096 .f32 := p8r (p4r (p2r x y) (p2i x y)) (p4i (p2r x y) (p2i x y))
/-- The first eight powers, imaginary part. -/
def powI (x y : FVec F S1x4096 .f32) : FVec F S8x4096 .f32 := p8i (p4r (p2r x y) (p2i x y)) (p4i (p2r x y) (p2i x y))

/-- Rows 0, 1, 3 and 7. -/
def pick (p : FVec F S8x4096 .f32) : FVec F S8x4096 .f32 :=
  concatenate S8x4096 0 [⟨S1x4096, extractStridedSlice S1x4096 ![0, 0] p slices_S8x4096_S1x4096_0_0⟩,
    ⟨S1x4096, extractStridedSlice S1x4096 ![1, 0] p slices_S8x4096_S1x4096_1_0⟩,
    ⟨S1x4096, extractStridedSlice S1x4096 ![3, 0] p slices_S8x4096_S1x4096_3_0⟩,
    ⟨S1x4096, extractStridedSlice S1x4096 ![7, 0] p slices_S8x4096_S1x4096_7_0⟩,
    ⟨S1x4096, extractStridedSlice S1x4096 ![7, 0] p slices_S8x4096_S1x4096_7_0⟩,
    ⟨S1x4096, extractStridedSlice S1x4096 ![7, 0] p slices_S8x4096_S1x4096_7_0⟩,
    ⟨S1x4096, extractStridedSlice S1x4096 ![7, 0] p slices_S8x4096_S1x4096_7_0⟩,
    ⟨S1x4096, extractStridedSlice S1x4096 ![7, 0] p slices_S8x4096_S1x4096_7_0⟩]
    concatenates_S1x4096_S1x4096_S1x4096_S1x4096_S1x4096_S1x4096_S1x4096_S1x4096_S8x4096_d0

end

theorem two_pt (p q : FVec Ideal S1x4096 .f32) (s : Fin 4096) : two p q (ix2 0 s) = p (ix2 0 s) ∧ two p q (ix2 1 s) = q (ix2 0 s) := by
  constructor <;> pointwise [two]

theorem four_pt (p q : FVec Ideal S2x4096 .f32) (s : Fin 4096) (r : Fin 2) :
    four p q (ix2 ⟨r.val, by omega⟩ s) = p (ix2 r s) ∧ four p q (ix2 ⟨r.val + 2, by omega⟩ s) = q (ix2 r s) := by
  constructor <;> pointwise [four]
  rw [dif_neg (by omega)]; rfl

theorem eight_pt (p q : FVec Ideal S4x4096 .f32) (s : Fin 4096) (r : Fin 4) :
    eight p q (ix2 ⟨r.val, by omega⟩ s) = p (ix2 r s) ∧ eight p q (ix2 ⟨r.val + 4, by omega⟩ s) = q (ix2 r s) := by
  constructor <;> pointwise [eight]
  rw [dif_neg (by omega)]; rfl

theorem last2_pt (p : FVec Ideal S2x4096 .f32) (r : Fin 2) (s : Fin 4096) : last2 p (ix2 r s) = p (ix2 1 s) := by
  pointwise [last2]

theorem last4_pt (p : FVec Ideal S4x4096 .f32) (r : Fin 4) (s : Fin 4096) : last4 p (ix2 r s) = p (ix2 3 s) := by
  pointwise [last4]

theorem pick_pt (p : FVec Ideal S8x4096 .f32) (s : Fin 4096) : pick p (ix2 0 s) = p (ix2 0 s) ∧ pick p (ix2 1 s) = p (ix2 1 s) ∧
    pick p (ix2 2 s) = p (ix2 3 s) := by
  refine ⟨?_, ?_, ?_⟩ <;> pointwise [pick]

variable {x y : FVec Ideal S1x4096 .f32} {a : ℂ} {s : Fin 4096}

theorem sub_coe (a b c d : ℝ) : ((a : EReal) * b - (c : EReal) * d) = ((a * b - c * d : ℝ) : EReal) := by push_cast; rfl
theorem add_coe (a b c d : ℝ) : ((a : EReal) * b + (c : EReal) * d) = ((a * b + c * d : ℝ) : EReal) := by push_cast; rfl

theorem p2_pt (hx : x (ix2 0 s) = (a.re : EReal)) (hy : y (ix2 0 s) = (a.im : EReal)) (r : Fin 2) :
    p2r x y (ix2 r s) = ((a ^ (r.val + 1)).re : EReal) ∧ p2i x y (ix2 r s) = ((a ^ (r.val + 1)).im : EReal) := by
  have h := two_pt x (subf (mulf x x) (mulf y y)) s
  have h' := two_pt y (addf (mulf x y) (mulf y x)) s
  have e : subf (mulf x x) (mulf y y) (ix2 0 s) = ((a ^ 2).re : EReal) := by
    rw [show subf (mulf x x) (mulf y y) (ix2 0 s) = x (ix2 0 s) * x (ix2 0 s) - y (ix2 0 s) * y (ix2 0 s) from rfl, hx, hy, sub_coe, pow_two,
      Complex.mul_re]
  have e' : addf (mulf x y) (mulf y x) (ix2 0 s) = ((a ^ 2).im : EReal) := by
    rw [show addf (mulf x y) (mulf y x) (ix2 0 s) = x (ix2 0 s) * y (ix2 0 s) + y (ix2 0 s) * x (ix2 0 s) from rfl, hx, hy, add_coe, pow_two,
      Complex.mul_im]
  match r with
  | 0 => exact ⟨h.1.trans (by rw [hx]; simp), h'.1.trans (by rw [hy]; simp)⟩
  | 1 => exact ⟨h.2.trans e, h'.2.trans e'⟩

/-- One doubling: from the powers `1 … 2` to the powers `1 … 4`. -/
theorem p4_pt {p q : FVec Ideal S2x4096 .f32} (h : ∀ r : Fin 2, p (ix2 r s) = ((a ^ (r.val + 1)).re : EReal) ∧
    q (ix2 r s) = ((a ^ (r.val + 1)).im : EReal)) (r : Fin 4) :
    p4r p q (ix2 r s) = ((a ^ (r.val + 1)).re : EReal) ∧ p4i p q (ix2 r s) = ((a ^ (r.val + 1)).im : EReal) := by
  have k1 := fun i => four_pt p (subf (mulf p (last2 p)) (mulf q (last2 q))) s i
  have k2 := fun i => four_pt q (addf (mulf p (last2 q)) (mulf q (last2 p))) s i
  by_cases hr : r.val < 2
  · exact ⟨((k1 ⟨r.val, hr⟩).1).trans (h ⟨r.val, hr⟩).1, ((k2 ⟨r.val, hr⟩).1).trans (h ⟨r.val, hr⟩).2⟩
  · obtain ⟨j, hj⟩ := r
    obtain ⟨i, rfl⟩ : ∃ i : Fin 2, j = i.val + 2 := ⟨⟨j - 2, by omega⟩, by simp only at hr; simp only; omega⟩
    have e : a ^ (i.val + 2 + 1) = a ^ (i.val + 1) * a ^ 2 := by rw [← pow_add]
    constructor
    · refine (k1 i).2.trans ?_
      rw [show subf (mulf p (last2 p)) (mulf q (last2 q)) (ix2 i s) = p (ix2 i s) * last2 p (ix2 i s) - q (ix2 i s) * last2 q (ix2 i s) from rfl,
        last2_pt, last2_pt, (h i).1, (h i).2, (h 1).1, (h 1).2, sub_coe, e, Complex.mul_re]; rfl
    · refine (k2 i).2.trans ?_
      rw [show addf (mulf p (last2 q)) (mulf q (last2 p)) (ix2 i s) = p (ix2 i s) * last2 q (ix2 i s) + q (ix2 i s) * last2 p (ix2 i s) from rfl,
        last2_pt, last2_pt, (h i).1, (h i).2, (h 1).1, (h 1).2, add_coe, e, Complex.mul_im]; rfl

/-- One doubling: from the powers `1 … 4` to the powers `1 … 8`. -/
theorem p8_pt {p q : FVec Ideal S4x4096 .f32} (h : ∀ r : Fin 4, p (ix2 r s) = ((a ^ (r.val + 1)).re : EReal) ∧
    q (ix2 r s) = ((a ^ (r.val + 1)).im : EReal)) (r : Fin 8) :
    p8r p q (ix2 r s) = ((a ^ (r.val + 1)).re : EReal) ∧ p8i p q (ix2 r s) = ((a ^ (r.val + 1)).im : EReal) := by
  have k1 := fun i => eight_pt p (subf (mulf p (last4 p)) (mulf q (last4 q))) s i
  have k2 := fun i => eight_pt q (addf (mulf p (last4 q)) (mulf q (last4 p))) s i
  by_cases hr : r.val < 4
  · exact ⟨((k1 ⟨r.val, hr⟩).1).trans (h ⟨r.val, hr⟩).1, ((k2 ⟨r.val, hr⟩).1).trans (h ⟨r.val, hr⟩).2⟩
  · obtain ⟨j, hj⟩ := r
    obtain ⟨i, rfl⟩ : ∃ i : Fin 4, j = i.val + 4 := ⟨⟨j - 4, by omega⟩, by simp only at hr; simp only; omega⟩
    have e : a ^ (i.val + 4 + 1) = a ^ (i.val + 1) * a ^ 4 := by rw [← pow_add]
    constructor
    · refine (k1 i).2.trans ?_
      rw [show subf (mulf p (last4 p)) (mulf q (last4 q)) (ix2 i s) = p (ix2 i s) * last4 p (ix2 i s) - q (ix2 i s) * last4 q (ix2 i s) from rfl,
        last4_pt, last4_pt, (h i).1, (h i).2, (h 3).1, (h 3).2, sub_coe, e, Complex.mul_re]; rfl
    · refine (k2 i).2.trans ?_
      rw [show addf (mulf p (last4 q)) (mulf q (last4 p)) (ix2 i s) = p (ix2 i s) * last4 q (ix2 i s) + q (ix2 i s) * last4 p (ix2 i s) from rfl,
        last4_pt, last4_pt, (h i).1, (h i).2, (h 3).1, (h 3).2, add_coe, e, Complex.mul_im]; rfl

theorem pow_pt (hx : x (ix2 0 s) = (a.re : EReal)) (hy : y (ix2 0 s) = (a.im : EReal)) (r : Fin 8) :
    powR x y (ix2 r s) = ((a ^ (r.val + 1)).re : EReal) ∧ powI x y (ix2 r s) = ((a ^ (r.val + 1)).im : EReal) :=
  p8_pt (p4_pt (p2_pt hx hy)) r

end Cert.KernelIdeal.S5

end
-- ==== Proof.S5.Blk.lean ====
/- What the windows hand to one grid point `t = 17 * g + c`: the chunk `16 - c` of the rows, the columns of layer `g`, and the row before the chunk. -/
module

public import proofs.«01_k».proof.Proof.S5.Outs
public import proofs.«01_k».proof.Proof.S5.Acc
public import proofs.«01_k».proof.Proof.S5.Tab
public import Idealize.ShloMosaic.Lib.Pipeline.ValueKit
public import Idealize.ShloMosaic.Lib.Claim
public import Idealize.ShloMosaic.Lib.Pointwise
public import Idealize.ShloMosaic.Lib.ValueLayout
public import Idealize.ShloMosaic.Lib.WordCmp

@[expose] public section

set_option maxRecDepth 16384
set_option maxHeartbeats 1600000

noncomputable section

namespace Cert.KernelIdeal.S5

open Idealize.ShloMosaic Idealize.ShloMosaic.TcCoe Idealize.SL.Sem
open Idealize.ShloMosaic.Pipeline (Dat)
open Cert.KernelIdeal Cert.KernelIdeal.Gen

theorem idx0 : ∀ t : Fin cfg0.N, win0_0.index t = ![0, 16 - t.val % 17, t.val / 17] :=
  (by decide +kernel : ∀ t : Fin grid0.N, _)

theorem idx1 : ∀ t : Fin cfg0.N, win0_1.index t = ![0, 16 - t.val % 17, t.val / 17] :=
  (by decide +kernel : ∀ t : Fin grid0.N, _)

theorem idx2 : ∀ t : Fin cfg0.N, win0_2.index t = ![0, 16 - t.val % 17, t.val / 17] :=
  (by decide +kernel : ∀ t : Fin grid0.N, _)

theorem idx3 : ∀ t : Fin cfg0.N, win0_3.index t = ![0, 16 - t.val % 17, t.val / 17] :=
  (by decide +kernel : ∀ t : Fin grid0.N, _)

theorem idx4 : ∀ t : Fin cfg0.N, win0_4.index t = ![0, 16 - t.val % 17, t.val / 17] :=
  (by decide +kernel : ∀ t : Fin grid0.N, _)

theorem idx5 : ∀ t : Fin cfg0.N, win0_5.index t = ![0, (16 - t.val % 17) * 16 - 1, t.val / 17] :=
  (by decide +kernel : ∀ t : Fin grid0.N, _)

theorem idx6 : ∀ t : Fin cfg0.N, win0_6.index t = ![0, (16 - t.val % 17) * 16 - 1, t.val / 17] :=
  (by decide +kernel : ∀ t : Fin grid0.N, _)

theorem idx7 : ∀ t : Fin cfg0.N, win0_7.index t = ![t.val / 17, 0, 0] :=
  (by decide +kernel : ∀ t : Fin grid0.N, _)

theorem idx8 : ∀ t : Fin cfg0.N, win0_8.index t = ![t.val / 17, 0, 0] :=
  (by decide +kernel : ∀ t : Fin grid0.N, _)

theorem idx13 : ∀ t : Fin cfg0.N, win0_13.index t = ![t.val / 17, 0, 0] :=
  (by decide +kernel : ∀ t : Fin grid0.N, _)

theorem idx14 : ∀ t : Fin cfg0.N, win0_14.index t = ![t.val / 17, 0, 0] :=
  (by decide +kernel : ∀ t : Fin grid0.N, _)

theorem idx9 : ∀ t : Fin cfg0.N, win0_9.index t = ![0, t.val / 17] :=
  (by decide +kernel : ∀ t : Fin grid0.N, _)

theorem idx10 : ∀ t : Fin cfg0.N, win0_10.index t = ![0, t.val / 17] :=
  (by decide +kernel : ∀ t : Fin grid0.N, _)

theorem idx11 : ∀ t : Fin cfg0.N, win0_11.index t = ![0, t.val / 17] :=
  (by decide +kernel : ∀ t : Fin grid0.N, _)

theorem idx12 : ∀ t : Fin cfg0.N, win0_12.index t = ![0, t.val / 17] :=
  (by decide +kernel : ∀ t : Fin grid0.N, _)

theorem idx15 : ∀ t : Fin cfg0.N, win0_15.index t = ![0, t.val / 17] :=
  (by decide +kernel : ∀ t : Fin grid0.N, _)

theorem crd : ∀ t : Fin cfg0.N, ((grid0.coords t) 1).val = t.val % 17 :=
  (by decide +kernel : ∀ t : Fin grid0.N, _)

variable (m : (ℓ : Loc nD τ sig) → Buf (Elt Ideal) ℓ) (c : Dev nD)

theorem blk_lt (t : Fin cfg0.N) : t.val < 136 := t.isLt

theorem rd0 (t : Fin cfg0.N) (b : Fin 2) (r h : Fin 128) :
    (show FVec Ideal S2x128x128 .f32 from iblk m c 0 t) (ix3 b r h) =
      (show FVec Ideal S4352x1024 .f32 from m (c.tc.loc main_arg0)) (ix2 ⟨b.val * 2176 + ((16 - t.val % 17) * 128 + r.val), by omega⟩ ⟨t.val / 17 * 128 + h.val, by have := blk_lt t; omega⟩) := by
  blk_simp [iblk]
  entry_read
  pointwise
  blk_ext [idx0 t]

theorem rd1 (t : Fin cfg0.N) (b : Fin 2) (r h : Fin 128) :
    (show FVec Ideal S2x128x128 .f32 from iblk m c 1 t) (ix3 b r h) =
      (show FVec Ideal S4352x1024 .f32 from m (c.tc.loc main_arg1)) (ix2 ⟨b.val * 2176 + ((16 - t.val % 17) * 128 + r.val), by omega⟩ ⟨t.val / 17 * 128 + h.val, by have := blk_lt t; omega⟩) := by
  blk_simp [iblk]
  entry_read
  pointwise
  blk_ext [idx1 t]

theorem rd2 (t : Fin cfg0.N) (b : Fin 2) (r h : Fin 128) :
    (show FVec Ideal S2x128x128 .f32 from iblk m c 2 t) (ix3 b r h) =
      (show FVec Ideal S4352x1024 .f32 from m (c.tc.loc main_arg2)) (ix2 ⟨b.val * 2176 + ((16 - t.val % 17) * 128 + r.val), by omega⟩ ⟨t.val / 17 * 128 + h.val, by have := blk_lt t; omega⟩) := by
  blk_simp [iblk]
  entry_read
  pointwise
  blk_ext [idx2 t]

theorem rd3 (t : Fin cfg0.N) (b : Fin 2) (r : Fin 128) (n : Fin 512) :
    (show FVec Ideal S2x128x512 .f32 from iblk m c 3 t) (ix3 b r n) =
      (show FVec Ideal S4352x4096 .f32 from m (c.tc.loc main_arg3)) (ix2 ⟨b.val * 2176 + ((16 - t.val % 17) * 128 + r.val), by omega⟩ ⟨t.val / 17 * 512 + n.val, by have := blk_lt t; omega⟩) := by
  blk_simp [iblk]
  entry_read
  pointwise
  blk_ext [idx3 t]

theorem rd4 (t : Fin cfg0.N) (b : Fin 2) (r : Fin 128) (n : Fin 512) :
    (show FVec Ideal S2x128x512 .f32 from iblk m c 4 t) (ix3 b r n) =
      (show FVec Ideal S4352x4096 .f32 from m (c.tc.loc main_arg4)) (ix2 ⟨b.val * 2176 + ((16 - t.val % 17) * 128 + r.val), by omega⟩ ⟨t.val / 17 * 512 + n.val, by have := blk_lt t; omega⟩) := by
  blk_simp [iblk]
  entry_read
  pointwise
  blk_ext [idx4 t]

theorem rd5 (t : Fin cfg0.N) (b : Fin 2) (n : Fin 512) (h0 : t.val % 17 < 16) :
    (show FVec Ideal S2x8x512 .f32 from iblk m c 5 t) (ix3 b 7 n) =
      (show FVec Ideal S4352x4096 .f32 from m (c.tc.loc main_arg3)) (ix2 ⟨b.val * 2176 + ((16 - t.val % 17) * 128 - 1), by omega⟩ ⟨t.val / 17 * 512 + n.val, by have := blk_lt t; omega⟩) := by
  blk_simp [iblk]
  entry_read
  pointwise
  blk_ext [idx5 t]

theorem rd6 (t : Fin cfg0.N) (b : Fin 2) (n : Fin 512) (h0 : t.val % 17 < 16) :
    (show FVec Ideal S2x8x512 .f32 from iblk m c 6 t) (ix3 b 7 n) =
      (show FVec Ideal S4352x4096 .f32 from m (c.tc.loc main_arg4)) (ix2 ⟨b.val * 2176 + ((16 - t.val % 17) * 128 - 1), by omega⟩ ⟨t.val / 17 * 512 + n.val, by have := blk_lt t; omega⟩) := by
  blk_simp [iblk]
  entry_read
  pointwise
  blk_ext [idx6 t]

theorem rd7 (t : Fin cfg0.N) (h : Fin 128) (n : Fin 512) :
    (show FVec Ideal S1x128x512 .bf16 from iblk m c 7 t) (ix3 0 h n) =
      (show FVec Ideal S8x128x512 .f32 from m (c.tc.loc main_arg7)) (ix3 ⟨t.val / 17, by have := blk_lt t; omega⟩ h n) := by
  blk_simp [iblk]
  entry_read
  pointwise
  blk_ext [idx7 t]

theorem rd8 (t : Fin cfg0.N) (h : Fin 128) (n : Fin 512) :
    (show FVec Ideal S1x128x512 .bf16 from iblk m c 8 t) (ix3 0 h n) =
      (show FVec Ideal S8x128x512 .f32 from m (c.tc.loc main_arg8)) (ix3 ⟨t.val / 17, by have := blk_lt t; omega⟩ h n) := by
  blk_simp [iblk]
  entry_read
  pointwise
  blk_ext [idx8 t]

theorem rd13 (t : Fin cfg0.N) (n : Fin 512) (h : Fin 128) :
    (show FVec Ideal S1x512x128 .bf16 from iblk m c 13 t) (ix3 0 n h) =
      (show FVec Ideal S8x512x128 .f32 from m (c.tc.loc main_arg9)) (ix3 ⟨t.val / 17, by have := blk_lt t; omega⟩ n h) := by
  blk_simp [iblk]
  entry_read
  pointwise
  blk_ext [idx13 t]

theorem rd14 (t : Fin cfg0.N) (n : Fin 512) (h : Fin 128) :
    (show FVec Ideal S1x512x128 .bf16 from iblk m c 14 t) (ix3 0 n h) =
      (show FVec Ideal S8x512x128 .f32 from m (c.tc.loc main_arg10)) (ix3 ⟨t.val / 17, by have := blk_lt t; omega⟩ n h) := by
  blk_simp [iblk]
  entry_read
  pointwise
  blk_ext [idx14 t]

theorem rd15 (t : Fin cfg0.N) (h : Fin 128) :
    (show FVec Ideal S1x128 .f32 from iblk m c 15 t) (ix2 0 h) =
      (show FVec Ideal S1024 .f32 from m (c.tc.loc main_arg11)) (ix1 ⟨t.val / 17 * 128 + h.val, by have := blk_lt t; omega⟩) := by
  blk_simp [iblk]
  entry_read
  pointwise
  blk_ext [idx15 t]

end Cert.KernelIdeal.S5

end
-- ==== Proof.S5.BlkTab.lean ====
/- The rows of the tables of powers that reach a grid point. -/
module

public import proofs.«01_k».proof.Proof.S5.Blk
public import Idealize.ShloMosaic.Lib.StableHlo.RunRead

@[expose] public section

set_option maxRecDepth 16384
set_option maxHeartbeats 1600000

noncomputable section

namespace Cert.KernelIdeal.S5

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

theorem ent9 : V m c main_v38 = Host.reverse [0] (powR (shapeCast S1x4096 (show FVec Ideal S64x64 .f32 from m (c.tc.loc main_arg5)) shapeCasts_S64x64_S1x4096) (shapeCast S1x4096 (show FVec Ideal S64x64 .f32 from m (c.tc.loc main_arg6)) shapeCasts_S64x64_S1x4096)) := by
  entry_read
  rfl

theorem ent10 : V m c main_v39 = Host.reverse [0] (powI (shapeCast S1x4096 (show FVec Ideal S64x64 .f32 from m (c.tc.loc main_arg5)) shapeCasts_S64x64_S1x4096) (shapeCast S1x4096 (show FVec Ideal S64x64 .f32 from m (c.tc.loc main_arg6)) shapeCasts_S64x64_S1x4096)) := by
  entry_read
  rfl

theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

theorem upto_after (ops : List (HloOp τ sig (Elt Ideal))) (V : Valuation τ sig (Elt Ideal)) (n : ℕ) (W : List (Ref sig .tc)) {r : Ref sig .tc}
    (hW : (ops.drop n).map HloOp.writes = W.map fun w => {Proc.devRef (τ := τ) .tc w}) (hr : r ∉ W) :
    StableHlo.upto ops V n (Proc.devRef .tc r) = StableHlo.after ops V (Proc.devRef .tc r) := by
  have h : StableHlo.after ops V = StableHlo.after (ops.drop n) (StableHlo.upto ops V n) := by
    rw [StableHlo.upto, ← after_app, List.take_append_drop]
  rw [h]
  exact (StableHlo.after_unwritten W hW hr _).symm

theorem u40 : StableHlo.upto hostOps0 (fun b => m (c, b)) 48 (Proc.devRef .tc main_v40) =
    extractStridedSlice S1x4096 ![0, 0] (powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_0_0 := by
  rw [upto_after hostOps0 _ 48 [main_v48, main_v49, main_v50, main_v51, main_v52, main_v53, main_v54, main_v55, main_v56, main_v57, main_v58, main_v59, main_v60, main_v61, main_v62, main_v63, main_v64, main_v65, main_v66, main_v67] rfl (by decide +kernel)]
  show V m c main_v40 = _
  entry_read
  rfl

theorem u41 : StableHlo.upto hostOps0 (fun b => m (c, b)) 48 (Proc.devRef .tc main_v41) =
    extractStridedSlice S1x4096 ![1, 0] (powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_1_0 := by
  rw [upto_after hostOps0 _ 48 [main_v48, main_v49, main_v50, main_v51, main_v52, main_v53, main_v54, main_v55, main_v56, main_v57, main_v58, main_v59, main_v60, main_v61, main_v62, main_v63, main_v64, main_v65, main_v66, main_v67] rfl (by decide +kernel)]
  show V m c main_v41 = _
  entry_read
  rfl

theorem u42 : StableHlo.upto hostOps0 (fun b => m (c, b)) 48 (Proc.devRef .tc main_v42) =
    extractStridedSlice S1x4096 ![3, 0] (powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_3_0 := by
  rw [upto_after hostOps0 _ 48 [main_v48, main_v49, main_v50, main_v51, main_v52, main_v53, main_v54, main_v55, main_v56, main_v57, main_v58, main_v59, main_v60, main_v61, main_v62, main_v63, main_v64, main_v65, main_v66, main_v67] rfl (by decide +kernel)]
  show V m c main_v42 = _
  entry_read
  rfl

theorem u43 : StableHlo.upto hostOps0 (fun b => m (c, b)) 48 (Proc.devRef .tc main_v43) =
    extractStridedSlice S1x4096 ![7, 0] (powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_7_0 := by
  rw [upto_after hostOps0 _ 48 [main_v48, main_v49, main_v50, main_v51, main_v52, main_v53, main_v54, main_v55, main_v56, main_v57, main_v58, main_v59, main_v60, main_v61, main_v62, main_v63, main_v64, main_v65, main_v66, main_v67] rfl (by decide +kernel)]
  show V m c main_v43 = _
  entry_read
  rfl

theorem u44 : StableHlo.upto hostOps0 (fun b => m (c, b)) 48 (Proc.devRef .tc main_v44) =
    extractStridedSlice S1x4096 ![7, 0] (powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_7_0 := by
  rw [upto_after hostOps0 _ 48 [main_v48, main_v49, main_v50, main_v51, main_v52, main_v53, main_v54, main_v55, main_v56, main_v57, main_v58, main_v59, main_v60, main_v61, main_v62, main_v63, main_v64, main_v65, main_v66, main_v67] rfl (by decide +kernel)]
  show V m c main_v44 = _
  entry_read
  rfl

theorem u45 : StableHlo.upto hostOps0 (fun b => m (c, b)) 48 (Proc.devRef .tc main_v45) =
    extractStridedSlice S1x4096 ![7, 0] (powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_7_0 := by
  rw [upto_after hostOps0 _ 48 [main_v48, main_v49, main_v50, main_v51, main_v52, main_v53, main_v54, main_v55, main_v56, main_v57, main_v58, main_v59, main_v60, main_v61, main_v62, main_v63, main_v64, main_v65, main_v66, main_v67] rfl (by decide +kernel)]
  show V m c main_v45 = _
  entry_read
  rfl

theorem u46 : StableHlo.upto hostOps0 (fun b => m (c, b)) 48 (Proc.devRef .tc main_v46) =
    extractStridedSlice S1x4096 ![7, 0] (powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_7_0 := by
  rw [upto_after hostOps0 _ 48 [main_v48, main_v49, main_v50, main_v51, main_v52, main_v53, main_v54, main_v55, main_v56, main_v57, main_v58, main_v59, main_v60, main_v61, main_v62, main_v63, main_v64, main_v65, main_v66, main_v67] rfl (by decide +kernel)]
  show V m c main_v46 = _
  entry_read
  rfl

theorem u47 : StableHlo.upto hostOps0 (fun b => m (c, b)) 48 (Proc.devRef .tc main_v47) =
    extractStridedSlice S1x4096 ![7, 0] (powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_7_0 := by
  rw [upto_after hostOps0 _ 48 [main_v48, main_v49, main_v50, main_v51, main_v52, main_v53, main_v54, main_v55, main_v56, main_v57, main_v58, main_v59, main_v60, main_v61, main_v62, main_v63, main_v64, main_v65, main_v66, main_v67] rfl (by decide +kernel)]
  show V m c main_v47 = _
  entry_read
  rfl

theorem ent11 : V m c main_v48 = pick (powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) := by
  refine (StableHlo.after_last_write (i := 48) (op := _) (rest := _) [main_v49, main_v50, main_v51, main_v52, main_v53, main_v54, main_v55, main_v56, main_v57, main_v58, main_v59, main_v60, main_v61, main_v62, main_v63, main_v64, main_v65, main_v66, main_v67] rfl rfl (by decide +kernel) _).trans ?_
  rw [StableHlo.nary_result']
  show concatenate S8x4096 0 [⟨S1x4096, StableHlo.upto hostOps0 (fun b => m (c, b)) 48 (Proc.devRef .tc main_v40)⟩,
      ⟨S1x4096, StableHlo.upto hostOps0 (fun b => m (c, b)) 48 (Proc.devRef .tc main_v41)⟩,
      ⟨S1x4096, StableHlo.upto hostOps0 (fun b => m (c, b)) 48 (Proc.devRef .tc main_v42)⟩,
      ⟨S1x4096, StableHlo.upto hostOps0 (fun b => m (c, b)) 48 (Proc.devRef .tc main_v43)⟩,
      ⟨S1x4096, StableHlo.upto hostOps0 (fun b => m (c, b)) 48 (Proc.devRef .tc main_v44)⟩,
      ⟨S1x4096, StableHlo.upto hostOps0 (fun b => m (c, b)) 48 (Proc.devRef .tc main_v45)⟩,
      ⟨S1x4096, StableHlo.upto hostOps0 (fun b => m (c, b)) 48 (Proc.devRef .tc main_v46)⟩,
      ⟨S1x4096, StableHlo.upto hostOps0 (fun b => m (c, b)) 48 (Proc.devRef .tc main_v47)⟩] _ = _
  rw [u40, u41, u42, u43, u44, u45, u46, u47]
  rfl

theorem u49 : StableHlo.upto hostOps0 (fun b => m (c, b)) 57 (Proc.devRef .tc main_v49) =
    extractStridedSlice S1x4096 ![0, 0] (powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_0_0 := by
  rw [upto_after hostOps0 _ 57 [main_v57, main_v58, main_v59, main_v60, main_v61, main_v62, main_v63, main_v64, main_v65, main_v66, main_v67] rfl (by decide +kernel)]
  show V m c main_v49 = _
  entry_read
  rfl

theorem u50 : StableHlo.upto hostOps0 (fun b => m (c, b)) 57 (Proc.devRef .tc main_v50) =
    extractStridedSlice S1x4096 ![1, 0] (powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_1_0 := by
  rw [upto_after hostOps0 _ 57 [main_v57, main_v58, main_v59, main_v60, main_v61, main_v62, main_v63, main_v64, main_v65, main_v66, main_v67] rfl (by decide +kernel)]
  show V m c main_v50 = _
  entry_read
  rfl

theorem u51 : StableHlo.upto hostOps0 (fun b => m (c, b)) 57 (Proc.devRef .tc main_v51) =
    extractStridedSlice S1x4096 ![3, 0] (powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_3_0 := by
  rw [upto_after hostOps0 _ 57 [main_v57, main_v58, main_v59, main_v60, main_v61, main_v62, main_v63, main_v64, main_v65, main_v66, main_v67] rfl (by decide +kernel)]
  show V m c main_v51 = _
  entry_read
  rfl

theorem u52 : StableHlo.upto hostOps0 (fun b => m (c, b)) 57 (Proc.devRef .tc main_v52) =
    extractStridedSlice S1x4096 ![7, 0] (powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_7_0 := by
  rw [upto_after hostOps0 _ 57 [main_v57, main_v58, main_v59, main_v60, main_v61, main_v62, main_v63, main_v64, main_v65, main_v66, main_v67] rfl (by decide +kernel)]
  show V m c main_v52 = _
  entry_read
  rfl

theorem u53 : StableHlo.upto hostOps0 (fun b => m (c, b)) 57 (Proc.devRef .tc main_v53) =
    extractStridedSlice S1x4096 ![7, 0] (powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_7_0 := by
  rw [upto_after hostOps0 _ 57 [main_v57, main_v58, main_v59, main_v60, main_v61, main_v62, main_v63, main_v64, main_v65, main_v66, main_v67] rfl (by decide +kernel)]
  show V m c main_v53 = _
  entry_read
  rfl

theorem u54 : StableHlo.upto hostOps0 (fun b => m (c, b)) 57 (Proc.devRef .tc main_v54) =
    extractStridedSlice S1x4096 ![7, 0] (powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_7_0 := by
  rw [upto_after hostOps0 _ 57 [main_v57, main_v58, main_v59, main_v60, main_v61, main_v62, main_v63, main_v64, main_v65, main_v66, main_v67] rfl (by decide +kernel)]
  show V m c main_v54 = _
  entry_read
  rfl

theorem u55 : StableHlo.upto hostOps0 (fun b => m (c, b)) 57 (Proc.devRef .tc main_v55) =
    extractStridedSlice S1x4096 ![7, 0] (powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_7_0 := by
  rw [upto_after hostOps0 _ 57 [main_v57, main_v58, main_v59, main_v60, main_v61, main_v62, main_v63, main_v64, main_v65, main_v66, main_v67] rfl (by decide +kernel)]
  show V m c main_v55 = _
  entry_read
  rfl

theorem u56 : StableHlo.upto hostOps0 (fun b => m (c, b)) 57 (Proc.devRef .tc main_v56) =
    extractStridedSlice S1x4096 ![7, 0] (powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) slices_S8x4096_S1x4096_7_0 := by
  rw [upto_after hostOps0 _ 57 [main_v57, main_v58, main_v59, main_v60, main_v61, main_v62, main_v63, main_v64, main_v65, main_v66, main_v67] rfl (by decide +kernel)]
  show V m c main_v56 = _
  entry_read
  rfl

theorem ent12 : V m c main_v57 = pick (powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)) := by
  refine (StableHlo.after_last_write (i := 57) (op := _) (rest := _) [main_v58, main_v59, main_v60, main_v61, main_v62, main_v63, main_v64, main_v65, main_v66, main_v67] rfl rfl (by decide +kernel) _).trans ?_
  rw [StableHlo.nary_result']
  show concatenate S8x4096 0 [⟨S1x4096, StableHlo.upto hostOps0 (fun b => m (c, b)) 57 (Proc.devRef .tc main_v49)⟩,
      ⟨S1x4096, StableHlo.upto hostOps0 (fun b => m (c, b)) 57 (Proc.devRef .tc main_v50)⟩,
      ⟨S1x4096, StableHlo.upto hostOps0 (fun b => m (c, b)) 57 (Proc.devRef .tc main_v51)⟩,
      ⟨S1x4096, StableHlo.upto hostOps0 (fun b => m (c, b)) 57 (Proc.devRef .tc main_v52)⟩,
      ⟨S1x4096, StableHlo.upto hostOps0 (fun b => m (c, b)) 57 (Proc.devRef .tc main_v53)⟩,
      ⟨S1x4096, StableHlo.upto hostOps0 (fun b => m (c, b)) 57 (Proc.devRef .tc main_v54)⟩,
      ⟨S1x4096, StableHlo.upto hostOps0 (fun b => m (c, b)) 57 (Proc.devRef .tc main_v55)⟩,
      ⟨S1x4096, StableHlo.upto hostOps0 (fun b => m (c, b)) 57 (Proc.devRef .tc main_v56)⟩] _ = _
  rw [u49, u50, u51, u52, u53, u54, u55, u56]
  rfl

theorem rev_pt (p : FVec Ideal S8x4096 .f32) (r : Fin 8) (s : Fin 4096) : Host.reverse [0] p (ix2 r s) = p (ix2 ⟨7 - r.val, by omega⟩ s) := by
  have h : r.rev = ⟨7 - r.val, by omega⟩ := Fin.ext (by rw [Fin.val_rev]; show 8 - (r.val + 1) = 7 - r.val; omega)
  pointwise
  refine (show _ = p (ix2 r.rev s) from rfl).trans ?_
  rw [h]

theorem rw9 (t : Fin cfg0.N) (r : Fin 8) (n : Fin 512) : (show FVec Ideal S8x512 .f32 from iblk m c 9 t) (ix2 r n) =
    V m c main_v38 (ix2 r ⟨t.val / 17 * 512 + n.val, by have := blk_lt t; omega⟩) := by
  blk_simp [iblk]
  generalize V m c main_v38 = p
  blk_ext [idx9 t]

theorem rw10 (t : Fin cfg0.N) (r : Fin 8) (n : Fin 512) : (show FVec Ideal S8x512 .f32 from iblk m c 10 t) (ix2 r n) =
    V m c main_v39 (ix2 r ⟨t.val / 17 * 512 + n.val, by have := blk_lt t; omega⟩) := by
  blk_simp [iblk]
  generalize V m c main_v39 = p
  blk_ext [idx10 t]

theorem rw11 (t : Fin cfg0.N) (r : Fin 8) (n : Fin 512) : (show FVec Ideal S8x512 .f32 from iblk m c 11 t) (ix2 r n) =
    V m c main_v48 (ix2 r ⟨t.val / 17 * 512 + n.val, by have := blk_lt t; omega⟩) := by
  blk_simp [iblk]
  generalize V m c main_v48 = p
  blk_ext [idx11 t]

theorem rw12 (t : Fin cfg0.N) (r : Fin 8) (n : Fin 512) : (show FVec Ideal S8x512 .f32 from iblk m c 12 t) (ix2 r n) =
    V m c main_v57 (ix2 r ⟨t.val / 17 * 512 + n.val, by have := blk_lt t; omega⟩) := by
  blk_simp [iblk]
  generalize V m c main_v57 = p
  blk_ext [idx12 t]

theorem rd9 (t : Fin cfg0.N) (r : Fin 8) (n : Fin 512) : (show FVec Ideal S8x512 .f32 from iblk m c 9 t) (ix2 r n) =
    powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)
      (ix2 ⟨7 - r.val, by omega⟩ ⟨t.val / 17 * 512 + n.val, by have := blk_lt t; omega⟩) := by
  rw [rw9, ent9]
  exact rev_pt _ _ _

theorem rd10 (t : Fin cfg0.N) (r : Fin 8) (n : Fin 512) : (show FVec Ideal S8x512 .f32 from iblk m c 10 t) (ix2 r n) =
    powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096)
      (ix2 ⟨7 - r.val, by omega⟩ ⟨t.val / 17 * 512 + n.val, by have := blk_lt t; omega⟩) := by
  rw [rw10, ent10]
  exact rev_pt _ _ _

theorem rd11 (t : Fin cfg0.N) (n : Fin 512) (r : Fin 8) : (show FVec Ideal S8x512 .f32 from iblk m c 11 t) (ix2 r n) =
    pick (powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096))
      (ix2 r ⟨t.val / 17 * 512 + n.val, by have := blk_lt t; omega⟩) := by
  rw [rw11, ent11]

theorem rd12 (t : Fin cfg0.N) (n : Fin 512) (r : Fin 8) : (show FVec Ideal S8x512 .f32 from iblk m c 12 t) (ix2 r n) =
    pick (powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096))
      (ix2 r ⟨t.val / 17 * 512 + n.val, by have := blk_lt t; omega⟩) := by
  rw [rw12, ent12]

theorem flat_pt (x : FVec Ideal S64x64 .f32) (s : Fin 4096) : shapeCast S1x4096 x shapeCasts_S64x64_S1x4096 (ix2 0 s) =
    x (ix2 ⟨s.val / 64, by omega⟩ ⟨s.val % 64, by omega⟩) := by
  pointwise

section

variable {I : Cert.S5.In} (hH : Cert.S5.Holds I (m (c.tc.loc main_arg0)) (m (c.tc.loc main_arg1)) (m (c.tc.loc main_arg2))
  (m (c.tc.loc main_arg3)) (m (c.tc.loc main_arg4)) (m (c.tc.loc main_arg5)) (m (c.tc.loc main_arg6)) (m (c.tc.loc main_arg7))
  (m (c.tc.loc main_arg8)) (m (c.tc.loc main_arg9)) (m (c.tc.loc main_arg10)) (m (c.tc.loc main_arg11)))

include hH in
theorem pow_rd (g : Fin 8) (n : Fin 512) (r : Fin 8) :
    powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096) (ix2 r ⟨g.val * 512 + n.val, by omega⟩) = ((I.a g n ^ (r.val + 1)).re : EReal) ∧
    powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096) (ix2 r ⟨g.val * 512 + n.val, by omega⟩) = ((I.a g n ^ (r.val + 1)).im : EReal) := by
  refine pow_pt ?_ ?_ r
  · refine (flat_pt _ _).trans ((hH.ar _ _).trans ?_)
    simp only [Cert.S5.In.a]
    congr 2; omega
  · refine (flat_pt _ _).trans ((hH.ai _ _).trans ?_)
    simp only [Cert.S5.In.a]
    congr 2; omega

end

end Cert.KernelIdeal.S5

end
-- ==== Proof.S5.LdTab.lean ====
/- The tables of powers at a grid point. -/
module

public import proofs.«01_k».proof.Proof.S5.BlkTab

@[expose] public section

set_option maxRecDepth 16384
set_option maxHeartbeats 1600000

noncomputable section

namespace Cert.KernelIdeal.S5

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

theorem tabIs_tb (i : grid0.Coords) (x7 : Vec Ideal S1x128x512 .bf16) (x8 : Vec Ideal S1x128x512 .bf16) (x9 : Vec Ideal S8x512 .f32)
    (x10 : Vec Ideal S8x512 .f32) (x11 : Vec Ideal S8x512 .f32) (x12 : Vec Ideal S8x512 .f32) (x13 : Vec Ideal S1x512x128 .bf16)
    (x14 : Vec Ideal S1x512x128 .bf16) (x15 : Vec Ideal S1x128 .f32) (n : Fin 512) (a : ℂ)
    (h0 : x11 (ix2 0 n) = ((a ^ 1).re : EReal)) (h0' : x12 (ix2 0 n) = ((a ^ 1).im : EReal))
    (h1 : x11 (ix2 1 n) = ((a ^ 2).re : EReal)) (h1' : x12 (ix2 1 n) = ((a ^ 2).im : EReal))
    (h2 : x11 (ix2 2 n) = ((a ^ 4).re : EReal)) (h2' : x12 (ix2 2 n) = ((a ^ 4).im : EReal))
    (hq : ∀ r : Fin 8, x9 (ix2 r n) = ((a ^ (8 - r.val)).re : EReal)) (hq' : ∀ r : Fin 8, x10 (ix2 r n) = ((a ^ (8 - r.val)).im : EReal)) :
    TabIs (tb i x7 x8 x9 x10 x11 x12 x13 x14 x15) n a :=
  ⟨h0, h0', h1, h1', h2, h2', hq, hq'⟩

section

variable {I : Cert.S5.In} (hH : Cert.S5.Holds I (m (c.tc.loc main_arg0)) (m (c.tc.loc main_arg1)) (m (c.tc.loc main_arg2))
  (m (c.tc.loc main_arg3)) (m (c.tc.loc main_arg4)) (m (c.tc.loc main_arg5)) (m (c.tc.loc main_arg6)) (m (c.tc.loc main_arg7))
  (m (c.tc.loc main_arg8)) (m (c.tc.loc main_arg9)) (m (c.tc.loc main_arg10)) (m (c.tc.loc main_arg11)))

include hH in
theorem pow_at (g : Fin 8) (n : Fin 512) (r : Fin 8) (k : ℕ) (hk : r.val + 1 = k) :
    powR (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096) (ix2 r ⟨g.val * 512 + n.val, by omega⟩) = ((I.a g n ^ k).re : EReal) ∧
    powI (shapeCast S1x4096 (show FVec Ideal S64x64 .f32 from m (c.tc.loc main_arg5)) shapeCasts_S64x64_S1x4096)
      (shapeCast S1x4096 (show FVec Ideal S64x64 .f32 from m (c.tc.loc main_arg6)) shapeCasts_S64x64_S1x4096) (ix2 r ⟨g.val * 512 + n.val, by omega⟩) = ((I.a g n ^ k).im : EReal) := by
  subst hk
  exact pow_rd m c hH g n r

include hH in
theorem tab0r (t : Fin cfg0.N) (n : Fin 512) : (show FVec Ideal S8x512 .f32 from iblk m c 11 t) (ix2 0 n) =
    ((I.a (t.val / 17) n ^ 1).re : EReal) := by
  rw [rd11 m c t n 0, (pick_pt _ _).1]
  exact (pow_at m c hH ⟨t.val / 17, by have := blk_lt t; omega⟩ n 0 1 rfl).1

include hH in
theorem tab0i (t : Fin cfg0.N) (n : Fin 512) : (show FVec Ideal S8x512 .f32 from iblk m c 12 t) (ix2 0 n) =
    ((I.a (t.val / 17) n ^ 1).im : EReal) := by
  rw [rd12 m c t n 0, (pick_pt _ _).1]
  exact (pow_at m c hH ⟨t.val / 17, by have := blk_lt t; omega⟩ n 0 1 rfl).2

include hH in
theorem tab1r (t : Fin cfg0.N) (n : Fin 512) : (show FVec Ideal S8x512 .f32 from iblk m c 11 t) (ix2 1 n) =
    ((I.a (t.val / 17) n ^ 2).re : EReal) := by
  rw [rd11 m c t n 1, (pick_pt _ _).2.1]
  exact (pow_at m c hH ⟨t.val / 17, by have := blk_lt t; omega⟩ n 1 2 rfl).1

include hH in
theorem tab1i (t : Fin cfg0.N) (n : Fin 512) : (show FVec Ideal S8x512 .f32 from iblk m c 12 t) (ix2 1 n) =
    ((I.a (t.val / 17) n ^ 2).im : EReal) := by
  rw [rd12 m c t n 1, (pick_pt _ _).2.1]
  exact (pow_at m c hH ⟨t.val / 17, by have := blk_lt t; omega⟩ n 1 2 rfl).2

include hH in
theorem tab2r (t : Fin cfg0.N) (n : Fin 512) : (show FVec Ideal S8x512 .f32 from iblk m c 11 t) (ix2 2 n) =
    ((I.a (t.val / 17) n ^ 4).re : EReal) := by
  rw [rd11 m c t n 2, (pick_pt _ _).2.2]
  exact (pow_at m c hH ⟨t.val / 17, by have := blk_lt t; omega⟩ n 3 4 rfl).1

include hH in
theorem tab2i (t : Fin cfg0.N) (n : Fin 512) : (show FVec Ideal S8x512 .f32 from iblk m c 12 t) (ix2 2 n) =
    ((I.a (t.val / 17) n ^ 4).im : EReal) := by
  rw [rd12 m c t n 2, (pick_pt _ _).2.2]
  exact (pow_at m c hH ⟨t.val / 17, by have := blk_lt t; omega⟩ n 3 4 rfl).2

include hH in
theorem tabq9 (t : Fin cfg0.N) (n : Fin 512) (r : Fin 8) : (show FVec Ideal S8x512 .f32 from iblk m c 9 t) (ix2 r n) =
    ((I.a (t.val / 17) n ^ (8 - r.val)).re : EReal) := by
  rw [rd9 m c t r n]
  exact (pow_at m c hH ⟨t.val / 17, by have := blk_lt t; omega⟩ n ⟨7 - r.val, by omega⟩ (8 - r.val) (by show 7 - r.val + 1 = 8 - r.val; omega)).1

include hH in
theorem tabq10 (t : Fin cfg0.N) (n : Fin 512) (r : Fin 8) : (show FVec Ideal S8x512 .f32 from iblk m c 10 t) (ix2 r n) =
    ((I.a (t.val / 17) n ^ (8 - r.val)).im : EReal) := by
  rw [rd10 m c t r n]
  exact (pow_at m c hH ⟨t.val / 17, by have := blk_lt t; omega⟩ n ⟨7 - r.val, by omega⟩ (8 - r.val) (by show 7 - r.val + 1 = 8 - r.val; omega)).2

include hH in
theorem ld_tab (t : Fin cfg0.N) (n : Fin 512) : TabIs (blkT m c t) n (I.a (t.val / 17) n) :=
  tabIs_tb (grid0.coords t) (iblk m c 7 t) (iblk m c 8 t) (iblk m c 9 t) (iblk m c 10 t) (iblk m c 11 t) (iblk m c 12 t)
    (iblk m c 13 t) (iblk m c 14 t) (iblk m c 15 t) n (I.a (t.val / 17) n) (tab0r m c hH t n) (tab0i m c hH t n) (tab1r m c hH t n)
    (tab1i m c hH t n) (tab2r m c hH t n) (tab2i m c hH t n) (tabq9 m c hH t n) (tabq10 m c hH t n)

end

end Cert.KernelIdeal.S5

end
-- ==== Proof.S5.Load.lean ====
/- What one grid point loads, over the reals. -/
module

public import proofs.«01_k».proof.Proof.S5.LdTab

@[expose] public section

set_option maxRecDepth 16384
set_option maxHeartbeats 1600000

noncomputable section

namespace Cert.KernelIdeal.S5

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

section

variable {I : Cert.S5.In} (hH : Cert.S5.Holds I (m (c.tc.loc main_arg0)) (m (c.tc.loc main_arg1)) (m (c.tc.loc main_arg2))
  (m (c.tc.loc main_arg3)) (m (c.tc.loc main_arg4)) (m (c.tc.loc main_arg5)) (m (c.tc.loc main_arg6)) (m (c.tc.loc main_arg7))
  (m (c.tc.loc main_arg8)) (m (c.tc.loc main_arg9)) (m (c.tc.loc main_arg10)) (m (c.tc.loc main_arg11)))

theorem last_ne (k : ℕ) (h : k < 16) : Scalar.cmpi .eq (BitVec.ofNat 32 k) 16#32 = 0#1 := by
  interval_cases k <;> rfl

theorem last_eq : Scalar.cmpi .eq (BitVec.ofNat 32 16) 16#32 = 1#1 := rfl

theorem sel_last (k : ℕ) (h : k < 17) (x : EReal) (x' : ℕ → ℕ → ℝ) (b s : ℕ)
    (hx : k < 16 → x = (x' (b * 2176 + ((16 - k) * 128 - 1)) s : EReal)) :
    Scalar.select (Scalar.cmpi .eq (BitVec.ofNat 32 k) 16#32) (0 : EReal) x = (Cert.S5.prev x' b ((16 - k) * 128) s : EReal) := by
  by_cases h0 : k = 16
  · subst h0
    rw [last_eq, Cert.S5.prev, if_pos (by rfl)]
    rfl
  · have h1 : k < 16 := by omega
    rw [last_ne k h1, Cert.S5.prev, if_neg (by omega), ← hx h1]
    rfl

include hH in
theorem ld_dg (t : Fin cfg0.N) (b : Fin 2) (r h : Fin 128) : (blkB m c t b).g (ix3 0 r h) =
    (I.dg (b.val * 2176 + ((16 - t.val % 17) * 128 + r.val)) (t.val / 17 * 128 + h.val) : EReal) :=
  Eq.trans (b := (show FVec Ideal S2x128x128 .f32 from iblk m c 0 t) (ix3 b r h)) rfl ((rd0 m c t b r h).trans (hH.dg _ _))

include hH in
theorem ld_y (t : Fin cfg0.N) (b : Fin 2) (r h : Fin 128) : (blkB m c t b).y (ix3 0 r h) =
    (I.y (b.val * 2176 + ((16 - t.val % 17) * 128 + r.val)) (t.val / 17 * 128 + h.val) : EReal) :=
  Eq.trans (b := (show FVec Ideal S2x128x128 .f32 from iblk m c 1 t) (ix3 b r h)) rfl ((rd1 m c t b r h).trans (hH.y _ _))

include hH in
theorem ld_u (t : Fin cfg0.N) (b : Fin 2) (r h : Fin 128) : (blkB m c t b).u (ix3 0 r h) =
    (I.u (b.val * 2176 + ((16 - t.val % 17) * 128 + r.val)) (t.val / 17 * 128 + h.val) : EReal) :=
  Eq.trans (b := (show FVec Ideal S2x128x128 .f32 from iblk m c 2 t) (ix3 b r h)) rfl ((rd2 m c t b r h).trans (hH.u _ _))

include hH in
theorem ld_xr (t : Fin cfg0.N) (b : Fin 2) (r : Fin 128) (n : Fin 512) : (blkB m c t b).xr (ix3 0 r n) =
    (I.xr (b.val * 2176 + ((16 - t.val % 17) * 128 + r.val)) (t.val / 17 * 512 + n.val) : EReal) :=
  Eq.trans (b := (show FVec Ideal S2x128x512 .f32 from iblk m c 3 t) (ix3 b r n)) rfl ((rd3 m c t b r n).trans (hH.xr _ _))

include hH in
theorem ld_xi (t : Fin cfg0.N) (b : Fin 2) (r : Fin 128) (n : Fin 512) : (blkB m c t b).xi (ix3 0 r n) =
    (I.xi (b.val * 2176 + ((16 - t.val % 17) * 128 + r.val)) (t.val / 17 * 512 + n.val) : EReal) :=
  Eq.trans (b := (show FVec Ideal S2x128x512 .f32 from iblk m c 4 t) (ix3 b r n)) rfl ((rd4 m c t b r n).trans (hH.xi _ _))

include hH in
theorem ld_pr (t : Fin cfg0.N) (b : Fin 2) (n : Fin 512) : Scalar.select (blkT m c t).last (0 : EReal) ((blkB m c t b).pr (ix2 0 n)) =
    (Cert.S5.prev I.xr b ((16 - t.val % 17) * 128) (t.val / 17 * 512 + n.val) : EReal) := by
  refine Eq.trans (b := Scalar.select (Scalar.cmpi .eq (BitVec.ofNat 32 ((grid0.coords t) 1).val) 16#32) (0 : EReal)
    ((show FVec Ideal S2x8x512 .f32 from iblk m c 5 t) (ix3 b 7 n))) rfl ?_
  rw [crd t]
  exact sel_last _ (Nat.mod_lt _ (by decide)) _ I.xr b _ fun h1 => (rd5 m c t b n h1).trans (hH.xr _ _)

include hH in
theorem ld_pi (t : Fin cfg0.N) (b : Fin 2) (n : Fin 512) : Scalar.select (blkT m c t).last (0 : EReal) ((blkB m c t b).pi (ix2 0 n)) =
    (Cert.S5.prev I.xi b ((16 - t.val % 17) * 128) (t.val / 17 * 512 + n.val) : EReal) := by
  refine Eq.trans (b := Scalar.select (Scalar.cmpi .eq (BitVec.ofNat 32 ((grid0.coords t) 1).val) 16#32) (0 : EReal)
    ((show FVec Ideal S2x8x512 .f32 from iblk m c 6 t) (ix3 b 7 n))) rfl ?_
  rw [crd t]
  exact sel_last _ (Nat.mod_lt _ (by decide)) _ I.xi b _ fun h1 => (rd6 m c t b n h1).trans (hH.xi _ _)

include hH in
theorem ld_wbr (t : Fin cfg0.N) (h : Fin 128) (n : Fin 512) : (blkT m c t).wbr (ix3 0 h n) = (I.wbr (t.val / 17) h n : EReal) :=
  Eq.trans (b := (show FVec Ideal S1x128x512 .bf16 from iblk m c 7 t) (ix3 0 h n)) rfl ((rd7 m c t h n).trans (hH.wbr _ _ _))

include hH in
theorem ld_wbi (t : Fin cfg0.N) (h : Fin 128) (n : Fin 512) : (blkT m c t).wbi (ix3 0 h n) = (I.wbi (t.val / 17) h n : EReal) :=
  Eq.trans (b := (show FVec Ideal S1x128x512 .bf16 from iblk m c 8 t) (ix3 0 h n)) rfl ((rd8 m c t h n).trans (hH.wbi _ _ _))

include hH in
theorem ld_wcr (t : Fin cfg0.N) (h : Fin 128) (n : Fin 512) : (blkT m c t).wcr (ix3 0 n h) = (I.wcr (t.val / 17) n h : EReal) :=
  Eq.trans (b := (show FVec Ideal S1x512x128 .bf16 from iblk m c 13 t) (ix3 0 n h)) rfl ((rd13 m c t n h).trans (hH.wcr _ _ _))

include hH in
theorem ld_wci (t : Fin cfg0.N) (h : Fin 128) (n : Fin 512) : (blkT m c t).wci (ix3 0 n h) = (I.wci (t.val / 17) n h : EReal) :=
  Eq.trans (b := (show FVec Ideal S1x512x128 .bf16 from iblk m c 14 t) (ix3 0 n h)) rfl ((rd14 m c t n h).trans (hH.wci _ _ _))

include hH in
theorem ld_d (t : Fin cfg0.N) (h : Fin 128) : (blkT m c t).d (ix2 0 h) = (I.d (t.val / 17 * 128 + h.val) : EReal) :=
  Eq.trans (b := (show FVec Ideal S1x128 .f32 from iblk m c 15 t) (ix2 0 h)) rfl ((rd15 m c t h).trans (hH.d _))

include hH in
/-- The blocks of grid point `t`. -/
theorem load (t : Fin cfg0.N) : Load I (t.val / 17) (t.val % 17) (blkB m c t) (blkT m c t) where
  dg := ld_dg m c hH t
  y := ld_y m c hH t
  u := ld_u m c hH t
  xr := ld_xr m c hH t
  xi := ld_xi m c hH t
  pr := ld_pr m c hH t
  pi := ld_pi m c hH t
  wbr h n := ld_wbr m c hH t h n
  wbi h n := ld_wbi m c hH t h n
  wcr n h := ld_wcr m c hH t h n
  wci n h := ld_wci m c hH t h n
  d := ld_d m c hH t
  tab := ld_tab m c hH t

/-- One step keeps the sums and the carry. -/
theorem step_next {g k : ℕ} (hk : k < 17) {B : Fin 2 → Bt Ideal} {T : Tb Ideal} (hL : Load I g k B T) {cr ci : Fin 2 → FVec Ideal S1x512 .f32}
    (hC : Carry I g k cr ci) {p17 : Vec Ideal S1x128 .f32}
    {p18 p19 : Vec Ideal S1x512x128 .f32} {p20 p21 : Vec Ideal S1x128x512 .f32} {p22 p23 : Vec Ideal S1x512 .f32}
    (hS : Sums I g k p17 p18 p19 p20 p21 p22 p23)
    {o16 : Vec Ideal S2x128x128 .bf16} {o17 : Vec Ideal S1x128 .f32} {o18 o19 : Vec Ideal S1x512x128 .f32} {o20 o21 : Vec Ideal S1x128x512 .f32}
    {o22 o23 : Vec Ideal S1x512 .f32} {or oi : Vec Ideal S2x1x512 .f32}
    (h : Stepped B T cr ci p17 p18 p19 p20 p21 p22 p23 o16 o17 o18 o19 o20 o21 o22 o23 or oi) :
    (Sums I g (k + 1) o17 o18 o19 o20 o21 o22 o23 ∧ Carry I g (k + 1) (fun b => carry or b) (fun b => carry oi b)) ∧
      ∀ (b : Fin 2) (r h : Fin 128), o16 (ix3 b r h) = (I.du b ((16 - k) * 128 + r) g h : EReal) := by
  refine ⟨⟨?_, ⟨fun b n => (h.hr b n).trans (outR_row hk hL hC b n), fun b n => (h.hi b n).trans (outI_row hk hL hC b n)⟩⟩,
    fun b r h' => (h.h16 b r h').trans (du_row hk hL hC b r h')⟩
  have := sums_step hk hL hC hS
  rw [← h.h17, ← h.h18, ← h.h19, ← h.h20, ← h.h21, ← h.h22, ← h.h23] at this
  exact this

/-- What the frame's contents `o` hold after grid point `n`. -/
def After (I : Cert.S5.In) (n : ℕ) (o : Vec Ideal S2x128x128 .bf16 × Vec Ideal S1x128 .f32 × Vec Ideal S1x512x128 .f32 × Vec Ideal S1x512x128 .f32 × Vec Ideal S1x128x512 .f32 ×
      Vec Ideal S1x128x512 .f32 × Vec Ideal S1x512 .f32 × Vec Ideal S1x512 .f32 × Vec Ideal S2x1x512 .f32 × Vec Ideal S2x1x512 .f32) : Prop :=
  (Sums I (n / 17) (n % 17 + 1) o.2.1 o.2.2.1 o.2.2.2.1 o.2.2.2.2.1 o.2.2.2.2.2.1 o.2.2.2.2.2.2.1 o.2.2.2.2.2.2.2.1 ∧
    Carry I (n / 17) (n % 17 + 1) (fun b => carry o.2.2.2.2.2.2.2.2.1 b) (fun b => carry o.2.2.2.2.2.2.2.2.2 b)) ∧
  ∀ (b : Fin 2) (r h : Fin 128), o.1 (ix3 b r h) = (I.du b ((16 - n % 17) * 128 + r) (n / 17) h : EReal)

include hH in
theorem after_pt (n : ℕ) : ∀ hn : n < cfg0.N, After I n (outsAt0 m c n hn) := by
  induction n using Nat.strong_induction_on with
  | _ n ih =>
    intro hn
    have hL := load m c hH ⟨n, hn⟩
    have hk : n % 17 < 17 := Nat.mod_lt _ (by decide)
    by_cases h0 : n % 17 = 0
    · have hC : Carry I (n / 17) (n % 17) (fun _ => zero S1x512) (fun _ => zero S1x512) := by rw [h0]; exact carry_zero I _
      have hS : Sums I (n / 17) (n % 17) (zero (F := Ideal) S1x128) (zero (F := Ideal) S1x512x128) (zero (F := Ideal) S1x512x128) (zero (F := Ideal) S1x128x512)
          (zero (F := Ideal) S1x128x512) (zero (F := Ideal) S1x512) (zero (F := Ideal) S1x512) := by rw [h0]; exact sums_zero I _
      exact step_next hk hL hC hS (stepped_A m c ⟨n, hn⟩ h0)
    · have hp := ih (n - 1) (by omega) (Nat.lt_of_le_of_lt (Nat.sub_le _ _) hn)
      have e1 : (n - 1) / 17 = n / 17 := by omega
      have e2 : (n - 1) % 17 + 1 = n % 17 := by omega
      have hp' := hp.1
      rw [e1, e2] at hp'
      exact step_next hk hL hp'.2 hp'.1 (stepped_B m c ⟨n, hn⟩ h0)

end

end Cert.KernelIdeal.S5

end
-- ==== Proof.S5.KVal.lean ====
/- The kernel's results, over the reals. -/
module

public import proofs.«01_k».proof.Proof.S5.Load

@[expose] public section

set_option maxRecDepth 16384
set_option maxHeartbeats 1600000

noncomputable section

namespace Cert.KernelIdeal.S5

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

section

variable {I : Cert.S5.In} (hH : Cert.S5.Holds I (m (c.tc.loc main_arg0)) (m (c.tc.loc main_arg1)) (m (c.tc.loc main_arg2))
  (m (c.tc.loc main_arg3)) (m (c.tc.loc main_arg4)) (m (c.tc.loc main_arg5)) (m (c.tc.loc main_arg6)) (m (c.tc.loc main_arg7))
  (m (c.tc.loc main_arg8)) (m (c.tc.loc main_arg9)) (m (c.tc.loc main_arg10)) (m (c.tc.loc main_arg11)))

theorem idx16 : ∀ t : Fin cfg0.N, win0_16.index t = ![0, 16 - t.val % 17, t.val / 17] :=
  (by decide +kernel : ∀ t : Fin grid0.N, _)

theorem at16 {n : ℕ} {o} (hA : After I n o) (y : S2x128x128.Idx) {A B C D : ℕ} (e0 : A = (y 0).val)
    (e1 : B = (16 - n % 17) * 128 + (y 1).val) (e2 : C = n / 17) (e3 : D = (y 2).val) : o.1 y = (I.du A B C D : EReal) := by
  subst e0 e1 e2 e3
  exact (congrArg o.1 (eq_ix3 y)).trans (hA.2 (y 0) (y 1) (y 2))

include hH in
theorem arr16 : (show FVec Ideal S2x2176x1024 .bf16 from (dats m 0 c).arrAt 16 cfg0.N) =
    fun j => (I.du (j 0).val (j 1).val ((j 2).val / 128) ((j 2).val % 128) : EReal) := by
  refine (dats m 0 c).arrAt_eq_of_covers 16 _ (by decide +kernel) fun t hf y => ?_
  blk_simp
  rw [after0_16]
  have h2 : (y 2).val < 128 := (y 2).isLt
  refine at16 (after_pt m c hH t.val t.isLt) y ?_ ?_ ?_ ?_ <;> rw [idx16 t]
  · show 0 * 2 + (y 0).val = (y 0).val; omega
  · rfl
  · show (t.val / 17 * 128 + (y 2).val) / 128 = t.val / 17; omega
  · show (t.val / 17 * 128 + (y 2).val) % 128 = (y 2).val; omega

theorem idx17 : ∀ t : Fin cfg0.N, win0_17.index t = ![0, t.val / 17] :=
  (by decide +kernel : ∀ t : Fin grid0.N, _)

theorem at17 {n : ℕ} {o} (hA : After I n o) (hn : n % 17 = 16) (y : S1x128.Idx) {A B : ℕ} (e0 : A = n / 17) (e1 : B = (y 1).val) :
    o.2.1 y = (Cert.S5.tot (I.ddT A B) : EReal) := by
  subst e0 e1
  have h := hA.1.1.dd (y 1)
  rw [hn, Cert.S5.part_all] at h
  refine (congrArg o.2.1 ?_).trans h
  rw [eq_ix2 y]
  congr 1
  exact Fin.ext (by have := (y 0).isLt; show (y 0).val = 0; exact Nat.lt_one_iff.mp this)

include hH in
theorem arr17 : (show FVec Ideal S1x1024 .f32 from (dats m 0 c).arrAt 17 cfg0.N) =
    fun j => (Cert.S5.tot (I.ddT ((j 1).val / 128) ((j 1).val % 128)) : EReal) := by
  refine (dats m 0 c).arrAt_eq_of_covers 17 _ (by decide +kernel) fun t hf y => ?_
  blk_simp
  rw [after0_17]
  have h2 : (y 1).val < 128 := (y 1).isLt
  refine at17 (after_pt m c hH t.val t.isLt) ((flush0_17 t).mp hf) y ?_ ?_ <;> rw [idx17 t]
  · show (t.val / 17 * 128 + (y 1).val) / 128 = t.val / 17; omega
  · show (t.val / 17 * 128 + (y 1).val) % 128 = (y 1).val; omega

theorem idx18 : ∀ t : Fin cfg0.N, win0_18.index t = ![t.val / 17, 0, 0] :=
  (by decide +kernel : ∀ t : Fin grid0.N, _)

theorem at18 {n : ℕ} {o} (hA : After I n o) (hn : n % 17 = 16) (y : S1x512x128.Idx) {A B C : ℕ} (e0 : A = n / 17) (e1 : B = (y 1).val)
    (e2 : C = (y 2).val) : o.2.2.1 y = (Cert.S5.tot (I.dwcrT A B C) : EReal) := by
  subst e0 e1 e2
  have h := hA.1.1.dwcr (y 1) (y 2)
  rw [hn, Cert.S5.part_all] at h
  refine (congrArg o.2.2.1 ?_).trans h
  rw [eq_ix3 y]
  congr 1
  exact Fin.ext (by have := (y 0).isLt; show (y 0).val = 0; exact Nat.lt_one_iff.mp this)

include hH in
theorem arr18 : (show FVec Ideal S8x512x128 .f32 from (dats m 0 c).arrAt 18 cfg0.N) =
    fun j => (Cert.S5.tot (I.dwcrT (j 0).val (j 1).val (j 2).val) : EReal) := by
  refine (dats m 0 c).arrAt_eq_of_covers 18 _ (by decide +kernel) fun t hf y => ?_
  blk_simp
  rw [after0_18]
  refine at18 (after_pt m c hH t.val t.isLt) ((flush0_18 t).mp hf) y ?_ ?_ ?_ <;> rw [idx18 t]
  · show t.val / 17 = t.val / 17; rfl
  · show 0 * 512 + (y 1).val = (y 1).val; omega
  · show 0 * 128 + (y 2).val = (y 2).val; omega

theorem idx19 : ∀ t : Fin cfg0.N, win0_19.index t = ![t.val / 17, 0, 0] :=
  (by decide +kernel : ∀ t : Fin grid0.N, _)

theorem at19 {n : ℕ} {o} (hA : After I n o) (hn : n % 17 = 16) (y : S1x512x128.Idx) {A B C : ℕ} (e0 : A = n / 17) (e1 : B = (y 1).val)
    (e2 : C = (y 2).val) : o.2.2.2.1 y = (Cert.S5.tot (I.dwciT A B C) : EReal) := by
  subst e0 e1 e2
  have h := hA.1.1.dwci (y 1) (y 2)
  rw [hn, Cert.S5.part_all] at h
  refine (congrArg o.2.2.2.1 ?_).trans h
  rw [eq_ix3 y]
  congr 1
  exact Fin.ext (by have := (y 0).isLt; show (y 0).val = 0; exact Nat.lt_one_iff.mp this)

include hH in
theorem arr19 : (show FVec Ideal S8x512x128 .f32 from (dats m 0 c).arrAt 19 cfg0.N) =
    fun j => (Cert.S5.tot (I.dwciT (j 0).val (j 1).val (j 2).val) : EReal) := by
  refine (dats m 0 c).arrAt_eq_of_covers 19 _ (by decide +kernel) fun t hf y => ?_
  blk_simp
  rw [after0_19]
  refine at19 (after_pt m c hH t.val t.isLt) ((flush0_19 t).mp hf) y ?_ ?_ ?_ <;> rw [idx19 t]
  · show t.val / 17 = t.val / 17; rfl
  · show 0 * 512 + (y 1).val = (y 1).val; omega
  · show 0 * 128 + (y 2).val = (y 2).val; omega

theorem idx20 : ∀ t : Fin cfg0.N, win0_20.index t = ![t.val / 17, 0, 0] :=
  (by decide +kernel : ∀ t : Fin grid0.N, _)

theorem at20 {n : ℕ} {o} (hA : After I n o) (hn : n % 17 = 16) (y : S1x128x512.Idx) {A B C : ℕ} (e0 : A = n / 17) (e1 : B = (y 1).val)
    (e2 : C = (y 2).val) : o.2.2.2.2.1 y = (Cert.S5.tot (I.dwbrT A B C) : EReal) := by
  subst e0 e1 e2
  have h := hA.1.1.dwbr (y 1) (y 2)
  rw [hn, Cert.S5.part_all] at h
  refine (congrArg o.2.2.2.2.1 ?_).trans h
  rw [eq_ix3 y]
  congr 1
  exact Fin.ext (by have := (y 0).isLt; show (y 0).val = 0; exact Nat.lt_one_iff.mp this)

include hH in
theorem arr20 : (show FVec Ideal S8x128x512 .f32 from (dats m 0 c).arrAt 20 cfg0.N) =
    fun j => (Cert.S5.tot (I.dwbrT (j 0).val (j 1).val (j 2).val) : EReal) := by
  refine (dats m 0 c).arrAt_eq_of_covers 20 _ (by decide +kernel) fun t hf y => ?_
  blk_simp
  rw [after0_20]
  refine at20 (after_pt m c hH t.val t.isLt) ((flush0_20 t).mp hf) y ?_ ?_ ?_ <;> rw [idx20 t]
  · show t.val / 17 = t.val / 17; rfl
  · show 0 * 128 + (y 1).val = (y 1).val; omega
  · show 0 * 512 + (y 2).val = (y 2).val; omega

theorem idx21 : ∀ t : Fin cfg0.N, win0_21.index t = ![t.val / 17, 0, 0] :=
  (by decide +kernel : ∀ t : Fin grid0.N, _)

theorem at21 {n : ℕ} {o} (hA : After I n o) (hn : n % 17 = 16) (y : S1x128x512.Idx) {A B C : ℕ} (e0 : A = n / 17) (e1 : B = (y 1).val)
    (e2 : C = (y 2).val) : o.2.2.2.2.2.1 y = (Cert.S5.tot (I.dwbiT A B C) : EReal) := by
  subst e0 e1 e2
  have h := hA.1.1.dwbi (y 1) (y 2)
  rw [hn, Cert.S5.part_all] at h
  refine (congrArg o.2.2.2.2.2.1 ?_).trans h
  rw [eq_ix3 y]
  congr 1
  exact Fin.ext (by have := (y 0).isLt; show (y 0).val = 0; exact Nat.lt_one_iff.mp this)

include hH in
theorem arr21 : (show FVec Ideal S8x128x512 .f32 from (dats m 0 c).arrAt 21 cfg0.N) =
    fun j => (Cert.S5.tot (I.dwbiT (j 0).val (j 1).val (j 2).val) : EReal) := by
  refine (dats m 0 c).arrAt_eq_of_covers 21 _ (by decide +kernel) fun t hf y => ?_
  blk_simp
  rw [after0_21]
  refine at21 (after_pt m c hH t.val t.isLt) ((flush0_21 t).mp hf) y ?_ ?_ ?_ <;> rw [idx21 t]
  · show t.val / 17 = t.val / 17; rfl
  · show 0 * 128 + (y 1).val = (y 1).val; omega
  · show 0 * 512 + (y 2).val = (y 2).val; omega

theorem idx22 : ∀ t : Fin cfg0.N, win0_22.index t = ![0, t.val / 17] :=
  (by decide +kernel : ∀ t : Fin grid0.N, _)

theorem at22 {n : ℕ} {o} (hA : After I n o) (hn : n % 17 = 16) (y : S1x512.Idx) {A B : ℕ} (e0 : A = n / 17) (e1 : B = (y 1).val) :
    o.2.2.2.2.2.2.1 y = (Cert.S5.tot (I.darT A B) : EReal) := by
  subst e0 e1
  have h := hA.1.1.dar (y 1)
  rw [hn, Cert.S5.part_all] at h
  refine (congrArg o.2.2.2.2.2.2.1 ?_).trans h
  rw [eq_ix2 y]
  congr 1
  exact Fin.ext (by have := (y 0).isLt; show (y 0).val = 0; exact Nat.lt_one_iff.mp this)

include hH in
theorem arr22 : (show FVec Ideal S1x4096 .f32 from (dats m 0 c).arrAt 22 cfg0.N) =
    fun j => (Cert.S5.tot (I.darT ((j 1).val / 512) ((j 1).val % 512)) : EReal) := by
  refine (dats m 0 c).arrAt_eq_of_covers 22 _ (by decide +kernel) fun t hf y => ?_
  blk_simp
  rw [after0_22]
  have h2 : (y 1).val < 512 := (y 1).isLt
  refine at22 (after_pt m c hH t.val t.isLt) ((flush0_22 t).mp hf) y ?_ ?_ <;> rw [idx22 t]
  · show (t.val / 17 * 512 + (y 1).val) / 512 = t.val / 17; omega
  · show (t.val / 17 * 512 + (y 1).val) % 512 = (y 1).val; omega

theorem idx23 : ∀ t : Fin cfg0.N, win0_23.index t = ![0, t.val / 17] :=
  (by decide +kernel : ∀ t : Fin grid0.N, _)

theorem at23 {n : ℕ} {o} (hA : After I n o) (hn : n % 17 = 16) (y : S1x512.Idx) {A B : ℕ} (e0 : A = n / 17) (e1 : B = (y 1).val) :
    o.2.2.2.2.2.2.2.1 y = (Cert.S5.tot (I.daiT A B) : EReal) := by
  subst e0 e1
  have h := hA.1.1.dai (y 1)
  rw [hn, Cert.S5.part_all] at h
  refine (congrArg o.2.2.2.2.2.2.2.1 ?_).trans h
  rw [eq_ix2 y]
  congr 1
  exact Fin.ext (by have := (y 0).isLt; show (y 0).val = 0; exact Nat.lt_one_iff.mp this)

include hH in
theorem arr23 : (show FVec Ideal S1x4096 .f32 from (dats m 0 c).arrAt 23 cfg0.N) =
    fun j => (Cert.S5.tot (I.daiT ((j 1).val / 512) ((j 1).val % 512)) : EReal) := by
  refine (dats m 0 c).arrAt_eq_of_covers 23 _ (by decide +kernel) fun t hf y => ?_
  blk_simp
  rw [after0_23]
  have h2 : (y 1).val < 512 := (y 1).isLt
  refine at23 (after_pt m c hH t.val t.isLt) ((flush0_23 t).mp hf) y ?_ ?_ <;> rw [idx23 t]
  · show (t.val / 17 * 512 + (y 1).val) / 512 = t.val / 17; omega
  · show (t.val / 17 * 512 + (y 1).val) % 512 = (y 1).val; omega

end

end Cert.KernelIdeal.S5

end
-- ==== Proof.S5.RDef.lean ====
/- The reference's operations, named, and what each gives at an index. -/
module

public import proofs.«01_k».proof.Proof.S5.Spec
public import proofs.«01_k».proof.Proof.Gen.ReferenceIdeal.Run
public import Idealize.ShloMosaic.Lib.Pointwise
public import Idealize.ShloMosaic.Lib.ValueLayout

@[expose] public section

set_option maxRecDepth 16384
set_option maxHeartbeats 1600000

noncomputable section

namespace Cert.ReferenceIdeal.S5

open Idealize.ShloMosaic Idealize.ShloMosaic.TcCoe Idealize.SL.Sem Idealize.ShloMosaic.StableHlo
open Cert.ReferenceIdeal Cert.ReferenceIdeal.Gen Cert.ReferenceIdeal.Value

section

variable {F : FTy → Type} [FloatOps F]

/-- A constant at every index. -/
def cst (w : BitVec 32) : FVec F S2x2176x8x128 .f32 := broadcastInDim S2x2176x8x128 ![] bcast_S_S2x2176x8x128 (constant S_ .f32 w)

/-- The inner `tanh` of the activation. -/
def gth (y : FVec F S2x2176x8x128 .f32) : FVec F S2x2176x8x128 .f32 :=
  Host.tanh (mulf (cst 0x3F4C422A#32) (addf y (Host.divf (mulf (cst 0x472EAB00#32) (mulf (mulf y y) y)) (cst 0x49742400#32))))

/-- What the activation sends back, after the inner derivative. -/
def gin (g y : FVec F S2x2176x8x128 .f32) : FVec F S2x2176x8x128 .f32 :=
  mulf (cst 0x3F4C422A#32) (mulf (mulf (cst 0x3F000000#32) (mulf y g)) (mulf (addf (cst 0x3F800000#32) (gth y)) (subf (cst 0x3F800000#32) (gth y))))

/-- The gradient before the activation. -/
def rdy (g y : FVec F S2x2176x8x128 .f32) : FVec F S2x2176x8x128 .f32 :=
  addf (addf (mulf g (mulf (cst 0x3F000000#32) (addf (cst 0x3F800000#32) (gth y)))) (gin g y))
    (mulf (mulf (cst 0x472EAB00#32) (Host.divf (gin g y) (cst 0x49742400#32))) (mulf (cst 0x40400000#32) (mulf y y)))

/-- Rows last: `[g, h, b, t]`. -/
def rows (x : FVec F S2x2176x8x128 .f32) : FVec F S8x128x2x2176 .f32 :=
  transpose S8x128x2x2176 [2, 3, 0, 1] x transposes_S2x2176x8x128_S8x128x2x2176_2_3_0_1

/-- A gradient through the readout. -/
def thr (p : FVec F S8x128x2x2176 .f32) (w : FVec F S8x512x128 .f32) : FVec F S2x2176x8x512 .f32 :=
  transpose S2x2176x8x512 [1, 2, 0, 3] (Host.dotGeneral dot_S8x128x2x2176_S8x512x128_S8x2x2176x512_1_2_23_1_0_0 none p w) transposes_S8x2x2176x512_S2x2176x8x512_1_2_0_3

/-- The gradient of a readout weight. -/
def dwc (p : FVec F S8x128x2x2176 .f32) (x : FVec F S2x2176x8x512 .f32) : FVec F S8x512x128 .f32 :=
  transpose S8x512x128 [0, 2, 1] (Host.dotGeneral dot_S8x128x2x2176_S2x2176x8x512_S8x128x512_23_01_1_3_0_2 none p x) transposes_S8x128x512_S8x512x128_0_2_1

def skip (d : FVec F S8x128 .f32) (dy : FVec F S2x2176x8x128 .f32) : FVec F S2x2176x8x128 .f32 :=
  mulf (broadcastInDim S2x2176x8x128 ![0, 1, 2, 3] bcast_S1x1x8x128_S2x2176x8x128_0_1_2_3 (broadcastInDim S1x1x8x128 ![2, 3] bcast_S8x128_S1x1x8x128_2_3 d)) dy

/-- The sum over the batch and the rows. -/
def sum2 (x : FVec F S2x2176x8x128 .f32) : FVec F S8x128 .f32 :=
  Host.reduceAdd (shapeCast S1x1x8x128 (Host.reduceAdd x (constant S_ .f32 0x00000000#32) reducesTo_S2x2176x8x128_S8x128_d0_1 h_S_) shapeCasts_S8x128_S1x1x8x128)
    (constant S_ .f32 0x00000000#32) reducesTo_S1x1x8x128_S8x128_d0_1 h_S_

/-- Rows first: `[t, b, g, n]`. -/
def tfirst (x : FVec F S2x2176x8x512 .f32) : FVec F S2176x2x8x512 .f32 :=
  transpose S2176x2x8x512 [1, 0, 2, 3] x transposes_S2x2176x8x512_S2176x2x8x512_1_0_2_3

end

theorem rows_pt (x : FVec Ideal S2x2176x8x128 .f32) (g : Fin 8) (h : Fin 128) (b : Fin 2) (t : Fin 2176) :
    rows x (ix4 g h b t) = x (ix4 b t g h) := by
  pointwise [rows]

theorem thr_pt (p : FVec Ideal S8x128x2x2176 .f32) (w : FVec Ideal S8x512x128 .f32) (b : Fin 2) (t : Fin 2176) (g : Fin 8) (n : Fin 512) :
    thr p w (ix4 b t g n) = ∑ h : Fin 128, p (ix4 g h b t) * w (ix3 g n h) := by
  pointwise [thr]

theorem dwc_pt (p : FVec Ideal S8x128x2x2176 .f32) (x : FVec Ideal S2x2176x8x512 .f32) (g : Fin 8) (n : Fin 512) (h : Fin 128) :
    dwc p x (ix3 g n h) = ∑ b : Fin 2, ∑ t : Fin 2176, p (ix4 g h b t) * x (ix4 b t g n) := by
  pointwise [dwc]

theorem fiber01 {n0 n1 n2 n3 : ℕ} (h : (⟨4, ![n0, n1, n2, n3]⟩ : Shape).ReducesTo [0, 1] ⟨2, ![n2, n3]⟩) (g : Fin n2) (k : Fin n3)
    (i : (⟨4, ![n0, n1, n2, n3]⟩ : Shape).Idx) : h.drop i = ix2 g k ↔ ∃ p : Fin n0 × Fin n1, ix4 p.1 p.2 g k = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨p, rfl⟩
    funext b; apply Fin.ext
    match b with
    | ⟨0, _⟩ => rfl
    | ⟨1, _⟩ => rfl

/-- The sum over the two leading axes of an array of four. -/
theorem sum01 {n0 n1 n2 n3 : ℕ} (h : (⟨4, ![n0, n1, n2, n3]⟩ : Shape).ReducesTo [0, 1] ⟨2, ![n2, n3]⟩)
    (x : (⟨4, ![n0, n1, n2, n3]⟩ : Shape).Idx → EReal) (z : EReal) (g : Fin n2) (k : Fin n3) :
    Ideal.hostReduceAdd h x z (ix2 g k) = z + ∑ b : Fin n0, ∑ t : Fin n1, x (ix4 b t g k) := by
  refine congrArg (z + ·) ((Finset.sum_filter_eq_sum_of_fiber _ (fun p : Fin n0 × Fin n1 => ix4 p.1 p.2 g k)
    (fun _ _ e => Prod.ext (congrFun e 0) (congrFun e 1)) (fiber01 h g k) x).trans ?_)
  simp only [Fintype.sum_prod_type]

theorem sum2_pt (x : FVec Ideal S2x2176x8x128 .f32) (g : Fin 8) (h : Fin 128) :
    sum2 x (ix2 g h) = ∑ b : Fin 2, ∑ t : Fin 2176, x (ix4 b t g h) := by
  pointwise [sum2]
  rw [sum01]
  pointwise
  rw [sum01]
  simp

end Cert.ReferenceIdeal.S5

end
-- ==== Proof.S5.RPre.lean ====
/- What the reference computes before its loop. -/
module

public import proofs.«01_k».proof.Proof.S5.RDef
public import Idealize.ShloMosaic.Lib.Pointwise
public import Idealize.ShloMosaic.Lib.ValueLayout

@[expose] public section

set_option maxRecDepth 16384
set_option maxHeartbeats 1600000

noncomputable section

namespace Cert.ReferenceIdeal.S5

open Idealize.ShloMosaic Idealize.ShloMosaic.TcCoe Idealize.SL.Sem Idealize.ShloMosaic.StableHlo
open Cert.ReferenceIdeal Cert.ReferenceIdeal.Gen Cert.ReferenceIdeal.Value

section

variable (m : (ℓ : Loc nD τ sig) → Buf (Elt Ideal) ℓ) (c : Dev nD)

def aG : FVec Ideal S2x2176x8x128 .f32 := shapeCast S2x2176x8x128 (show FVec Ideal S4352x1024 .f32 from m (c.tc.loc main_arg0)) shapeCasts_S4352x1024_S2x2176x8x128
def aY : FVec Ideal S2x2176x8x128 .f32 := shapeCast S2x2176x8x128 (show FVec Ideal S4352x1024 .f32 from m (c.tc.loc main_arg1)) shapeCasts_S4352x1024_S2x2176x8x128
def aU : FVec Ideal S2x2176x8x128 .f32 := shapeCast S2x2176x8x128 (show FVec Ideal S4352x1024 .f32 from m (c.tc.loc main_arg2)) shapeCasts_S4352x1024_S2x2176x8x128
def aXr : FVec Ideal S2x2176x8x512 .f32 := shapeCast S2x2176x8x512 (show FVec Ideal S4352x4096 .f32 from m (c.tc.loc main_arg3)) shapeCasts_S4352x4096_S2x2176x8x512
def aXi : FVec Ideal S2x2176x8x512 .f32 := shapeCast S2x2176x8x512 (show FVec Ideal S4352x4096 .f32 from m (c.tc.loc main_arg4)) shapeCasts_S4352x4096_S2x2176x8x512
def aAr : FVec Ideal S8x512 .f32 := shapeCast S8x512 (show FVec Ideal S64x64 .f32 from m (c.tc.loc main_arg5)) shapeCasts_S64x64_S8x512
def aAi : FVec Ideal S8x512 .f32 := shapeCast S8x512 (show FVec Ideal S64x64 .f32 from m (c.tc.loc main_arg6)) shapeCasts_S64x64_S8x512
def aD : FVec Ideal S8x128 .f32 := shapeCast S8x128 (show FVec Ideal S1024 .f32 from m (c.tc.loc main_arg11)) shapeCasts_S1024_S8x128
def dy : FVec Ideal S2x2176x8x128 .f32 := rdy (aG m c) (aY m c)

/-- Every buffer before the loop. -/
abbrev E := entryContents preI m c

def zero3 : FVec Ideal S2x8x512 .f32 := broadcastInDim S2x8x512 ![] bcast_S_S2x8x512 (constant S_ .f32 0x00000000#32)

set_option maxRecDepth 100000 in
theorem e_v2 : E m c (Proc.devRef .tc main_v2) = aU m c := by
  simp only [entryContents, afterL_cons, afterL_nil]
  after_reads_simp
  rfl

set_option maxRecDepth 100000 in
theorem e_v3 : E m c (Proc.devRef .tc main_v3) = aXr m c := by
  simp only [entryContents, afterL_cons, afterL_nil]
  after_reads_simp
  rfl

set_option maxRecDepth 100000 in
theorem e_v4 : E m c (Proc.devRef .tc main_v4) = aXi m c := by
  simp only [entryContents, afterL_cons, afterL_nil]
  after_reads_simp
  rfl

set_option maxRecDepth 100000 in
theorem e_v55 : E m c (Proc.devRef .tc main_v55) = skip (aD m c) (dy m c) := by
  simp only [entryContents, afterL_cons, afterL_nil]
  after_reads_simp
  rfl

set_option maxRecDepth 100000 in
theorem e_v59 : E m c (Proc.devRef .tc main_v59) = sum2 (mulf (dy m c) (aU m c)) := by
  simp only [entryContents, afterL_cons, afterL_nil]
  after_reads_simp
  rfl

set_option maxRecDepth 100000 in
theorem e_v65 : E m c (Proc.devRef .tc main_v65) = dwc (rows (Host.negf (dy m c))) (aXi m c) := by
  simp only [entryContents, afterL_cons, afterL_nil]
  after_reads_simp
  rfl

set_option maxRecDepth 100000 in
theorem e_v70 : E m c (Proc.devRef .tc main_v70) = dwc (rows (dy m c)) (aXr m c) := by
  simp only [entryContents, afterL_cons, afterL_nil]
  after_reads_simp
  rfl

set_option maxRecDepth 100000 in
theorem e_v76_0 : E m c (Proc.devRef .tc main_v76_0) = tfirst (thr (rows (dy m c)) (show FVec Ideal S8x512x128 .f32 from m (c.tc.loc main_arg9))) := by
  simp only [entryContents, afterL_cons, afterL_nil]
  after_reads_simp
  rfl

set_option maxRecDepth 100000 in
theorem e_v76_1 : E m c (Proc.devRef .tc main_v76_1) = tfirst (thr (rows (Host.negf (dy m c))) (show FVec Ideal S8x512x128 .f32 from m (c.tc.loc main_arg10))) := by
  simp only [entryContents, afterL_cons, afterL_nil]
  after_reads_simp
  rfl

set_option maxRecDepth 100000 in
theorem e_v76_2 : E m c (Proc.devRef .tc main_v76_2) = aAr m c := by
  simp only [entryContents, afterL_cons, afterL_nil]
  after_reads_simp
  rfl

set_option maxRecDepth 100000 in
theorem e_v76_3 : E m c (Proc.devRef .tc main_v76_3) = aAi m c := by
  simp only [entryContents, afterL_cons, afterL_nil]
  after_reads_simp
  rfl

set_option maxRecDepth 100000 in
theorem e_v76_4 : E m c (Proc.devRef .tc main_v76_4) = fun _ => (0#32 : BitVec 32) := by
  simp only [entryContents, afterL_cons, afterL_nil]
  after_reads_simp
  rfl

set_option maxRecDepth 100000 in
theorem e_v76_5 : E m c (Proc.devRef .tc main_v76_5) = zero3 := by
  simp only [entryContents, afterL_cons, afterL_nil]
  after_reads_simp
  rfl

set_option maxRecDepth 100000 in
theorem e_v76_6 : E m c (Proc.devRef .tc main_v76_6) = zero3 := by
  simp only [entryContents, afterL_cons, afterL_nil]
  after_reads_simp
  rfl

set_option maxRecDepth 100000 in
theorem e_arg7 : E m c (Proc.devRef .tc main_arg7) = m (c.tc.loc main_arg7) := by
  simp only [entryContents, afterL_cons, afterL_nil]
  after_reads_simp

set_option maxRecDepth 100000 in
theorem e_arg8 : E m c (Proc.devRef .tc main_arg8) = m (c.tc.loc main_arg8) := by
  simp only [entryContents, afterL_cons, afterL_nil]
  after_reads_simp

end

end Cert.ReferenceIdeal.S5

end
-- ==== Proof.S5.RArg.lean ====
/- The reference's arrays at an index, over the numbers the arguments hold. -/
module

public import proofs.«01_k».proof.Proof.S5.RPre
public import Idealize.ShloMosaic.Lib.Pointwise
public import Idealize.ShloMosaic.Lib.ValueLayout

@[expose] public section

set_option maxRecDepth 16384
set_option maxHeartbeats 1600000

noncomputable section

namespace Cert.ReferenceIdeal.S5

open Idealize.ShloMosaic Idealize.ShloMosaic.TcCoe Idealize.SL.Sem Idealize.ShloMosaic.StableHlo
open Cert.ReferenceIdeal Cert.ReferenceIdeal.Gen Cert.ReferenceIdeal.Value

theorem div_pt (x : ℝ) {y : ℝ} (hy : y ≠ 0) : Ideal.div (x : EReal) (y : EReal) = ((x / y : ℝ) : EReal) := by
  rw [Ideal.div_coe hy, ← EReal.coe_mul]; congr 1; ring

theorem k3 : Ideal.ofBits .f32 0x40400000#32 = ((3 : ℝ) : EReal) := by
  simp [Ideal.ofBits, Ideal.ieee]
  rw [← EReal.coe_mul]; norm_num

theorem kc : Ideal.ofBits .f32 0x472EAB00#32 = ((44715 : ℝ) : EReal) := by
  simp [Ideal.ofBits, Ideal.ieee]
  rw [← EReal.coe_mul]; norm_num

theorem km : Ideal.ofBits .f32 0x49742400#32 = ((1000000 : ℝ) : EReal) := by
  simp [Ideal.ofBits, Ideal.ieee]
  rw [← EReal.coe_mul]; norm_num

theorem rdy_pt (g y : FVec Ideal S2x2176x8x128 .f32) (j : S2x2176x8x128.Idx) (G Y : ℝ) (hG : g j = (G : EReal)) (hY : y j = (Y : EReal)) :
    rdy g y j = ((G * Cert.KernelIdeal.S5.gd Y : ℝ) : EReal) := by
  pointwise [rdy, gin, gth, cst]
  rw [hG, hY, k3, kc, km, Cert.KernelIdeal.S5.half_eq, Cert.KernelIdeal.S5.c0_eq]
  simp only [← EReal.coe_one, ← EReal.coe_add, ← EReal.coe_mul, ← EReal.coe_sub, div_pt _ (show (1000000 : ℝ) ≠ 0 by norm_num), Ideal.tanh_coe]
  refine congrArg _ ?_
  unfold Cert.KernelIdeal.S5.gd
  rw [show Cert.KernelIdeal.S5.c0 * (Y + 44715 / 1000000 * Y * Y * Y) = Cert.KernelIdeal.S5.c0 * (Y + 44715 * (Y * Y * Y) / 1000000) by ring]
  generalize Real.tanh (Cert.KernelIdeal.S5.c0 * (Y + 44715 * (Y * Y * Y) / 1000000)) = th
  ring

theorem neg_pt (x : FVec Ideal S2x2176x8x128 .f32) (j : S2x2176x8x128.Idx) (X : ℝ) (h : x j = (X : EReal)) : Host.negf x j = ((-X : ℝ) : EReal) := by
  show -(x j) = _
  rw [h, EReal.coe_neg]

section

variable (m : (ℓ : Loc nD τ sig) → Buf (Elt Ideal) ℓ) (c : Dev nD) {I : Cert.S5.In}

variable (hH : Cert.S5.Holds I (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7)) (m (c.tc.loc main_arg8))
  (m (c.tc.loc main_arg9)) (m (c.tc.loc main_arg10)) (m (c.tc.loc main_arg11)))

include hH

theorem aG_pt (b : Fin 2) (t : Fin 2176) (g : Fin 8) (h : Fin 128) : aG m c (ix4 b t g h) = (I.dg (b.val * 2176 + t.val) (g.val * 128 + h.val) : EReal) := by
  pointwise [aG]
  exact hH.dg _ _

theorem aY_pt (b : Fin 2) (t : Fin 2176) (g : Fin 8) (h : Fin 128) : aY m c (ix4 b t g h) = (I.y (b.val * 2176 + t.val) (g.val * 128 + h.val) : EReal) := by
  pointwise [aY]
  exact hH.y _ _

theorem aU_pt (b : Fin 2) (t : Fin 2176) (g : Fin 8) (h : Fin 128) : aU m c (ix4 b t g h) = (I.u (b.val * 2176 + t.val) (g.val * 128 + h.val) : EReal) := by
  pointwise [aU]
  exact hH.u _ _

theorem aXr_pt (b : Fin 2) (t : Fin 2176) (g : Fin 8) (n : Fin 512) : aXr m c (ix4 b t g n) = (I.xr (b.val * 2176 + t.val) (g.val * 512 + n.val) : EReal) := by
  pointwise [aXr]
  exact hH.xr _ _

theorem aXi_pt (b : Fin 2) (t : Fin 2176) (g : Fin 8) (n : Fin 512) : aXi m c (ix4 b t g n) = (I.xi (b.val * 2176 + t.val) (g.val * 512 + n.val) : EReal) := by
  pointwise [aXi]
  exact hH.xi _ _

theorem aAr_pt (g : Fin 8) (n : Fin 512) : aAr m c (ix2 g n) = (I.ar (g.val * 512 + n.val) : EReal) := by
  pointwise [aAr]
  refine (hH.ar _ _).trans (congrArg (fun k => ((I.ar k : ℝ) : EReal)) ?_)
  show (g.val * 8 + n.val / 64) * 64 + n.val % 64 = g.val * 512 + n.val
  omega

theorem aAi_pt (g : Fin 8) (n : Fin 512) : aAi m c (ix2 g n) = (I.ai (g.val * 512 + n.val) : EReal) := by
  pointwise [aAi]
  refine (hH.ai _ _).trans (congrArg (fun k => ((I.ai k : ℝ) : EReal)) ?_)
  show (g.val * 8 + n.val / 64) * 64 + n.val % 64 = g.val * 512 + n.val
  omega

theorem aD_pt (g : Fin 8) (h : Fin 128) : aD m c (ix2 g h) = (I.d (g.val * 128 + h.val) : EReal) := by
  pointwise [aD]
  exact hH.d _

theorem dy_pt (b : Fin 2) (t : Fin 2176) (g : Fin 8) (h : Fin 128) : dy m c (ix4 b t g h) = (I.dy b.val t.val (g.val * 128 + h.val) : EReal) :=
  rdy_pt _ _ _ _ _ (aG_pt m c hH b t g h) (aY_pt m c hH b t g h)

end

theorem skip_pt (d : FVec Ideal S8x128 .f32) (y : FVec Ideal S2x2176x8x128 .f32) (b : Fin 2) (t : Fin 2176) (g : Fin 8) (h : Fin 128) :
    skip d y (ix4 b t g h) = d (ix2 g h) * y (ix4 b t g h) := by
  pointwise [skip]

theorem tfirst_pt (x : FVec Ideal S2x2176x8x512 .f32) (b : Fin 2) (t : Fin 2176) (g : Fin 8) (n : Fin 512) :
    tfirst x (ix4 t b g n) = x (ix4 b t g n) := by
  pointwise [tfirst]

end Cert.ReferenceIdeal.S5

end
-- ==== Proof.S5.RLoop.lean ====
/- The reference's loop: after `k` trips the last `k` rows hold the adjoint of the state, and the carry the next one's feedback. -/
module

public import proofs.«01_k».proof.Proof.S5.Spec
public import proofs.«01_k».proof.Proof.Gen.ReferenceIdeal.Run
public import Idealize.ShloMosaic.Lib.Pointwise
public import Idealize.ShloMosaic.Lib.WordCmp
public import Idealize.ShloMosaic.Lib.ValueLayout

@[expose] public section

set_option maxRecDepth 16384
set_option maxHeartbeats 1600000

noncomputable section

namespace Cert.ReferenceIdeal.S5

open Idealize.ShloMosaic Idealize.ShloMosaic.TcCoe Idealize.SL.Sem Idealize.ShloMosaic.StableHlo
open Cert.ReferenceIdeal Cert.ReferenceIdeal.Gen Cert.ReferenceIdeal.Value

theorem word (k : ℕ) (hk : k < 2176) : IntOp.subi (IntOp.subi 2176#32 (Scf.iv 0#32 1#32 k)) 1#32 = BitVec.ofNat 32 (2175 - k) := by
  have e : Scf.iv 0#32 1#32 k = BitVec.ofNat 32 k := by simp [Scf.iv]
  rw [e]
  show (2176#32 - BitVec.ofNat 32 k) - 1#32 = BitVec.ofNat 32 (2175 - k)
  apply BitVec.eq_of_toNat_eq
  simp only [BitVec.toNat_sub, BitVec.toNat_ofNat]
  omega

/-- The loop's start words: row `2175 - k`, the other axes from the beginning. -/
abbrev start (w : (⟨S_, .i32⟩ : BufTy).Contents (Elt Ideal)) : Fin 4 → Int := fun k =>
  (((![w, constantI S_ 32 0#32, constantI S_ 32 0#32, constantI S_ 32 0#32] : Fin 4 → (⟨S_, .i32⟩ : BufTy).Contents (Elt Ideal))) k (Shape.Idx.first h_S_)).toInt

theorem start_0 (k : ℕ) : start (fun _ => BitVec.ofNat 32 (2175 - k)) 0 = ((2175 - k : ℕ) : Int) :=
  WordCmp.toInt_ofNat_of_lt (by omega)

theorem slice_at (X : FVec Ideal S2176x2x8x512 .f32) (s : Fin 4 → Int) (q : ℕ) (hq : q < 2176) (h0 : s 0 = (q : Int)) (h1 : s 1 = ((0 : ℕ) : Int)) (h2 : s 2 = ((0 : ℕ) : Int)) (h3 : s 3 = ((0 : ℕ) : Int))
    (b : Fin 2) (g : Fin 8) (n : Fin 512) :
    shapeCast S2x8x512 (Host.dynamicSlice S1x2x8x512 X s sliceFits_S2176x2x8x512_S1x2x8x512) shapeCasts_S1x2x8x512_S2x8x512 (ix3 b g n)
      = X (ix4 ⟨q, hq⟩ b g n) := by
  have c0 := Host.clampedStart_of_le (s := S2176x2x8x512) (t := S1x2x8x512) rfl s 0 _ h0 (by show q + 1 ≤ 2176; omega)
  have c1 := Host.clampedStart_of_le (s := S2176x2x8x512) (t := S1x2x8x512) rfl s 1 _ h1 (by decide)
  have c2 := Host.clampedStart_of_le (s := S2176x2x8x512) (t := S1x2x8x512) rfl s 2 _ h2 (by decide)
  have c3 := Host.clampedStart_of_le (s := S2176x2x8x512) (t := S1x2x8x512) rfl s 3 _ h3 (by decide)
  pointwise
  simp only [c0, c1, c2, c3, Nat.zero_add]

theorem slice_pt (X : FVec Ideal S2176x2x8x512 .f32) (w : (⟨S_, .i32⟩ : BufTy).Contents (Elt Ideal)) (k : ℕ)
    (hw : w = fun _ => BitVec.ofNat 32 (2175 - k)) (b : Fin 2) (g : Fin 8) (n : Fin 512) :
    shapeCast S2x8x512 (Host.dynamicSlice S1x2x8x512 X (start w) sliceFits_S2176x2x8x512_S1x2x8x512) shapeCasts_S1x2x8x512_S2x8x512 (ix3 b g n)
      = X (ix4 ⟨2175 - k, by omega⟩ b g n) := by
  subst hw
  exact slice_at X _ (2175 - k) (by omega) (start_0 k) rfl rfl rfl b g n

theorem update_at (X : FVec Ideal S2176x2x8x512 .f32) (v : FVec Ideal S2x8x512 .f32) (s : Fin 4 → Int) (q : ℕ) (hq : q < 2176) (h0 : s 0 = (q : Int)) (h1 : s 1 = ((0 : ℕ) : Int)) (h2 : s 2 = ((0 : ℕ) : Int)) (h3 : s 3 = ((0 : ℕ) : Int))
    (t : Fin 2176) (b : Fin 2) (g : Fin 8) (n : Fin 512) :
    Host.dynamicUpdateSlice X (broadcastInDim S1x2x8x512 ![1, 2, 3] bcast_S2x8x512_S1x2x8x512_1_2_3 v) s updateFits_S2176x2x8x512_S1x2x8x512 (ix4 t b g n)
      = if t.val = q then v (ix3 b g n) else X (ix4 t b g n) := by
  have c0 := Host.clampedStart_of_le (s := S2176x2x8x512) (t := S1x2x8x512) rfl s 0 _ h0 (by show q + 1 ≤ 2176; omega)
  have c1 := Host.clampedStart_of_le (s := S2176x2x8x512) (t := S1x2x8x512) rfl s 1 _ h1 (by decide)
  have c2 := Host.clampedStart_of_le (s := S2176x2x8x512) (t := S1x2x8x512) rfl s 2 _ h2 (by decide)
  have c3 := Host.clampedStart_of_le (s := S2176x2x8x512) (t := S1x2x8x512) rfl s 3 _ h3 (by decide)
  pointwise
  simp only [c0, c1, c2, c3, Nat.zero_add, Nat.sub_zero, Nat.zero_le, true_and, b.isLt, g.isLt, n.isLt, and_true]
  by_cases h : t.val = q
  · rw [if_pos h, dif_pos (by omega)]
  · rw [if_neg h, dif_neg (by omega)]

theorem update_pt (X : FVec Ideal S2176x2x8x512 .f32) (v : FVec Ideal S2x8x512 .f32) (w : (⟨S_, .i32⟩ : BufTy).Contents (Elt Ideal)) (k : ℕ)
    (hw : w = fun _ => BitVec.ofNat 32 (2175 - k)) (t : Fin 2176) (b : Fin 2) (g : Fin 8) (n : Fin 512) :
    Host.dynamicUpdateSlice X (broadcastInDim S1x2x8x512 ![1, 2, 3] bcast_S2x8x512_S1x2x8x512_1_2_3 v) (start w) updateFits_S2176x2x8x512_S1x2x8x512 (ix4 t b g n)
      = if t.val = 2175 - k then v (ix3 b g n) else X (ix4 t b g n) := by
  subst hw
  exact update_at X v _ (2175 - k) (by omega) (start_0 k) rfl rfl rfl t b g n

/-- The carried buffers after `k` trips, `a` the state's factor and `l b g n j` the cotangent of row `2175 - j`. -/
structure Inv (a : Fin 8 → Fin 512 → ℂ) (l : Fin 2 → Fin 8 → Fin 512 → ℕ → ℂ) (k : ℕ) (V : Valuation τ sig (Elt Ideal)) : Prop where
  rr : ∀ (t : Fin 2176) (b : Fin 2) (g : Fin 8) (n : Fin 512), (show FVec Ideal S2176x2x8x512 .f32 from V (Proc.devRef .tc main_v76_0)) (ix4 t b g n) = ((l b g n (2175 - t.val)).re : EReal)
  ri : ∀ (t : Fin 2176) (b : Fin 2) (g : Fin 8) (n : Fin 512), (show FVec Ideal S2176x2x8x512 .f32 from V (Proc.devRef .tc main_v76_1)) (ix4 t b g n) = ((l b g n (2175 - t.val)).im : EReal)
  ar : ∀ (g : Fin 8) (n : Fin 512), (show FVec Ideal S8x512 .f32 from V (Proc.devRef .tc main_v76_2)) (ix2 g n) = ((a g n).re : EReal)
  ai : ∀ (g : Fin 8) (n : Fin 512), (show FVec Ideal S8x512 .f32 from V (Proc.devRef .tc main_v76_3)) (ix2 g n) = ((a g n).im : EReal)
  cnt : V (Proc.devRef .tc main_v76_4) = fun _ => Scf.iv 0#32 1#32 k
  hr : ∀ (b : Fin 2) (g : Fin 8) (n : Fin 512), (show FVec Ideal S2x8x512 .f32 from V (Proc.devRef .tc main_v76_5)) (ix3 b g n) = (((starRingEnd ℂ) (a g n) * Cert.S5.back (a g n) (l b g n) k).re : EReal)
  hi : ∀ (b : Fin 2) (g : Fin 8) (n : Fin 512), (show FVec Ideal S2x8x512 .f32 from V (Proc.devRef .tc main_v76_6)) (ix3 b g n) = (((starRingEnd ℂ) (a g n) * Cert.S5.back (a g n) (l b g n) k).im : EReal)
  lr : ∀ (t : Fin 2176) (b : Fin 2) (g : Fin 8) (n : Fin 512), 2176 ≤ t.val + k → (show FVec Ideal S2176x2x8x512 .f32 from V (Proc.devRef .tc main_v76_7)) (ix4 t b g n) = ((Cert.S5.back (a g n) (l b g n) (2176 - t.val)).re : EReal)
  li : ∀ (t : Fin 2176) (b : Fin 2) (g : Fin 8) (n : Fin 512), 2176 ≤ t.val + k → (show FVec Ideal S2176x2x8x512 .f32 from V (Proc.devRef .tc main_v76_8)) (ix4 t b g n) = ((Cert.S5.back (a g n) (l b g n) (2176 - t.val)).im : EReal)

section

variable {a : Fin 8 → Fin 512 → ℂ} {l : Fin 2 → Fin 8 → Fin 512 → ℕ → ℂ} {k : ℕ} {V : Valuation τ sig (Elt Ideal)}

theorem w140 (hk : k < 2176) (h : Inv a l k V) : res_main_while0b_v140 V = fun _ => BitVec.ofNat 32 (2175 - k) := by
  unfold res_main_while0b_v140
  rw [h.cnt]
  funext j
  exact word k hk

theorem p143 (hk : k < 2176) (h : Inv a l k V) (b : Fin 2) (g : Fin 8) (n : Fin 512) :
    (show FVec Ideal S2x8x512 .f32 from res_main_while0b_v143 V) (ix3 b g n) = ((Cert.S5.back (a g n) (l b g n) (k + 1)).re : EReal) := by
  unfold res_main_while0b_v143
  refine (congrArg₂ (· + ·) (h.hr b g n) ((slice_pt _ _ k (w140 hk h) b g n).trans (h.rr _ b g n))).trans ?_
  show ((_ : ℝ) : EReal) + _ = _
  rw [← EReal.coe_add, show 2175 - (2175 - k) = k by omega]
  congr 1
  rw [Cert.S5.back, Complex.add_re, add_comm]

theorem p144 (hk : k < 2176) (h : Inv a l k V) (b : Fin 2) (g : Fin 8) (n : Fin 512) :
    (show FVec Ideal S2x8x512 .f32 from res_main_while0b_v144 V) (ix3 b g n) = ((Cert.S5.back (a g n) (l b g n) (k + 1)).im : EReal) := by
  unfold res_main_while0b_v144
  refine (congrArg₂ (· + ·) (h.hi b g n) ((slice_pt _ _ k (w140 hk h) b g n).trans (h.ri _ b g n))).trans ?_
  show ((_ : ℝ) : EReal) + _ = _
  rw [← EReal.coe_add, show 2175 - (2175 - k) = k by omega]
  congr 1
  rw [Cert.S5.back, Complex.add_im, add_comm]

theorem bc_pt (x : FVec Ideal S8x512 .f32) (b : Fin 2) (g : Fin 8) (n : Fin 512) :
    broadcastInDim S2x8x512 ![0, 1, 2] bcast_S1x8x512_S2x8x512_0_1_2 (broadcastInDim S1x8x512 ![1, 2] bcast_S8x512_S1x8x512_1_2 x) (ix3 b g n) = x (ix2 g n) := by
  pointwise

theorem step_hr (hk : k < 2176) (h : Inv a l k V) (b : Fin 2) (g : Fin 8) (n : Fin 512) :
    (show FVec Ideal S2x8x512 .f32 from step_main_v76_5 V) (ix3 b g n) = (((starRingEnd ℂ) (a g n) * Cert.S5.back (a g n) (l b g n) (k + 1)).re : EReal) := by
  refine (congrArg₂ (· + ·) (congrArg₂ (· * ·) ((bc_pt _ b g n).trans (h.ai g n)) (p144 hk h b g n))
    (congrArg₂ (· * ·) ((bc_pt _ b g n).trans (h.ar g n)) (p143 hk h b g n)) : _ = _).trans ?_
  show ((_ : ℝ) : EReal) * ((_ : ℝ) : EReal) + ((_ : ℝ) : EReal) * ((_ : ℝ) : EReal) = _
  rw [← EReal.coe_mul, ← EReal.coe_mul, ← EReal.coe_add]
  congr 1
  rw [Complex.mul_re, Complex.conj_re, Complex.conj_im]
  ring

theorem step_hi (hk : k < 2176) (h : Inv a l k V) (b : Fin 2) (g : Fin 8) (n : Fin 512) :
    (show FVec Ideal S2x8x512 .f32 from step_main_v76_6 V) (ix3 b g n) = (((starRingEnd ℂ) (a g n) * Cert.S5.back (a g n) (l b g n) (k + 1)).im : EReal) := by
  refine (congrArg₂ (· + ·) (congrArg₂ (· * ·) ((bc_pt _ b g n).trans (h.ar g n)) (p144 hk h b g n))
    (congrArg₂ (· * ·) ((bc_pt _ b g n).trans (h.ai g n)) (congrArg Neg.neg (p143 hk h b g n))) : _ = _).trans ?_
  show ((_ : ℝ) : EReal) * ((_ : ℝ) : EReal) + ((_ : ℝ) : EReal) * -((_ : ℝ) : EReal) = _
  rw [← EReal.coe_neg, ← EReal.coe_mul, ← EReal.coe_mul, ← EReal.coe_add]
  congr 1
  rw [Complex.mul_im, Complex.conj_re, Complex.conj_im]
  ring

theorem step_lr (hk : k < 2176) (h : Inv a l k V) (t : Fin 2176) (b : Fin 2) (g : Fin 8) (n : Fin 512) (ht : 2176 ≤ t.val + (k + 1)) :
    (show FVec Ideal S2176x2x8x512 .f32 from step_main_v76_7 V) (ix4 t b g n) = ((Cert.S5.back (a g n) (l b g n) (2176 - t.val)).re : EReal) := by
  refine (update_pt _ _ _ k (w140 hk h) t b g n).trans ?_
  by_cases e : t.val = 2175 - k
  · rw [if_pos e, e, show 2176 - (2175 - k) = k + 1 by omega]
    exact p143 hk h b g n
  · rw [if_neg e]
    exact h.lr t b g n (by omega)

theorem step_li (hk : k < 2176) (h : Inv a l k V) (t : Fin 2176) (b : Fin 2) (g : Fin 8) (n : Fin 512) (ht : 2176 ≤ t.val + (k + 1)) :
    (show FVec Ideal S2176x2x8x512 .f32 from step_main_v76_8 V) (ix4 t b g n) = ((Cert.S5.back (a g n) (l b g n) (2176 - t.val)).im : EReal) := by
  refine (update_pt _ _ _ k (w140 hk h) t b g n).trans ?_
  by_cases e : t.val = 2175 - k
  · rw [if_pos e, e, show 2176 - (2175 - k) = k + 1 by omega]
    exact p144 hk h b g n
  · rw [if_neg e]
    exact h.li t b g n (by omega)

theorem inv_step (hk : k < 2176) (h : Inv a l k V) : Inv a l (k + 1) (STEP V) where
  rr := fun t b g n => by rw [STEP_main_v76_0]; exact h.rr t b g n
  ri := fun t b g n => by rw [STEP_main_v76_1]; exact h.ri t b g n
  ar := fun g n => by rw [STEP_main_v76_2]; exact h.ar g n
  ai := fun g n => by rw [STEP_main_v76_3]; exact h.ai g n
  cnt := by
    rw [STEP_main_v76_4]
    unfold step_main_v76_4
    rw [h.cnt]
    funext j
    exact (Scf.iv_succ 0#32 1#32 k).symm
  hr := fun b g n => by rw [STEP_main_v76_5]; exact step_hr hk h b g n
  hi := fun b g n => by rw [STEP_main_v76_6]; exact step_hi hk h b g n
  lr := fun t b g n ht => by rw [STEP_main_v76_7]; exact step_lr hk h t b g n ht
  li := fun t b g n ht => by rw [STEP_main_v76_8]; exact step_li hk h t b g n ht

theorem inv_iter (h : Inv a l 0 V) : ∀ k, k ≤ 2176 → Inv a l k (STEP^[k] V)
  | 0, _ => h
  | k + 1, hk => by
    rw [Function.iterate_succ_apply']
    exact inv_step (by omega) (inv_iter h k (by omega))

end

end Cert.ReferenceIdeal.S5

end
-- ==== Proof.S5.RPost.lean ====
/- What the reference computes after its loop, from the buffers the loop leaves. -/
module

public import proofs.«01_k».proof.Proof.S5.RDef
public import Idealize.ShloMosaic.Lib.Pointwise
public import Idealize.ShloMosaic.Lib.ValueLayout

@[expose] public section

set_option maxRecDepth 16384
set_option maxHeartbeats 1600000

noncomputable section

namespace Cert.ReferenceIdeal.S5

open Idealize.ShloMosaic Idealize.ShloMosaic.TcCoe Idealize.SL.Sem Idealize.ShloMosaic.StableHlo
open Cert.ReferenceIdeal Cert.ReferenceIdeal.Gen Cert.ReferenceIdeal.Value

section

variable {F : FTy → Type} [FloatOps F]

/-- Batch first again: `[b, t, g, n]`. -/
def bfirst (x : FVec F S2176x2x8x512 .f32) : FVec F S2x2176x8x512 .f32 :=
  transpose S2x2176x8x512 [1, 0, 2, 3] x transposes_S2176x2x8x512_S2x2176x8x512_1_0_2_3

/-- Rows last: `[g, n, b, t]`. -/
def rowsL (x : FVec F S2x2176x8x512 .f32) : FVec F S8x512x2x2176 .f32 :=
  transpose S8x512x2x2176 [2, 3, 0, 1] x transposes_S2x2176x8x512_S8x512x2x2176_2_3_0_1

/-- An adjoint through the input map. -/
def thrB (p : FVec F S8x512x2x2176 .f32) (w : FVec F S8x128x512 .f32) : FVec F S2x2176x8x128 .f32 :=
  transpose S2x2176x8x128 [1, 2, 0, 3] (Host.dotGeneral dot_S8x512x2x2176_S8x128x512_S8x2x2176x128_1_2_23_1_0_0 none p w) transposes_S8x2x2176x128_S2x2176x8x128_1_2_0_3

/-- The gradient of an input weight. -/
def dwB (p : FVec F S8x512x2x2176 .f32) (u : FVec F S2x2176x8x128 .f32) : FVec F S8x128x512 .f32 :=
  transpose S8x128x512 [0, 2, 1] (Host.dotGeneral dot_S8x512x2x2176_S2x2176x8x128_S8x512x128_23_01_1_3_0_2 none p u) transposes_S8x512x128_S8x128x512_0_2_1

/-- The rows one later, the first one zero. -/
def late (x : FVec F S2x2176x8x512 .f32) : FVec F S2x2176x8x512 .f32 :=
  concatenate S2x2176x8x512 1 [⟨S2x1x8x512, broadcastInDim S2x1x8x512 ![] bcast_S_S2x1x8x512 (constant S_ .f32 0x00000000#32)⟩,
    ⟨S2x2175x8x512, extractStridedSlice S2x2175x8x512 ![0, 0, 0, 0] x slices_S2x2176x8x512_S2x2175x8x512_0_0_0_0⟩] concatenates_S2x1x8x512_S2x2175x8x512_S2x2176x8x512_d1

/-- The sum over the batch and the rows. -/
def sumL (x : FVec F S2x2176x8x512 .f32) : FVec F S8x512 .f32 :=
  Host.reduceAdd (shapeCast S1x1x8x512 (Host.reduceAdd x (constant S_ .f32 0x00000000#32) reducesTo_S2x2176x8x512_S8x512_d0_1 h_S_) shapeCasts_S8x512_S1x1x8x512)
    (constant S_ .f32 0x00000000#32) reducesTo_S1x1x8x512_S8x512_d0_1 h_S_

/-- The gradient of the input. -/
def rdu (lr li : FVec F S2x2176x8x512 .f32) (wr wi : FVec F S8x128x512 .f32) (s : FVec F S2x2176x8x128 .f32) : FVec F S2x2176x1024 .bf16 :=
  truncf .bf16 (shapeCast S2x2176x1024 (addf (addf (thrB (rowsL li) wi) (thrB (rowsL lr) wr)) s) shapeCasts_S2x2176x8x128_S2x2176x1024) bitsLt_bf16_f32

/-- The gradients of the state's factor. -/
def rdar (lr li xr xi : FVec F S2x2176x8x512 .f32) : FVec F S1x4096 .f32 :=
  shapeCast S1x4096 (addf (sumL (mulf li (late xi))) (sumL (mulf lr (late xr)))) shapeCasts_S8x512_S1x4096
def rdai (lr li xr xi : FVec F S2x2176x8x512 .f32) : FVec F S1x4096 .f32 :=
  shapeCast S1x4096 (addf (sumL (mulf li (late xr))) (sumL (mulf (Host.negf lr) (late xi)))) shapeCasts_S8x512_S1x4096

end

section

variable (V : Valuation τ sig (Elt Ideal))

set_option maxRecDepth 100000 in
theorem p_v135 : after hostOps0_1 V (Proc.devRef .tc main_v135) = rdu (bfirst (show FVec Ideal S2176x2x8x512 .f32 from V (Proc.devRef .tc main_v76_7))) (bfirst (show FVec Ideal S2176x2x8x512 .f32 from V (Proc.devRef .tc main_v76_8))) (show FVec Ideal S8x128x512 .f32 from V (Proc.devRef .tc main_arg7)) (show FVec Ideal S8x128x512 .f32 from V (Proc.devRef .tc main_arg8)) (show FVec Ideal S2x2176x8x128 .f32 from V (Proc.devRef .tc main_v55)) := by
  after_reads_simp
  rfl

set_option maxRecDepth 100000 in
theorem p_v136 : after hostOps0_1 V (Proc.devRef .tc main_v136) = shapeCast S1x1024 (show FVec Ideal S8x128 .f32 from V (Proc.devRef .tc main_v59)) shapeCasts_S8x128_S1x1024 := by
  after_reads_simp
  rfl

set_option maxRecDepth 100000 in
theorem p_v70 : after hostOps0_1 V (Proc.devRef .tc main_v70) = V (Proc.devRef .tc main_v70) := by
  after_reads_simp

set_option maxRecDepth 100000 in
theorem p_v65 : after hostOps0_1 V (Proc.devRef .tc main_v65) = V (Proc.devRef .tc main_v65) := by
  after_reads_simp

set_option maxRecDepth 100000 in
theorem p_v132 : after hostOps0_1 V (Proc.devRef .tc main_v132) = dwB (rowsL (bfirst (show FVec Ideal S2176x2x8x512 .f32 from V (Proc.devRef .tc main_v76_7)))) (show FVec Ideal S2x2176x8x128 .f32 from V (Proc.devRef .tc main_v2)) := by
  after_reads_simp
  rfl

set_option maxRecDepth 100000 in
theorem p_v126 : after hostOps0_1 V (Proc.devRef .tc main_v126) = dwB (rowsL (bfirst (show FVec Ideal S2176x2x8x512 .f32 from V (Proc.devRef .tc main_v76_8)))) (show FVec Ideal S2x2176x8x128 .f32 from V (Proc.devRef .tc main_v2)) := by
  after_reads_simp
  rfl

set_option maxRecDepth 100000 in
theorem p_v137 : after hostOps0_1 V (Proc.devRef .tc main_v137) = rdar (bfirst (show FVec Ideal S2176x2x8x512 .f32 from V (Proc.devRef .tc main_v76_7))) (bfirst (show FVec Ideal S2176x2x8x512 .f32 from V (Proc.devRef .tc main_v76_8))) (show FVec Ideal S2x2176x8x512 .f32 from V (Proc.devRef .tc main_v3)) (show FVec Ideal S2x2176x8x512 .f32 from V (Proc.devRef .tc main_v4)) := by
  after_reads_simp
  rfl

set_option maxRecDepth 100000 in
theorem p_v138 : after hostOps0_1 V (Proc.devRef .tc main_v138) = rdai (bfirst (show FVec Ideal S2176x2x8x512 .f32 from V (Proc.devRef .tc main_v76_7))) (bfirst (show FVec Ideal S2176x2x8x512 .f32 from V (Proc.devRef .tc main_v76_8))) (show FVec Ideal S2x2176x8x512 .f32 from V (Proc.devRef .tc main_v3)) (show FVec Ideal S2x2176x8x512 .f32 from V (Proc.devRef .tc main_v4)) := by
  after_reads_simp
  rfl

end

theorem bfirst_pt (x : FVec Ideal S2176x2x8x512 .f32) (b : Fin 2) (t : Fin 2176) (g : Fin 8) (n : Fin 512) :
    bfirst x (ix4 b t g n) = x (ix4 t b g n) := by
  pointwise [bfirst]

theorem rowsL_pt (x : FVec Ideal S2x2176x8x512 .f32) (g : Fin 8) (n : Fin 512) (b : Fin 2) (t : Fin 2176) :
    rowsL x (ix4 g n b t) = x (ix4 b t g n) := by
  pointwise [rowsL]

theorem thrB_pt (p : FVec Ideal S8x512x2x2176 .f32) (w : FVec Ideal S8x128x512 .f32) (b : Fin 2) (t : Fin 2176) (g : Fin 8) (h : Fin 128) :
    thrB p w (ix4 b t g h) = ∑ n : Fin 512, p (ix4 g n b t) * w (ix3 g h n) := by
  pointwise [thrB]

theorem dwB_pt (p : FVec Ideal S8x512x2x2176 .f32) (u : FVec Ideal S2x2176x8x128 .f32) (g : Fin 8) (h : Fin 128) (n : Fin 512) :
    dwB p u (ix3 g h n) = ∑ b : Fin 2, ∑ t : Fin 2176, p (ix4 g n b t) * u (ix4 b t g h) := by
  pointwise [dwB]

theorem sumL_pt (x : FVec Ideal S2x2176x8x512 .f32) (g : Fin 8) (n : Fin 512) :
    sumL x (ix2 g n) = ∑ b : Fin 2, ∑ t : Fin 2176, x (ix4 b t g n) := by
  pointwise [sumL]
  rw [sum01]
  pointwise
  rw [sum01]
  simp

theorem late_pt (x : FVec Ideal S2x2176x8x512 .f32) (b : Fin 2) (t : Fin 2176) (g : Fin 8) (n : Fin 512) :
    late x (ix4 b t g n) = if t.val = 0 then 0 else x (ix4 b ⟨t.val - 1, by omega⟩ g n) := by
  pointwise [late]
  by_cases h : t.val = 0
  · rw [if_pos h, dif_pos (by omega)]
  · rw [if_neg h, dif_neg (by omega)]

theorem rdu_pt (lr li : FVec Ideal S2x2176x8x512 .f32) (wr wi : FVec Ideal S8x128x512 .f32) (s : FVec Ideal S2x2176x8x128 .f32) (b : Fin 2) (t : Fin 2176) (j : Fin 1024) :
    rdu lr li wr wi s (ix3 b t j) = thrB (rowsL li) wi (ix4 b t ⟨j.val / 128, by omega⟩ ⟨j.val % 128, by omega⟩)
      + thrB (rowsL lr) wr (ix4 b t ⟨j.val / 128, by omega⟩ ⟨j.val % 128, by omega⟩) + s (ix4 b t ⟨j.val / 128, by omega⟩ ⟨j.val % 128, by omega⟩) := by
  pointwise [rdu]

theorem flat_pt (x : FVec Ideal S8x512 .f32) (i : Fin 1) (j : Fin 4096) :
    shapeCast S1x4096 x shapeCasts_S8x512_S1x4096 (ix2 i j) = x (ix2 ⟨j.val / 512, by omega⟩ ⟨j.val % 512, by omega⟩) := by
  pointwise

theorem flatD_pt (x : FVec Ideal S8x128 .f32) (i : Fin 1) (j : Fin 1024) :
    shapeCast S1x1024 x shapeCasts_S8x128_S1x1024 (ix2 i j) = x (ix2 ⟨j.val / 128, by omega⟩ ⟨j.val % 128, by omega⟩) := by
  pointwise

end Cert.ReferenceIdeal.S5

end
-- ==== Proof.S5.RVal.lean ====
/- What the reference leaves in its results: the gradients of the layer, over the numbers the arguments hold. -/
module

public import proofs.«01_k».proof.Proof.S5.RArg
public import proofs.«01_k».proof.Proof.S5.RLoop
public import proofs.«01_k».proof.Proof.S5.RPost
public import Idealize.ShloMosaic.Lib.Pointwise
public import Idealize.ShloMosaic.Lib.ValueLayout

@[expose] public section

set_option maxRecDepth 16384
set_option maxHeartbeats 1600000

noncomputable section

namespace Cert.ReferenceIdeal.S5

open Idealize.ShloMosaic Idealize.ShloMosaic.TcCoe Idealize.SL.Sem Idealize.ShloMosaic.StableHlo
open Cert.ReferenceIdeal Cert.ReferenceIdeal.Gen Cert.ReferenceIdeal.Value

/-! ### Sums -/

/-- A sum over the batch and the rows of real numbers is the total. -/
theorem tot_eq (x : Fin 2 → Fin 2176 → EReal) (f : ℕ → ℕ → ℝ) (h : ∀ b t, x b t = ((f b.val t.val : ℝ) : EReal)) :
    ∑ b : Fin 2, ∑ t : Fin 2176, x b t = ((Cert.S5.tot f : ℝ) : EReal) := by
  have e : ∀ b : Fin 2, ∑ t : Fin 2176, x b t = ((∑ t ∈ Finset.range 2176, f b.val t : ℝ) : EReal) := fun b => by
    rw [Finset.sum_congr rfl fun t _ => h b t, Cert.KernelIdeal.S5.coe_sum, Fin.sum_univ_eq_sum_range (fun t => f b.val t)]
  rw [Finset.sum_congr rfl fun b _ => e b, Cert.KernelIdeal.S5.coe_sum, Fin.sum_univ_eq_sum_range (fun b => ∑ t ∈ Finset.range 2176, f b t)]
  rfl

theorem tot_add (f f' : ℕ → ℕ → ℝ) : Cert.S5.tot f + Cert.S5.tot f' = Cert.S5.tot fun b t => f b t + f' b t := by
  unfold Cert.S5.tot
  rw [← Finset.sum_add_distrib]
  exact Finset.sum_congr rfl fun b _ => Finset.sum_add_distrib.symm

/-! ### The buffers the loop leaves alone -/

/-- What one trip writes. -/
abbrev loopW : List (Ref sig .tc) :=
  condOps_W ++ (while0Ops0_W ++ (while0Ops0_1_W ++ (while0Ops0_2_W ++ (while0Ops0_3_W ++ (while0Ops0_4_W ++ (while0Ops0_5_W ++ while0Ops0_6_W))))))

theorem trip_keep (V : Valuation τ sig (Elt Ideal)) {r : Ref sig .tc} (hr : r ∉ loopW) :
    afterL bodyI (after condOps V) (Proc.devRef .tc r) = V (Proc.devRef .tc r) := by
  simp only [loopW, List.mem_append, not_or] at hr
  obtain ⟨hc, h0, h1, h2, h3, h4, h5, h6⟩ := hr
  simp only [afterL_cons, afterL_nil]
  rw [after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

section

variable (m : (ℓ : Loc nD τ sig) → Buf (Elt Ideal) ℓ) (c : Dev nD)

/-- The buffers at the loop's end. -/
abbrev L : Valuation τ sig (Elt Ideal) := after condOps (atK m 2176 c)

theorem atK_keep {r : Ref sig .tc} (hr : r ∉ loopW) : ∀ k, atK m k c (Proc.devRef .tc r) = E m c (Proc.devRef .tc r)
  | 0 => rfl
  | k + 1 => (trip_keep (atK m k c) hr).trans (atK_keep hr k)

theorem L_keep {r : Ref sig .tc} (hr : r ∉ loopW) : L m c (Proc.devRef .tc r) = E m c (Proc.devRef .tc r) := by
  have h := hr
  simp only [loopW, List.mem_append, not_or] at h
  exact (after_of_writes_sub condOps _ condOps_writes h.1).trans (atK_keep m c hr 2176)

theorem final_eq (r : DevRef τ sig) : finalContents condOps preI bodyI postI 2176 m c r = after hostOps0_1 (L m c) r := rfl

set_option maxRecDepth 100000 in
theorem kept_arg0 : finalContents condOps preI bodyI postI 2176 m c (Proc.devRef .tc main_arg0) = m (c.tc.loc main_arg0) := by
  rw [final_eq, show after hostOps0_1 (L m c) (Proc.devRef .tc main_arg0) = L m c (Proc.devRef .tc main_arg0) by after_reads_simp,
    L_keep m c (by decide +kernel)]
  exact after_of_writes_sub hostOps0 _ hostOps0_writes (by decide +kernel)

set_option maxRecDepth 100000 in
theorem kept_arg1 : finalContents condOps preI bodyI postI 2176 m c (Proc.devRef .tc main_arg1) = m (c.tc.loc main_arg1) := by
  rw [final_eq, show after hostOps0_1 (L m c) (Proc.devRef .tc main_arg1) = L m c (Proc.devRef .tc main_arg1) by after_reads_simp,
    L_keep m c (by decide +kernel)]
  exact after_of_writes_sub hostOps0 _ hostOps0_writes (by decide +kernel)

set_option maxRecDepth 100000 in
theorem kept_arg2 : finalContents condOps preI bodyI postI 2176 m c (Proc.devRef .tc main_arg2) = m (c.tc.loc main_arg2) := by
  rw [final_eq, show after hostOps0_1 (L m c) (Proc.devRef .tc main_arg2) = L m c (Proc.devRef .tc main_arg2) by after_reads_simp,
    L_keep m c (by decide +kernel)]
  exact after_of_writes_sub hostOps0 _ hostOps0_writes (by decide +kernel)

set_option maxRecDepth 100000 in
theorem kept_arg3 : finalContents condOps preI bodyI postI 2176 m c (Proc.devRef .tc main_arg3) = m (c.tc.loc main_arg3) := by
  rw [final_eq, show after hostOps0_1 (L m c) (Proc.devRef .tc main_arg3) = L m c (Proc.devRef .tc main_arg3) by after_reads_simp,
    L_keep m c (by decide +kernel)]
  exact after_of_writes_sub hostOps0 _ hostOps0_writes (by decide +kernel)

set_option maxRecDepth 100000 in
theorem kept_arg4 : finalContents condOps preI bodyI postI 2176 m c (Proc.devRef .tc main_arg4) = m (c.tc.loc main_arg4) := by
  rw [final_eq, show after hostOps0_1 (L m c) (Proc.devRef .tc main_arg4) = L m c (Proc.devRef .tc main_arg4) by after_reads_simp,
    L_keep m c (by decide +kernel)]
  exact after_of_writes_sub hostOps0 _ hostOps0_writes (by decide +kernel)

set_option maxRecDepth 100000 in
theorem kept_arg5 : finalContents condOps preI bodyI postI 2176 m c (Proc.devRef .tc main_arg5) = m (c.tc.loc main_arg5) := by
  rw [final_eq, show after hostOps0_1 (L m c) (Proc.devRef .tc main_arg5) = L m c (Proc.devRef .tc main_arg5) by after_reads_simp,
    L_keep m c (by decide +kernel)]
  exact after_of_writes_sub hostOps0 _ hostOps0_writes (by decide +kernel)

set_option maxRecDepth 100000 in
theorem kept_arg6 : finalContents condOps preI bodyI postI 2176 m c (Proc.devRef .tc main_arg6) = m (c.tc.loc main_arg6) := by
  rw [final_eq, show after hostOps0_1 (L m c) (Proc.devRef .tc main_arg6) = L m c (Proc.devRef .tc main_arg6) by after_reads_simp,
    L_keep m c (by decide +kernel)]
  exact after_of_writes_sub hostOps0 _ hostOps0_writes (by decide +kernel)

set_option maxRecDepth 100000 in
theorem kept_arg7 : finalContents condOps preI bodyI postI 2176 m c (Proc.devRef .tc main_arg7) = m (c.tc.loc main_arg7) := by
  rw [final_eq, show after hostOps0_1 (L m c) (Proc.devRef .tc main_arg7) = L m c (Proc.devRef .tc main_arg7) by after_reads_simp,
    L_keep m c (by decide +kernel)]
  exact after_of_writes_sub hostOps0 _ hostOps0_writes (by decide +kernel)

set_option maxRecDepth 100000 in
theorem kept_arg8 : finalContents condOps preI bodyI postI 2176 m c (Proc.devRef .tc main_arg8) = m (c.tc.loc main_arg8) := by
  rw [final_eq, show after hostOps0_1 (L m c) (Proc.devRef .tc main_arg8) = L m c (Proc.devRef .tc main_arg8) by after_reads_simp,
    L_keep m c (by decide +kernel)]
  exact after_of_writes_sub hostOps0 _ hostOps0_writes (by decide +kernel)

set_option maxRecDepth 100000 in
theorem kept_arg9 : finalContents condOps preI bodyI postI 2176 m c (Proc.devRef .tc main_arg9) = m (c.tc.loc main_arg9) := by
  rw [final_eq, show after hostOps0_1 (L m c) (Proc.devRef .tc main_arg9) = L m c (Proc.devRef .tc main_arg9) by after_reads_simp,
    L_keep m c (by decide +kernel)]
  exact after_of_writes_sub hostOps0 _ hostOps0_writes (by decide +kernel)

set_option maxRecDepth 100000 in
theorem kept_arg10 : finalContents condOps preI bodyI postI 2176 m c (Proc.devRef .tc main_arg10) = m (c.tc.loc main_arg10) := by
  rw [final_eq, show after hostOps0_1 (L m c) (Proc.devRef .tc main_arg10) = L m c (Proc.devRef .tc main_arg10) by after_reads_simp,
    L_keep m c (by decide +kernel)]
  exact after_of_writes_sub hostOps0 _ hostOps0_writes (by decide +kernel)

set_option maxRecDepth 100000 in
theorem kept_arg11 : finalContents condOps preI bodyI postI 2176 m c (Proc.devRef .tc main_arg11) = m (c.tc.loc main_arg11) := by
  rw [final_eq, show after hostOps0_1 (L m c) (Proc.devRef .tc main_arg11) = L m c (Proc.devRef .tc main_arg11) by after_reads_simp,
    L_keep m c (by decide +kernel)]
  exact after_of_writes_sub hostOps0 _ hostOps0_writes (by decide +kernel)

variable {I : Cert.S5.In}

variable (hH : Cert.S5.Holds I (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7)) (m (c.tc.loc main_arg8))
  (m (c.tc.loc main_arg9)) (m (c.tc.loc main_arg10)) (m (c.tc.loc main_arg11)))

include hH

/-! ### The loop -/

theorem ndy_pt (b : Fin 2) (t : Fin 2176) (g : Fin 8) (h : Fin 128) :
    Host.negf (dy m c) (ix4 b t g h) = ((-I.dy b.val t.val (g.val * 128 + h.val) : ℝ) : EReal) :=
  neg_pt _ _ _ (dy_pt m c hH b t g h)

theorem row_r (t : Fin 2176) (b : Fin 2) (g : Fin 8) (n : Fin 512) :
    tfirst (thr (rows (dy m c)) (show FVec Ideal S8x512x128 .f32 from m (c.tc.loc main_arg9))) (ix4 t b g n)
      = ((I.lin b.val g.val n.val (2175 - t.val)).re : EReal) := by
  rw [tfirst_pt, thr_pt]
  have e : ∀ h : Fin 128, rows (dy m c) (ix4 g h b t) * (show FVec Ideal S8x512x128 .f32 from m (c.tc.loc main_arg9)) (ix3 g n h)
      = ((I.dy b.val (2175 - (2175 - t.val)) (g.val * 128 + h.val) * I.wcr g.val n.val h.val : ℝ) : EReal) := fun h => by
    rw [rows_pt, dy_pt m c hH, EReal.coe_mul, show 2175 - (2175 - t.val) = t.val by omega]
    exact congrArg _ (hH.wcr g n h)
  rw [Finset.sum_congr rfl fun h _ => e h, Cert.KernelIdeal.S5.coe_sum]
  rfl

theorem row_i (t : Fin 2176) (b : Fin 2) (g : Fin 8) (n : Fin 512) :
    tfirst (thr (rows (Host.negf (dy m c))) (show FVec Ideal S8x512x128 .f32 from m (c.tc.loc main_arg10))) (ix4 t b g n)
      = ((I.lin b.val g.val n.val (2175 - t.val)).im : EReal) := by
  rw [tfirst_pt, thr_pt]
  have e : ∀ h : Fin 128, rows (Host.negf (dy m c)) (ix4 g h b t) * (show FVec Ideal S8x512x128 .f32 from m (c.tc.loc main_arg10)) (ix3 g n h)
      = ((-(I.dy b.val (2175 - (2175 - t.val)) (g.val * 128 + h.val) * I.wci g.val n.val h.val) : ℝ) : EReal) := fun h => by
    rw [rows_pt, ndy_pt m c hH, ← neg_mul, EReal.coe_mul, show 2175 - (2175 - t.val) = t.val by omega]
    exact congrArg _ (hH.wci g n h)
  rw [Finset.sum_congr rfl fun h _ => e h, Cert.KernelIdeal.S5.coe_sum, Finset.sum_neg_distrib]
  rfl

theorem inv0 : Inv (fun g n => I.a g.val n.val) (fun b g n => I.lin b.val g.val n.val) 0 (E m c) where
  rr t b g n := by rw [e_v76_0]; exact row_r m c hH t b g n
  ri t b g n := by rw [e_v76_1]; exact row_i m c hH t b g n
  ar g n := by rw [e_v76_2]; exact aAr_pt m c hH g n
  ai g n := by rw [e_v76_3]; exact aAi_pt m c hH g n
  cnt := by rw [e_v76_4, Scf.iv_zero]
  hr b g n := by
    rw [e_v76_5, Cert.S5.back, mul_zero]
    pointwise [zero3]
    rfl
  hi b g n := by
    rw [e_v76_6, Cert.S5.back, mul_zero]
    pointwise [zero3]
    rfl
  lr t b g n h := absurd h (by omega)
  li t b g n h := absurd h (by omega)

theorem inv_end : Inv (fun g n => I.a g.val n.val) (fun b g n => I.lin b.val g.val n.val) 2176 (STEP^[2176] (E m c)) :=
  inv_iter (inv0 m c hH) 2176 le_rfl

omit hH in
theorem L_lr : L m c (Proc.devRef .tc main_v76_7) = (STEP^[2176] (E m c)) (Proc.devRef .tc main_v76_7) :=
  (after_of_writes_sub condOps _ condOps_writes (by decide +kernel)).trans (atK_agree m c 2176 main_v76_7 (by decide))

omit hH in
theorem L_li : L m c (Proc.devRef .tc main_v76_8) = (STEP^[2176] (E m c)) (Proc.devRef .tc main_v76_8) :=
  (after_of_writes_sub condOps _ condOps_writes (by decide +kernel)).trans (atK_agree m c 2176 main_v76_8 (by decide))

omit hH in
/-- The adjoint's real parts, batch first. -/
def lr : FVec Ideal S2x2176x8x512 .f32 := bfirst (show FVec Ideal S2176x2x8x512 .f32 from L m c (Proc.devRef .tc main_v76_7))

omit hH in
/-- The adjoint's imaginary parts, batch first. -/
def li : FVec Ideal S2x2176x8x512 .f32 := bfirst (show FVec Ideal S2176x2x8x512 .f32 from L m c (Proc.devRef .tc main_v76_8))

theorem lr_pt (b : Fin 2) (t : Fin 2176) (g : Fin 8) (n : Fin 512) :
    lr m c (ix4 b t g n) = ((I.lam b.val t.val g.val n.val).re : EReal) := by
  rw [lr, bfirst_pt, L_lr]
  exact (inv_end m c hH).lr t b g n (by omega)

theorem li_pt (b : Fin 2) (t : Fin 2176) (g : Fin 8) (n : Fin 512) :
    li m c (ix4 b t g n) = ((I.lam b.val t.val g.val n.val).im : EReal) := by
  rw [li, bfirst_pt, L_li]
  exact (inv_end m c hH).li t b g n (by omega)

/-! ### The results -/

theorem du_pt (b : Fin 2) (t : Fin 2176) (g : Fin 8) (h : Fin 128) (wr wi : FVec Ideal S8x128x512 .f32)
    (hr : ∀ n : Fin 512, wr (ix3 g h n) = (I.wbr g.val h.val n.val : EReal)) (hi : ∀ n : Fin 512, wi (ix3 g h n) = (I.wbi g.val h.val n.val : EReal)) :
    thrB (rowsL (li m c)) wi (ix4 b t g h) + thrB (rowsL (lr m c)) wr (ix4 b t g h) + skip (aD m c) (dy m c) (ix4 b t g h)
      = (I.du b.val t.val g.val h.val : EReal) := by
  have ei : ∀ n : Fin 512, rowsL (li m c) (ix4 g n b t) * wi (ix3 g h n)
      = (((I.lam b.val t.val g.val n.val).im * I.wbi g.val h.val n.val : ℝ) : EReal) := fun n => by
    rw [rowsL_pt, li_pt m c hH, hi, EReal.coe_mul]
  have er : ∀ n : Fin 512, rowsL (lr m c) (ix4 g n b t) * wr (ix3 g h n)
      = (((I.lam b.val t.val g.val n.val).re * I.wbr g.val h.val n.val : ℝ) : EReal) := fun n => by
    rw [rowsL_pt, lr_pt m c hH, hr, EReal.coe_mul]
  rw [thrB_pt, thrB_pt, Finset.sum_congr rfl fun n _ => ei n, Finset.sum_congr rfl fun n _ => er n, Cert.KernelIdeal.S5.coe_sum,
    Cert.KernelIdeal.S5.coe_sum, skip_pt, aD_pt m c hH, dy_pt m c hH, ← EReal.coe_mul, ← EReal.coe_add, ← EReal.coe_add]
  refine congrArg _ ?_
  unfold Cert.S5.In.du
  ring

theorem r_du : (show FVec Ideal S2x2176x1024 .bf16 from finalContents condOps preI bodyI postI 2176 m c (Proc.devRef .tc main_v135))
    = fun j => (I.du (j 0).val (j 1).val ((j 2).val / 128) ((j 2).val % 128) : EReal) := by
  funext j
  obtain ⟨b, t, k, rfl⟩ : ∃ b t k, j = ix3 b t k := ⟨j 0, j 1, j 2, eq_ix3 j⟩
  rw [final_eq, p_v135]
  refine (rdu_pt _ _ _ _ _ b t k).trans ?_
  rw [L_keep m c (r := main_v55) (by decide +kernel), e_v55, L_keep m c (r := main_arg7) (by decide +kernel), e_arg7,
    L_keep m c (r := main_arg8) (by decide +kernel), e_arg8]
  exact du_pt m c hH b t _ _ _ _ (fun n => hH.wbr _ _ n) (fun n => hH.wbi _ _ n)

theorem r_dd : (show FVec Ideal S1x1024 .f32 from finalContents condOps preI bodyI postI 2176 m c (Proc.devRef .tc main_v136))
    = fun j => (Cert.S5.tot (I.ddT ((j 1).val / 128) ((j 1).val % 128)) : EReal) := by
  funext j
  obtain ⟨i, k, rfl⟩ : ∃ i k, j = ix2 i k := ⟨j 0, j 1, eq_ix2 j⟩
  rw [final_eq, p_v136]
  refine (flatD_pt _ i k).trans ?_
  rw [L_keep m c (r := main_v59) (by decide +kernel), e_v59, sum2_pt]
  refine tot_eq _ _ fun b t => ?_
  show dy m c _ * aU m c _ = _
  rw [dy_pt m c hH, aU_pt m c hH, ← EReal.coe_mul]
  rfl

theorem r_dwcr : (show FVec Ideal S8x512x128 .f32 from finalContents condOps preI bodyI postI 2176 m c (Proc.devRef .tc main_v70))
    = fun j => (Cert.S5.tot (I.dwcrT (j 0).val (j 1).val (j 2).val) : EReal) := by
  funext j
  obtain ⟨g, n, h, rfl⟩ : ∃ g n h, j = ix3 g n h := ⟨j 0, j 1, j 2, eq_ix3 j⟩
  rw [final_eq, p_v70, L_keep m c (r := main_v70) (by decide +kernel), e_v70, dwc_pt]
  refine tot_eq _ _ fun b t => ?_
  rw [rows_pt, dy_pt m c hH, aXr_pt m c hH, ← EReal.coe_mul]
  refine congrArg _ ?_
  show _ = Cert.S5.In.dwcrT I g.val n.val h.val b.val t.val
  unfold Cert.S5.In.dwcrT
  ring

theorem r_dwci : (show FVec Ideal S8x512x128 .f32 from finalContents condOps preI bodyI postI 2176 m c (Proc.devRef .tc main_v65))
    = fun j => (Cert.S5.tot (I.dwciT (j 0).val (j 1).val (j 2).val) : EReal) := by
  funext j
  obtain ⟨g, n, h, rfl⟩ : ∃ g n h, j = ix3 g n h := ⟨j 0, j 1, j 2, eq_ix3 j⟩
  rw [final_eq, p_v65, L_keep m c (r := main_v65) (by decide +kernel), e_v65, dwc_pt]
  refine tot_eq _ _ fun b t => ?_
  rw [rows_pt, ndy_pt m c hH, aXi_pt m c hH, ← EReal.coe_mul]
  refine congrArg _ ?_
  show _ = Cert.S5.In.dwciT I g.val n.val h.val b.val t.val
  unfold Cert.S5.In.dwciT
  ring

theorem r_dwbr : (show FVec Ideal S8x128x512 .f32 from finalContents condOps preI bodyI postI 2176 m c (Proc.devRef .tc main_v132))
    = fun j => (Cert.S5.tot (I.dwbrT (j 0).val (j 1).val (j 2).val) : EReal) := by
  funext j
  obtain ⟨g, h, n, rfl⟩ : ∃ g h n, j = ix3 g h n := ⟨j 0, j 1, j 2, eq_ix3 j⟩
  rw [final_eq, p_v132, L_keep m c (r := main_v2) (by decide +kernel), e_v2]
  refine (dwB_pt (rowsL (lr m c)) (aU m c) g h n).trans (tot_eq _ _ fun b t => ?_)
  rw [rowsL_pt, lr_pt m c hH, aU_pt m c hH, ← EReal.coe_mul]
  refine congrArg _ ?_
  show _ = Cert.S5.In.dwbrT I g.val h.val n.val b.val t.val
  unfold Cert.S5.In.dwbrT
  ring

theorem r_dwbi : (show FVec Ideal S8x128x512 .f32 from finalContents condOps preI bodyI postI 2176 m c (Proc.devRef .tc main_v126))
    = fun j => (Cert.S5.tot (I.dwbiT (j 0).val (j 1).val (j 2).val) : EReal) := by
  funext j
  obtain ⟨g, h, n, rfl⟩ : ∃ g h n, j = ix3 g h n := ⟨j 0, j 1, j 2, eq_ix3 j⟩
  rw [final_eq, p_v126, L_keep m c (r := main_v2) (by decide +kernel), e_v2]
  refine (dwB_pt (rowsL (li m c)) (aU m c) g h n).trans (tot_eq _ _ fun b t => ?_)
  rw [rowsL_pt, li_pt m c hH, aU_pt m c hH, ← EReal.coe_mul]
  refine congrArg _ ?_
  show _ = Cert.S5.In.dwbiT I g.val h.val n.val b.val t.val
  unfold Cert.S5.In.dwbiT
  ring

theorem late_r (b : Fin 2) (t : Fin 2176) (g : Fin 8) (n : Fin 512) :
    late (aXr m c) (ix4 b t g n) = (Cert.S5.prev I.xr b.val t.val (g.val * 512 + n.val) : EReal) := by
  rw [late_pt, aXr_pt m c hH, Cert.S5.prev]
  split <;> rfl

theorem late_i (b : Fin 2) (t : Fin 2176) (g : Fin 8) (n : Fin 512) :
    late (aXi m c) (ix4 b t g n) = (Cert.S5.prev I.xi b.val t.val (g.val * 512 + n.val) : EReal) := by
  rw [late_pt, aXi_pt m c hH, Cert.S5.prev]
  split <;> rfl

theorem r_dar : (show FVec Ideal S1x4096 .f32 from finalContents condOps preI bodyI postI 2176 m c (Proc.devRef .tc main_v137))
    = fun j => (Cert.S5.tot (I.darT ((j 1).val / 512) ((j 1).val % 512)) : EReal) := by
  funext j
  obtain ⟨i, k, rfl⟩ : ∃ i k, j = ix2 i k := ⟨j 0, j 1, eq_ix2 j⟩
  rw [final_eq, p_v137, L_keep m c (r := main_v3) (by decide +kernel), e_v3, L_keep m c (r := main_v4) (by decide +kernel), e_v4]
  refine (flat_pt _ i k).trans ?_
  generalize hg : (⟨k.val / 512, by omega⟩ : Fin 8) = g
  generalize hn : (⟨k.val % 512, by omega⟩ : Fin 512) = n
  have h1 : sumL (mulf (li m c) (late (aXi m c))) (ix2 g n)
      = ((Cert.S5.tot fun b t => (I.lam b t g.val n.val).im * Cert.S5.prev I.xi b t (g.val * 512 + n.val) : ℝ) : EReal) := by
    rw [sumL_pt]
    refine tot_eq _ _ fun b t => ?_
    show li m c _ * late _ _ = _
    rw [li_pt m c hH, late_i m c hH, ← EReal.coe_mul]
  have h2 : sumL (mulf (lr m c) (late (aXr m c))) (ix2 g n)
      = ((Cert.S5.tot fun b t => (I.lam b t g.val n.val).re * Cert.S5.prev I.xr b t (g.val * 512 + n.val) : ℝ) : EReal) := by
    rw [sumL_pt]
    refine tot_eq _ _ fun b t => ?_
    show (lr m c _) * late _ _ = _
    rw [lr_pt m c hH, late_r m c hH, ← EReal.coe_mul]
  refine (congrArg₂ (fun a b : EReal => a + b) h1 h2).trans ?_
  rw [← EReal.coe_add, tot_add]
  refine congrArg (fun f => ((Cert.S5.tot f : ℝ) : EReal)) (funext fun b => funext fun t => ?_)
  rw [← hg, ← hn]
  show _ = Cert.S5.In.darT I (k.val / 512) (k.val % 512) b t
  unfold Cert.S5.In.darT
  ring

theorem r_dai : (show FVec Ideal S1x4096 .f32 from finalContents condOps preI bodyI postI 2176 m c (Proc.devRef .tc main_v138))
    = fun j => (Cert.S5.tot (I.daiT ((j 1).val / 512) ((j 1).val % 512)) : EReal) := by
  funext j
  obtain ⟨i, k, rfl⟩ : ∃ i k, j = ix2 i k := ⟨j 0, j 1, eq_ix2 j⟩
  rw [final_eq, p_v138, L_keep m c (r := main_v3) (by decide +kernel), e_v3, L_keep m c (r := main_v4) (by decide +kernel), e_v4]
  refine (flat_pt _ i k).trans ?_
  generalize hg : (⟨k.val / 512, by omega⟩ : Fin 8) = g
  generalize hn : (⟨k.val % 512, by omega⟩ : Fin 512) = n
  have h1 : sumL (mulf (li m c) (late (aXr m c))) (ix2 g n)
      = ((Cert.S5.tot fun b t => (I.lam b t g.val n.val).im * Cert.S5.prev I.xr b t (g.val * 512 + n.val) : ℝ) : EReal) := by
    rw [sumL_pt]
    refine tot_eq _ _ fun b t => ?_
    show li m c _ * late _ _ = _
    rw [li_pt m c hH, late_r m c hH, ← EReal.coe_mul]
  have h2 : sumL (mulf ((Host.negf (lr m c))) (late (aXi m c))) (ix2 g n)
      = ((Cert.S5.tot fun b t => -(I.lam b t g.val n.val).re * Cert.S5.prev I.xi b t (g.val * 512 + n.val) : ℝ) : EReal) := by
    rw [sumL_pt]
    refine tot_eq _ _ fun b t => ?_
    show -(lr m c _) * late _ _ = _
    rw [lr_pt m c hH, late_i m c hH, ← EReal.coe_neg, ← EReal.coe_mul]
  refine (congrArg₂ (fun a b : EReal => a + b) h1 h2).trans ?_
  rw [← EReal.coe_add, tot_add]
  refine congrArg (fun f => ((Cert.S5.tot f : ℝ) : EReal)) (funext fun b => funext fun t => ?_)
  rw [← hg, ← hn]
  show _ = Cert.S5.In.daiT I (k.val / 512) (k.val % 512) b t
  unfold Cert.S5.In.daiT
  ring

end

end Cert.ReferenceIdeal.S5

end
-- ==== Proof.S5.RRun.lean ====
/- The reference's run: its results are the gradients of the layer, its arguments and every semaphore as they were. -/
module

public import proofs.«01_k».proof.Proof.S5.RVal
public import Idealize.ShloMosaic.Lib.Quiescent

@[expose] public section

set_option maxRecDepth 16384

noncomputable section

namespace Cert.ReferenceIdeal.S5

open Idealize.ShloMosaic Idealize.ShloMosaic.TcCoe Idealize.SL.Sem Idealize.ShloMosaic.StableHlo
open Cert.ReferenceIdeal Cert.ReferenceIdeal.Gen Cert.ReferenceIdeal.Value

variable (m : (ℓ : Loc nD τ sig) → Buf (Elt Ideal) ℓ) (ρ : Dev nD → PrngReg)

/-- The arguments end as they were. -/
theorem kept (s : MemSt nD τ sig (Elt Ideal)) (c : Dev nD)
    (h : ∀ (c : Dev nD) (b : Ref sig .tc), (Proc.devRef .tc b : DevRef τ sig).isScoped = false →
      s.mem ((c.tc : Thread nD τ).loc b) = finalContents condOps preI bodyI postI 2176 m c (Proc.devRef .tc b)) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11) :=
  ⟨(h c main_arg0 rfl).trans (kept_arg0 m c),
    (h c main_arg1 rfl).trans (kept_arg1 m c),
    (h c main_arg2 rfl).trans (kept_arg2 m c),
    (h c main_arg3 rfl).trans (kept_arg3 m c),
    (h c main_arg4 rfl).trans (kept_arg4 m c),
    (h c main_arg5 rfl).trans (kept_arg5 m c),
    (h c main_arg6 rfl).trans (kept_arg6 m c),
    (h c main_arg7 rfl).trans (kept_arg7 m c),
    (h c main_arg8 rfl).trans (kept_arg8 m c),
    (h c main_arg9 rfl).trans (kept_arg9 m c),
    (h c main_arg10 rfl).trans (kept_arg10 m c),
    (h c main_arg11 rfl).trans (kept_arg11 m c)⟩

/-- The frame, every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => kept m r.2 c h, sem_eq_zero_of_no_sems rfl r.2⟩) (run_fold m ρ)

end Cert.ReferenceIdeal.S5

end
-- ==== Proof.S5.Fin.lean ====
/- What the precondition gives: finite arguments are arrays of real numbers. -/
module

public import proofs.«01_k».proof.Pre_finite
public import proofs.«01_k».proof.Proof.S5.Spec
public import Idealize.ShloMosaic.Lib.Pointwise
public import Idealize.ShloMosaic.Lib.ValueLayout

@[expose] public section

set_option maxRecDepth 16384

noncomputable section

namespace Cert.S5

open Idealize.ShloMosaic

/-- The shapes of the precondition's operations fit. -/
instance pre_facts : Cert.Pre_finite.Facts where
  bcast_S_S4352x1024 := by decide
  bcast_S_S4352x4096 := by decide
  bcast_S_S64x64 := by decide
  bcast_S_S8x128x512 := by decide
  bcast_S_S8x512x128 := by decide
  bcast_S_S1024 := by decide

theorem top_eq : Ideal.ofBits .f32 0x7F800000#32 = (⊤ : EReal) := by
  simp [Ideal.ofBits, Ideal.ieee]

theorem real_of_lt (x : EReal) (h : Ideal.cmp .olt (max x (-x)) ⊤ = 1#1) : x = (x.toReal : EReal) := by
  have h' : max x (-x) < ⊤ := by
    by_contra hn
    simp [Ideal.cmp, hn] at h
  refine (EReal.coe_toReal (fun e => ?_) fun e => ?_).symm
  · rw [e] at h'; simp at h'
  · rw [e] at h'; simp at h'

/-- An array whose magnitudes are all below infinity holds real numbers. -/
theorem fin_pt (s : Shape) (x : FVec Ideal s .f32) (hb : Cert.Pre_finite.S_.BroadcastsInDim s (![] : Fin 0 → Fin s.rank))
    (h : cmpf .olt (Host.absf x) (broadcastInDim s ![] hb (constant Cert.Pre_finite.S_ .f32 0x7F800000#32)) = fun _ => 1#1) (i : s.Idx) :
    x i = ((x i).toReal : EReal) := by
  refine real_of_lt _ ?_
  rw [← top_eq]
  exact congrFun h i

/-- The entry of a 2-dimensional array at a row and a column, zero outside. -/
def at2 {a b : ℕ} (x : FVec Ideal ⟨2, ![a, b]⟩ .f32) (i j : ℕ) : ℝ := if h : i < a ∧ j < b then (x (ix2 ⟨i, h.1⟩ ⟨j, h.2⟩)).toReal else 0
def at3 {a b c : ℕ} (x : FVec Ideal ⟨3, ![a, b, c]⟩ .f32) (i j k : ℕ) : ℝ :=
  if h : i < a ∧ j < b ∧ k < c then (x (ix3 ⟨i, h.1⟩ ⟨j, h.2.1⟩ ⟨k, h.2.2⟩)).toReal else 0
def at1 {a : ℕ} (x : FVec Ideal ⟨1, ![a]⟩ .f32) (i : ℕ) : ℝ := if h : i < a then (x (ix1 ⟨i, h⟩)).toReal else 0

theorem at2_fin {a b : ℕ} (x : FVec Ideal ⟨2, ![a, b]⟩ .f32) (i : Fin a) (j : Fin b) : at2 x i.val j.val = (x (ix2 i j)).toReal :=
  dif_pos ⟨i.isLt, j.isLt⟩
theorem at3_fin {a b c : ℕ} (x : FVec Ideal ⟨3, ![a, b, c]⟩ .f32) (i : Fin a) (j : Fin b) (k : Fin c) :
    at3 x i.val j.val k.val = (x (ix3 i j k)).toReal := dif_pos ⟨i.isLt, j.isLt, k.isLt⟩
theorem at1_fin {a : ℕ} (x : FVec Ideal ⟨1, ![a]⟩ .f32) (i : Fin a) : at1 x i.val = (x (ix1 i)).toReal := dif_pos i.isLt

section

variable (x0 x1 x2 : FVec Ideal ⟨2, ![4352, 1024]⟩ .f32) (x3 x4 : FVec Ideal ⟨2, ![4352, 4096]⟩ .f32)
  (x5 x6 : FVec Ideal ⟨2, ![64, 64]⟩ .f32) (x7 x8 : FVec Ideal ⟨3, ![8, 128, 512]⟩ .f32)
  (x9 x10 : FVec Ideal ⟨3, ![8, 512, 128]⟩ .f32) (x11 : FVec Ideal ⟨1, ![1024]⟩ .f32)

/-- The numbers of the arguments. -/
def nums : In where
  dg := at2 x0
  y := at2 x1
  u := at2 x2
  xr := at2 x3
  xi := at2 x4
  ar k := at2 x5 (k / 64) (k % 64)
  ai k := at2 x6 (k / 64) (k % 64)
  wbr := at3 x7
  wbi := at3 x8
  wcr := at3 x9
  wci := at3 x10
  d := at1 x11

/-- Where the precondition holds, the arguments hold these numbers. -/
theorem holds (h : (Cert.Pre_finite.fn (F := Ideal) x0 x1 x2 x3 x4 x5 x6 x7 x8 x9 x10 x11) =
    (fun _ => 1#1, fun _ => 1#1, fun _ => 1#1, fun _ => 1#1, fun _ => 1#1, fun _ => 1#1, fun _ => 1#1, fun _ => 1#1, fun _ => 1#1, fun _ => 1#1, fun _ => 1#1, fun _ => 1#1)) :
    Holds (nums x0 x1 x2 x3 x4 x5 x6 x7 x8 x9 x10 x11) x0 x1 x2 x3 x4 x5 x6 x7 x8 x9 x10 x11 := by
  simp only [Cert.Pre_finite.fn, Cert.Pre_finite.fn_part1, Prod.mk.injEq] at h
  obtain ⟨h0, h1, h2, h3, h4, h5, h6, h7, h8, h9, h10, h11⟩ := h
  have f : ∀ x : FVec Ideal ⟨2, ![64, 64]⟩ .f32, (∀ i, x i = ((x i).toReal : EReal)) → ∀ i j : Fin 64,
      x (ix2 i j) = ((at2 x ((i.val * 64 + j.val) / 64) ((i.val * 64 + j.val) % 64) : ℝ) : EReal) := fun x hx i j => by
    rw [show (i.val * 64 + j.val) / 64 = i.val by omega, show (i.val * 64 + j.val) % 64 = j.val by omega, at2_fin]
    exact hx _
  exact
  { dg := fun i j => (fin_pt _ x0 _ h0 _).trans (congrArg _ (at2_fin x0 i j).symm)
    y := fun i j => (fin_pt _ x1 _ h1 _).trans (congrArg _ (at2_fin x1 i j).symm)
    u := fun i j => (fin_pt _ x2 _ h2 _).trans (congrArg _ (at2_fin x2 i j).symm)
    xr := fun i j => (fin_pt _ x3 _ h3 _).trans (congrArg _ (at2_fin x3 i j).symm)
    xi := fun i j => (fin_pt _ x4 _ h4 _).trans (congrArg _ (at2_fin x4 i j).symm)
    ar := f x5 (fin_pt _ x5 _ h5)
    ai := f x6 (fin_pt _ x6 _ h6)
    wbr := fun g h n => (fin_pt _ x7 _ h7 _).trans (congrArg _ (at3_fin x7 g h n).symm)
    wbi := fun g h n => (fin_pt _ x8 _ h8 _).trans (congrArg _ (at3_fin x8 g h n).symm)
    wcr := fun g n h => (fin_pt _ x9 _ h9 _).trans (congrArg _ (at3_fin x9 g n h).symm)
    wci := fun g n h => (fin_pt _ x10 _ h10 _).trans (congrArg _ (at3_fin x10 g n h).symm)
    d := fun j => (fin_pt _ x11 _ h11 _).trans (congrArg _ (at1_fin x11 j).symm) }

end

/-- Equal arguments hold the same numbers. -/
theorem holds_of_eq {I : In} {x0 y0 : FVec Ideal ⟨2, ![4352, 1024]⟩ .f32} {x1 y1 : FVec Ideal ⟨2, ![4352, 1024]⟩ .f32} {x2 y2 : FVec Ideal ⟨2, ![4352, 1024]⟩ .f32} {x3 y3 : FVec Ideal ⟨2, ![4352, 4096]⟩ .f32} {x4 y4 : FVec Ideal ⟨2, ![4352, 4096]⟩ .f32} {x5 y5 : FVec Ideal ⟨2, ![64, 64]⟩ .f32} {x6 y6 : FVec Ideal ⟨2, ![64, 64]⟩ .f32} {x7 y7 : FVec Ideal ⟨3, ![8, 128, 512]⟩ .f32} {x8 y8 : FVec Ideal ⟨3, ![8, 128, 512]⟩ .f32} {x9 y9 : FVec Ideal ⟨3, ![8, 512, 128]⟩ .f32} {x10 y10 : FVec Ideal ⟨3, ![8, 512, 128]⟩ .f32} {x11 y11 : FVec Ideal ⟨1, ![1024]⟩ .f32}
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11)
    (h : Holds I x0 x1 x2 x3 x4 x5 x6 x7 x8 x9 x10 x11) : Holds I y0 y1 y2 y3 y4 y5 y6 y7 y8 y9 y10 y11 := by
  subst e0 e1 e2 e3 e4 e5 e6 e7 e8 e9 e10 e11
  exact h

end Cert.S5

end
-- ==== Proof.MM.Act.lean ====
/- The gradients of the products' left factors: `dh` times the transposed weight. -/
module

public import proofs.«01_k».proof.Defs
public import proofs.«01_k».proof.Proof.Gen.Kernel2Ideal.Value
public import proofs.«01_k».proof.Proof.Gen.Reference2Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel7Ideal.Value
public import proofs.«01_k».proof.Proof.Gen.Reference7Ideal.Run
public import proofs.«01_k».proof.Proof.Gen.Kernel9Ideal.Value
public import proofs.«01_k».proof.Proof.Gen.Reference9Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM2

open Cert.Kernel2Ideal Cert.Kernel2Ideal.Gen

theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- `d_out1`: block by block the call writes the reference's product. -/
theorem algebraic : Cert.algebraic_Kernel2Ideal_Reference2Ideal := by
  intro m g m' g' _ hm
  refine ⟨_, Value.run_blocks m g, (θ_run Cert.Reference2Ideal.defs _ _).mono (fun r h c => ⟨(h c).1.trans ?_, (h c).2⟩)
    (Cert.Reference2Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  blk_point [iblk, V, idx t]

end Cert.MM2

namespace Cert.MM4

open Cert.Kernel4Ideal Cert.Kernel4Ideal.Gen

theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- `d_in1_0`: block by block the call writes the reference's product. -/
theorem algebraic : Cert.algebraic_Kernel4Ideal_Reference4Ideal := by
  intro m g m' g' _ hm
  refine ⟨_, Value.run_blocks m g, (θ_run Cert.Reference4Ideal.defs _ _).mono (fun r h c => ⟨(h c).1.trans ?_, (h c).2⟩)
    (Cert.Reference4Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  blk_point [iblk, V, idx t]

end Cert.MM4

namespace Cert.MM5

open Cert.Kernel5Ideal Cert.Kernel5Ideal.Gen

theorem idx : ∀ t : Fin cfg0.N, win0_0.index t = ![(grid0.coords t 0).val, 0] ∧ win0_1.index t = ![(grid0.coords t 1).val, 0] ∧ win0_2.index t = ![(grid0.coords t 0).val, (grid0.coords t 1).val] ∧ win0_3.index t = ![(grid0.coords t 0).val, (grid0.coords t 1).val] :=
  (by decide +kernel : ∀ t : Fin grid0.N, _)

/-- `d_in1_1`: block by block the call writes the reference's product and adds to it what it was given. -/
theorem algebraic : Cert.algebraic_Kernel5Ideal_Reference5Ideal := by
  intro m g m' g' _ hm
  refine ⟨_, Value.run_blocks m g, (θ_run Cert.Reference5Ideal.defs _ _).mono (fun r h c => ⟨(h c).1.trans ?_, (h c).2⟩)
    (Cert.Reference5Ideal.Value.run m' g')⟩
  rw [(hm c).1, (hm c).2.1, (hm c).2.2]
  refine ((dats m 0 c).arrAt_eq_of_covers 3 _ (by decide +kernel) fun t _ y => ?_).symm
  blk_simp
  rw [after0_3]
  frame_out
  pointwise [k0_pay1]
  rw [add_comm]
  blk_point [iblk, V, idx t]

end Cert.MM5

namespace Cert.MM7

open Cert.Kernel7Ideal Cert.Kernel7Ideal.Gen

theorem idx : ∀ t : Fin cfg0.N, win0_0.index t = ![(grid0.coords t 0).val, 0] ∧ win0_1.index t = ![(grid0.coords t 1).val, 0] ∧ win0_2.index t = ![(grid0.coords t 0).val, (grid0.coords t 1).val] ∧ win0_3.index t = ![(grid0.coords t 0).val, (grid0.coords t 1).val] :=
  (by decide +kernel : ∀ t : Fin grid0.N, _)

/-- `d_in0_2`: block by block the call writes the reference's product and adds to it what it was given. -/
theorem algebraic : Cert.algebraic_Kernel7Ideal_Reference7Ideal := by
  intro m g m' g' _ hm
  refine ⟨_, Value.run_blocks m g, (θ_run Cert.Reference7Ideal.defs _ _).mono (fun r h c => ⟨(h c).1.trans ?_, (h c).2⟩)
    (Cert.Reference7Ideal.Value.run m' g')⟩
  rw [(hm c).1, (hm c).2.1, (hm c).2.2]
  refine ((dats m 0 c).arrAt_eq_of_covers 3 _ (by decide +kernel) fun t _ y => ?_).symm
  blk_simp
  rw [after0_3]
  frame_out
  pointwise [k0_pay1]
  rw [add_comm]
  blk_point [iblk, V, idx t]

end Cert.MM7

namespace Cert.MM9

open Cert.Kernel9Ideal Cert.Kernel9Ideal.Gen

theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- `d_out0_b`: block by block the call writes the reference's product. -/
theorem algebraic : Cert.algebraic_Kernel9Ideal_Reference9Ideal := by
  intro m g m' g' _ hm
  refine ⟨_, Value.run_blocks m g, (θ_run Cert.Reference9Ideal.defs _ _).mono (fun r h c => ⟨(h c).1.trans ?_, (h c).2⟩)
    (Cert.Reference9Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  blk_point [iblk, V, idx t]

end Cert.MM9

end
-- ==== Proof.MM.Wgt.lean ====
/- The gradients of the weights: the transposed left factor times `dh`. -/
module

public import proofs.«01_k».proof.Defs
public import proofs.«01_k».proof.Proof.Gen.Kernel3Ideal.Value
public import proofs.«01_k».proof.Proof.Gen.Reference3Ideal.Run
public import proofs.«01_k».proof.Proof.Gen.Kernel6Ideal.Value
public import proofs.«01_k».proof.Proof.Gen.Reference6Ideal.Run
public import proofs.«01_k».proof.Proof.Gen.Kernel10Ideal.Value
public import proofs.«01_k».proof.Proof.Gen.Reference10Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM3

open Cert.Kernel3Ideal Cert.Kernel3Ideal.Gen

theorem idx : ∀ t : Fin cfg0.N, win0_0.index t = ![0, (grid0.coords t 0).val] ∧ win0_1.index t = ![0, (grid0.coords t 1).val] ∧ win0_2.index t = ![(grid0.coords t 0).val, (grid0.coords t 1).val] :=
  (by decide +kernel : ∀ t : Fin grid0.N, _)

/-- `dw_out1`: block by block the call writes the reference's product. -/
theorem algebraic : Cert.algebraic_Kernel3Ideal_Reference3Ideal := by
  intro m g m' g' _ hm
  refine ⟨_, Value.run_blocks m g, (θ_run Cert.Reference3Ideal.defs _ _).mono (fun r h c => ⟨(h c).1.trans ?_, (h c).2⟩)
    (Cert.Reference3Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  refine Fin.sum_fin_congr fun k => (mul_comm (_ : EReal) _).trans ?_
  blk_point [iblk, V, idx t]

end Cert.MM3

namespace Cert.MM6

open Cert.Kernel6Ideal Cert.Kernel6Ideal.Gen

theorem idx : ∀ t : Fin cfg0.N, win0_0.index t = ![0, (grid0.coords t 0).val] ∧ win0_1.index t = ![0, (grid0.coords t 1).val] ∧ win0_2.index t = ![(grid0.coords t 0).val, (grid0.coords t 1).val] :=
  (by decide +kernel : ∀ t : Fin grid0.N, _)

/-- `dw_in1_0`: block by block the call writes the reference's product. -/
theorem algebraic : Cert.algebraic_Kernel6Ideal_Reference6Ideal := by
  intro m g m' g' _ hm
  refine ⟨_, Value.run_blocks m g, (θ_run Cert.Reference6Ideal.defs _ _).mono (fun r h c => ⟨(h c).1.trans ?_, (h c).2⟩)
    (Cert.Reference6Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  refine Fin.sum_fin_congr fun k => (mul_comm (_ : EReal) _).trans ?_
  blk_point [iblk, V, idx t]

end Cert.MM6

namespace Cert.MM10

open Cert.Kernel10Ideal Cert.Kernel10Ideal.Gen

theorem idx : ∀ t : Fin cfg0.N, win0_0.index t = ![0, (grid0.coords t 0).val] ∧ win0_1.index t = ![0, (grid0.coords t 1).val] ∧ win0_2.index t = ![(grid0.coords t 0).val, (grid0.coords t 1).val] :=
  (by decide +kernel : ∀ t : Fin grid0.N, _)

/-- `dw_out0_b`: block by block the call writes the reference's product. -/
theorem algebraic : Cert.algebraic_Kernel10Ideal_Reference10Ideal := by
  intro m g m' g' _ hm
  refine ⟨_, Value.run_blocks m g, (θ_run Cert.Reference10Ideal.defs _ _).mono (fun r h c => ⟨(h c).1.trans ?_, (h c).2⟩)
    (Cert.Reference10Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  refine Fin.sum_fin_congr fun k => (mul_comm (_ : EReal) _).trans ?_
  blk_point [iblk, V, idx t]

end Cert.MM10

end
-- ==== Proof.MM.Fwd.lean ====
/- The forward products. -/
module

public import proofs.«01_k».proof.Defs
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM11

open Cert.Kernel11Ideal Cert.Kernel11Ideal.Gen

theorem idx : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

/-- `in1_0`: block by block the call writes the reference's product. -/
theorem algebraic : Cert.algebraic_Kernel11Ideal_Reference11Ideal := by
  intro m g m' g' _ hm
  refine ⟨_, Value.run_blocks m g, (θ_run Cert.Reference11Ideal.defs _ _).mono (fun r h c => ⟨(h c).1.trans ?_, (h c).2⟩)
    (Cert.Reference11Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  blk_point [iblk, V, idx t]

end Cert.MM11

namespace Cert.MM12

open Cert.Kernel12Ideal Cert.Kernel12Ideal.Gen

theorem idx : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

/-- `in0_2`: block by block the call writes the reference's product. -/
theorem algebraic : Cert.algebraic_Kernel12Ideal_Reference12Ideal := by
  intro m g m' g' _ hm
  refine ⟨_, Value.run_blocks m g, (θ_run Cert.Reference12Ideal.defs _ _).mono (fun r h c => ⟨(h c).1.trans ?_, (h c).2⟩)
    (Cert.Reference12Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  blk_point [iblk, V, idx t]

end Cert.MM12

namespace Cert.MM13

open Cert.Kernel13Ideal Cert.Kernel13Ideal.Gen

theorem idx : ∀ t : Fin cfg0.N, win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val] :=
  (by decide +kernel : ∀ t : Fin grid0.N, _)

/-- `out1`: block by block the call writes the reference's product and adds to it what it was given. -/
theorem algebraic : Cert.algebraic_Kernel13Ideal_Reference13Ideal := by
  intro m g m' g' _ hm
  refine ⟨_, Value.run_blocks m g, (θ_run Cert.Reference13Ideal.defs _ _).mono (fun r h c => ⟨(h c).1.trans ?_, (h c).2⟩)
    (Cert.Reference13Ideal.Value.run m' g')⟩
  rw [(hm c).1, (hm c).2.1, (hm c).2.2]
  refine ((dats m 0 c).arrAt_eq_of_covers 3 _ (by decide +kernel) fun t _ y => ?_).symm
  blk_simp
  rw [after0_3]
  frame_out
  pointwise [k0_pay1]
  rw [add_comm]
  blk_point [iblk, V, idx t]

end Cert.MM13

namespace Cert.MM14

open Cert.Kernel14Ideal Cert.Kernel14Ideal.Gen

theorem idx : ∀ t : Fin cfg0.N, win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val] :=
  (by decide +kernel : ∀ t : Fin grid0.N, _)

/-- `out0_b`: block by block the call writes the reference's product and adds to it what it was given. -/
theorem algebraic : Cert.algebraic_Kernel14Ideal_Reference14Ideal := by
  intro m g m' g' _ hm
  refine ⟨_, Value.run_blocks m g, (θ_run Cert.Reference14Ideal.defs _ _).mono (fun r h c => ⟨(h c).1.trans ?_, (h c).2⟩)
    (Cert.Reference14Ideal.Value.run m' g')⟩
  rw [(hm c).1, (hm c).2.1, (hm c).2.2]
  refine ((dats m 0 c).arrAt_eq_of_covers 3 _ (by decide +kernel) fun t _ y => ?_).symm
  blk_simp
  rw [after0_3]
  frame_out
  pointwise [k0_pay1]
  rw [add_comm]
  blk_point [iblk, V, idx t]

end Cert.MM14

end
-- ==== Proof.MM.Slab.lean ====
/- The gradient of one half of `ab_w_in`, laid out in slabs of 1024 columns: the 4352 rows are summed in two halves. -/
module

public import Idealize.ShloMosaic.Lib.Pipeline.ReadBack
public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM8

open Cert.Kernel8Ideal Cert.Kernel8Ideal.Gen

theorem idx : ∀ t : Fin cfg0.N, win0_0.index t = ![t.val % 2, t.val / 6] ∧ win0_1.index t = ![t.val % 2, t.val / 2 % 3] ∧ win0_2.index t = ![t.val / 2 % 3, t.val / 6, 0] :=
  (by decide +kernel : ∀ t : Fin grid0.N, _)

/-- After a point of the first half the accumulator holds that half's product. -/
theorem first (m : (ℓ : Loc nD τ sig) → Buf (Elt Ideal) ℓ) (c : Dev nD) (t : Fin cfg0.N) (h : t.val % 2 = 0) :
    (outsAt0 m c t.val t.isLt).2 = k0_pay2 (iblk m c 0 t) (iblk m c 1 t) := by
  rw [outsAt0_A m c t h (by omega) (by omega)]
  frame_out

/-- `dw_in0_2`: the accumulator holds the first half's product when the second is added and the block written. -/
theorem algebraic : Cert.algebraic_Kernel8Ideal_Reference8Ideal := by
  intro m g m' g' _ hm
  refine ⟨_, Value.run_blocks m g, (θ_run Cert.Reference8Ideal.defs _ _).mono (fun r h c => ⟨(h c).1.trans ?_, (h c).2⟩)
    (Cert.Reference8Ideal.Value.run m' g')⟩
  rw [(hm c).1, (hm c).2]
  refine ((dats m 0 c).arrAt_eq_of_covers 2 _ (by decide +kernel) fun t hf y => ?_).symm
  have h1 : t.val % 2 = 1 := (flush0_2 t).mp hf
  blk_simp
  rw [after0_2, outsAt0_B m c t (by omega) h1 h1]
  frame_out
  rw [first m c ⟨t.val - 1, Nat.lt_of_le_of_lt (Nat.sub_le _ _) t.isLt⟩ (show (t.val - 1) % 2 = 0 by omega)]
  frame_out
  rw [read_unread_whole]
  pointwise [k0_pay1, k0_pay2, k0_pay3, k0_pay4]
  rw [Fin.sum_univ_two_halves 2176 2176 rfl]
  refine congrArg₂ (· + ·) (Fin.sum_fin_congr fun k => (mul_comm (_ : EReal) _).trans ?_)
    (Fin.sum_fin_congr fun k => (mul_comm (_ : EReal) _).trans ?_)
  · blk_point [iblk, V, idx ⟨t.val - 1, Nat.lt_of_le_of_lt (Nat.sub_le _ _) t.isLt⟩, idx t]
  · blk_point [iblk, V, idx t]

end Cert.MM8

end
-- ==== Proof.MM.Act2.lean ====
/- The gradients of the narrow products' left factors. -/
module

public import proofs.«01_k».proof.Defs
public import proofs.«01_k».proof.Proof.Gen.Kernel15Ideal.Value
public import proofs.«01_k».proof.Proof.Gen.Reference15Ideal.Run
public import proofs.«01_k».proof.Proof.Gen.Kernel18Ideal.Value
public import proofs.«01_k».proof.Proof.Gen.Reference18Ideal.Run
public import proofs.«01_k».proof.Proof.Gen.Kernel20Ideal.Value
public import proofs.«01_k».proof.Proof.Gen.Reference20Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM15

open Cert.Kernel15Ideal Cert.Kernel15Ideal.Gen

theorem idx : ∀ t : Fin cfg0.N, win0_0.index t = ![(grid0.coords t 0).val, 0] ∧ win0_1.index t = ![(grid0.coords t 1).val, 0] ∧ win0_2.index t = ![(grid0.coords t 0).val, (grid0.coords t 1).val] ∧ win0_3.index t = ![(grid0.coords t 0).val, (grid0.coords t 1).val] :=
  (by decide +kernel : ∀ t : Fin grid0.N, _)

/-- `d_in1_2`: block by block the call writes the reference's product and adds to it what it was given. -/
theorem algebraic : Cert.algebraic_Kernel15Ideal_Reference15Ideal := by
  intro m g m' g' _ hm
  refine ⟨_, Value.run_blocks m g, (θ_run Cert.Reference15Ideal.defs _ _).mono (fun r h c => ⟨(h c).1.trans ?_, (h c).2⟩)
    (Cert.Reference15Ideal.Value.run m' g')⟩
  rw [(hm c).1, (hm c).2.1, (hm c).2.2]
  refine ((dats m 0 c).arrAt_eq_of_covers 3 _ (by decide +kernel) fun t _ y => ?_).symm
  blk_simp
  rw [after0_3]
  frame_out
  pointwise [k0_pay1]
  rw [add_comm]
  blk_point [iblk, V, idx t]

end Cert.MM15

namespace Cert.MM18

open Cert.Kernel18Ideal Cert.Kernel18Ideal.Gen

theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- `d_out0_a`: block by block the call writes the reference's product. -/
theorem algebraic : Cert.algebraic_Kernel18Ideal_Reference18Ideal := by
  intro m g m' g' _ hm
  refine ⟨_, Value.run_blocks m g, (θ_run Cert.Reference18Ideal.defs _ _).mono (fun r h c => ⟨(h c).1.trans ?_, (h c).2⟩)
    (Cert.Reference18Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  blk_point [iblk, V, idx t]

end Cert.MM18

namespace Cert.MM20

open Cert.Kernel20Ideal Cert.Kernel20Ideal.Gen

theorem idx : ∀ t : Fin cfg0.N, win0_0.index t = ![(grid0.coords t 0).val, 0] ∧ win0_1.index t = ![(grid0.coords t 1).val, 0] ∧ win0_2.index t = ![(grid0.coords t 0).val, (grid0.coords t 1).val] ∧ win0_3.index t = ![(grid0.coords t 0).val, (grid0.coords t 1).val] :=
  (by decide +kernel : ∀ t : Fin grid0.N, _)

/-- `s5_dg`: block by block the call writes the reference's product and adds to it what it was given. -/
theorem algebraic : Cert.algebraic_Kernel20Ideal_Reference20Ideal := by
  intro m g m' g' _ hm
  refine ⟨_, Value.run_blocks m g, (θ_run Cert.Reference20Ideal.defs _ _).mono (fun r h c => ⟨(h c).1.trans ?_, (h c).2⟩)
    (Cert.Reference20Ideal.Value.run m' g')⟩
  rw [(hm c).1, (hm c).2.1, (hm c).2.2]
  refine ((dats m 0 c).arrAt_eq_of_covers 3 _ (by decide +kernel) fun t _ y => ?_).symm
  blk_simp
  rw [after0_3]
  frame_out
  pointwise [k0_pay1]
  rw [add_comm]
  blk_point [iblk, V, idx t]

end Cert.MM20

namespace Cert.MM25

open Cert.Kernel25Ideal Cert.Kernel25Ideal.Gen

theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- `d_in0_0`: block by block the call writes the reference's product. -/
theorem algebraic : Cert.algebraic_Kernel25Ideal_Reference25Ideal := by
  intro m g m' g' _ hm
  refine ⟨_, Value.run_blocks m g, (θ_run Cert.Reference25Ideal.defs _ _).mono (fun r h c => ⟨(h c).1.trans ?_, (h c).2⟩)
    (Cert.Reference25Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  blk_point [iblk, V, idx t]

end Cert.MM25

namespace Cert.MM26

open Cert.Kernel26Ideal Cert.Kernel26Ideal.Gen

theorem idx : ∀ t : Fin cfg0.N, win0_0.index t = ![(grid0.coords t 0).val, 0] ∧ win0_1.index t = ![(grid0.coords t 1).val, 0] ∧ win0_2.index t = ![(grid0.coords t 0).val, (grid0.coords t 1).val] ∧ win0_3.index t = ![(grid0.coords t 0).val, (grid0.coords t 1).val] :=
  (by decide +kernel : ∀ t : Fin grid0.N, _)

/-- `d_in1_4`: block by block the call writes the reference's product and adds to it what it was given. -/
theorem algebraic : Cert.algebraic_Kernel26Ideal_Reference26Ideal := by
  intro m g m' g' _ hm
  refine ⟨_, Value.run_blocks m g, (θ_run Cert.Reference26Ideal.defs _ _).mono (fun r h c => ⟨(h c).1.trans ?_, (h c).2⟩)
    (Cert.Reference26Ideal.Value.run m' g')⟩
  rw [(hm c).1, (hm c).2.1, (hm c).2.2]
  refine ((dats m 0 c).arrAt_eq_of_covers 3 _ (by decide +kernel) fun t _ y => ?_).symm
  blk_simp
  rw [after0_3]
  frame_out
  pointwise [k0_pay1]
  rw [add_comm]
  blk_point [iblk, V, idx t]

end Cert.MM26

end
-- ==== Proof.MM.Wgt2.lean ====
/- The gradients of the narrow weights. -/
module

public import proofs.«01_k».proof.Defs
public import proofs.«01_k».proof.Proof.Gen.Kernel16Ideal.Value
public import proofs.«01_k».proof.Proof.Gen.Reference16Ideal.Run
public import proofs.«01_k».proof.Proof.Gen.Kernel19Ideal.Value
public import proofs.«01_k».proof.Proof.Gen.Reference19Ideal.Run
public import proofs.«01_k».proof.Proof.Gen.Kernel21Ideal.Value
public import proofs.«01_k».proof.Proof.Gen.Reference21Ideal.Run
public import proofs.«01_k».proof.Proof.Gen.Kernel27Ideal.Value
public import proofs.«01_k».proof.Proof.Gen.Reference27Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM16

open Cert.Kernel16Ideal Cert.Kernel16Ideal.Gen

theorem idx : ∀ t : Fin cfg0.N, win0_0.index t = ![0, (grid0.coords t 0).val] ∧ win0_1.index t = ![0, (grid0.coords t 1).val] ∧ win0_2.index t = ![(grid0.coords t 0).val, (grid0.coords t 1).val] :=
  (by decide +kernel : ∀ t : Fin grid0.N, _)

/-- `dw_in1_2`: block by block the call writes the reference's product. -/
theorem algebraic : Cert.algebraic_Kernel16Ideal_Reference16Ideal := by
  intro m g m' g' _ hm
  refine ⟨_, Value.run_blocks m g, (θ_run Cert.Reference16Ideal.defs _ _).mono (fun r h c => ⟨(h c).1.trans ?_, (h c).2⟩)
    (Cert.Reference16Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  refine Fin.sum_fin_congr fun k => (mul_comm (_ : EReal) _).trans ?_
  blk_point [iblk, V, idx t]

end Cert.MM16

namespace Cert.MM19

open Cert.Kernel19Ideal Cert.Kernel19Ideal.Gen

theorem idx : ∀ t : Fin cfg0.N, win0_0.index t = ![0, (grid0.coords t 0).val] ∧ win0_1.index t = ![0, (grid0.coords t 1).val] ∧ win0_2.index t = ![(grid0.coords t 0).val, (grid0.coords t 1).val] :=
  (by decide +kernel : ∀ t : Fin grid0.N, _)

/-- `dw_out0_a`: block by block the call writes the reference's product. -/
theorem algebraic : Cert.algebraic_Kernel19Ideal_Reference19Ideal := by
  intro m g m' g' _ hm
  refine ⟨_, Value.run_blocks m g, (θ_run Cert.Reference19Ideal.defs _ _).mono (fun r h c => ⟨(h c).1.trans ?_, (h c).2⟩)
    (Cert.Reference19Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  refine Fin.sum_fin_congr fun k => (mul_comm (_ : EReal) _).trans ?_
  blk_point [iblk, V, idx t]

end Cert.MM19

namespace Cert.MM21

open Cert.Kernel21Ideal Cert.Kernel21Ideal.Gen

theorem idx : ∀ t : Fin cfg0.N, win0_0.index t = ![0, (grid0.coords t 0).val] ∧ win0_1.index t = ![0, (grid0.coords t 1).val] ∧ win0_2.index t = ![(grid0.coords t 0).val, (grid0.coords t 1).val] :=
  (by decide +kernel : ∀ t : Fin grid0.N, _)

/-- `s5_dglu_w`: block by block the call writes the reference's product. -/
theorem algebraic : Cert.algebraic_Kernel21Ideal_Reference21Ideal := by
  intro m g m' g' _ hm
  refine ⟨_, Value.run_blocks m g, (θ_run Cert.Reference21Ideal.defs _ _).mono (fun r h c => ⟨(h c).1.trans ?_, (h c).2⟩)
    (Cert.Reference21Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  refine Fin.sum_fin_congr fun k => (mul_comm (_ : EReal) _).trans ?_
  blk_point [iblk, V, idx t]

end Cert.MM21

namespace Cert.MM27

open Cert.Kernel27Ideal Cert.Kernel27Ideal.Gen

theorem idx : ∀ t : Fin cfg0.N, win0_0.index t = ![0, (grid0.coords t 0).val] ∧ win0_1.index t = ![0, (grid0.coords t 1).val] ∧ win0_2.index t = ![(grid0.coords t 0).val, (grid0.coords t 1).val] :=
  (by decide +kernel : ∀ t : Fin grid0.N, _)

/-- `dw_in1_4`: block by block the call writes the reference's product. -/
theorem algebraic : Cert.algebraic_Kernel27Ideal_Reference27Ideal := by
  intro m g m' g' _ hm
  refine ⟨_, Value.run_blocks m g, (θ_run Cert.Reference27Ideal.defs _ _).mono (fun r h c => ⟨(h c).1.trans ?_, (h c).2⟩)
    (Cert.Reference27Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  refine Fin.sum_fin_congr fun k => (mul_comm (_ : EReal) _).trans ?_
  blk_point [iblk, V, idx t]

end Cert.MM27

end
-- ==== Proof.MM.Fwd2.lean ====
/- The narrow forward products. -/
module

public import proofs.«01_k».proof.Defs
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel28Ideal.Value
public import proofs.«01_k».proof.Proof.Gen.Reference28Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM22

open Cert.Kernel22Ideal Cert.Kernel22Ideal.Gen

theorem idx : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

/-- `in1_2`: block by block the call writes the reference's product. -/
theorem algebraic : Cert.algebraic_Kernel22Ideal_Reference22Ideal := by
  intro m g m' g' _ hm
  refine ⟨_, Value.run_blocks m g, (θ_run Cert.Reference22Ideal.defs _ _).mono (fun r h c => ⟨(h c).1.trans ?_, (h c).2⟩)
    (Cert.Reference22Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  blk_point [iblk, V, idx t]

end Cert.MM22

namespace Cert.MM23

open Cert.Kernel23Ideal Cert.Kernel23Ideal.Gen

theorem idx : ∀ t : Fin cfg0.N, win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val] :=
  (by decide +kernel : ∀ t : Fin grid0.N, _)

/-- `out0_a`: block by block the call writes the reference's product and adds to it what it was given. -/
theorem algebraic : Cert.algebraic_Kernel23Ideal_Reference23Ideal := by
  intro m g m' g' _ hm
  refine ⟨_, Value.run_blocks m g, (θ_run Cert.Reference23Ideal.defs _ _).mono (fun r h c => ⟨(h c).1.trans ?_, (h c).2⟩)
    (Cert.Reference23Ideal.Value.run m' g')⟩
  rw [(hm c).1, (hm c).2.1, (hm c).2.2]
  refine ((dats m 0 c).arrAt_eq_of_covers 3 _ (by decide +kernel) fun t _ y => ?_).symm
  blk_simp
  rw [after0_3]
  frame_out
  pointwise [k0_pay1]
  rw [add_comm]
  blk_point [iblk, V, idx t]

end Cert.MM23

namespace Cert.MM24

open Cert.Kernel24Ideal Cert.Kernel24Ideal.Gen

theorem idx : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

/-- `s5_glu`: block by block the call writes the reference's product. -/
theorem algebraic : Cert.algebraic_Kernel24Ideal_Reference24Ideal := by
  intro m g m' g' _ hm
  refine ⟨_, Value.run_blocks m g, (θ_run Cert.Reference24Ideal.defs _ _).mono (fun r h c => ⟨(h c).1.trans ?_, (h c).2⟩)
    (Cert.Reference24Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  blk_point [iblk, V, idx t]

end Cert.MM24

namespace Cert.MM28

open Cert.Kernel28Ideal Cert.Kernel28Ideal.Gen

theorem idx : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

/-- `in1_4`: block by block the call writes the reference's product. -/
theorem algebraic : Cert.algebraic_Kernel28Ideal_Reference28Ideal := by
  intro m g m' g' _ hm
  refine ⟨_, Value.run_blocks m g, (θ_run Cert.Reference28Ideal.defs _ _).mono (fun r h c => ⟨(h c).1.trans ?_, (h c).2⟩)
    (Cert.Reference28Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  blk_point [iblk, V, idx t]

end Cert.MM28

end
-- ==== Proof.MM.Slab2.lean ====
/- The gradient of the narrow columns of `ab_w_in`, laid out as one slab of 1024 columns: the 4352 rows are summed in two halves. -/
module

public import Idealize.ShloMosaic.Lib.Pipeline.ReadBack
public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM17

open Cert.Kernel17Ideal Cert.Kernel17Ideal.Gen

theorem idx : ∀ t : Fin cfg0.N, win0_0.index t = ![t.val % 2, t.val / 2] ∧ win0_1.index t = ![t.val % 2, 0] ∧ win0_2.index t = ![0, t.val / 2, 0] :=
  (by decide +kernel : ∀ t : Fin grid0.N, _)

/-- After a point of the first half the accumulator holds that half's product. -/
theorem first (m : (ℓ : Loc nD τ sig) → Buf (Elt Ideal) ℓ) (c : Dev nD) (t : Fin cfg0.N) (h : t.val % 2 = 0) :
    (outsAt0 m c t.val t.isLt).2 = k0_pay2 (iblk m c 0 t) (iblk m c 1 t) := by
  rw [outsAt0_A m c t h (by omega) (by omega)]
  frame_out

/-- `dw_in0_0`: the accumulator holds the first half's product when the second is added and the block written. -/
theorem algebraic : Cert.algebraic_Kernel17Ideal_Reference17Ideal := by
  intro m g m' g' _ hm
  refine ⟨_, Value.run_blocks m g, (θ_run Cert.Reference17Ideal.defs _ _).mono (fun r h c => ⟨(h c).1.trans ?_, (h c).2⟩)
    (Cert.Reference17Ideal.Value.run m' g')⟩
  rw [(hm c).1, (hm c).2]
  refine ((dats m 0 c).arrAt_eq_of_covers 2 _ (by decide +kernel) fun t hf y => ?_).symm
  have h1 : t.val % 2 = 1 := (flush0_2 t).mp hf
  blk_simp
  rw [after0_2, outsAt0_B m c t (by omega) h1 h1]
  frame_out
  rw [first m c ⟨t.val - 1, Nat.lt_of_le_of_lt (Nat.sub_le _ _) t.isLt⟩ (show (t.val - 1) % 2 = 0 by omega)]
  frame_out
  rw [read_unread_whole]
  pointwise [k0_pay1, k0_pay2, k0_pay3, k0_pay4]
  rw [Fin.sum_univ_two_halves 2176 2176 rfl]
  refine congrArg₂ (· + ·) (Fin.sum_fin_congr fun k => (mul_comm (_ : EReal) _).trans ?_)
    (Fin.sum_fin_congr fun k => (mul_comm (_ : EReal) _).trans ?_)
  · blk_point [iblk, V, idx ⟨t.val - 1, Nat.lt_of_le_of_lt (Nat.sub_le _ _) t.isLt⟩, idx t]
  · blk_point [iblk, V, idx t]

end Cert.MM17

end
-- ==== Proof.MM.Opt29.lean ====
/- Program 29: one optimiser step, block by block. -/
module

public import proofs.«01_k».proof.Defs
public import proofs.«01_k».proof.Proof.Gen.Kernel29Ideal.Value
public import proofs.«01_k».proof.Proof.Gen.Reference29Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM29

open Cert.Kernel29Ideal Cert.Kernel29Ideal.Gen

theorem idx : ∀ t : Fin cfg0.N, win0_0.index t = ![(grid0.coords t 0).val, 0] ∧ win0_1.index t = ![(grid0.coords t 0).val, 0] ∧ win0_2.index t = ![(grid0.coords t 0).val, 0] ∧ win0_3.index t = ![0, (grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- One optimiser step: the sum of the eight parts, the step and the two moments. -/
theorem algebraic : Cert.algebraic_Kernel29Ideal_Reference29Ideal := by
  intro m g m' g' _ hm
  refine ⟨_, _, _, _, Value.run_blocks m g, (θ_run Cert.Reference29Ideal.defs _ _).mono (fun r h c =>
    ⟨(h c).1.trans ?_, (h c).2.1.trans ?_, (h c).2.2.1.trans ?_, (h c).2.2.2.1.trans ?_, (h c).2.2.2.2⟩) (Cert.Reference29Ideal.Value.run m' g')⟩
  all_goals simp only [(hm c).1, (hm c).2.1, (hm c).2.2.1, (hm c).2.2.2]
  · refine ((dats m 0 c).arrAt_eq_of_covers 4 _ (by decide +kernel) fun t _ y => ?_).symm
    blk_simp
    rw [after0_4]
    frame_out
    pointwise [k0_pay1, k0_pay2, k0_pay3, k0_pay4, k0_pay5]
    simp only [Fin.sum_univ_eight]
    blk_point [iblk, V, idx t]
  · refine ((dats m 0 c).arrAt_eq_of_covers 5 _ (by decide +kernel) fun t _ y => ?_).symm
    blk_simp
    rw [after0_5]
    frame_out
    pointwise [k0_pay1, k0_pay2, k0_pay3, k0_pay4, k0_pay5]
    simp only [Fin.sum_univ_eight]
    blk_point [iblk, V, idx t]
  · refine ((dats m 0 c).arrAt_eq_of_covers 6 _ (by decide +kernel) fun t _ y => ?_).symm
    blk_simp
    rw [after0_6]
    frame_out
    pointwise [k0_pay1, k0_pay2, k0_pay3, k0_pay4, k0_pay5]
    simp only [Fin.sum_univ_eight]
    blk_point [iblk, V, idx t]
  · refine ((dats m 0 c).arrAt_eq_of_covers 7 _ (by decide +kernel) fun t _ y => ?_).symm
    blk_simp
    rw [after0_7]
    frame_out
    pointwise [k0_pay1, k0_pay2, k0_pay3, k0_pay4, k0_pay5]
    simp only [Fin.sum_univ_eight]
    blk_point [iblk, V, idx t]

end Cert.MM29

end
-- ==== Proof.MM.Opt30.lean ====
/- Program 30: one optimiser step, block by block. -/
module

public import proofs.«01_k».proof.Defs
public import proofs.«01_k».proof.Proof.Gen.Kernel30Ideal.Value
public import proofs.«01_k».proof.Proof.Gen.Reference30Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM30

open Cert.Kernel30Ideal Cert.Kernel30Ideal.Gen

theorem idx : ∀ t : Fin cfg0.N, win0_0.index t = ![(grid0.coords t 0).val, 0] ∧ win0_1.index t = ![(grid0.coords t 0).val, 0] ∧ win0_2.index t = ![(grid0.coords t 0).val, 0] ∧ win0_3.index t = ![0, (grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- One optimiser step: the sum of the eight parts, the step and the two moments. -/
theorem algebraic : Cert.algebraic_Kernel30Ideal_Reference30Ideal := by
  intro m g m' g' _ hm
  refine ⟨_, _, _, _, Value.run_blocks m g, (θ_run Cert.Reference30Ideal.defs _ _).mono (fun r h c =>
    ⟨(h c).1.trans ?_, (h c).2.1.trans ?_, (h c).2.2.1.trans ?_, (h c).2.2.2.1.trans ?_, (h c).2.2.2.2⟩) (Cert.Reference30Ideal.Value.run m' g')⟩
  all_goals simp only [(hm c).1, (hm c).2.1, (hm c).2.2.1, (hm c).2.2.2]
  · refine ((dats m 0 c).arrAt_eq_of_covers 4 _ (by decide +kernel) fun t _ y => ?_).symm
    blk_simp
    rw [after0_4]
    frame_out
    pointwise [k0_pay1, k0_pay2, k0_pay3, k0_pay4, k0_pay5]
    simp only [Fin.sum_univ_eight]
    blk_point [iblk, V, idx t]
  · refine ((dats m 0 c).arrAt_eq_of_covers 5 _ (by decide +kernel) fun t _ y => ?_).symm
    blk_simp
    rw [after0_5]
    frame_out
    pointwise [k0_pay1, k0_pay2, k0_pay3, k0_pay4, k0_pay5]
    simp only [Fin.sum_univ_eight]
    blk_point [iblk, V, idx t]
  · refine ((dats m 0 c).arrAt_eq_of_covers 6 _ (by decide +kernel) fun t _ y => ?_).symm
    blk_simp
    rw [after0_6]
    frame_out
    pointwise [k0_pay1, k0_pay2, k0_pay3, k0_pay4, k0_pay5]
    simp only [Fin.sum_univ_eight]
    blk_point [iblk, V, idx t]
  · refine ((dats m 0 c).arrAt_eq_of_covers 7 _ (by decide +kernel) fun t _ y => ?_).symm
    blk_simp
    rw [after0_7]
    frame_out
    pointwise [k0_pay1, k0_pay2, k0_pay3, k0_pay4, k0_pay5]
    simp only [Fin.sum_univ_eight]
    blk_point [iblk, V, idx t]

end Cert.MM30

end
-- ==== Proof.MM.Opt31.lean ====
/- Program 31: one optimiser step, block by block. -/
module

public import proofs.«01_k».proof.Defs
public import proofs.«01_k».proof.Proof.Gen.Kernel31Ideal.Value
public import proofs.«01_k».proof.Proof.Gen.Reference31Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM31

open Cert.Kernel31Ideal Cert.Kernel31Ideal.Gen

theorem idx : ∀ t : Fin cfg0.N, win0_0.index t = ![(grid0.coords t 0).val, 0] ∧ win0_1.index t = ![(grid0.coords t 0).val, 0] ∧ win0_2.index t = ![(grid0.coords t 0).val, 0] ∧ win0_3.index t = ![0, (grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- One optimiser step: the sum of the eight parts, the step and the two moments. -/
theorem algebraic : Cert.algebraic_Kernel31Ideal_Reference31Ideal := by
  intro m g m' g' _ hm
  refine ⟨_, _, _, _, Value.run_blocks m g, (θ_run Cert.Reference31Ideal.defs _ _).mono (fun r h c =>
    ⟨(h c).1.trans ?_, (h c).2.1.trans ?_, (h c).2.2.1.trans ?_, (h c).2.2.2.1.trans ?_, (h c).2.2.2.2⟩) (Cert.Reference31Ideal.Value.run m' g')⟩
  all_goals simp only [(hm c).1, (hm c).2.1, (hm c).2.2.1, (hm c).2.2.2]
  · refine ((dats m 0 c).arrAt_eq_of_covers 4 _ (by decide +kernel) fun t _ y => ?_).symm
    blk_simp
    rw [after0_4]
    frame_out
    pointwise [k0_pay1, k0_pay2, k0_pay3, k0_pay4, k0_pay5]
    simp only [Fin.sum_univ_eight]
    blk_point [iblk, V, idx t]
  · refine ((dats m 0 c).arrAt_eq_of_covers 5 _ (by decide +kernel) fun t _ y => ?_).symm
    blk_simp
    rw [after0_5]
    frame_out
    pointwise [k0_pay1, k0_pay2, k0_pay3, k0_pay4, k0_pay5]
    simp only [Fin.sum_univ_eight]
    blk_point [iblk, V, idx t]
  · refine ((dats m 0 c).arrAt_eq_of_covers 6 _ (by decide +kernel) fun t _ y => ?_).symm
    blk_simp
    rw [after0_6]
    frame_out
    pointwise [k0_pay1, k0_pay2, k0_pay3, k0_pay4, k0_pay5]
    simp only [Fin.sum_univ_eight]
    blk_point [iblk, V, idx t]
  · refine ((dats m 0 c).arrAt_eq_of_covers 7 _ (by decide +kernel) fun t _ y => ?_).symm
    blk_simp
    rw [after0_7]
    frame_out
    pointwise [k0_pay1, k0_pay2, k0_pay3, k0_pay4, k0_pay5]
    simp only [Fin.sum_univ_eight]
    blk_point [iblk, V, idx t]

end Cert.MM31

end
-- ==== Proof.MM.Opt32.lean ====
/- Program 32: one optimiser step, block by block. -/
module

public import proofs.«01_k».proof.Defs
public import proofs.«01_k».proof.Proof.Gen.Kernel32Ideal.Value
public import proofs.«01_k».proof.Proof.Gen.Reference32Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM32

open Cert.Kernel32Ideal Cert.Kernel32Ideal.Gen

theorem idx : ∀ t : Fin cfg0.N, win0_0.index t = ![(grid0.coords t 0).val, 0] ∧ win0_1.index t = ![(grid0.coords t 0).val, 0] ∧ win0_2.index t = ![(grid0.coords t 0).val, 0] ∧ win0_3.index t = ![0, (grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- One optimiser step: the sum of the eight parts, the step and the two moments. -/
theorem algebraic : Cert.algebraic_Kernel32Ideal_Reference32Ideal := by
  intro m g m' g' _ hm
  refine ⟨_, _, _, _, Value.run_blocks m g, (θ_run Cert.Reference32Ideal.defs _ _).mono (fun r h c =>
    ⟨(h c).1.trans ?_, (h c).2.1.trans ?_, (h c).2.2.1.trans ?_, (h c).2.2.2.1.trans ?_, (h c).2.2.2.2⟩) (Cert.Reference32Ideal.Value.run m' g')⟩
  all_goals simp only [(hm c).1, (hm c).2.1, (hm c).2.2.1, (hm c).2.2.2]
  · refine ((dats m 0 c).arrAt_eq_of_covers 4 _ (by decide +kernel) fun t _ y => ?_).symm
    blk_simp
    rw [after0_4]
    frame_out
    pointwise [k0_pay1, k0_pay2, k0_pay3, k0_pay4, k0_pay5]
    simp only [Fin.sum_univ_eight]
    blk_point [iblk, V, idx t]
  · refine ((dats m 0 c).arrAt_eq_of_covers 5 _ (by decide +kernel) fun t _ y => ?_).symm
    blk_simp
    rw [after0_5]
    frame_out
    pointwise [k0_pay1, k0_pay2, k0_pay3, k0_pay4, k0_pay5]
    simp only [Fin.sum_univ_eight]
    blk_point [iblk, V, idx t]
  · refine ((dats m 0 c).arrAt_eq_of_covers 6 _ (by decide +kernel) fun t _ y => ?_).symm
    blk_simp
    rw [after0_6]
    frame_out
    pointwise [k0_pay1, k0_pay2, k0_pay3, k0_pay4, k0_pay5]
    simp only [Fin.sum_univ_eight]
    blk_point [iblk, V, idx t]
  · refine ((dats m 0 c).arrAt_eq_of_covers 7 _ (by decide +kernel) fun t _ y => ?_).symm
    blk_simp
    rw [after0_7]
    frame_out
    pointwise [k0_pay1, k0_pay2, k0_pay3, k0_pay4, k0_pay5]
    simp only [Fin.sum_univ_eight]
    blk_point [iblk, V, idx t]

end Cert.MM32

end
-- ==== Proof.MM.Opt33.lean ====
/- Program 33: one optimiser step, block by block. -/
module

public import proofs.«01_k».proof.Defs
public import proofs.«01_k».proof.Proof.Gen.Kernel33Ideal.Value
public import proofs.«01_k».proof.Proof.Gen.Reference33Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM33

open Cert.Kernel33Ideal Cert.Kernel33Ideal.Gen

theorem idx : ∀ t : Fin cfg0.N, win0_0.index t = ![(grid0.coords t 0).val, 0] ∧ win0_1.index t = ![(grid0.coords t 0).val, 0] ∧ win0_2.index t = ![(grid0.coords t 0).val, 0] ∧ win0_3.index t = ![0, (grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- One optimiser step: the sum of the eight parts, the step and the two moments. -/
theorem algebraic : Cert.algebraic_Kernel33Ideal_Reference33Ideal := by
  intro m g m' g' _ hm
  refine ⟨_, _, _, _, Value.run_blocks m g, (θ_run Cert.Reference33Ideal.defs _ _).mono (fun r h c =>
    ⟨(h c).1.trans ?_, (h c).2.1.trans ?_, (h c).2.2.1.trans ?_, (h c).2.2.2.1.trans ?_, (h c).2.2.2.2⟩) (Cert.Reference33Ideal.Value.run m' g')⟩
  all_goals simp only [(hm c).1, (hm c).2.1, (hm c).2.2.1, (hm c).2.2.2]
  · refine ((dats m 0 c).arrAt_eq_of_covers 4 _ (by decide +kernel) fun t _ y => ?_).symm
    blk_simp
    rw [after0_4]
    frame_out
    pointwise [k0_pay1, k0_pay2, k0_pay3, k0_pay4, k0_pay5, k0_pay6]
    simp only [Fin.sum_univ_eight]
    blk_point [iblk, V, idx t]
  · refine ((dats m 0 c).arrAt_eq_of_covers 5 _ (by decide +kernel) fun t _ y => ?_).symm
    blk_simp
    rw [after0_5]
    frame_out
    pointwise [k0_pay1, k0_pay2, k0_pay3, k0_pay4, k0_pay5, k0_pay6]
    simp only [Fin.sum_univ_eight]
    blk_point [iblk, V, idx t]
  · refine ((dats m 0 c).arrAt_eq_of_covers 6 _ (by decide +kernel) fun t _ y => ?_).symm
    blk_simp
    rw [after0_6]
    frame_out
    pointwise [k0_pay1, k0_pay2, k0_pay3, k0_pay4, k0_pay5, k0_pay6]
    simp only [Fin.sum_univ_eight]
    blk_point [iblk, V, idx t]
  · refine ((dats m 0 c).arrAt_eq_of_covers 7 _ (by decide +kernel) fun t _ y => ?_).symm
    blk_simp
    rw [after0_7]
    frame_out
    pointwise [k0_pay1, k0_pay2, k0_pay3, k0_pay4, k0_pay5, k0_pay6]
    simp only [Fin.sum_univ_eight]
    blk_point [iblk, V, idx t]

end Cert.MM33

end
-- ==== Proof.MM.Opt34.lean ====
/- Program 34: one optimiser step, block by block. -/
module

public import proofs.«01_k».proof.Defs
public import proofs.«01_k».proof.Proof.Gen.Kernel34Ideal.Value
public import proofs.«01_k».proof.Proof.Gen.Reference34Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM34

open Cert.Kernel34Ideal Cert.Kernel34Ideal.Gen

theorem idx : ∀ t : Fin cfg0.N, win0_0.index t = ![(grid0.coords t 0).val, 0] ∧ win0_1.index t = ![(grid0.coords t 0).val, 0] ∧ win0_2.index t = ![(grid0.coords t 0).val, 0] ∧ win0_3.index t = ![0, (grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- One optimiser step: the sum of the eight parts, the step and the two moments. -/
theorem algebraic : Cert.algebraic_Kernel34Ideal_Reference34Ideal := by
  intro m g m' g' _ hm
  refine ⟨_, _, _, _, Value.run_blocks m g, (θ_run Cert.Reference34Ideal.defs _ _).mono (fun r h c =>
    ⟨(h c).1.trans ?_, (h c).2.1.trans ?_, (h c).2.2.1.trans ?_, (h c).2.2.2.1.trans ?_, (h c).2.2.2.2⟩) (Cert.Reference34Ideal.Value.run m' g')⟩
  all_goals simp only [(hm c).1, (hm c).2.1, (hm c).2.2.1, (hm c).2.2.2]
  · refine ((dats m 0 c).arrAt_eq_of_covers 4 _ (by decide +kernel) fun t _ y => ?_).symm
    blk_simp
    rw [after0_4]
    frame_out
    pointwise [k0_pay1, k0_pay2, k0_pay3, k0_pay4, k0_pay5, k0_pay6]
    simp only [Fin.sum_univ_eight]
    blk_point [iblk, V, idx t]
  · refine ((dats m 0 c).arrAt_eq_of_covers 5 _ (by decide +kernel) fun t _ y => ?_).symm
    blk_simp
    rw [after0_5]
    frame_out
    pointwise [k0_pay1, k0_pay2, k0_pay3, k0_pay4, k0_pay5, k0_pay6]
    simp only [Fin.sum_univ_eight]
    blk_point [iblk, V, idx t]
  · refine ((dats m 0 c).arrAt_eq_of_covers 6 _ (by decide +kernel) fun t _ y => ?_).symm
    blk_simp
    rw [after0_6]
    frame_out
    pointwise [k0_pay1, k0_pay2, k0_pay3, k0_pay4, k0_pay5, k0_pay6]
    simp only [Fin.sum_univ_eight]
    blk_point [iblk, V, idx t]
  · refine ((dats m 0 c).arrAt_eq_of_covers 7 _ (by decide +kernel) fun t _ y => ?_).symm
    blk_simp
    rw [after0_7]
    frame_out
    pointwise [k0_pay1, k0_pay2, k0_pay3, k0_pay4, k0_pay5, k0_pay6]
    simp only [Fin.sum_univ_eight]
    blk_point [iblk, V, idx t]

end Cert.MM34

end
-- ==== Proof.MM.Norm.lean ====
/- Program 35: the row norm, block by block. -/
module

public import proofs.«01_k».proof.Defs
public import proofs.«01_k».proof.Proof.Gen.Kernel35Ideal.Value
public import proofs.«01_k».proof.Proof.Gen.Reference35Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM35

open Cert.Kernel35Ideal Cert.Kernel35Ideal.Gen

theorem idx : ∀ t : Fin cfg0.N, win0_0.index t = ![(grid0.coords t 0).val, 0] ∧ win0_1.index t = ![0, 0] ∧ win0_2.index t = ![(grid0.coords t 0).val, 0] :=
  (by decide +kernel : ∀ t : Fin grid0.N, _)

/-- Each row over the root of its mean square, times the weight. -/
theorem algebraic : Cert.algebraic_Kernel35Ideal_Reference35Ideal := by
  intro m g m' g' _ hm
  refine ⟨_, Value.run_blocks m g, (θ_run Cert.Reference35Ideal.defs _ _).mono (fun r h c =>
    ⟨(h c).1.trans ?_, (h c).2⟩) (Cert.Reference35Ideal.Value.run m' g')⟩
  rw [(hm c).1, (hm c).2]
  refine ((dats m 0 c).arrAt_eq_of_covers 2 _ (by decide +kernel) fun t _ y => ?_).symm
  blk_simp
  rw [after0_2]
  frame_out
  pointwise [k0_pay1]
  blk_point [iblk, V, idx t]

end Cert.MM35

end
-- ==== Proof.MM.Gate.lean ====
/- Program 36: the gated state-space output, block by block. -/
module

public import proofs.«01_k».proof.Defs
public import proofs.«01_k».proof.Proof.Gen.Kernel36Ideal.Value
public import proofs.«01_k».proof.Proof.Gen.Reference36Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MM36

open Cert.Kernel36Ideal Cert.Kernel36Ideal.Gen

/-- The kernel's order of the factors is the formula's. -/
theorem gate (h k q x u z : Ideal .f32) :
    h * x * (1 + Ideal.tanh (k * (x + q * x * x * x))) * Ideal.logistic u * (z * Ideal.logistic z) =
      x * (h * (1 + Ideal.tanh (k * (x + q * (x * x * x))))) * Ideal.div 1 (1 + Ideal.exp (-u)) *
        (z * Ideal.div 1 (1 + Ideal.exp (-z))) := by
  have e : q * x * x * x = q * (x * x * x) := by simp only [mul_assoc]
  rw [e, mul_comm h x, mul_assoc x h]
  rfl

theorem idx : ∀ t : Fin cfg0.N, win0_0.index t = ![(grid0.coords t 0).val, 0] ∧ win0_1.index t = ![(grid0.coords t 0).val, 0] ∧ win0_2.index t = ![0, 0] ∧ win0_3.index t = ![(grid0.coords t 0).val, 0] ∧ win0_4.index t = ![(grid0.coords t 0).val, 0] :=
  (by decide +kernel : ∀ t : Fin grid0.N, _)

/-- The gelu, the gate and the outer gate, element by element. -/
theorem algebraic : Cert.algebraic_Kernel36Ideal_Reference36Ideal := by
  intro m g m' g' _ hm
  refine ⟨_, Value.run_blocks m g, (θ_run Cert.Reference36Ideal.defs _ _).mono (fun r h c =>
    ⟨(h c).1.trans ?_, (h c).2⟩) (Cert.Reference36Ideal.Value.run m' g')⟩
  rw [(hm c).1, (hm c).2.1, (hm c).2.2.1, (hm c).2.2.2]
  refine ((dats m 0 c).arrAt_eq_of_covers 4 _ (by decide +kernel) fun t _ y => ?_).symm
  blk_simp
  rw [after0_4]
  frame_out
  pointwise [k0_pay1]
  rw [gate]
  blk_point [iblk, V, idx t]

end Cert.MM36

end
-- ==== Proof.MM.Shift.lean ====
/- A block of rows moved down by a few rows, the first of them taken from the end of the block before. -/
module

public import Idealize.ShloMosaic.Lib.Pipeline.ValueKit
public import Idealize.ShloMosaic.Lib.KernelVsHost
public import Idealize.ShloMosaic.Lib.Pipeline.Value
public import Idealize.ShloMosaic.Lib.Pointwise

@[expose] public section

noncomputable section

open Idealize.ShloMosaic

namespace Cert.Shift

/-- `n` rows of `w` lanes. -/
abbrev Rows (n w : Nat) : Shape := ⟨2, ![n, w]⟩

/-- The mask of the first `s` rows, read at a row. -/
theorem mask (s : Nat) (h₁ : 1 ≤ s) (h₂ : s ≤ 3) (a : Fin 8) :
    IntOp.cmpi .slt (BitVec.ofNat 32 a.val) (BitVec.ofNat 32 s) = if a.val < s then 1 else 0 := by
  obtain rfl | rfl | rfl : s = 1 ∨ s = 2 ∨ s = 3 := by omega
  all_goals revert a; decide

variable {w : Nat}

/-- A rotation along the rows moves row `k` to row `k + s`, around the end. -/
theorem rot {n : Nat} (s : Nat) (hs : s < n) (h₂ : s ≤ 3) (x : (Rows n w).Idx → Ideal .f32) (h : (Rows n w).Rotates 0 none)
    (a k : Fin n) (l : Fin w) (hk : k.val = if a.val < s then n + a.val - s else a.val - s) :
    dynamicRotate 0 (BitVec.ofNat 32 s) none x h (ix2 a l) = x (ix2 k l) := by
  refine dynamicRotate_apply 0 _ x h _ _ fun b => ?_
  have hn : (BitVec.ofNat 32 s).toNat = s := by rw [BitVec.toNat_ofNat]; exact Nat.mod_eq_of_lt (by omega)
  have ha := a.isLt
  match b with
  | ⟨0, _⟩ =>
    show k.val = if (0 : Fin 2) = 0 then (a.val + n - (BitVec.ofNat 32 s).toNat % n) % n else a.val
    rw [hn, if_pos rfl, Nat.mod_eq_of_lt hs, hk]
    split
    · rw [Nat.mod_eq_of_lt (by omega)]; omega
    · rw [show a.val + n - s = a.val - s + n by omega, Nat.add_mod_right, Nat.mod_eq_of_lt (by omega)]
  | ⟨1, _⟩ => rfl

/-- The moved block at a row: a row of the block, or one of the eight rows before it. -/
theorem read (s : Nat) (h₁ : 1 ≤ s) (h₂ : s ≤ 3) (x : (Rows 128 w).Idx → Ideal .f32) (p : (Rows 8 w).Idx → Ideal .f32)
    (hx : (Rows 128 w).Rotates 0 none) (hp : (Rows 8 w).Rotates 0 none) (hi : (Rows 8 w).Iotas .tc 32 [0])
    (h0 : (Rows 128 w).Slices ![0, 0] (Rows 8 w)) (h8 : (Rows 128 w).Slices ![8, 0] (Rows 120 w))
    (hc : Shape.Concatenates [Rows 8 w, Rows 120 w] (Rows 128 w) 0) (a : Fin 128) (l : Fin w) :
    concatenate (Rows 128 w) 0
      [⟨Rows 8 w, select (cmpi .slt (iota .tc (Rows 8 w) 32 [0] hi) (broadcast (Rows 8 w) (BitVec.ofNat 32 s)))
          (dynamicRotate 0 (BitVec.ofNat 32 s) none p hp)
          (extractStridedSlice (Rows 8 w) ![0, 0] (dynamicRotate 0 (BitVec.ofNat 32 s) none x hx) h0)⟩,
        ⟨Rows 120 w, extractStridedSlice (Rows 120 w) ![8, 0] (dynamicRotate 0 (BitVec.ofNat 32 s) none x hx) h8⟩]
      hc (ix2 a l) =
      if h : a.val < s then p (ix2 ⟨8 + a.val - s, by omega⟩ l) else x (ix2 ⟨a.val - s, by omega⟩ l) := by
  have ha := a.isLt
  by_cases h : a.val < 8
  · rw [concatenate_pair_apply_left 0 _ _ hc _ rfl (ix2 ⟨a.val, h⟩ l) (fun b => match b with | ⟨0, _⟩ => rfl | ⟨1, _⟩ => rfl)]
    show Scalar.select (IntOp.cmpi .slt (BitVec.ofNat 32 (0 * 8 + a.val)) (BitVec.ofNat 32 s)) _ _ = _
    rw [Nat.zero_mul, Nat.zero_add, mask s h₁ h₂ ⟨a.val, h⟩]
    by_cases q : a.val < s
    · rw [if_pos q, dif_pos q]
      exact (if_pos rfl).trans (rot s (by omega) h₂ p hp _ _ l (by rw [if_pos q]))
    · rw [if_neg q, dif_neg q]
      refine (if_neg (by decide)).trans ?_
      rw [extractStridedSlice_apply ![0, 0] _ h0 _ (ix2 a l) (fun b => match b with | ⟨0, _⟩ => (Nat.zero_add _).symm | ⟨1, _⟩ => (Nat.zero_add _).symm)]
      exact rot s (by omega) h₂ x hx _ _ l (by rw [if_neg q])
  · rw [concatenate_pair_apply_right 0 _ _ hc _ rfl rfl (ix2 ⟨a.val - 8, by omega⟩ l)
      (fun b hb => match b, hb with | ⟨0, _⟩, hb => absurd rfl hb | ⟨1, _⟩, _ => rfl)
      (by show a.val - 8 + 8 = a.val; omega),
      extractStridedSlice_apply ![8, 0] _ h8 _ (ix2 a l) (fun b => match b with
        | ⟨0, _⟩ => by show a.val = 8 + (a.val - 8); omega
        | ⟨1, _⟩ => (Nat.zero_add _).symm), dif_neg (by omega)]
    exact rot s (by omega) h₂ x hx _ _ l (by rw [if_neg (by omega)])

/-- The rows before a block: zero at the first block of a sequence. -/
theorem halo (z : Nat) (hz : z < 17) (p : FVec Ideal (Rows 8 w) .f32) (j : (Rows 8 w).Idx) :
    (Scalar.select (Scalar.cmpi .eq (BitVec.ofNat 32 z) 0#32) (broadcast (Rows 8 w) (Scalar.ofBits (F := Ideal) .f32 0x00000000#32)) p) j =
      if z = 0 then 0 else p j := by
  have e : Scalar.cmpi .eq (BitVec.ofNat 32 z) 0#32 = if z = 0 then 1 else 0 := by revert z; decide
  rw [e]
  by_cases h : z = 0
  · rw [if_pos h, if_pos h]
    refine (congrFun (if_pos rfl) j).trans ?_
    pointwise
  · rw [if_neg h, if_neg h]
    exact congrFun (if_neg (by decide)) j

/-- A row of the block `s` rows up, from the block before where this one begins later. -/
def up (z : Nat) (x : FVec Ideal (Rows 128 w) .f32) (p : FVec Ideal (Rows 8 w) .f32) (s : Nat) (hs : s ≤ 3) (a : Fin 128) (l : Fin w) : Ideal .f32 :=
  if h : a.val < s then (if z = 0 then 0 else p (ix2 ⟨8 + a.val - s, by omega⟩ l)) else x (ix2 ⟨a.val - s, by omega⟩ l)

variable {n : Nat}

/-- Two sequences of `k` rows. -/
abbrev Seqs (k n : Nat) : Shape := ⟨3, ![2, k, n]⟩

/-- The row `3 - k` rows up in its sequence, zero before it begins. -/
def seqUp (x : FVec Ideal (Rows 4352 n) .f32) (k : Nat) (hk : k ≤ 3) (r : Fin 4352) (l : Fin n) : Ideal .f32 :=
  if h : k + r.val % 2176 < 3 then 0 else x (ix2 ⟨r.val / 2176 * 2176 + (k + r.val % 2176 - 3), by omega⟩ l)

theorem seqUp_self (x : FVec Ideal (Rows 4352 n) .f32) (hk : 3 ≤ 3) (r : Fin 4352) (l : Fin n) : seqUp x 3 hk r l = x (ix2 r l) :=
  (dif_neg (by omega)).trans (congrArg (fun z => x (ix2 z l)) (Fin.ext (by
    show r.val / 2176 * 2176 + (3 + r.val % 2176 - 3) = r.val; omega)))

/-- The rows with three zero rows before each sequence, cut from row `k`. -/
theorem tap {u : Shape} (v : FVec Ideal u .f32) (hu : 0 < u.numel) (hv : v (Shape.Idx.first hu) = 0) (x : FVec Ideal (Rows 4352 n) .f32)
    (hc : (Rows 4352 n).ShapeCasts (Seqs 2176 n)) (hp : (Seqs 2176 n).Pads ![0, 3, 0] ![0, 0, 0] ![0, 0, 0] (Seqs 2179 n)) (k : Nat) (hk : k ≤ 3)
    (hs : (Seqs 2179 n).Slices ![0, k, 0] (Seqs 2176 n)) (r : Fin 4352) (l : Fin n) :
    extractStridedSlice (Seqs 2176 n) ![0, k, 0] (pad (Seqs 2179 n) ![0, 3, 0] ![0, 0, 0] ![0, 0, 0] (shapeCast (Seqs 2176 n) x hc) v hp hu) hs
        (ix3 ⟨r.val / 2176, by omega⟩ ⟨r.val % 2176, by omega⟩ l) = seqUp x k hk r l := by
  unfold seqUp
  rw [extractStridedSlice_apply _ _ hs _ (ix3 ⟨r.val / 2176, by omega⟩ ⟨k + r.val % 2176, by omega⟩ l) (fun a => match a with
    | ⟨0, _⟩ => (Nat.zero_add _).symm | ⟨1, _⟩ => rfl | ⟨2, _⟩ => (Nat.zero_add _).symm)]
  by_cases h : k + r.val % 2176 < 3
  · rw [dif_pos h, pad_apply_of_not_inside _ _ _ _ _ _ _ _ 1 (fun q => absurd q.1 (by show ¬ 3 ≤ k + r.val % 2176; omega)), hv]
  · rw [dif_neg h, pad_apply_of_inside _ _ _ _ _ _ _ _ (ix3 ⟨r.val / 2176, by omega⟩ ⟨k + r.val % 2176 - 3, by omega⟩ l) (fun a => match a with
      | ⟨0, _⟩ => by show r.val / 2176 = 0 + r.val / 2176 * (0 + 1); omega
      | ⟨1, _⟩ => by show k + r.val % 2176 = 3 + (k + r.val % 2176 - 3) * (0 + 1); omega
      | ⟨2, _⟩ => by show l.val = 0 + l.val * (0 + 1); omega)]
    refine shapeCast_apply x _ _ _ ?_
    rw [rowMajor_val2 _ n rfl, rowMajor_val3 _ (2176 * n) n rfl rfl]
    show (r.val / 2176 * 2176 + (k + r.val % 2176 - 3)) * n + l.val = r.val / 2176 * (2176 * n) + (k + r.val % 2176 - 3) * n + l.val
    rw [Nat.add_mul, Nat.mul_assoc]

/-- The two sequences laid end to end, at a row. -/
theorem rows (x : FVec Ideal (Seqs 2176 n) .f32) (hc : (Seqs 2176 n).ShapeCasts (Rows 4352 n)) (r : Fin 4352) (l : Fin n) :
    shapeCast (Rows 4352 n) x hc (ix2 r l) = x (ix3 ⟨r.val / 2176, by omega⟩ ⟨r.val % 2176, by omega⟩ l) := by
  refine shapeCast_apply x _ _ _ ?_
  rw [rowMajor_val2 _ n rfl, rowMajor_val3 _ (2176 * n) n rfl rfl]
  show r.val / 2176 * (2176 * n) + r.val % 2176 * n + l.val = r.val * n + l.val
  rw [← Nat.mul_assoc, ← Nat.add_mul]
  congr 2
  omega

/-- A row `s` rows up in the sequence, read through the blocks. -/
theorem up_eq (b z j : Nat) (hb : b < 2) (hz : z < 17) (x : FVec Ideal (Rows 128 w) .f32) (p : FVec Ideal (Rows 8 w) .f32) (X : FVec Ideal (Rows 4352 n) .f32)
    (hx : ∀ (a : Fin 128) (l : Fin w) (R : (Rows 4352 n).Idx), (R 0).val = (b * 17 + z) * 128 + a.val → (R 1).val = j * w + l.val → x (ix2 a l) = X R)
    (hp : ∀ (a : Fin 8) (l : Fin w) (R : (Rows 4352 n).Idx), (R 0).val = ((b * 17 + z) * 16 - 1) * 8 + a.val → (R 1).val = j * w + l.val → p (ix2 a l) = X R)
    (s k : Nat) (hs : s ≤ 3) (hk : k + s = 3) (a : Fin 128) (l : Fin w) (r : Fin 4352) (q : Fin n)
    (h0 : r.val = (b * 17 + z) * 128 + a.val) (h1 : q.val = j * w + l.val) :
    up z x p s hs a l = seqUp X k (by omega) r q := by
  have ha := a.isLt
  have d : r.val / 2176 = b := by omega
  have e : r.val % 2176 = z * 128 + a.val := by omega
  unfold up seqUp
  by_cases c : a.val < s
  · rw [dif_pos c]
    by_cases o : z = 0
    · rw [if_pos o, dif_pos (by omega)]
    · rw [if_neg o, dif_neg (by omega)]
      exact hp _ l _ (by show r.val / 2176 * 2176 + (k + r.val % 2176 - 3) = _ * 8 + (8 + a.val - s); omega) h1
  · rw [dif_neg c, dif_neg (by omega)]
    exact hx _ l _ (by show r.val / 2176 * 2176 + (k + r.val % 2176 - 3) = _ * 128 + (a.val - s); omega) h1

theorem order (a b c d e : Ideal .f32) : a + b + c + d + e = 0 + e + d + c + b + a := by
  rw [zero_add]; ac_rfl

end Cert.Shift

end
-- ==== Proof.MM.Conv.lean ====
/- The causal convolutions over three widths, block by block. -/
module

public import proofs.«01_k».proof.Defs
public import proofs.«01_k».proof.Proof.Gen.Kernel37Ideal.Value
public import proofs.«01_k».proof.Proof.Gen.Reference37Ideal.Run
public import proofs.«01_k».proof.Proof.Gen.Kernel38Ideal.Value
public import proofs.«01_k».proof.Proof.Gen.Reference38Ideal.Run
public import proofs.«01_k».proof.Proof.Gen.Kernel39Ideal.Value
public import proofs.«01_k».proof.Proof.Gen.Reference39Ideal.Run
public import Idealize.ShloMosaic.Lib.Pipeline.ValueKit
public import Idealize.ShloMosaic.Lib.Claim
public import proofs.«01_k».proof.Proof.MM.Shift

@[expose] public section

set_option maxRecDepth 16384

noncomputable section

open Idealize.ShloMosaic Idealize.ShloMosaic.TcCoe Idealize.SL.Sem

namespace Cert.MM37

open Cert.Kernel37Ideal Cert.Kernel37Ideal.Gen

theorem idx : ∀ t : Fin cfg0.N, win0_0.index t = ![(grid0.coords t 1).val * 17 + (grid0.coords t 2).val, (grid0.coords t 0).val] ∧
    win0_1.index t = ![((grid0.coords t 1).val * 17 + (grid0.coords t 2).val) * 16 - 1, (grid0.coords t 0).val] ∧
    win0_2.index t = ![0, (grid0.coords t 0).val] ∧ win0_3.index t = ![0, (grid0.coords t 0).val] ∧
    win0_4.index t = ![(grid0.coords t 1).val * 17 + (grid0.coords t 2).val, (grid0.coords t 0).val] :=
  (by decide +kernel : ∀ t : Fin grid0.N, _)

/-- The block's sum of the four taps, at a row and a lane. -/
theorem out (i : grid0.Coords) (x : Vec Ideal S128x1536 .f32) (p : Vec Ideal S8x1536 .f32) (v : Vec Ideal S4x1536 .f32) (b : Vec Ideal S1x1536 .f32) (a : Fin 128) (l : Fin 1536) :
    k0_pay1 x (k0_pay2 i p) (k0_pay3 i x p b (View.ld v r0_3) (View.ld v r0_4)) (k0_pay4 i x p (View.ld v r0_5)) (View.ld v r0_6) (ix2 a l) =
      b (ix2 0 l) + v (ix2 3 l) * x (ix2 a l) + v (ix2 2 l) * Shift.up (i 2).val x p 1 (by decide) a l +
        v (ix2 1 l) * Shift.up (i 2).val x p 2 (by decide) a l + v (ix2 0 l) * Shift.up (i 2).val x p 3 (by decide) a l := by
  have h j : k0_pay2 i p j = _ := Shift.halo _ (i 2).isLt p j
  have e (s : Nat) (h₁ : 1 ≤ s) (h₂ : s ≤ 3) :=
    Shift.read s h₁ h₂ x (k0_pay2 i p) rotates_S128x1536_d0 rotates_S8x1536_d0 iota_S8x1536_d0_w32 slices_S128x1536_o0_0_S8x1536 slices_S128x1536_o8_0_S120x1536
      concatenates_S8x1536_S120x1536_S128x1536_d0 a l
  simp only [h] at e
  simp only [k0_pay1, k0_pay3, k0_pay4, addf_apply, mulf_apply]
  rw [e 1 (by decide) (by decide), e 2 (by decide) (by decide), e 3 (by decide) (by decide)]
  pointwise
  rfl

theorem w0 (v : FVec Ideal Cert.Reference37Ideal.S4x3072 .f32) (b : Fin 2) (t : Fin 2176) (l : Fin 3072) :
    broadcastInDim Cert.Reference37Ideal.S2x2176x3072 ![0, 1, 2] Cert.Reference37Ideal.Gen.bcast_S1x1x3072_S2x2176x3072_0_1_2
      (broadcastInDim Cert.Reference37Ideal.S1x1x3072 ![2] Cert.Reference37Ideal.Gen.bcast_S3072_S1x1x3072_2
        (shapeCast Cert.Reference37Ideal.S3072 (extractStridedSlice Cert.Reference37Ideal.S1x3072 ![0, 0] v Cert.Reference37Ideal.Gen.slices_S4x3072_S1x3072_0_0) Cert.Reference37Ideal.Gen.shapeCasts_S1x3072_S3072)) (ix3 b t l) = v (ix2 0 l) := by
  pointwise

theorem w1 (v : FVec Ideal Cert.Reference37Ideal.S4x3072 .f32) (b : Fin 2) (t : Fin 2176) (l : Fin 3072) :
    broadcastInDim Cert.Reference37Ideal.S2x2176x3072 ![0, 1, 2] Cert.Reference37Ideal.Gen.bcast_S1x1x3072_S2x2176x3072_0_1_2
      (broadcastInDim Cert.Reference37Ideal.S1x1x3072 ![2] Cert.Reference37Ideal.Gen.bcast_S3072_S1x1x3072_2
        (shapeCast Cert.Reference37Ideal.S3072 (extractStridedSlice Cert.Reference37Ideal.S1x3072 ![1, 0] v Cert.Reference37Ideal.Gen.slices_S4x3072_S1x3072_1_0) Cert.Reference37Ideal.Gen.shapeCasts_S1x3072_S3072)) (ix3 b t l) = v (ix2 1 l) := by
  pointwise

theorem w2 (v : FVec Ideal Cert.Reference37Ideal.S4x3072 .f32) (b : Fin 2) (t : Fin 2176) (l : Fin 3072) :
    broadcastInDim Cert.Reference37Ideal.S2x2176x3072 ![0, 1, 2] Cert.Reference37Ideal.Gen.bcast_S1x1x3072_S2x2176x3072_0_1_2
      (broadcastInDim Cert.Reference37Ideal.S1x1x3072 ![2] Cert.Reference37Ideal.Gen.bcast_S3072_S1x1x3072_2
        (shapeCast Cert.Reference37Ideal.S3072 (extractStridedSlice Cert.Reference37Ideal.S1x3072 ![2, 0] v Cert.Reference37Ideal.Gen.slices_S4x3072_S1x3072_2_0) Cert.Reference37Ideal.Gen.shapeCasts_S1x3072_S3072)) (ix3 b t l) = v (ix2 2 l) := by
  pointwise

theorem w3 (v : FVec Ideal Cert.Reference37Ideal.S4x3072 .f32) (b : Fin 2) (t : Fin 2176) (l : Fin 3072) :
    broadcastInDim Cert.Reference37Ideal.S2x2176x3072 ![0, 1, 2] Cert.Reference37Ideal.Gen.bcast_S1x1x3072_S2x2176x3072_0_1_2
      (broadcastInDim Cert.Reference37Ideal.S1x1x3072 ![2] Cert.Reference37Ideal.Gen.bcast_S3072_S1x1x3072_2
        (shapeCast Cert.Reference37Ideal.S3072 (extractStridedSlice Cert.Reference37Ideal.S1x3072 ![3, 0] v Cert.Reference37Ideal.Gen.slices_S4x3072_S1x3072_3_0) Cert.Reference37Ideal.Gen.shapeCasts_S1x3072_S3072)) (ix3 b t l) = v (ix2 3 l) := by
  pointwise

theorem bias (v : FVec Ideal Cert.Reference37Ideal.S3072 .f32) (b : Fin 2) (t : Fin 2176) (l : Fin 3072) :
    broadcastInDim Cert.Reference37Ideal.S2x2176x3072 ![0, 1, 2] Cert.Reference37Ideal.Gen.bcast_S1x1x3072_S2x2176x3072_0_1_2
      (broadcastInDim Cert.Reference37Ideal.S1x1x3072 ![2] Cert.Reference37Ideal.Gen.bcast_S3072_S1x1x3072_2 v) (ix3 b t l) = v (ix1 l) := by
  pointwise

theorem zero (j : Cert.Reference37Ideal.S2x2176x3072.Idx) :
    broadcastInDim Cert.Reference37Ideal.S2x2176x3072 ![] Cert.Reference37Ideal.Gen.bcast_S_S2x2176x3072 (constant (F := Ideal) Cert.Reference37Ideal.S_ FTy.f32 0#32) j = 0 := by
  pointwise

theorem pad0 : (sitofp .f32 (constantI Cert.Reference37Ideal.S_ 32 0#32) : FVec Ideal Cert.Reference37Ideal.S_ .f32) (Shape.Idx.first Cert.Reference37Ideal.Gen.h_S_) = 0 := by
  show ((BitVec.toInt 0#32 : ℝ) : EReal) = 0
  simp

variable (m : (l : Loc nD τ sig) → Buf (Elt Ideal) l) (c : Dev nD) (t : Fin cfg0.N)

theorem x_at (a : Fin 128) (l : Fin 1536) (R : S4352x3072.Idx) (h0 : (R 0).val = ((grid0.coords t 1).val * 17 + (grid0.coords t 2).val) * 128 + a.val)
    (h1 : (R 1).val = (grid0.coords t 0).val * 1536 + l.val) : iblk m c 0 t (ix2 a l) = m (c.tc.loc main_arg0) R := by
  blk_ext [iblk, V, idx t]

theorem p_at (a : Fin 8) (l : Fin 1536) (R : S4352x3072.Idx) (h0 : (R 0).val = (((grid0.coords t 1).val * 17 + (grid0.coords t 2).val) * 16 - 1) * 8 + a.val)
    (h1 : (R 1).val = (grid0.coords t 0).val * 1536 + l.val) : iblk m c 1 t (ix2 a l) = m (c.tc.loc main_arg0) R := by
  blk_ext [iblk, V, idx t]

theorem w_at (a : Fin 4) (l : Fin 1536) (q : Fin 3072) (h1 : q.val = (grid0.coords t 0).val * 1536 + l.val) :
    iblk m c 2 t (ix2 a l) = m (c.tc.loc main_arg1) (ix2 a q) := by
  blk_ext [iblk, V, idx t]

theorem b_at (l : Fin 1536) (q : Fin 3072) (h1 : q.val = (grid0.coords t 0).val * 1536 + l.val) :
    iblk m c 3 t (ix2 0 l) = m (c.tc.loc main_arg2) (ix1 q) := by
  blk_ext! [iblk, V, idx t]

/-- The four taps of each row and the bias. -/
theorem algebraic : Cert.algebraic_Kernel37Ideal_Reference37Ideal := by
  intro m g m' g' _ hm
  refine ⟨_, Value.run_blocks m g, (θ_run Cert.Reference37Ideal.defs _ _).mono (fun r h c =>
    ⟨(h c).1.trans ?_, (h c).2⟩) (Cert.Reference37Ideal.Value.run m' g')⟩
  rw [(hm c).1, (hm c).2.1, (hm c).2.2]
  refine ((dats m 0 c).arrAt_eq_of_covers 4 _ (by decide +kernel) fun t _ y => ?_).symm
  clear h hm
  blk_simp
  rw [after0_4]
  frame_out
  obtain ⟨a, l, rfl⟩ : ∃ (a : Fin 128) (l : Fin 1536), y = ix2 a l := ⟨y 0, y 1, eq_ix2 y⟩
  refine (out _ _ _ _ _ _ _).trans ?_
  generalize he : ((View.whole main_v1).slice (win0_4.rect t)).emb (ix2 a l) = R
  have h0 : (R 0).val = ((grid0.coords t 1).val * 17 + (grid0.coords t 2).val) * 128 + a.val := by
    rw [← he]; blk_simp [idx t]
  have h1 : (R 1).val = (grid0.coords t 0).val * 1536 + l.val := by
    rw [← he]; blk_simp [idx t]
  obtain ⟨r, q, rfl⟩ : ∃ (r : Fin 4352) (q : Fin 3072), R = ix2 r q := ⟨R 0, R 1, eq_ix2 R⟩
  have u := Shift.up_eq _ _ _ (grid0.coords t 1).isLt (grid0.coords t 2).isLt (iblk m c 0 t) (iblk m c 1 t) (m (c.tc.loc main_arg0)) (x_at m c t) (p_at m c t)
  have k := Shift.tap _ Cert.Reference37Ideal.Gen.h_S_ pad0 (m (c.tc.loc main_arg0)) Cert.Reference37Ideal.Gen.shapeCasts_S4352x3072_S2x2176x3072 Cert.Reference37Ideal.Gen.pads_S2x2176x3072_S2x2179x3072_000_300_000
  rw [Shift.rows]
  simp only [addf_apply, mulf_apply, Ideal.addf_def, Ideal.mulf_def]
  rw [zero, w0, w1, w2, w3, bias, k 0 (by decide), k 1 (by decide), k 2 (by decide), k 3 (by decide), Shift.seqUp_self,
    u 1 2 _ rfl a l r q h0 h1, u 2 1 _ rfl a l r q h0 h1, u 3 0 _ rfl a l r q h0 h1, x_at m c t a l (ix2 r q) h0 h1, b_at m c t l q h1,
    w_at m c t 3 l q h1, w_at m c t 2 l q h1, w_at m c t 1 l q h1, w_at m c t 0 l q h1]
  exact Shift.order _ _ _ _ _

end Cert.MM37

namespace Cert.MM38

open Cert.Kernel38Ideal Cert.Kernel38Ideal.Gen

theorem idx : ∀ t : Fin cfg0.N, win0_0.index t = ![(grid0.coords t 1).val * 17 + (grid0.coords t 2).val, (grid0.coords t 0).val] ∧
    win0_1.index t = ![((grid0.coords t 1).val * 17 + (grid0.coords t 2).val) * 16 - 1, (grid0.coords t 0).val] ∧
    win0_2.index t = ![0, (grid0.coords t 0).val] ∧ win0_3.index t = ![0, (grid0.coords t 0).val] ∧
    win0_4.index t = ![(grid0.coords t 1).val * 17 + (grid0.coords t 2).val, (grid0.coords t 0).val] :=
  (by decide +kernel : ∀ t : Fin grid0.N, _)

/-- The block's sum of the four taps, at a row and a lane. -/
theorem out (i : grid0.Coords) (x : Vec Ideal S128x2048 .f32) (p : Vec Ideal S8x2048 .f32) (v : Vec Ideal S4x2048 .f32) (b : Vec Ideal S1x2048 .f32) (a : Fin 128) (l : Fin 2048) :
    k0_pay1 x (k0_pay2 i p) (k0_pay3 i x p b (View.ld v r0_3) (View.ld v r0_4)) (k0_pay4 i x p (View.ld v r0_5)) (View.ld v r0_6) (ix2 a l) =
      b (ix2 0 l) + v (ix2 3 l) * x (ix2 a l) + v (ix2 2 l) * Shift.up (i 2).val x p 1 (by decide) a l +
        v (ix2 1 l) * Shift.up (i 2).val x p 2 (by decide) a l + v (ix2 0 l) * Shift.up (i 2).val x p 3 (by decide) a l := by
  have h j : k0_pay2 i p j = _ := Shift.halo _ (i 2).isLt p j
  have e (s : Nat) (h₁ : 1 ≤ s) (h₂ : s ≤ 3) :=
    Shift.read s h₁ h₂ x (k0_pay2 i p) rotates_S128x2048_d0 rotates_S8x2048_d0 iota_S8x2048_d0_w32 slices_S128x2048_o0_0_S8x2048 slices_S128x2048_o8_0_S120x2048
      concatenates_S8x2048_S120x2048_S128x2048_d0 a l
  simp only [h] at e
  simp only [k0_pay1, k0_pay3, k0_pay4, addf_apply, mulf_apply]
  rw [e 1 (by decide) (by decide), e 2 (by decide) (by decide), e 3 (by decide) (by decide)]
  pointwise
  rfl

theorem w0 (v : FVec Ideal Cert.Reference38Ideal.S4x4096 .f32) (b : Fin 2) (t : Fin 2176) (l : Fin 4096) :
    broadcastInDim Cert.Reference38Ideal.S2x2176x4096 ![0, 1, 2] Cert.Reference38Ideal.Gen.bcast_S1x1x4096_S2x2176x4096_0_1_2
      (broadcastInDim Cert.Reference38Ideal.S1x1x4096 ![2] Cert.Reference38Ideal.Gen.bcast_S4096_S1x1x4096_2
        (shapeCast Cert.Reference38Ideal.S4096 (extractStridedSlice Cert.Reference38Ideal.S1x4096 ![0, 0] v Cert.Reference38Ideal.Gen.slices_S4x4096_S1x4096_0_0) Cert.Reference38Ideal.Gen.shapeCasts_S1x4096_S4096)) (ix3 b t l) = v (ix2 0 l) := by
  pointwise

theorem w1 (v : FVec Ideal Cert.Reference38Ideal.S4x4096 .f32) (b : Fin 2) (t : Fin 2176) (l : Fin 4096) :
    broadcastInDim Cert.Reference38Ideal.S2x2176x4096 ![0, 1, 2] Cert.Reference38Ideal.Gen.bcast_S1x1x4096_S2x2176x4096_0_1_2
      (broadcastInDim Cert.Reference38Ideal.S1x1x4096 ![2] Cert.Reference38Ideal.Gen.bcast_S4096_S1x1x4096_2
        (shapeCast Cert.Reference38Ideal.S4096 (extractStridedSlice Cert.Reference38Ideal.S1x4096 ![1, 0] v Cert.Reference38Ideal.Gen.slices_S4x4096_S1x4096_1_0) Cert.Reference38Ideal.Gen.shapeCasts_S1x4096_S4096)) (ix3 b t l) = v (ix2 1 l) := by
  pointwise

theorem w2 (v : FVec Ideal Cert.Reference38Ideal.S4x4096 .f32) (b : Fin 2) (t : Fin 2176) (l : Fin 4096) :
    broadcastInDim Cert.Reference38Ideal.S2x2176x4096 ![0, 1, 2] Cert.Reference38Ideal.Gen.bcast_S1x1x4096_S2x2176x4096_0_1_2
      (broadcastInDim Cert.Reference38Ideal.S1x1x4096 ![2] Cert.Reference38Ideal.Gen.bcast_S4096_S1x1x4096_2
        (shapeCast Cert.Reference38Ideal.S4096 (extractStridedSlice Cert.Reference38Ideal.S1x4096 ![2, 0] v Cert.Reference38Ideal.Gen.slices_S4x4096_S1x4096_2_0) Cert.Reference38Ideal.Gen.shapeCasts_S1x4096_S4096)) (ix3 b t l) = v (ix2 2 l) := by
  pointwise

theorem w3 (v : FVec Ideal Cert.Reference38Ideal.S4x4096 .f32) (b : Fin 2) (t : Fin 2176) (l : Fin 4096) :
    broadcastInDim Cert.Reference38Ideal.S2x2176x4096 ![0, 1, 2] Cert.Reference38Ideal.Gen.bcast_S1x1x4096_S2x2176x4096_0_1_2
      (broadcastInDim Cert.Reference38Ideal.S1x1x4096 ![2] Cert.Reference38Ideal.Gen.bcast_S4096_S1x1x4096_2
        (shapeCast Cert.Reference38Ideal.S4096 (extractStridedSlice Cert.Reference38Ideal.S1x4096 ![3, 0] v Cert.Reference38Ideal.Gen.slices_S4x4096_S1x4096_3_0) Cert.Reference38Ideal.Gen.shapeCasts_S1x4096_S4096)) (ix3 b t l) = v (ix2 3 l) := by
  pointwise

theorem bias (v : FVec Ideal Cert.Reference38Ideal.S4096 .f32) (b : Fin 2) (t : Fin 2176) (l : Fin 4096) :
    broadcastInDim Cert.Reference38Ideal.S2x2176x4096 ![0, 1, 2] Cert.Reference38Ideal.Gen.bcast_S1x1x4096_S2x2176x4096_0_1_2
      (broadcastInDim Cert.Reference38Ideal.S1x1x4096 ![2] Cert.Reference38Ideal.Gen.bcast_S4096_S1x1x4096_2 v) (ix3 b t l) = v (ix1 l) := by
  pointwise

theorem zero (j : Cert.Reference38Ideal.S2x2176x4096.Idx) :
    broadcastInDim Cert.Reference38Ideal.S2x2176x4096 ![] Cert.Reference38Ideal.Gen.bcast_S_S2x2176x4096 (constant (F := Ideal) Cert.Reference38Ideal.S_ FTy.f32 0#32) j = 0 := by
  pointwise

theorem pad0 : (sitofp .f32 (constantI Cert.Reference38Ideal.S_ 32 0#32) : FVec Ideal Cert.Reference38Ideal.S_ .f32) (Shape.Idx.first Cert.Reference38Ideal.Gen.h_S_) = 0 := by
  show ((BitVec.toInt 0#32 : ℝ) : EReal) = 0
  simp

variable (m : (l : Loc nD τ sig) → Buf (Elt Ideal) l) (c : Dev nD) (t : Fin cfg0.N)

theorem x_at (a : Fin 128) (l : Fin 2048) (R : S4352x4096.Idx) (h0 : (R 0).val = ((grid0.coords t 1).val * 17 + (grid0.coords t 2).val) * 128 + a.val)
    (h1 : (R 1).val = (grid0.coords t 0).val * 2048 + l.val) : iblk m c 0 t (ix2 a l) = m (c.tc.loc main_arg0) R := by
  blk_ext [iblk, V, idx t]

theorem p_at (a : Fin 8) (l : Fin 2048) (R : S4352x4096.Idx) (h0 : (R 0).val = (((grid0.coords t 1).val * 17 + (grid0.coords t 2).val) * 16 - 1) * 8 + a.val)
    (h1 : (R 1).val = (grid0.coords t 0).val * 2048 + l.val) : iblk m c 1 t (ix2 a l) = m (c.tc.loc main_arg0) R := by
  blk_ext [iblk, V, idx t]

theorem w_at (a : Fin 4) (l : Fin 2048) (q : Fin 4096) (h1 : q.val = (grid0.coords t 0).val * 2048 + l.val) :
    iblk m c 2 t (ix2 a l) = m (c.tc.loc main_arg1) (ix2 a q) := by
  blk_ext [iblk, V, idx t]

theorem b_at (l : Fin 2048) (q : Fin 4096) (h1 : q.val = (grid0.coords t 0).val * 2048 + l.val) :
    iblk m c 3 t (ix2 0 l) = m (c.tc.loc main_arg2) (ix1 q) := by
  blk_ext! [iblk, V, idx t]

/-- The four taps of each row and the bias. -/
theorem algebraic : Cert.algebraic_Kernel38Ideal_Reference38Ideal := by
  intro m g m' g' _ hm
  refine ⟨_, Value.run_blocks m g, (θ_run Cert.Reference38Ideal.defs _ _).mono (fun r h c =>
    ⟨(h c).1.trans ?_, (h c).2⟩) (Cert.Reference38Ideal.Value.run m' g')⟩
  rw [(hm c).1, (hm c).2.1, (hm c).2.2]
  refine ((dats m 0 c).arrAt_eq_of_covers 4 _ (by decide +kernel) fun t _ y => ?_).symm
  clear h hm
  blk_simp
  rw [after0_4]
  frame_out
  obtain ⟨a, l, rfl⟩ : ∃ (a : Fin 128) (l : Fin 2048), y = ix2 a l := ⟨y 0, y 1, eq_ix2 y⟩
  refine (out _ _ _ _ _ _ _).trans ?_
  generalize he : ((View.whole main_v1).slice (win0_4.rect t)).emb (ix2 a l) = R
  have h0 : (R 0).val = ((grid0.coords t 1).val * 17 + (grid0.coords t 2).val) * 128 + a.val := by
    rw [← he]; blk_simp [idx t]
  have h1 : (R 1).val = (grid0.coords t 0).val * 2048 + l.val := by
    rw [← he]; blk_simp [idx t]
  obtain ⟨r, q, rfl⟩ : ∃ (r : Fin 4352) (q : Fin 4096), R = ix2 r q := ⟨R 0, R 1, eq_ix2 R⟩
  have u := Shift.up_eq _ _ _ (grid0.coords t 1).isLt (grid0.coords t 2).isLt (iblk m c 0 t) (iblk m c 1 t) (m (c.tc.loc main_arg0)) (x_at m c t) (p_at m c t)
  have k := Shift.tap _ Cert.Reference38Ideal.Gen.h_S_ pad0 (m (c.tc.loc main_arg0)) Cert.Reference38Ideal.Gen.shapeCasts_S4352x4096_S2x2176x4096 Cert.Reference38Ideal.Gen.pads_S2x2176x4096_S2x2179x4096_000_300_000
  rw [Shift.rows]
  simp only [addf_apply, mulf_apply, Ideal.addf_def, Ideal.mulf_def]
  rw [zero, w0, w1, w2, w3, bias, k 0 (by decide), k 1 (by decide), k 2 (by decide), k 3 (by decide), Shift.seqUp_self,
    u 1 2 _ rfl a l r q h0 h1, u 2 1 _ rfl a l r q h0 h1, u 3 0 _ rfl a l r q h0 h1, x_at m c t a l (ix2 r q) h0 h1, b_at m c t l q h1,
    w_at m c t 3 l q h1, w_at m c t 2 l q h1, w_at m c t 1 l q h1, w_at m c t 0 l q h1]
  exact Shift.order _ _ _ _ _

end Cert.MM38

namespace Cert.MM39

open Cert.Kernel39Ideal Cert.Kernel39Ideal.Gen

theorem idx : ∀ t : Fin cfg0.N, win0_0.index t = ![(grid0.coords t 1).val * 17 + (grid0.coords t 2).val, (grid0.coords t 0).val] ∧
    win0_1.index t = ![((grid0.coords t 1).val * 17 + (grid0.coords t 2).val) * 16 - 1, (grid0.coords t 0).val] ∧
    win0_2.index t = ![0, (grid0.coords t 0).val] ∧ win0_3.index t = ![0, (grid0.coords t 0).val] ∧
    win0_4.index t = ![(grid0.coords t 1).val * 17 + (grid0.coords t 2).val, (grid0.coords t 0).val] :=
  (by decide +kernel : ∀ t : Fin grid0.N, _)

/-- The block's sum of the four taps, at a row and a lane. -/
theorem out (i : grid0.Coords) (x : Vec Ideal S128x1024 .f32) (p : Vec Ideal S8x1024 .f32) (v : Vec Ideal S4x1024 .f32) (b : Vec Ideal S1x1024 .f32) (a : Fin 128) (l : Fin 1024) :
    k0_pay1 x (k0_pay2 i p) (k0_pay3 i x p b (View.ld v r0_3) (View.ld v r0_4)) (k0_pay4 i x p (View.ld v r0_5)) (View.ld v r0_6) (ix2 a l) =
      b (ix2 0 l) + v (ix2 3 l) * x (ix2 a l) + v (ix2 2 l) * Shift.up (i 2).val x p 1 (by decide) a l +
        v (ix2 1 l) * Shift.up (i 2).val x p 2 (by decide) a l + v (ix2 0 l) * Shift.up (i 2).val x p 3 (by decide) a l := by
  have h j : k0_pay2 i p j = _ := Shift.halo _ (i 2).isLt p j
  have e (s : Nat) (h₁ : 1 ≤ s) (h₂ : s ≤ 3) :=
    Shift.read s h₁ h₂ x (k0_pay2 i p) rotates_S128x1024_d0 rotates_S8x1024_d0 iota_S8x1024_d0_w32 slices_S128x1024_o0_0_S8x1024 slices_S128x1024_o8_0_S120x1024
      concatenates_S8x1024_S120x1024_S128x1024_d0 a l
  simp only [h] at e
  simp only [k0_pay1, k0_pay3, k0_pay4, addf_apply, mulf_apply]
  rw [e 1 (by decide) (by decide), e 2 (by decide) (by decide), e 3 (by decide) (by decide)]
  pointwise
  rfl

theorem w0 (v : FVec Ideal Cert.Reference39Ideal.S4x1024 .f32) (b : Fin 2) (t : Fin 2176) (l : Fin 1024) :
    broadcastInDim Cert.Reference39Ideal.S2x2176x1024 ![0, 1, 2] Cert.Reference39Ideal.Gen.bcast_S1x1x1024_S2x2176x1024_0_1_2
      (broadcastInDim Cert.Reference39Ideal.S1x1x1024 ![2] Cert.Reference39Ideal.Gen.bcast_S1024_S1x1x1024_2
        (shapeCast Cert.Reference39Ideal.S1024 (extractStridedSlice Cert.Reference39Ideal.S1x1024 ![0, 0] v Cert.Reference39Ideal.Gen.slices_S4x1024_S1x1024_0_0) Cert.Reference39Ideal.Gen.shapeCasts_S1x1024_S1024)) (ix3 b t l) = v (ix2 0 l) := by
  pointwise

theorem w1 (v : FVec Ideal Cert.Reference39Ideal.S4x1024 .f32) (b : Fin 2) (t : Fin 2176) (l : Fin 1024) :
    broadcastInDim Cert.Reference39Ideal.S2x2176x1024 ![0, 1, 2] Cert.Reference39Ideal.Gen.bcast_S1x1x1024_S2x2176x1024_0_1_2
      (broadcastInDim Cert.Reference39Ideal.S1x1x1024 ![2] Cert.Reference39Ideal.Gen.bcast_S1024_S1x1x1024_2
        (shapeCast Cert.Reference39Ideal.S1024 (extractStridedSlice Cert.Reference39Ideal.S1x1024 ![1, 0] v Cert.Reference39Ideal.Gen.slices_S4x1024_S1x1024_1_0) Cert.Reference39Ideal.Gen.shapeCasts_S1x1024_S1024)) (ix3 b t l) = v (ix2 1 l) := by
  pointwise

theorem w2 (v : FVec Ideal Cert.Reference39Ideal.S4x1024 .f32) (b : Fin 2) (t : Fin 2176) (l : Fin 1024) :
    broadcastInDim Cert.Reference39Ideal.S2x2176x1024 ![0, 1, 2] Cert.Reference39Ideal.Gen.bcast_S1x1x1024_S2x2176x1024_0_1_2
      (broadcastInDim Cert.Reference39Ideal.S1x1x1024 ![2] Cert.Reference39Ideal.Gen.bcast_S1024_S1x1x1024_2
        (shapeCast Cert.Reference39Ideal.S1024 (extractStridedSlice Cert.Reference39Ideal.S1x1024 ![2, 0] v Cert.Reference39Ideal.Gen.slices_S4x1024_S1x1024_2_0) Cert.Reference39Ideal.Gen.shapeCasts_S1x1024_S1024)) (ix3 b t l) = v (ix2 2 l) := by
  pointwise

theorem w3 (v : FVec Ideal Cert.Reference39Ideal.S4x1024 .f32) (b : Fin 2) (t : Fin 2176) (l : Fin 1024) :
    broadcastInDim Cert.Reference39Ideal.S2x2176x1024 ![0, 1, 2] Cert.Reference39Ideal.Gen.bcast_S1x1x1024_S2x2176x1024_0_1_2
      (broadcastInDim Cert.Reference39Ideal.S1x1x1024 ![2] Cert.Reference39Ideal.Gen.bcast_S1024_S1x1x1024_2
        (shapeCast Cert.Reference39Ideal.S1024 (extractStridedSlice Cert.Reference39Ideal.S1x1024 ![3, 0] v Cert.Reference39Ideal.Gen.slices_S4x1024_S1x1024_3_0) Cert.Reference39Ideal.Gen.shapeCasts_S1x1024_S1024)) (ix3 b t l) = v (ix2 3 l) := by
  pointwise

theorem bias (v : FVec Ideal Cert.Reference39Ideal.S1024 .f32) (b : Fin 2) (t : Fin 2176) (l : Fin 1024) :
    broadcastInDim Cert.Reference39Ideal.S2x2176x1024 ![0, 1, 2] Cert.Reference39Ideal.Gen.bcast_S1x1x1024_S2x2176x1024_0_1_2
      (broadcastInDim Cert.Reference39Ideal.S1x1x1024 ![2] Cert.Reference39Ideal.Gen.bcast_S1024_S1x1x1024_2 v) (ix3 b t l) = v (ix1 l) := by
  pointwise

theorem zero (j : Cert.Reference39Ideal.S2x2176x1024.Idx) :
    broadcastInDim Cert.Reference39Ideal.S2x2176x1024 ![] Cert.Reference39Ideal.Gen.bcast_S_S2x2176x1024 (constant (F := Ideal) Cert.Reference39Ideal.S_ FTy.f32 0#32) j = 0 := by
  pointwise

theorem pad0 : (sitofp .f32 (constantI Cert.Reference39Ideal.S_ 32 0#32) : FVec Ideal Cert.Reference39Ideal.S_ .f32) (Shape.Idx.first Cert.Reference39Ideal.Gen.h_S_) = 0 := by
  show ((BitVec.toInt 0#32 : ℝ) : EReal) = 0
  simp

variable (m : (l : Loc nD τ sig) → Buf (Elt Ideal) l) (c : Dev nD) (t : Fin cfg0.N)

theorem x_at (a : Fin 128) (l : Fin 1024) (R : S4352x1024.Idx) (h0 : (R 0).val = ((grid0.coords t 1).val * 17 + (grid0.coords t 2).val) * 128 + a.val)
    (h1 : (R 1).val = (grid0.coords t 0).val * 1024 + l.val) : iblk m c 0 t (ix2 a l) = m (c.tc.loc main_arg0) R := by
  blk_ext [iblk, V, idx t]

theorem p_at (a : Fin 8) (l : Fin 1024) (R : S4352x1024.Idx) (h0 : (R 0).val = (((grid0.coords t 1).val * 17 + (grid0.coords t 2).val) * 16 - 1) * 8 + a.val)
    (h1 : (R 1).val = (grid0.coords t 0).val * 1024 + l.val) : iblk m c 1 t (ix2 a l) = m (c.tc.loc main_arg0) R := by
  blk_ext [iblk, V, idx t]

theorem w_at (a : Fin 4) (l : Fin 1024) (q : Fin 1024) (h1 : q.val = (grid0.coords t 0).val * 1024 + l.val) :
    iblk m c 2 t (ix2 a l) = m (c.tc.loc main_arg1) (ix2 a q) := by
  blk_ext [iblk, V, idx t]

theorem b_at (l : Fin 1024) (q : Fin 1024) (h1 : q.val = (grid0.coords t 0).val * 1024 + l.val) :
    iblk m c 3 t (ix2 0 l) = m (c.tc.loc main_arg2) (ix1 q) := by
  blk_ext! [iblk, V, idx t]

/-- The four taps of each row and the bias. -/
theorem algebraic : Cert.algebraic_Kernel39Ideal_Reference39Ideal := by
  intro m g m' g' _ hm
  refine ⟨_, Value.run_blocks m g, (θ_run Cert.Reference39Ideal.defs _ _).mono (fun r h c =>
    ⟨(h c).1.trans ?_, (h c).2⟩) (Cert.Reference39Ideal.Value.run m' g')⟩
  rw [(hm c).1, (hm c).2.1, (hm c).2.2]
  refine ((dats m 0 c).arrAt_eq_of_covers 4 _ (by decide +kernel) fun t _ y => ?_).symm
  clear h hm
  blk_simp
  rw [after0_4]
  frame_out
  obtain ⟨a, l, rfl⟩ : ∃ (a : Fin 128) (l : Fin 1024), y = ix2 a l := ⟨y 0, y 1, eq_ix2 y⟩
  refine (out _ _ _ _ _ _ _).trans ?_
  generalize he : ((View.whole main_v1).slice (win0_4.rect t)).emb (ix2 a l) = R
  have h0 : (R 0).val = ((grid0.coords t 1).val * 17 + (grid0.coords t 2).val) * 128 + a.val := by
    rw [← he]; blk_simp [idx t]
  have h1 : (R 1).val = (grid0.coords t 0).val * 1024 + l.val := by
    rw [← he]; blk_simp [idx t]
  obtain ⟨r, q, rfl⟩ : ∃ (r : Fin 4352) (q : Fin 1024), R = ix2 r q := ⟨R 0, R 1, eq_ix2 R⟩
  have u := Shift.up_eq _ _ _ (grid0.coords t 1).isLt (grid0.coords t 2).isLt (iblk m c 0 t) (iblk m c 1 t) (m (c.tc.loc main_arg0)) (x_at m c t) (p_at m c t)
  have k := Shift.tap _ Cert.Reference39Ideal.Gen.h_S_ pad0 (m (c.tc.loc main_arg0)) Cert.Reference39Ideal.Gen.shapeCasts_S4352x1024_S2x2176x1024 Cert.Reference39Ideal.Gen.pads_S2x2176x1024_S2x2179x1024_000_300_000
  rw [Shift.rows]
  simp only [addf_apply, mulf_apply, Ideal.addf_def, Ideal.mulf_def]
  rw [zero, w0, w1, w2, w3, bias, k 0 (by decide), k 1 (by decide), k 2 (by decide), k 3 (by decide), Shift.seqUp_self,
    u 1 2 _ rfl a l r q h0 h1, u 2 1 _ rfl a l r q h0 h1, u 3 0 _ rfl a l r q h0 h1, x_at m c t a l (ix2 r q) h0 h1, b_at m c t l q h1,
    w_at m c t 3 l q h1, w_at m c t 2 l q h1, w_at m c t 1 l q h1, w_at m c t 0 l q h1]
  exact Shift.order _ _ _ _ _

end Cert.MM39

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.S5.Other
public import proofs.«01_k».proof.Proof.S5.Frame
public import proofs.«01_k».proof.Proof.S5.Value
public import proofs.«01_k».proof.Proof.S5.KVal
public import proofs.«01_k».proof.Proof.S5.RRun
public import proofs.«01_k».proof.Proof.S5.Fin
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel38.Frame
public import proofs.«01_k».proof.Proof.Gen.Kernel39.Frame
public import proofs.«01_k».proof.Proof.MM.Act
public import proofs.«01_k».proof.Proof.MM.Wgt
public import proofs.«01_k».proof.Proof.MM.Fwd
public import proofs.«01_k».proof.Proof.MM.Slab
public import proofs.«01_k».proof.Proof.MM.Act2
public import proofs.«01_k».proof.Proof.MM.Wgt2
public import proofs.«01_k».proof.Proof.MM.Fwd2
public import proofs.«01_k».proof.Proof.MM.Slab2
public import proofs.«01_k».proof.Proof.MM.Opt29
public import proofs.«01_k».proof.Proof.MM.Opt30
public import proofs.«01_k».proof.Proof.MM.Opt31
public import proofs.«01_k».proof.Proof.MM.Opt32
public import proofs.«01_k».proof.Proof.MM.Opt33
public import proofs.«01_k».proof.Proof.MM.Opt34
public import proofs.«01_k».proof.Proof.MM.Norm
public import proofs.«01_k».proof.Proof.MM.Gate
public import proofs.«01_k».proof.Proof.MM.Conv

@[expose] public section

set_option maxRecDepth 16384
set_option maxHeartbeats 1600000

noncomputable section

namespace Cert.Proof

open Idealize.ShloMosaic Idealize.SL.Sem

/-- The numbers of the arguments on device `c`. -/
abbrev In (m : (ℓ : Loc Cert.KernelIdeal.nD Cert.KernelIdeal.τ Cert.KernelIdeal.sig) → Buf (Elt Ideal) ℓ) (c : Dev Cert.KernelIdeal.nD) : Cert.S5.In :=
  Cert.S5.nums (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) (m (c.tc.loc Cert.KernelIdeal.main_arg9)) (m (c.tc.loc Cert.KernelIdeal.main_arg10)) (m (c.tc.loc Cert.KernelIdeal.main_arg11))

theorem holds (m : (ℓ : Loc Cert.KernelIdeal.nD Cert.KernelIdeal.τ Cert.KernelIdeal.sig) → Buf (Elt Ideal) ℓ) (hp : Cert.Pre_KernelIdeal_finite m) (c : Dev Cert.KernelIdeal.nD) :
    Cert.S5.Holds (In m c) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) (m (c.tc.loc Cert.KernelIdeal.main_arg9)) (m (c.tc.loc Cert.KernelIdeal.main_arg10)) (m (c.tc.loc Cert.KernelIdeal.main_arg11)) := by
  obtain ⟨h0, h1, h2, h3, h4, h5, h6, h7, h8, h9, h10, h11⟩ := hp c
  exact Cert.S5.holds _ _ _ _ _ _ _ _ _ _ _ _ (Prod.ext h0 (Prod.ext h1 (Prod.ext h2 (Prod.ext h3 (Prod.ext h4 (Prod.ext h5
    (Prod.ext h6 (Prod.ext h7 (Prod.ext h8 (Prod.ext h9 (Prod.ext h10 h11)))))))))))

/-- The two programs end with equal results. -/
theorem algebraic : Cert.algebraic_KernelIdeal_ReferenceIdeal_pre_finite := by
  intro m g m' g' hp hm
  have hK := fun c => holds m hp c
  have hR : ∀ c : Dev Cert.KernelIdeal.nD, Cert.S5.Holds (In m c) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) (m' (c.tc.loc Cert.ReferenceIdeal.main_arg9)) (m' (c.tc.loc Cert.ReferenceIdeal.main_arg10)) (m' (c.tc.loc Cert.ReferenceIdeal.main_arg11)) := fun c => by
    obtain ⟨e0, e1, e2, e3, e4, e5, e6, e7, e8, e9, e10, e11⟩ := hm c
    exact Cert.S5.holds_of_eq e0 e1 e2 e3 e4 e5 e6 e7 e8 e9 e10 e11 (hK c)
  refine ⟨fun c => (Cert.KernelIdeal.Gen.dats m 0 c).arrAt 16 Cert.KernelIdeal.cfg0.N,
    fun c => (Cert.KernelIdeal.Gen.dats m 0 c).arrAt 17 Cert.KernelIdeal.cfg0.N,
    fun c => (Cert.KernelIdeal.Gen.dats m 0 c).arrAt 18 Cert.KernelIdeal.cfg0.N,
    fun c => (Cert.KernelIdeal.Gen.dats m 0 c).arrAt 19 Cert.KernelIdeal.cfg0.N,
    fun c => (Cert.KernelIdeal.Gen.dats m 0 c).arrAt 20 Cert.KernelIdeal.cfg0.N,
    fun c => (Cert.KernelIdeal.Gen.dats m 0 c).arrAt 21 Cert.KernelIdeal.cfg0.N,
    fun c => (Cert.KernelIdeal.Gen.dats m 0 c).arrAt 22 Cert.KernelIdeal.cfg0.N,
    fun c => (Cert.KernelIdeal.Gen.dats m 0 c).arrAt 23 Cert.KernelIdeal.cfg0.N,
    Cert.KernelIdeal.Value.run_blocks m g,
    (θ_run Cert.ReferenceIdeal.defs _ _).mono (fun r h c => ⟨(h c Cert.ReferenceIdeal.main_v135 rfl).trans ((Cert.ReferenceIdeal.S5.r_du m' c (hR c)).trans (Cert.KernelIdeal.S5.arr16 m c (hK c)).symm),
      (h c Cert.ReferenceIdeal.main_v136 rfl).trans ((Cert.ReferenceIdeal.S5.r_dd m' c (hR c)).trans (Cert.KernelIdeal.S5.arr17 m c (hK c)).symm),
      (h c Cert.ReferenceIdeal.main_v70 rfl).trans ((Cert.ReferenceIdeal.S5.r_dwcr m' c (hR c)).trans (Cert.KernelIdeal.S5.arr18 m c (hK c)).symm),
      (h c Cert.ReferenceIdeal.main_v65 rfl).trans ((Cert.ReferenceIdeal.S5.r_dwci m' c (hR c)).trans (Cert.KernelIdeal.S5.arr19 m c (hK c)).symm),
      (h c Cert.ReferenceIdeal.main_v132 rfl).trans ((Cert.ReferenceIdeal.S5.r_dwbr m' c (hR c)).trans (Cert.KernelIdeal.S5.arr20 m c (hK c)).symm),
      (h c Cert.ReferenceIdeal.main_v126 rfl).trans ((Cert.ReferenceIdeal.S5.r_dwbi m' c (hR c)).trans (Cert.KernelIdeal.S5.arr21 m c (hK c)).symm),
      (h c Cert.ReferenceIdeal.main_v137 rfl).trans ((Cert.ReferenceIdeal.S5.r_dar m' c (hR c)).trans (Cert.KernelIdeal.S5.arr22 m c (hK c)).symm),
      (h c Cert.ReferenceIdeal.main_v138 rfl).trans ((Cert.ReferenceIdeal.S5.r_dai m' c (hR c)).trans (Cert.KernelIdeal.S5.arr23 m c (hK c)).symm),
      Cert.ReferenceIdeal.S5.kept m' r.2 c h⟩) (Cert.ReferenceIdeal.Value.run_fold m' g')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.S5.pre_facts,
  Cert.S5.frame_kernel,
  fun m ρ _ => Cert.KernelIdeal.Gen.frame m ρ,
  fun m ρ _ => Cert.KernelIdeal.Gen.frame m ρ,
  fun m ρ _ => Cert.ReferenceIdeal.S5.frame m ρ,
  fun m ρ _ => Cert.ReferenceIdeal.S5.frame m ρ,
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems rfl r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems rfl r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2, sem_eq_zero_of_no_sems rfl r.2⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono (fun r h => ⟨fun c => (h c).2, sem_eq_zero_of_no_sems rfl r.2⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono (fun r h => ⟨fun c => (h c).2, sem_eq_zero_of_no_sems rfl r.2⟩) (Cert.Reference6Ideal.Value.run m ρ),
  fun m ρ _ => Cert.Kernel7.Gen.frame m ρ,
  fun m ρ _ => Cert.Kernel7Ideal.Gen.frame m ρ,
  fun m ρ _ => (θ_run Cert.Reference7Ideal.defs _ _).mono (fun r h => ⟨fun c => (h c).2, sem_eq_zero_of_no_sems rfl r.2⟩) (Cert.Reference7Ideal.Value.run m ρ),
  fun m ρ _ => Cert.Kernel8.Gen.frame m ρ,
  fun m ρ _ => Cert.Kernel8Ideal.Gen.frame m ρ,
  fun m ρ _ => (θ_run Cert.Reference8Ideal.defs _ _).mono (fun r h => ⟨fun c => (h c).2, sem_eq_zero_of_no_sems rfl r.2⟩) (Cert.Reference8Ideal.Value.run m ρ),
  fun m ρ _ => Cert.Kernel9.Gen.frame m ρ,
  fun m ρ _ => Cert.Kernel9Ideal.Gen.frame m ρ,
  fun m ρ _ => (θ_run Cert.Reference9Ideal.defs _ _).mono (fun r h => ⟨fun c => (h c).2, sem_eq_zero_of_no_sems rfl r.2⟩) (Cert.Reference9Ideal.Value.run m ρ),
  fun m ρ _ => Cert.Kernel10.Gen.frame m ρ,
  fun m ρ _ => Cert.Kernel10Ideal.Gen.frame m ρ,
  fun m ρ _ => (θ_run Cert.Reference10Ideal.defs _ _).mono (fun r h => ⟨fun c => (h c).2, sem_eq_zero_of_no_sems rfl r.2⟩) (Cert.Reference10Ideal.Value.run m ρ),
  fun m ρ _ => Cert.Kernel11.Gen.frame m ρ,
  fun m ρ _ => Cert.Kernel11Ideal.Gen.frame m ρ,
  fun m ρ _ => (θ_run Cert.Reference11Ideal.defs _ _).mono (fun r h => ⟨fun c => (h c).2, sem_eq_zero_of_no_sems rfl r.2⟩) (Cert.Reference11Ideal.Value.run m ρ),
  fun m ρ _ => Cert.Kernel12.Gen.frame m ρ,
  fun m ρ _ => Cert.Kernel12Ideal.Gen.frame m ρ,
  fun m ρ _ => (θ_run Cert.Reference12Ideal.defs _ _).mono (fun r h => ⟨fun c => (h c).2, sem_eq_zero_of_no_sems rfl r.2⟩) (Cert.Reference12Ideal.Value.run m ρ),
  fun m ρ _ => Cert.Kernel13.Gen.frame m ρ,
  fun m ρ _ => Cert.Kernel13Ideal.Gen.frame m ρ,
  fun m ρ _ => (θ_run Cert.Reference13Ideal.defs _ _).mono (fun r h => ⟨fun c => (h c).2, sem_eq_zero_of_no_sems rfl r.2⟩) (Cert.Reference13Ideal.Value.run m ρ),
  fun m ρ _ => Cert.Kernel14.Gen.frame m ρ,
  fun m ρ _ => Cert.Kernel14Ideal.Gen.frame m ρ,
  fun m ρ _ => (θ_run Cert.Reference14Ideal.defs _ _).mono (fun r h => ⟨fun c => (h c).2, sem_eq_zero_of_no_sems rfl r.2⟩) (Cert.Reference14Ideal.Value.run m ρ),
  fun m ρ _ => Cert.Kernel15.Gen.frame m ρ,
  fun m ρ _ => Cert.Kernel15Ideal.Gen.frame m ρ,
  fun m ρ _ => (θ_run Cert.Reference15Ideal.defs _ _).mono (fun r h => ⟨fun c => (h c).2, sem_eq_zero_of_no_sems rfl r.2⟩) (Cert.Reference15Ideal.Value.run m ρ),
  fun m ρ _ => Cert.Kernel16.Gen.frame m ρ,
  fun m ρ _ => Cert.Kernel16Ideal.Gen.frame m ρ,
  fun m ρ _ => (θ_run Cert.Reference16Ideal.defs _ _).mono (fun r h => ⟨fun c => (h c).2, sem_eq_zero_of_no_sems rfl r.2⟩) (Cert.Reference16Ideal.Value.run m ρ),
  fun m ρ _ => Cert.Kernel17.Gen.frame m ρ,
  fun m ρ _ => Cert.Kernel17Ideal.Gen.frame m ρ,
  fun m ρ _ => (θ_run Cert.Reference17Ideal.defs _ _).mono (fun r h => ⟨fun c => (h c).2, sem_eq_zero_of_no_sems rfl r.2⟩) (Cert.Reference17Ideal.Value.run m ρ),
  fun m ρ _ => Cert.Kernel18.Gen.frame m ρ,
  fun m ρ _ => Cert.Kernel18Ideal.Gen.frame m ρ,
  fun m ρ _ => (θ_run Cert.Reference18Ideal.defs _ _).mono (fun r h => ⟨fun c => (h c).2, sem_eq_zero_of_no_sems rfl r.2⟩) (Cert.Reference18Ideal.Value.run m ρ),
  fun m ρ _ => Cert.Kernel19.Gen.frame m ρ,
  fun m ρ _ => Cert.Kernel19Ideal.Gen.frame m ρ,
  fun m ρ _ => (θ_run Cert.Reference19Ideal.defs _ _).mono (fun r h => ⟨fun c => (h c).2, sem_eq_zero_of_no_sems rfl r.2⟩) (Cert.Reference19Ideal.Value.run m ρ),
  fun m ρ _ => Cert.Kernel20.Gen.frame m ρ,
  fun m ρ _ => Cert.Kernel20Ideal.Gen.frame m ρ,
  fun m ρ _ => (θ_run Cert.Reference20Ideal.defs _ _).mono (fun r h => ⟨fun c => (h c).2, sem_eq_zero_of_no_sems rfl r.2⟩) (Cert.Reference20Ideal.Value.run m ρ),
  fun m ρ _ => Cert.Kernel21.Gen.frame m ρ,
  fun m ρ _ => Cert.Kernel21Ideal.Gen.frame m ρ,
  fun m ρ _ => (θ_run Cert.Reference21Ideal.defs _ _).mono (fun r h => ⟨fun c => (h c).2, sem_eq_zero_of_no_sems rfl r.2⟩) (Cert.Reference21Ideal.Value.run m ρ),
  fun m ρ _ => Cert.Kernel22.Gen.frame m ρ,
  fun m ρ _ => Cert.Kernel22Ideal.Gen.frame m ρ,
  fun m ρ _ => (θ_run Cert.Reference22Ideal.defs _ _).mono (fun r h => ⟨fun c => (h c).2, sem_eq_zero_of_no_sems rfl r.2⟩) (Cert.Reference22Ideal.Value.run m ρ),
  fun m ρ _ => Cert.Kernel23.Gen.frame m ρ,
  fun m ρ _ => Cert.Kernel23Ideal.Gen.frame m ρ,
  fun m ρ _ => (θ_run Cert.Reference23Ideal.defs _ _).mono (fun r h => ⟨fun c => (h c).2, sem_eq_zero_of_no_sems rfl r.2⟩) (Cert.Reference23Ideal.Value.run m ρ),
  fun m ρ _ => Cert.Kernel24.Gen.frame m ρ,
  fun m ρ _ => Cert.Kernel24Ideal.Gen.frame m ρ,
  fun m ρ _ => (θ_run Cert.Reference24Ideal.defs _ _).mono (fun r h => ⟨fun c => (h c).2, sem_eq_zero_of_no_sems rfl r.2⟩) (Cert.Reference24Ideal.Value.run m ρ),
  fun m ρ _ => Cert.Kernel25.Gen.frame m ρ,
  fun m ρ _ => Cert.Kernel25Ideal.Gen.frame m ρ,
  fun m ρ _ => (θ_run Cert.Reference25Ideal.defs _ _).mono (fun r h => ⟨fun c => (h c).2, sem_eq_zero_of_no_sems rfl r.2⟩) (Cert.Reference25Ideal.Value.run m ρ),
  fun m ρ _ => Cert.Kernel26.Gen.frame m ρ,
  fun m ρ _ => Cert.Kernel26Ideal.Gen.frame m ρ,
  fun m ρ _ => (θ_run Cert.Reference26Ideal.defs _ _).mono (fun r h => ⟨fun c => (h c).2, sem_eq_zero_of_no_sems rfl r.2⟩) (Cert.Reference26Ideal.Value.run m ρ),
  fun m ρ _ => Cert.Kernel27.Gen.frame m ρ,
  fun m ρ _ => Cert.Kernel27Ideal.Gen.frame m ρ,
  fun m ρ _ => (θ_run Cert.Reference27Ideal.defs _ _).mono (fun r h => ⟨fun c => (h c).2, sem_eq_zero_of_no_sems rfl r.2⟩) (Cert.Reference27Ideal.Value.run m ρ),
  fun m ρ _ => Cert.Kernel28.Gen.frame m ρ,
  fun m ρ _ => Cert.Kernel28Ideal.Gen.frame m ρ,
  fun m ρ _ => (θ_run Cert.Reference28Ideal.defs _ _).mono (fun r h => ⟨fun c => (h c).2, sem_eq_zero_of_no_sems rfl r.2⟩) (Cert.Reference28Ideal.Value.run m ρ),
  fun m ρ _ => Cert.Kernel29.Gen.frame m ρ,
  fun m ρ _ => Cert.Kernel29Ideal.Gen.frame m ρ,
  fun m ρ _ => (θ_run Cert.Reference29Ideal.defs _ _).mono (fun r h => ⟨fun c => (h c).2.2.2.2, sem_eq_zero_of_no_sems rfl r.2⟩) (Cert.Reference29Ideal.Value.run m ρ),
  fun m ρ _ => Cert.Kernel30.Gen.frame m ρ,
  fun m ρ _ => Cert.Kernel30Ideal.Gen.frame m ρ,
  fun m ρ _ => (θ_run Cert.Reference30Ideal.defs _ _).mono (fun r h => ⟨fun c => (h c).2.2.2.2, sem_eq_zero_of_no_sems rfl r.2⟩) (Cert.Reference30Ideal.Value.run m ρ),
  fun m ρ _ => Cert.Kernel31.Gen.frame m ρ,
  fun m ρ _ => Cert.Kernel31Ideal.Gen.frame m ρ,
  fun m ρ _ => (θ_run Cert.Reference31Ideal.defs _ _).mono (fun r h => ⟨fun c => (h c).2.2.2.2, sem_eq_zero_of_no_sems rfl r.2⟩) (Cert.Reference31Ideal.Value.run m ρ),
  fun m ρ _ => Cert.Kernel32.Gen.frame m ρ,
  fun m ρ _ => Cert.Kernel32Ideal.Gen.frame m ρ,
  fun m ρ _ => (θ_run Cert.Reference32Ideal.defs _ _).mono (fun r h => ⟨fun c => (h c).2.2.2.2, sem_eq_zero_of_no_sems rfl r.2⟩) (Cert.Reference32Ideal.Value.run m ρ),
  fun m ρ _ => Cert.Kernel33.Gen.frame m ρ,
  fun m ρ _ => Cert.Kernel33Ideal.Gen.frame m ρ,
  fun m ρ _ => (θ_run Cert.Reference33Ideal.defs _ _).mono (fun r h => ⟨fun c => (h c).2.2.2.2, sem_eq_zero_of_no_sems rfl r.2⟩) (Cert.Reference33Ideal.Value.run m ρ),
  fun m ρ _ => Cert.Kernel34.Gen.frame m ρ,
  fun m ρ _ => Cert.Kernel34Ideal.Gen.frame m ρ,
  fun m ρ _ => (θ_run Cert.Reference34Ideal.defs _ _).mono (fun r h => ⟨fun c => (h c).2.2.2.2, sem_eq_zero_of_no_sems rfl r.2⟩) (Cert.Reference34Ideal.Value.run m ρ),
  fun m ρ _ => Cert.Kernel35.Gen.frame m ρ,
  fun m ρ _ => Cert.Kernel35Ideal.Gen.frame m ρ,
  fun m ρ _ => (θ_run Cert.Reference35Ideal.defs _ _).mono (fun r h => ⟨fun c => (h c).2, sem_eq_zero_of_no_sems rfl r.2⟩) (Cert.Reference35Ideal.Value.run m ρ),
  fun m ρ _ => Cert.Kernel36.Gen.frame m ρ,
  fun m ρ _ => Cert.Kernel36Ideal.Gen.frame m ρ,
  fun m ρ _ => (θ_run Cert.Reference36Ideal.defs _ _).mono (fun r h => ⟨fun c => (h c).2, sem_eq_zero_of_no_sems rfl r.2⟩) (Cert.Reference36Ideal.Value.run m ρ),
  fun m ρ _ => Cert.Kernel37.Gen.frame m ρ,
  fun m ρ _ => Cert.Kernel37Ideal.Gen.frame m ρ,
  fun m ρ _ => (θ_run Cert.Reference37Ideal.defs _ _).mono (fun r h => ⟨fun c => (h c).2, sem_eq_zero_of_no_sems rfl r.2⟩) (Cert.Reference37Ideal.Value.run m ρ),
  fun m ρ _ => Cert.Kernel38.Gen.frame m ρ,
  fun m ρ _ => Cert.Kernel38Ideal.Gen.frame m ρ,
  fun m ρ _ => (θ_run Cert.Reference38Ideal.defs _ _).mono (fun r h => ⟨fun c => (h c).2, sem_eq_zero_of_no_sems rfl r.2⟩) (Cert.Reference38Ideal.Value.run m ρ),
  fun m ρ _ => Cert.Kernel39.Gen.frame m ρ,
  fun m ρ _ => Cert.Kernel39Ideal.Gen.frame m ρ,
  fun m ρ _ => (θ_run Cert.Reference39Ideal.defs _ _).mono (fun r h => ⟨fun c => (h c).2, sem_eq_zero_of_no_sems rfl r.2⟩) (Cert.Reference39Ideal.Value.run m ρ),
  ⟨IdealRules.named_const.statement Cert.KernelIdeal.κ "c" .f32 0x3D372713#32 _ rfl,
    IdealRules.named_const.statement Cert.KernelIdeal.κ "three_c" .f32 0x3E095D4F#32 _ rfl⟩,
  algebraic,
  trivial,
  Cert.MM2.algebraic,
  trivial,
  Cert.MM3.algebraic,
  trivial,
  Cert.MM4.algebraic,
  trivial,
  Cert.MM5.algebraic,
  trivial,
  Cert.MM6.algebraic,
  trivial,
  Cert.MM7.algebraic,
  trivial,
  Cert.MM8.algebraic,
  trivial,
  Cert.MM9.algebraic,
  trivial,
  Cert.MM10.algebraic,
  trivial,
  Cert.MM11.algebraic,
  trivial,
  Cert.MM12.algebraic,
  trivial,
  Cert.MM13.algebraic,
  trivial,
  Cert.MM14.algebraic,
  trivial,
  Cert.MM15.algebraic,
  trivial,
  Cert.MM16.algebraic,
  trivial,
  Cert.MM17.algebraic,
  trivial,
  Cert.MM18.algebraic,
  trivial,
  Cert.MM19.algebraic,
  trivial,
  Cert.MM20.algebraic,
  trivial,
  Cert.MM21.algebraic,
  trivial,
  Cert.MM22.algebraic,
  trivial,
  Cert.MM23.algebraic,
  trivial,
  Cert.MM24.algebraic,
  trivial,
  Cert.MM25.algebraic,
  trivial,
  Cert.MM26.algebraic,
  trivial,
  Cert.MM27.algebraic,
  trivial,
  Cert.MM28.algebraic,
  trivial,
  Cert.MM29.algebraic,
  trivial,
  Cert.MM30.algebraic,
  trivial,
  Cert.MM31.algebraic,
  trivial,
  Cert.MM32.algebraic,
  trivial,
  Cert.MM33.algebraic,
  trivial,
  Cert.MM34.algebraic,
  trivial,
  Cert.MM35.algebraic,
  trivial,
  Cert.MM36.algebraic,
  trivial,
  Cert.MM37.algebraic,
  trivial,
  Cert.MM38.algebraic,
  trivial,
  Cert.MM39.algebraic⟩

end Cert.Proof

end
